-- ==== Defs.lean ====
def Pre_Kernel [hPre_fits : Cert.Pre_fits.Facts] (m : (ℓ : Loc Cert.Kernel.nD Cert.Kernel.τ Cert.Kernel.sig) → Buf (Elt Bits) ℓ) : Prop :=
  ∀ c : Dev Cert.Kernel.nD,
    (Cert.Pre_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_fits : Cert.Pre_fits.Facts] (m : (ℓ : Loc Cert.KernelIdeal.nD Cert.KernelIdeal.τ Cert.KernelIdeal.sig) → Buf (Elt Ideal) ℓ) : Prop :=
  ∀ c : Dev Cert.KernelIdeal.nD,
    (Cert.Pre_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_fits : Cert.Pre_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_fits : Cert.Pre_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_5) = v0 c
          ∧ r.2.mem ((c.tc : Thread Cert.ReferenceIdeal.nD Cert.ReferenceIdeal.τ).loc Cert.ReferenceIdeal.main_v12_6) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_fits : Cert.Pre_fits.Facts) (hPre_valid : Cert.Pre_valid.Facts),
    quiescent_Kernel (hKernel := hKernel) (hPre_fits := hPre_fits)
    ∧ quiescent_KernelIdeal (hKernelIdeal := hKernelIdeal) (hPre_fits := hPre_fits)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_fits.lean ====
abbrev S5000x4 : Shape := ⟨2, ![5000, 4]⟩
abbrev S5000 : Shape := ⟨1, ![5000]⟩
abbrev S_ : Shape := ⟨0, ![]⟩
abbrev S80 : Shape := ⟨1, ![80]⟩
abbrev S5000x1 : Shape := ⟨2, ![5000, 1]⟩

class Facts : Prop where
  bcast_S_S80 : S_.BroadcastsInDim S80 (![] : Fin 0 → Fin S80.rank)
  bcast_S_S5000 : S_.BroadcastsInDim S5000 (![] : Fin 0 → Fin S5000.rank)
  bcast_S5000_S5000x1_0 : S5000.BroadcastsInDim S5000x1 (![0] : Fin 1 → Fin S5000x1.rank)
  reducesTo_S80_S_d0 : S80.ReducesTo [0] S_
  h_S_ : 0 < S_.numel
  scatter_S80_S5000x1_S5000_n_0_0_1_wf : ScatterDims.WF S80 S5000x1 S5000 [] [0] [0] 1

variable [Facts]

def scatter_S80_S5000x1_S5000_n_0_0_1 : ScatterDims S80 S5000x1 S5000 where
  updateWindowDims := []
  insertedWindowDims := [0]
  scatterDimsToOperandDims := [0]
  indexVectorDim := 1
  wf := scatter_S80_S5000x1_S5000_n_0_0_1_wf
def fn_clip {F : FTy → Type} [FloatOps F] (arg0 : IVec S5000 32) (arg1 : IVec S_ 32) : IVec S5000 32 :=
  let v0 : IVec S_ 32 := id arg1
  let v1 : IVec S5000 32 := broadcastInDim S5000 ![] bcast_S_S5000 v0
  let v2 : IVec S5000 32 := maxsi v1 arg0
  v2

def fn {F : FTy → Type} [FloatOps F] (main_arg0 : FVec F S5000x4 .f32) (main_arg1 : FVec F S5000 .f32) (main_arg2 : IVec S5000 32) : IVec S_ 1 :=
  let main_c : IVec S_ 32 := constantI S_ 32 0#32
  let main_v0 : IVec S80 32 := broadcastInDim S80 ![] bcast_S_S80 main_c
  let main_c_0 : IVec S_ 32 := constantI S_ 32 0#32
  let main_v1 : IVec S5000 32 := fn_clip (F := F) main_arg2 main_c_0
  let main_c_1 : IVec S_ 32 := constantI S_ 32 0#32
  let main_v2 : IVec S5000 32 := broadcastInDim S5000 ![] bcast_S_S5000 main_c_1
  let main_v3 : IVec S5000 1 := cmpi .slt main_v1 main_v2
  let main_c_2 : IVec S_ 32 := constantI S_ 32 80#32
  let main_v4 : IVec S5000 32 := broadcastInDim S5000 ![] bcast_S_S5000 main_c_2
  let main_v5 : IVec S5000 32 := addi main_v1 main_v4
  let main_v6 : IVec S5000 32 := select main_v3 main_v5 main_v1
  let main_v7 : IVec S5000x1 32 := broadcastInDim S5000x1 ![0] bcast_S5000_S5000x1_0 main_v6
  let main_c_3 : IVec S_ 32 := constantI S_ 32 1#32
  let main_v8 : IVec S5000 32 := broadcastInDim S5000 ![] bcast_S_S5000 main_c_3
  let main_v9 : IVec S80 32 := (fun x i u => Host.scatter scatter_S80_S5000x1_S5000_n_0_0_1 IntOp.addi x i u) main_v0 main_v7 main_v8
  let main_c_4 : IVec S_ 32 := constantI S_ 32 2147483648#32
  let main_v10 : IVec S_ 32 := (fun x v => Host.reduce IntOp.maxsi x v reducesTo_S80_S_d0 h_S_) main_v9 main_c_4
  let main_c_5 : IVec S_ 32 := constantI S_ 32 128#32
  let main_v11 : IVec S_ 1 := cmpi .sle main_v10 main_c_5
  main_v11
-- ==== Pre_valid.lean ====
abbrev S5000x4 : Shape := ⟨2, ![5000, 4]⟩
abbrev S5000 : Shape := ⟨1, ![5000]⟩
abbrev S_ : Shape := ⟨0, ![]⟩
abbrev S5000x2 : Shape := ⟨2, ![5000, 2]⟩

class Facts : Prop where
  bcast_S_S5000 : S_.BroadcastsInDim S5000 (![] : Fin 0 → Fin S5000.rank)
  reducesTo_S5000_S_d0 : S5000.ReducesTo [0] S_
  h_S_ : 0 < S_.numel
  slices_S5000x4_S5000x2_0_0 : S5000x4.Slices ![0, 0] S5000x2
  bcast_S_S5000x2 : S_.BroadcastsInDim S5000x2 (![] : Fin 0 → Fin S5000x2.rank)
  reducesTo_S5000x2_S_d0_1 : S5000x2.ReducesTo [0, 1] S_

variable [Facts]

def fn {F : FTy → Type} [FloatOps F] (main_arg0 : FVec F S5000x4 .f32) (main_arg1 : FVec F S5000 .f32) (main_arg2 : IVec S5000 32) : IVec S_ 1 :=
  let main_c : IVec S_ 32 := constantI S_ 32 0#32
  let main_v0 : IVec S5000 32 := broadcastInDim S5000 ![] bcast_S_S5000 main_c
  let main_v1 : IVec S5000 1 := cmpi .sge main_arg2 main_v0
  let main_c_0 : IVec S_ 1 := constantI S_ 1 1#1
  let main_v2 : IVec S_ 1 := (fun x v => Host.reduce IntOp.andi x v reducesTo_S5000_S_d0 h_S_) main_v1 main_c_0
  let main_c_1 : IVec S_ 32 := constantI S_ 32 80#32
  let main_v3 : IVec S5000 32 := broadcastInDim S5000 ![] bcast_S_S5000 main_c_1
  let main_v4 : IVec S5000 1 := cmpi .slt main_arg2 main_v3
  let main_c_2 : IVec S_ 1 := constantI S_ 1 1#1
  let main_v5 : IVec S_ 1 := (fun x v => Host.reduce IntOp.andi x v reducesTo_S5000_S_d0 h_S_) main_v4 main_c_2
  let main_v6 : IVec S_ 1 := andi main_v2 main_v5
  let main_cst : FVec F S_ .f32 := constant S_ .f32 0x00000000#32
  let main_v7 : FVec F S5000 .f32 := broadcastInDim S5000 ![] bcast_S_S5000 main_cst
  let main_v8 : IVec S5000 1 := cmpf .oge main_arg1 main_v7
  let main_c_3 : IVec S_ 1 := constantI S_ 1 1#1
  let main_v9 : IVec S_ 1 := (fun x v => Host.reduce IntOp.andi x v reducesTo_S5000_S_d0 h_S_) main_v8 main_c_3
  let main_v10 : IVec S_ 1 := andi main_v6 main_v9
  let main_v11 : FVec F S5000x2 .f32 := (extractStridedSlice S5000x2 ![0, 0] · slices_S5000x4_S5000x2_0_0) main_arg0
  let main_cst_4 : FVec F S_ .f32 := constant S_ .f32 0x00000000#32
  let main_v12 : FVec F S5000x2 .f32 := broadcastInDim S5000x2 ![] bcast_S_S5000x2 main_cst_4
  let main_v13 : IVec S5000x2 1 := cmpf .oge main_v11 main_v12
  let main_c_5 : IVec S_ 1 := constantI S_ 1 1#1
  let main_v14 : IVec S_ 1 := (fun x v => Host.reduce IntOp.andi x v reducesTo_S5000x2_S_d0_1 h_S_) main_v13 main_c_5
  let main_v15 : IVec S_ 1 := andi main_v10 main_v14
  main_v15
-- ==== Kernel.lean ====
abbrev S5000x4 : Shape := ⟨2, ![5000, 4]⟩
abbrev S5000 : Shape := ⟨1, ![5000]⟩
abbrev S6 : Shape := ⟨1, ![6]⟩
abbrev S_ : Shape := ⟨0, ![]⟩
abbrev S5000x1 : Shape := ⟨2, ![5000, 1]⟩
abbrev S80 : Shape := ⟨1, ![80]⟩
abbrev S5120 : Shape := ⟨1, ![5120]⟩
abbrev S40x128 : Shape := ⟨2, ![40, 128]⟩
abbrev S5x8x128 : Shape := ⟨3, ![5, 8, 128]⟩
abbrev S8x128 : Shape := ⟨2, ![8, 128]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S4999 : Shape := ⟨1, ![4999]⟩
abbrev S5000x6 : Shape := ⟨2, ![5000, 6]⟩
abbrev S80x128x6 : Shape := ⟨3, ![80, 128, 6]⟩
abbrev S5000x2 : Shape := ⟨2, ![5000, 2]⟩
abbrev S6x80x128 : Shape := ⟨3, ![6, 80, 128]⟩
abbrev S1x80x128 : Shape := ⟨3, ![1, 80, 128]⟩
abbrev S80x128 : Shape := ⟨2, ![80, 128]⟩
abbrev S128x128 : Shape := ⟨2, ![128, 128]⟩
abbrev S80x1 : Shape := ⟨2, ![80, 1]⟩
abbrev S48x128 : Shape := ⟨2, ![48, 128]⟩
abbrev S16384 : Shape := ⟨1, ![16384]⟩

abbrev nBuf : Space → Nat
  | .hbm => 175
  | .vmem => 13
  | .smem => 7
  | _ => 0

abbrev hbmTy0_0 (i : Nat) : BufTy := match i % 128 with
  | 0 => ⟨S5000x4, .f32⟩
  | 1 => ⟨S5000, .f32⟩
  | 2 => ⟨S5000, .i32⟩
  | 3 => ⟨S6, .f32⟩
  | 4 => ⟨S_, .f32⟩
  | 5 => ⟨S_, .f32⟩
  | 6 => ⟨S5000, .f32⟩
  | 7 => ⟨S_, .f32⟩
  | 8 => ⟨S_, .f32⟩
  | 9 => ⟨S5000, .f32⟩
  | 10 => ⟨S5000, .f32⟩
  | 11 => ⟨S5000x1, .f32⟩
  | 12 => ⟨S5000x4, .f32⟩
  | 13 => ⟨S5000x4, .f32⟩
  | 14 => ⟨S_, .i32⟩
  | 15 => ⟨S80, .i32⟩
  | 16 => ⟨S_, .i32⟩
  | 17 => ⟨S_, .i32⟩
  | 18 => ⟨S5000, .i32⟩
  | 19 => ⟨S5000, .i32⟩
  | 20 => ⟨S_, .i32⟩
  | 21 => ⟨S5000, .i32⟩
  | 22 => ⟨S5000, .i1⟩
  | 23 => ⟨S_, .i32⟩
  | 24 => ⟨S5000, .i32⟩
  | 25 => ⟨S5000, .i32⟩
  | 26 => ⟨S5000, .i32⟩
  | 27 => ⟨S5000x1, .i32⟩
  | 28 => ⟨S_, .i32⟩
  | 29 => ⟨S5000, .i32⟩
  | 30 => ⟨S80, .i32⟩
  | 31 => ⟨S_, .i32⟩
  | 32 => ⟨S_, .i32⟩
  | 33 => ⟨S_, .i32⟩
  | 34 => ⟨S_, .i1⟩
  | 35 => ⟨S_, .i32⟩
  | 36 => ⟨S5000, .i32⟩
  | 37 => ⟨S5000, .f32⟩
  | 38 => ⟨S5000x1, .f32⟩
  | 39 => ⟨S5000, .f32⟩
  | 40 => ⟨S_, .i32⟩
  | 41 => ⟨S_, .f32⟩
  | 42 => ⟨S5120, .f32⟩
  | 43 => ⟨S40x128, .f32⟩
  | 44 => ⟨S5000x1, .f32⟩
  | 45 => ⟨S5000, .f32⟩
  | 46 => ⟨S_, .i32⟩
  | 47 => ⟨S_, .f32⟩
  | 48 => ⟨S5120, .f32⟩
  | 49 => ⟨S40x128, .f32⟩
  | 50 => ⟨S5000x1, .f32⟩
  | 51 => ⟨S5000, .f32⟩
  | 52 => ⟨S_, .i32⟩
  | 53 => ⟨S_, .f32⟩
  | 54 => ⟨S5120, .f32⟩
  | 55 => ⟨S40x128, .f32⟩
  | 56 => ⟨S5000x1, .f32⟩
  | 57 => ⟨S5000, .f32⟩
  | 58 => ⟨S_, .i32⟩
  | 59 => ⟨S_, .f32⟩
  | 60 => ⟨S5120, .f32⟩
  | 61 => ⟨S40x128, .f32⟩
  | 62 => ⟨S_, .f32⟩
  | 63 => ⟨S_, .f32⟩
  | 64 => ⟨S5120, .f32⟩
  | 65 => ⟨S40x128, .f32⟩
  | 66 => ⟨S5000x1, .f32⟩
  | 67 => ⟨S5000, .f32⟩
  | 68 => ⟨S5000x1, .f32⟩
  | 69 => ⟨S5000, .f32⟩
  | 70 => ⟨S5000x1, .f32⟩
  | 71 => ⟨S5000, .f32⟩
  | 72 => ⟨S5000x1, .f32⟩
  | 73 => ⟨S5000, .f32⟩
  | 74 => ⟨S5000, .i32⟩
  | 75 => ⟨S5000, .f32⟩
  | 76 => ⟨S5000, .i32⟩
  | 77 => ⟨S_, .i32⟩
  | 78 => ⟨S5000, .i32⟩
  | 79 => ⟨S5000, .i32⟩
  | 80 => ⟨S5000, .i32⟩
  | 81 => ⟨S5000, .i32⟩
  | 82 => ⟨S_, .i32⟩
  | 83 => ⟨S5000, .i32⟩
  | 84 => ⟨S5000, .i32⟩
  | 85 => ⟨S_, .i32⟩
  | 86 => ⟨S5000, .i32⟩
  | 87 => ⟨S5000, .i32⟩
  | 88 => ⟨S_, .i1⟩
  | 89 => ⟨S1, .i1⟩
  | 90 => ⟨S4999, .i32⟩
  | 91 => ⟨S4999, .i32⟩
  | 92 => ⟨S4999, .i1⟩
  | 93 => ⟨S5000, .i1⟩
  | 94 => ⟨S_, .i32⟩
  | 95 => ⟨S_, .i32⟩
  | 96 => ⟨S5000, .i32⟩
  | 97 => ⟨S5000, .i32⟩
  | 98 => ⟨S_, .i32⟩
  | 99 => ⟨S_, .i32⟩
  | 100 => ⟨S5000, .i32⟩
  | 101 => ⟨S5000, .i32⟩
  | 102 => ⟨S_, .i32⟩
  | 103 => ⟨S5000, .i32⟩
  | 104 => ⟨S5000, .i32⟩
  | 105 => ⟨S_, .i32⟩
  | 106 => ⟨S5000, .i32⟩
  | 107 => ⟨S_, .i32⟩
  | 108 => ⟨S5000, .i32⟩
  | 109 => ⟨S5000, .i1⟩
  | 110 => ⟨S_, .i32⟩
  | 111 => ⟨S5000, .i32⟩
  | 112 => ⟨S5000, .i32⟩
  | 113 => ⟨S5000, .i32⟩
  | 114 => ⟨S5000x1, .i32⟩
  | 115 => ⟨S5000, .i32⟩
  | 116 => ⟨S5000x1, .f32⟩
  | 117 => ⟨S5000, .f32⟩
  | 118 => ⟨S5000x1, .f32⟩
  | 119 => ⟨S5000, .f32⟩
  | 120 => ⟨S5000x1, .f32⟩
  | 121 => ⟨S5000, .f32⟩
  | 122 => ⟨S5000x1, .f32⟩
  | 123 => ⟨S5000, .f32⟩
  | 124 => ⟨S5000, .f32⟩
  | 125 => ⟨S5000x1, .f32⟩
  | 126 => ⟨S5000x1, .f32⟩
  | 127 => ⟨S5000x1, .f32⟩
  | _ => ⟨S5000x4, .f32⟩

abbrev hbmTy0_1 (i : Nat) : BufTy := match i % 128 with
  | 0 => ⟨S5000x1, .f32⟩
  | 1 => ⟨S5000x1, .f32⟩
  | 2 => ⟨S5000x1, .f32⟩
  | 3 => ⟨S5000x6, .f32⟩
  | 4 => ⟨S80x128x6, .f32⟩
  | 5 => ⟨S_, .i32⟩
  | 6 => ⟨S5000, .i32⟩
  | 7 => ⟨S5000, .i1⟩
  | 8 => ⟨S_, .i32⟩
  | 9 => ⟨S5000, .i32⟩
  | 10 => ⟨S5000, .i32⟩
  | 11 => ⟨S5000, .i32⟩
  | 12 => ⟨S_, .i32⟩
  | 13 => ⟨S5000, .i32⟩
  | 14 => ⟨S5000, .i1⟩
  | 15 => ⟨S_, .i32⟩
  | 16 => ⟨S5000, .i32⟩
  | 17 => ⟨S5000, .i32⟩
  | 18 => ⟨S5000, .i32⟩
  | 19 => ⟨S5000x1, .i32⟩
  | 20 => ⟨S5000x1, .i32⟩
  | 21 => ⟨S5000x2, .i32⟩
  | 22 => ⟨S80x128x6, .f32⟩
  | 23 => ⟨S6x80x128, .f32⟩
  | 24 => ⟨S1x80x128, .f32⟩
  | 25 => ⟨S80x128, .f32⟩
  | 26 => ⟨S1x80x128, .f32⟩
  | 27 => ⟨S80x128, .f32⟩
  | 28 => ⟨S1x80x128, .f32⟩
  | 29 => ⟨S80x128, .f32⟩
  | 30 => ⟨S1x80x128, .f32⟩
  | 31 => ⟨S80x128, .f32⟩
  | 32 => ⟨S1x80x128, .f32⟩
  | 33 => ⟨S80x128, .f32⟩
  | 34 => ⟨S1x80x128, .f32⟩
  | 35 => ⟨S80x128, .f32⟩
  | 36 => ⟨S1, .i32⟩
  | 37 => ⟨S128x128, .f32⟩
  | 38 => ⟨S128x128, .f32⟩
  | 39 => ⟨S16384, .f32⟩
  | 40 => ⟨S5000, .f32⟩
  | 41 => ⟨S5000, .i32⟩
  | 42 => ⟨S16384, .f32⟩
  | 43 => ⟨S5000, .f32⟩
  | 44 => ⟨S_, .f32⟩
  | 45 => ⟨S5000, .f32⟩
  | 46 => ⟨S5000, .i1⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | .local _ .vmem, ⟨0, _⟩ => ⟨S40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S80x128, .f32⟩
  | .local _ .vmem, ⟨6, _⟩ => ⟨S80x128, .f32⟩
  | .local _ .vmem, ⟨7, _⟩ => ⟨S80x128, .f32⟩
  | .local _ .vmem, ⟨8, _⟩ => ⟨S80x128, .f32⟩
  | .local _ .vmem, ⟨9, _⟩ => ⟨S80x128, .f32⟩
  | .local _ .vmem, ⟨10, _⟩ => ⟨S80x128, .f32⟩
  | .local _ .vmem, ⟨11, _⟩ => ⟨S128x128, .f32⟩
  | .local _ .vmem, ⟨12, _⟩ => ⟨S128x128, .f32⟩
  | .local _ .smem, ⟨0, _⟩ => ⟨S5000, .f32⟩
  | .local _ .smem, ⟨1, _⟩ => ⟨S5000, .f32⟩
  | .local _ .smem, ⟨2, _⟩ => ⟨S5000, .f32⟩
  | .local _ .smem, ⟨3, _⟩ => ⟨S5000, .f32⟩
  | .local _ .smem, ⟨4, _⟩ => ⟨S5000, .i32⟩
  | .local _ .smem, ⟨5, _⟩ => ⟨S5000, .f32⟩
  | .local _ .smem, ⟨6, _⟩ => ⟨S1, .i32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_c_6 : Ref sig .tc := ⟨.hbm, 31, rfl⟩
abbrev main_v18 : Ref sig .tc := ⟨.hbm, 32, rfl⟩
abbrev main_c_7 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_case0b0_v24 : Ref sig .tc := ⟨.hbm, 38, rfl⟩
abbrev main_case0b0_v25 : Ref sig .tc := ⟨.hbm, 39, rfl⟩
abbrev main_case0b0_c_9 : Ref sig .tc := ⟨.hbm, 40, rfl⟩
abbrev main_case0b0_call1_v0 : Ref sig .tc := ⟨.hbm, 41, rfl⟩
abbrev main_case0b0_v26 : Ref sig .tc := ⟨.hbm, 42, rfl⟩
abbrev main_case0b0_v27 : Ref sig .tc := ⟨.hbm, 43, rfl⟩
abbrev main_case0b0_v28 : Ref sig .tc := ⟨.hbm, 44, rfl⟩
abbrev main_case0b0_v29 : Ref sig .tc := ⟨.hbm, 45, rfl⟩
abbrev main_case0b0_c_10 : Ref sig .tc := ⟨.hbm, 46, rfl⟩
abbrev main_case0b0_call2_v0 : Ref sig .tc := ⟨.hbm, 47, rfl⟩
abbrev main_case0b0_v30 : Ref sig .tc := ⟨.hbm, 48, rfl⟩
abbrev main_case0b0_v31 : Ref sig .tc := ⟨.hbm, 49, rfl⟩
abbrev main_case0b0_v32 : Ref sig .tc := ⟨.hbm, 50, rfl⟩
abbrev main_case0b0_v33 : Ref sig .tc := ⟨.hbm, 51, rfl⟩
abbrev main_case0b0_c_11 : Ref sig .tc := ⟨.hbm, 52, rfl⟩
abbrev main_case0b0_call3_v0 : Ref sig .tc := ⟨.hbm, 53, rfl⟩
abbrev main_case0b0_v34 : Ref sig .tc := ⟨.hbm, 54, rfl⟩
abbrev main_case0b0_v35 : Ref sig .tc := ⟨.hbm, 55, rfl⟩
abbrev main_case0b0_v36 : Ref sig .tc := ⟨.hbm, 56, rfl⟩
abbrev main_case0b0_v37 : Ref sig .tc := ⟨.hbm, 57, rfl⟩
abbrev main_case0b0_c_12 : Ref sig .tc := ⟨.hbm, 58, rfl⟩
abbrev main_case0b0_call4_v0 : Ref sig .tc := ⟨.hbm, 59, rfl⟩
abbrev main_case0b0_v38 : Ref sig .tc := ⟨.hbm, 60, rfl⟩
abbrev main_case0b0_v39 : Ref sig .tc := ⟨.hbm, 61, rfl⟩
abbrev main_case0b0_cst_13 : Ref sig .tc := ⟨.hbm, 62, rfl⟩
abbrev main_case0b0_call5_v0 : Ref sig .tc := ⟨.hbm, 63, rfl⟩
abbrev main_case0b0_v40 : Ref sig .tc := ⟨.hbm, 64, rfl⟩
abbrev main_case0b0_v41 : Ref sig .tc := ⟨.hbm, 65, rfl⟩
abbrev main_case0b0_v42 : Ref sig .tc := ⟨.hbm, 66, rfl⟩
abbrev main_case0b0_v43 : Ref sig .tc := ⟨.hbm, 67, rfl⟩
abbrev main_case0b0_v44 : Ref sig .tc := ⟨.hbm, 68, rfl⟩
abbrev main_case0b0_v45 : Ref sig .tc := ⟨.hbm, 69, rfl⟩
abbrev main_case0b0_v46 : Ref sig .tc := ⟨.hbm, 70, rfl⟩
abbrev main_case0b0_v47 : Ref sig .tc := ⟨.hbm, 71, rfl⟩
abbrev main_case0b0_v48 : Ref sig .tc := ⟨.hbm, 72, rfl⟩
abbrev main_case0b0_v49 : Ref sig .tc := ⟨.hbm, 73, rfl⟩
abbrev main_case0b0_v50_0 : Ref sig .tc := ⟨.hbm, 74, rfl⟩
abbrev main_case0b0_v50_1 : Ref sig .tc := ⟨.hbm, 75, rfl⟩
abbrev main_case0b1_v24 : Ref sig .tc := ⟨.hbm, 76, rfl⟩
abbrev main_case0b1_c_9 : Ref sig .tc := ⟨.hbm, 77, rfl⟩
abbrev main_case0b1_v25 : Ref sig .tc := ⟨.hbm, 78, rfl⟩
abbrev main_case0b1_v26 : Ref sig .tc := ⟨.hbm, 79, rfl⟩
abbrev main_case0b1_v27 : Ref sig .tc := ⟨.hbm, 80, rfl⟩
abbrev main_case0b1_v28 : Ref sig .tc := ⟨.hbm, 81, rfl⟩
abbrev main_case0b1_c_10 : Ref sig .tc := ⟨.hbm, 82, rfl⟩
abbrev main_case0b1_v29 : Ref sig .tc := ⟨.hbm, 83, rfl⟩
abbrev main_case0b1_v30 : Ref sig .tc := ⟨.hbm, 84, rfl⟩
abbrev main_case0b1_c_11 : Ref sig .tc := ⟨.hbm, 85, rfl⟩
abbrev main_case0b1_v31 : Ref sig .tc := ⟨.hbm, 86, rfl⟩
abbrev main_case0b1_v32 : Ref sig .tc := ⟨.hbm, 87, rfl⟩
abbrev main_case0b1_c_12 : Ref sig .tc := ⟨.hbm, 88, rfl⟩
abbrev main_case0b1_v33 : Ref sig .tc := ⟨.hbm, 89, rfl⟩
abbrev main_case0b1_v34 : Ref sig .tc := ⟨.hbm, 90, rfl⟩
abbrev main_case0b1_v35 : Ref sig .tc := ⟨.hbm, 91, rfl⟩
abbrev main_case0b1_v36 : Ref sig .tc := ⟨.hbm, 92, rfl⟩
abbrev main_case0b1_v37 : Ref sig .tc := ⟨.hbm, 93, rfl⟩
abbrev main_case0b1_c_13 : Ref sig .tc := ⟨.hbm, 94, rfl⟩
abbrev main_case0b1_call6_v0 : Ref sig .tc := ⟨.hbm, 95, rfl⟩
abbrev main_case0b1_call6_v1 : Ref sig .tc := ⟨.hbm, 96, rfl⟩
abbrev main_case0b1_v38 : Ref sig .tc := ⟨.hbm, 97, rfl⟩
abbrev main_case0b1_call7_c : Ref sig .tc := ⟨.hbm, 98, rfl⟩
abbrev main_case0b1_call7_v0 : Ref sig .tc := ⟨.hbm, 99, rfl⟩
abbrev main_case0b1_v39 : Ref sig .tc := ⟨.hbm, 100, rfl⟩
abbrev main_case0b1_v40 : Ref sig .tc := ⟨.hbm, 101, rfl⟩
abbrev main_case0b1_c_14 : Ref sig .tc := ⟨.hbm, 102, rfl⟩
abbrev main_case0b1_v41 : Ref sig .tc := ⟨.hbm, 103, rfl⟩
abbrev main_case0b1_v42 : Ref sig .tc := ⟨.hbm, 104, rfl⟩
abbrev main_case0b1_c_15 : Ref sig .tc := ⟨.hbm, 105, rfl⟩
abbrev main_case0b1_v43 : Ref sig .tc := ⟨.hbm, 106, rfl⟩
abbrev main_case0b1_c_16 : Ref sig .tc := ⟨.hbm, 107, rfl⟩
abbrev main_case0b1_v44 : Ref sig .tc := ⟨.hbm, 108, rfl⟩
abbrev main_case0b1_v45 : Ref sig .tc := ⟨.hbm, 109, rfl⟩
abbrev main_case0b1_c_17 : Ref sig .tc := ⟨.hbm, 110, rfl⟩
abbrev main_case0b1_v46 : Ref sig .tc := ⟨.hbm, 111, rfl⟩
abbrev main_case0b1_v47 : Ref sig .tc := ⟨.hbm, 112, rfl⟩
abbrev main_case0b1_v48 : Ref sig .tc := ⟨.hbm, 113, rfl⟩
abbrev main_case0b1_v49 : Ref sig .tc := ⟨.hbm, 114, rfl⟩
abbrev main_case0b1_v50 : Ref sig .tc := ⟨.hbm, 115, rfl⟩
abbrev main_case0b1_v51 : Ref sig .tc := ⟨.hbm, 116, rfl⟩
abbrev main_case0b1_v52 : Ref sig .tc := ⟨.hbm, 117, rfl⟩
abbrev main_case0b1_v53 : Ref sig .tc := ⟨.hbm, 118, rfl⟩
abbrev main_case0b1_v54 : Ref sig .tc := ⟨.hbm, 119, rfl⟩
abbrev main_case0b1_v55 : Ref sig .tc := ⟨.hbm, 120, rfl⟩
abbrev main_case0b1_v56 : Ref sig .tc := ⟨.hbm, 121, rfl⟩
abbrev main_case0b1_v57 : Ref sig .tc := ⟨.hbm, 122, rfl⟩
abbrev main_case0b1_v58 : Ref sig .tc := ⟨.hbm, 123, rfl⟩
abbrev main_case0b1_v59 : Ref sig .tc := ⟨.hbm, 124, rfl⟩
abbrev main_case0b1_v60 : Ref sig .tc := ⟨.hbm, 125, rfl⟩
abbrev main_case0b1_v61 : Ref sig .tc := ⟨.hbm, 126, rfl⟩
abbrev main_case0b1_v62 : Ref sig .tc := ⟨.hbm, 127, rfl⟩
abbrev main_case0b1_v63 : Ref sig .tc := ⟨.hbm, 128, rfl⟩
abbrev main_case0b1_v64 : Ref sig .tc := ⟨.hbm, 129, rfl⟩
abbrev main_case0b1_v65 : Ref sig .tc := ⟨.hbm, 130, rfl⟩
abbrev main_case0b1_v66 : Ref sig .tc := ⟨.hbm, 131, rfl⟩
abbrev main_case0b1_v67 : Ref sig .tc := ⟨.hbm, 132, rfl⟩
abbrev main_case0b1_c_18 : Ref sig .tc := ⟨.hbm, 133, rfl⟩
abbrev main_case0b1_v68 : Ref sig .tc := ⟨.hbm, 134, rfl⟩
abbrev main_case0b1_v69 : Ref sig .tc := ⟨.hbm, 135, rfl⟩
abbrev main_case0b1_c_19 : Ref sig .tc := ⟨.hbm, 136, rfl⟩
abbrev main_case0b1_v70 : Ref sig .tc := ⟨.hbm, 137, rfl⟩
abbrev main_case0b1_v71 : Ref sig .tc := ⟨.hbm, 138, rfl⟩
abbrev main_case0b1_v72 : Ref sig .tc := ⟨.hbm, 139, rfl⟩
abbrev main_case0b1_c_20 : Ref sig .tc := ⟨.hbm, 140, rfl⟩
abbrev main_case0b1_v73 : Ref sig .tc := ⟨.hbm, 141, rfl⟩
abbrev main_case0b1_v74 : Ref sig .tc := ⟨.hbm, 142, rfl⟩
abbrev main_case0b1_c_21 : Ref sig .tc := ⟨.hbm, 143, rfl⟩
abbrev main_case0b1_v75 : Ref sig .tc := ⟨.hbm, 144, rfl⟩
abbrev main_case0b1_v76 : Ref sig .tc := ⟨.hbm, 145, rfl⟩
abbrev main_case0b1_v77 : Ref sig .tc := ⟨.hbm, 146, rfl⟩
abbrev main_case0b1_v78 : Ref sig .tc := ⟨.hbm, 147, rfl⟩
abbrev main_case0b1_v79 : Ref sig .tc := ⟨.hbm, 148, rfl⟩
abbrev main_case0b1_v80 : Ref sig .tc := ⟨.hbm, 149, rfl⟩
abbrev main_case0b1_v81 : Ref sig .tc := ⟨.hbm, 150, rfl⟩
abbrev main_case0b1_v82 : Ref sig .tc := ⟨.hbm, 151, rfl⟩
abbrev main_case0b1_v83 : Ref sig .tc := ⟨.hbm, 152, rfl⟩
abbrev main_case0b1_v84 : Ref sig .tc := ⟨.hbm, 153, rfl⟩
abbrev main_case0b1_v85 : Ref sig .tc := ⟨.hbm, 154, rfl⟩
abbrev main_case0b1_v86 : Ref sig .tc := ⟨.hbm, 155, rfl⟩
abbrev main_case0b1_v87 : Ref sig .tc := ⟨.hbm, 156, rfl⟩
abbrev main_case0b1_v88 : Ref sig .tc := ⟨.hbm, 157, rfl⟩
abbrev main_case0b1_v89 : Ref sig .tc := ⟨.hbm, 158, rfl⟩
abbrev main_case0b1_v90 : Ref sig .tc := ⟨.hbm, 159, rfl⟩
abbrev main_case0b1_v91 : Ref sig .tc := ⟨.hbm, 160, rfl⟩
abbrev main_case0b1_v92 : Ref sig .tc := ⟨.hbm, 161, rfl⟩
abbrev main_case0b1_v93 : Ref sig .tc := ⟨.hbm, 162, rfl⟩
abbrev main_case0b1_v94 : Ref sig .tc := ⟨.hbm, 163, rfl⟩
abbrev main_case0b1_v95 : Ref sig .tc := ⟨.hbm, 164, rfl⟩
abbrev main_case0b1_v96_0 : Ref sig .tc := ⟨.hbm, 165, rfl⟩
abbrev main_case0b1_v96_1 : Ref sig .tc := ⟨.hbm, 166, rfl⟩
abbrev main_case0b1_v97 : Ref sig .tc := ⟨.hbm, 167, rfl⟩
abbrev main_case0b1_v98 : Ref sig .tc := ⟨.hbm, 168, rfl⟩
abbrev main_case0b1_v99 : Ref sig .tc := ⟨.hbm, 169, rfl⟩
abbrev main_case0b1_v100 : Ref sig .tc := ⟨.hbm, 170, rfl⟩
abbrev main_case0b1_v101 : Ref sig .tc := ⟨.hbm, 171, rfl⟩
abbrev main_cst_8 : Ref sig .tc := ⟨.hbm, 172, rfl⟩
abbrev main_v22 : Ref sig .tc := ⟨.hbm, 173, rfl⟩
abbrev main_v23 : Ref sig .tc := ⟨.hbm, 174, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc0_stg5_0 : Ref sig .tc := ⟨.smem, 0, rfl⟩
abbrev cc0_stg6_0 : Ref sig .tc := ⟨.smem, 1, rfl⟩
abbrev cc0_stg7_0 : Ref sig .tc := ⟨.smem, 2, rfl⟩
abbrev cc0_stg8_0 : Ref sig .tc := ⟨.smem, 3, rfl⟩
abbrev cc0_stg9_0 : Ref sig .tc := ⟨.smem, 4, rfl⟩
abbrev cc0_stg10_0 : Ref sig .tc := ⟨.smem, 5, rfl⟩
abbrev cc1_stg0_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c5000_i32 : BitVec 32 := 5000#32
  let v19 : BitVec 32 := Scalar.addi c0_i32 c5000_i32
  let c1_i32 : BitVec 32 := 1#32
  ⟨c0_i32, v19, c1_i32⟩
def k0_off1 (v41 : BitVec 32) : Fin 1 → Nat :=
  let v42 : Index := Scalar.indexCast v41
  ![v42.toNat]

def k0_chk1 (v41 : BitVec 32) : Prop :=
  (∀ a, (k0_off1 v41) a + S1.size a ≤ S5000.size a)
theorem k0_off1_inb : ∀ (v41 : BitVec 32) (k0_hw1 : k0_chk1 v41), ∀ a, (k0_off1 v41) a + S1.size a ≤ S5000.size a := fun v41 k0_hw1 => k0_hw1

def k0_off2 (k0_t1 : Fin k0_t1_loop.trips) : Fin 1 → Nat :=
  let c0_i32 : BitVec 32 := 0#32
  let c1_i32 : BitVec 32 := 1#32
  let arg11 : BitVec 32 := Scf.iv c0_i32 c1_i32 k0_t1
  let v91 : Index := Scalar.indexCast arg11
  ![v91.toNat]
abbrev stage0_0 : Fin 1 → Memref sig .tc .vmem S40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S5000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S5000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S5000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S5000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S5000 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S5000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := .none

@[reducible] def k1_t1_loop (v15 : BitVec 32) : Scf.Loop 32 :=
  let c0_i32 : BitVec 32 := 0#32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_10 : BitVec 32 := 1#32
  ⟨c0_i32, v20, c1_i32_10⟩

@[reducible] def k1_t2_loop (v15 : BitVec 32) : Scf.Loop 32 :=
  let c0_i32 : BitVec 32 := 0#32
  let v16 : BitVec 32 := Scalar.subi v15 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_11 : BitVec 32 := 1#32
  ⟨v20, v17, c1_i32_11⟩

def k1_chk1 (v15 : BitVec 32) : Prop :=
  ((k1_t1_loop v15).OK) ∧
  ((k1_t2_loop v15).OK)
theorem k1_t1_ok : ∀ (v15 : BitVec 32) (k1_hw1 : k1_chk1 v15), (k1_t1_loop v15).OK := fun v15 k1_hw1 => k1_hw1.1
theorem k1_t2_ok : ∀ (v15 : BitVec 32) (k1_hw1 : k1_chk1 v15), (k1_t2_loop v15).OK := fun v15 k1_hw1 => k1_hw1.2

@[reducible] def k1_t3_loop : Scf.Loop 32 :=
  let c0_i32_27 : BitVec 32 := 0#32
  let c2_i32_28 : BitVec 32 := 2#32
  let v77 : BitVec 32 := Scalar.addi c0_i32_27 c2_i32_28
  let c1_i32_29 : BitVec 32 := 1#32
  ⟨c0_i32_27, v77, c1_i32_29⟩
@[reducible] def k1_t4_loop : Scf.Loop 32 :=
  let c0_i32_31 : BitVec 32 := 0#32
  let c3_i32 : BitVec 32 := 3#32
  let v79 : BitVec 32 := Scalar.addi c0_i32_31 c3_i32
  let c1_i32_32 : BitVec 32 := 1#32
  ⟨c0_i32_31, v79, c1_i32_32⟩
@[reducible] def k1_t5_loop : Scf.Loop 32 :=
  let c0_i32_34 : BitVec 32 := 0#32
  let c4_i32 : BitVec 32 := 4#32
  let v81 : BitVec 32 := Scalar.addi c0_i32_34 c4_i32
  let c1_i32_35 : BitVec 32 := 1#32
  ⟨c0_i32_34, v81, c1_i32_35⟩
@[reducible] def k1_t6_loop : Scf.Loop 32 :=
  let c0_i32_37 : BitVec 32 := 0#32
  let c5_i32 : BitVec 32 := 5#32
  let v83 : BitVec 32 := Scalar.addi c0_i32_37 c5_i32
  let c1_i32_38 : BitVec 32 := 1#32
  ⟨c0_i32_37, v83, c1_i32_38⟩
@[reducible] def k1_t7_loop : Scf.Loop 32 :=
  let c0_i32_40 : BitVec 32 := 0#32
  let c6_i32 : BitVec 32 := 6#32
  let v85 : BitVec 32 := Scalar.addi c0_i32_40 c6_i32
  let c1_i32_41 : BitVec 32 := 1#32
  ⟨c0_i32_40, v85, c1_i32_41⟩
@[reducible] def k1_t8_loop : Scf.Loop 32 :=
  let c0_i32_43 : BitVec 32 := 0#32
  let c7_i32 : BitVec 32 := 7#32
  let v87 : BitVec 32 := Scalar.addi c0_i32_43 c7_i32
  let c1_i32_44 : BitVec 32 := 1#32
  ⟨c0_i32_43, v87, c1_i32_44⟩
@[reducible] def k1_t9_loop : Scf.Loop 32 :=
  let c0_i32_71 : BitVec 32 := 0#32
  let c7_i32_72 : BitVec 32 := 7#32
  let v166 : BitVec 32 := Scalar.addi c0_i32_71 c7_i32_72
  let c1_i32_73 : BitVec 32 := 1#32
  ⟨c0_i32_71, v166, c1_i32_73⟩
@[reducible] def k1_t10_loop : Scf.Loop 32 :=
  let c0_i32_75 : BitVec 32 := 0#32
  let c2_i32_76 : BitVec 32 := 2#32
  let v168 : BitVec 32 := Scalar.addi c0_i32_75 c2_i32_76
  let c1_i32_77 : BitVec 32 := 1#32
  ⟨c0_i32_75, v168, c1_i32_77⟩
@[reducible] def k1_t11_loop : Scf.Loop 32 :=
  let c0_i32_79 : BitVec 32 := 0#32
  let c7_i32_80 : BitVec 32 := 7#32
  let v170 : BitVec 32 := Scalar.addi c0_i32_79 c7_i32_80
  let c1_i32_81 : BitVec 32 := 1#32
  ⟨c0_i32_79, v170, c1_i32_81⟩
@[reducible] def k1_t12_loop : Scf.Loop 32 :=
  let c0_i32_83 : BitVec 32 := 0#32
  let c3_i32_84 : BitVec 32 := 3#32
  let v172 : BitVec 32 := Scalar.addi c0_i32_83 c3_i32_84
  let c1_i32_85 : BitVec 32 := 1#32
  ⟨c0_i32_83, v172, c1_i32_85⟩
@[reducible] def k1_t13_loop : Scf.Loop 32 :=
  let c0_i32_87 : BitVec 32 := 0#32
  let c7_i32_88 : BitVec 32 := 7#32
  let v174 : BitVec 32 := Scalar.addi c0_i32_87 c7_i32_88
  let c1_i32_89 : BitVec 32 := 1#32
  ⟨c0_i32_87, v174, c1_i32_89⟩
@[reducible] def k1_t14_loop : Scf.Loop 32 :=
  let c0_i32_91 : BitVec 32 := 0#32
  let c4_i32_92 : BitVec 32 := 4#32
  let v176 : BitVec 32 := Scalar.addi c0_i32_91 c4_i32_92
  let c1_i32_93 : BitVec 32 := 1#32
  ⟨c0_i32_91, v176, c1_i32_93⟩
@[reducible] def k1_t15_loop : Scf.Loop 32 :=
  let c0_i32_95 : BitVec 32 := 0#32
  let c7_i32_96 : BitVec 32 := 7#32
  let v178 : BitVec 32 := Scalar.addi c0_i32_95 c7_i32_96
  let c1_i32_97 : BitVec 32 := 1#32
  ⟨c0_i32_95, v178, c1_i32_97⟩
@[reducible] def k1_t16_loop : Scf.Loop 32 :=
  let c0_i32_99 : BitVec 32 := 0#32
  let c5_i32_100 : BitVec 32 := 5#32
  let v180 : BitVec 32 := Scalar.addi c0_i32_99 c5_i32_100
  let c1_i32_101 : BitVec 32 := 1#32
  ⟨c0_i32_99, v180, c1_i32_101⟩
@[reducible] def k1_t17_loop : Scf.Loop 32 :=
  let c0_i32_103 : BitVec 32 := 0#32
  let c7_i32_104 : BitVec 32 := 7#32
  let v182 : BitVec 32 := Scalar.addi c0_i32_103 c7_i32_104
  let c1_i32_105 : BitVec 32 := 1#32
  ⟨c0_i32_103, v182, c1_i32_105⟩
@[reducible] def k1_t18_loop : Scf.Loop 32 :=
  let c0_i32_107 : BitVec 32 := 0#32
  let c6_i32_108 : BitVec 32 := 6#32
  let v184 : BitVec 32 := Scalar.addi c0_i32_107 c6_i32_108
  let c1_i32_109 : BitVec 32 := 1#32
  ⟨c0_i32_107, v184, c1_i32_109⟩
@[reducible] def k1_t19_loop : Scf.Loop 32 :=
  let c0_i32_111 : BitVec 32 := 0#32
  let c7_i32_112 : BitVec 32 := 7#32
  let v186 : BitVec 32 := Scalar.addi c0_i32_111 c7_i32_112
  let c1_i32_113 : BitVec 32 := 1#32
  ⟨c0_i32_111, v186, c1_i32_113⟩
@[reducible] def k1_t20_loop : Scf.Loop 32 :=
  let c0_i32_115 : BitVec 32 := 0#32
  let c7_i32_116 : BitVec 32 := 7#32
  let v188 : BitVec 32 := Scalar.addi c0_i32_115 c7_i32_116
  let c1_i32_117 : BitVec 32 := 1#32
  ⟨c0_i32_115, v188, c1_i32_117⟩
@[reducible] def k1_t21_loop : Scf.Loop 32 :=
  let c0_i32_119 : BitVec 32 := 0#32
  let c7_i32_120 : BitVec 32 := 7#32
  let v190 : BitVec 32 := Scalar.addi c0_i32_119 c7_i32_120
  let c1_i32_121 : BitVec 32 := 1#32
  ⟨c0_i32_119, v190, c1_i32_121⟩
abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S80x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S80x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S80x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S80x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S80x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S80x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1 : Shape := ⟨1, ![1]⟩
abbrev S1x4 : Shape := ⟨2, ![1, 4]⟩
abbrev S4 : Shape := ⟨1, ![4]⟩
abbrev S2 : Shape := ⟨1, ![2]⟩
abbrev S5000x2 : Shape := ⟨2, ![5000, 2]⟩
abbrev S1x2 : Shape := ⟨2, ![1, 2]⟩

abbrev nBuf : Space → Nat
  | .hbm => 141
  | .vmem => 0
  | .smem => 0
  | _ => 0

abbrev hbmTy0_0 (i : Nat) : BufTy := match i % 128 with
  | 0 => ⟨S5000x4, .f32⟩
  | 1 => ⟨S5000, .f32⟩
  | 2 => ⟨S5000, .i32⟩
  | 3 => ⟨S_, .f32⟩
  | 4 => ⟨S_, .f32⟩
  | 5 => ⟨S5000, .f32⟩
  | 6 => ⟨S_, .f32⟩
  | 7 => ⟨S_, .f32⟩
  | 8 => ⟨S5000, .f32⟩
  | 9 => ⟨S5000, .f32⟩
  | 10 => ⟨S5000x1, .f32⟩
  | 11 => ⟨S5000x4, .f32⟩
  | 12 => ⟨S5000x4, .f32⟩
  | 13 => ⟨S5000, .i32⟩
  | 14 => ⟨S_, .i1⟩
  | 15 => ⟨S5000, .i1⟩
  | 16 => ⟨S_, .i32⟩
  | 17 => ⟨S5000, .i32⟩
  | 18 => ⟨S_, .f32⟩
  | 19 => ⟨S5000, .f32⟩
  | 20 => ⟨S_, .i32⟩
  | 21 => ⟨S5000x4, .f32⟩
  | 22 => ⟨S5000, .i32⟩
  | 23 => ⟨S_, .i32⟩
  | 24 => ⟨S5000, .f32⟩
  | 25 => ⟨S5000, .i1⟩
  | 26 => ⟨S5000, .i32⟩
  | 27 => ⟨S5000, .f32⟩
  | 28 => ⟨S_, .i32⟩
  | 29 => ⟨S_, .i1⟩
  | 30 => ⟨S_, .f32⟩
  | 31 => ⟨S_, .f32⟩
  | 32 => ⟨S5000, .f32⟩
  | 33 => ⟨S5000, .f32⟩
  | 34 => ⟨S5000, .i32⟩
  | 35 => ⟨S_, .f32⟩
  | 36 => ⟨S_, .i32⟩
  | 37 => ⟨S_, .f32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S1, .f32⟩
  | 45 => ⟨S_, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S1x4, .f32⟩
  | 60 => ⟨S4, .f32⟩
  | 61 => ⟨S2, .f32⟩
  | 62 => ⟨S5000x2, .f32⟩
  | 63 => ⟨S1x2, .f32⟩
  | 64 => ⟨S5000x2, .f32⟩
  | 65 => ⟨S5000x2, .f32⟩
  | 66 => ⟨S2, .f32⟩
  | 67 => ⟨S5000x2, .f32⟩
  | 68 => ⟨S1x2, .f32⟩
  | 69 => ⟨S5000x2, .f32⟩
  | 70 => ⟨S5000x2, .f32⟩
  | 71 => ⟨S5000x2, .f32⟩
  | 72 => ⟨S_, .f32⟩
  | 73 => ⟨S5000x2, .f32⟩
  | 74 => ⟨S5000x2, .f32⟩
  | 75 => ⟨S5000x1, .f32⟩
  | 76 => ⟨S5000, .f32⟩
  | 77 => ⟨S5000x1, .f32⟩
  | 78 => ⟨S5000, .f32⟩
  | 79 => ⟨S5000, .f32⟩
  | 80 => ⟨S1, .f32⟩
  | 81 => ⟨S_, .f32⟩
  | 82 => ⟨S1, .f32⟩
  | 83 => ⟨S_, .f32⟩
  | 84 => ⟨S_, .f32⟩
  | 85 => ⟨S1, .f32⟩
  | 86 => ⟨S_, .f32⟩
  | 87 => ⟨S1, .f32⟩
  | 88 => ⟨S_, .f32⟩
  | 89 => ⟨S_, .f32⟩
  | 90 => ⟨S_, .f32⟩
  | 91 => ⟨S5000x1, .f32⟩
  | 92 => ⟨S5000, .f32⟩
  | 93 => ⟨S5000x1, .f32⟩
  | 94 => ⟨S5000, .f32⟩
  | 95 => ⟨S5000, .f32⟩
  | 96 => ⟨S5000x1, .f32⟩
  | 97 => ⟨S5000, .f32⟩
  | 98 => ⟨S5000x1, .f32⟩
  | 99 => ⟨S5000, .f32⟩
  | 100 => ⟨S5000, .f32⟩
  | 101 => ⟨S5000, .f32⟩
  | 102 => ⟨S5000, .f32⟩
  | 103 => ⟨S5000, .f32⟩
  | 104 => ⟨S5000, .f32⟩
  | 105 => ⟨S_, .f32⟩
  | 106 => ⟨S5000, .f32⟩
  | 107 => ⟨S5000, .f32⟩
  | 108 => ⟨S5000, .f32⟩
  | 109 => ⟨S_, .f32⟩
  | 110 => ⟨S5000, .f32⟩
  | 111 => ⟨S5000, .i1⟩
  | 112 => ⟨S_, .f32⟩
  | 113 => ⟨S5000, .f32⟩
  | 114 => ⟨S5000, .f32⟩
  | 115 => ⟨S_, .f32⟩
  | 116 => ⟨S_, .f32⟩
  | 117 => ⟨S5000, .f32⟩
  | 118 => ⟨S5000, .f32⟩
  | 119 => ⟨S5000, .i32⟩
  | 120 => ⟨S5000, .i1⟩
  | 121 => ⟨S5000, .i1⟩
  | 122 => ⟨S5000, .f32⟩
  | 123 => ⟨S5000, .f32⟩
  | 124 => ⟨S_, .i32⟩
  | 125 => ⟨S_, .i1⟩
  | 126 => ⟨S_, .i32⟩
  | 127 => ⟨S_, .i32⟩
  | _ => ⟨S5000x4, .f32⟩

abbrev hbmTy0_1 (i : Nat) : BufTy := match i % 128 with
  | 0 => ⟨S_, .i32⟩
  | 1 => ⟨S1, .i32⟩
  | 2 => ⟨S_, .i1⟩
  | 3 => ⟨S5000, .i1⟩
  | 4 => ⟨S1, .i32⟩
  | 5 => ⟨S5000, .i32⟩
  | 6 => ⟨S1, .f32⟩
  | 7 => ⟨S5000, .f32⟩
  | 8 => ⟨S_, .i32⟩
  | 9 => ⟨S_, .i32⟩
  | 10 => ⟨S_, .f32⟩
  | 11 => ⟨S5000, .f32⟩
  | 12 => ⟨S5000, .i1⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_c_3 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev main_v12_6 : Ref sig .tc := ⟨.hbm, 27, rfl⟩
abbrev main_while0c_c_11 : Ref sig .tc := ⟨.hbm, 28, rfl⟩
abbrev main_while0c_v15 : Ref sig .tc := ⟨.hbm, 29, rfl⟩
abbrev main_while0b_cst_11 : Ref sig .tc := ⟨.hbm, 30, rfl⟩
abbrev main_while0b_call0_v0 : Ref sig .tc := ⟨.hbm, 31, rfl⟩
abbrev main_while0b_call0_v1 : Ref sig .tc := ⟨.hbm, 32, rfl⟩
abbrev main_while0b_v15 : Ref sig .tc := ⟨.hbm, 33, rfl⟩
abbrev main_while0b_call1_v0 : Ref sig .tc := ⟨.hbm, 34, rfl⟩
abbrev main_while0b_call1_cst : Ref sig .tc := ⟨.hbm, 35, rfl⟩
abbrev main_while0b_call1_c : Ref sig .tc := ⟨.hbm, 36, rfl⟩
abbrev main_while0b_call1_v1_0 : Ref sig .tc := ⟨.hbm, 37, rfl⟩
abbrev main_while0b_v16 : Ref sig .tc := ⟨.hbm, 38, rfl⟩
abbrev main_while0b_c_12 : Ref sig .tc := ⟨.hbm, 39, rfl⟩
abbrev main_while0b_v17 : Ref sig .tc := ⟨.hbm, 40, rfl⟩
abbrev main_while0b_c_13 : Ref sig .tc := ⟨.hbm, 41, rfl⟩
abbrev main_while0b_v18 : Ref sig .tc := ⟨.hbm, 42, rfl⟩
abbrev main_while0b_v19 : Ref sig .tc := ⟨.hbm, 43, rfl⟩
abbrev main_while0b_v20 : Ref sig .tc := ⟨.hbm, 44, rfl⟩
abbrev main_while0b_v21 : Ref sig .tc := ⟨.hbm, 45, rfl⟩
abbrev main_while0b_c_14 : Ref sig .tc := ⟨.hbm, 46, rfl⟩
abbrev main_while0b_v22 : Ref sig .tc := ⟨.hbm, 47, rfl⟩
abbrev main_while0b_c_15 : Ref sig .tc := ⟨.hbm, 48, rfl⟩
abbrev main_while0b_v23 : Ref sig .tc := ⟨.hbm, 49, rfl⟩
abbrev main_while0b_v24 : Ref sig .tc := ⟨.hbm, 50, rfl⟩
abbrev main_while0b_c_16 : Ref sig .tc := ⟨.hbm, 51, rfl⟩
abbrev main_while0b_c_17 : Ref sig .tc := ⟨.hbm, 52, rfl⟩
abbrev main_while0b_v25 : Ref sig .tc := ⟨.hbm, 53, rfl⟩
abbrev main_while0b_c_18 : Ref sig .tc := ⟨.hbm, 54, rfl⟩
abbrev main_while0b_c_19 : Ref sig .tc := ⟨.hbm, 55, rfl⟩
abbrev main_while0b_v26 : Ref sig .tc := ⟨.hbm, 56, rfl⟩
abbrev main_while0b_c_20 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_v32 : Ref sig .tc := ⟨.hbm, 63, rfl⟩
abbrev main_while0b_v33 : Ref sig .tc := ⟨.hbm, 64, rfl⟩
abbrev main_while0b_v34 : Ref sig .tc := ⟨.hbm, 65, rfl⟩
abbrev main_while0b_v35 : Ref sig .tc := ⟨.hbm, 66, rfl⟩
abbrev main_while0b_v36 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_cst_21 : Ref sig .tc := ⟨.hbm, 72, rfl⟩
abbrev main_while0b_v41 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_cst_22 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_cst_23 : Ref sig .tc := ⟨.hbm, 109, rfl⟩
abbrev main_while0b_v76 : Ref sig .tc := ⟨.hbm, 110, rfl⟩
abbrev main_while0b_v77 : Ref sig .tc := ⟨.hbm, 111, rfl⟩
abbrev main_while0b_cst_24 : Ref sig .tc := ⟨.hbm, 112, rfl⟩
abbrev main_while0b_v78 : Ref sig .tc := ⟨.hbm, 113, rfl⟩
abbrev main_while0b_v79 : Ref sig .tc := ⟨.hbm, 114, rfl⟩
abbrev main_while0b_cst_25 : Ref sig .tc := ⟨.hbm, 115, rfl⟩
abbrev main_while0b_call2_v0 : Ref sig .tc := ⟨.hbm, 116, rfl⟩
abbrev main_while0b_call2_v1 : Ref sig .tc := ⟨.hbm, 117, rfl⟩
abbrev main_while0b_v80 : Ref sig .tc := ⟨.hbm, 118, rfl⟩
abbrev main_while0b_v81 : Ref sig .tc := ⟨.hbm, 119, rfl⟩
abbrev main_while0b_v82 : Ref sig .tc := ⟨.hbm, 120, rfl⟩
abbrev main_while0b_v83 : Ref sig .tc := ⟨.hbm, 121, rfl⟩
abbrev main_while0b_v84 : Ref sig .tc := ⟨.hbm, 122, rfl⟩
abbrev main_while0b_v85 : Ref sig .tc := ⟨.hbm, 123, rfl⟩
abbrev main_while0b_c_26 : Ref sig .tc := ⟨.hbm, 124, rfl⟩
abbrev main_while0b_v86 : Ref sig .tc := ⟨.hbm, 125, rfl⟩
abbrev main_while0b_c_27 : Ref sig .tc := ⟨.hbm, 126, rfl⟩
abbrev main_while0b_v87 : Ref sig .tc := ⟨.hbm, 127, rfl⟩
abbrev main_while0b_v88 : Ref sig .tc := ⟨.hbm, 128, rfl⟩
abbrev main_while0b_v89 : Ref sig .tc := ⟨.hbm, 129, rfl⟩
abbrev main_while0b_c_28 : Ref sig .tc := ⟨.hbm, 130, rfl⟩
abbrev main_while0b_v90 : Ref sig .tc := ⟨.hbm, 131, rfl⟩
abbrev main_while0b_call4_v0 : Ref sig .tc := ⟨.hbm, 132, rfl⟩
abbrev main_while0b_v91 : Ref sig .tc := ⟨.hbm, 133, rfl⟩
abbrev main_while0b_call5_v0 : Ref sig .tc := ⟨.hbm, 134, rfl⟩
abbrev main_while0b_v92 : Ref sig .tc := ⟨.hbm, 135, rfl⟩
abbrev main_while0b_c_29 : Ref sig .tc := ⟨.hbm, 136, rfl⟩
abbrev main_while0b_v93 : Ref sig .tc := ⟨.hbm, 137, rfl⟩
abbrev main_cst_4 : Ref sig .tc := ⟨.hbm, 138, rfl⟩
abbrev main_v13 : Ref sig .tc := ⟨.hbm, 139, rfl⟩
abbrev main_v14 : Ref sig .tc := ⟨.hbm, 140, rfl⟩

abbrev nD : Nat := 1
abbrev τ : Topo := Topo.v7x

variable {F : FTy → Type} [FloatOps F]

abbrev main_while0_count : Scf.Loop 32 := ⟨0#32, 5000#32, 1#32⟩
-- ==== Proof.KernelIdeal.Host.lean ====
/-
  The host side of the program around the per-class pipeline: the lines of the branch as lists of operations, the
  contents of the buffers when the pipeline starts, and the program reduced to the pipeline followed by its later
  lines whenever the branch word is one.
-/
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.HostLoop.Rules
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

/-! ## The branch, as lists of operations -/

/-- The word that chooses the branch, read off the comparison of the largest class count with 128. -/
abbrev readOps : List (HloOp τ sig (Elt F)) :=
  [ StableHlo.unary main_v19 main_v20 ((extui 32 · natLt_1_32) : (⟨S_, .i1⟩ : BufTy).Contents (Elt F) → (⟨S_, .i32⟩ : BufTy).Contents (Elt F)) ]
/-- They touch buffers of the TensorCore only. -/
theorem readOps_sub : (readOps : List (HloOp τ sig (Elt F))).Forall fun op => op.bufs ⊆ StableHlo.tcRefs τ sig :=
  StableHlo.unary_bufs_sub ..
/-- The branch up to the marks of the class starts: the keys, their sort, the order and the sorted classes. -/
abbrev armKeys : List (HloOp τ sig (Elt F)) :=
  [ StableHlo.nullary main_case0b1_v24 (iotaInDim S5000 32 0),
    StableHlo.nullary main_case0b1_c_9 (constantI S_ 32 8192#32),
    StableHlo.unary main_case0b1_c_9 main_case0b1_v25 (broadcastInDim S5000 ![] bcast_S_S5000 : (⟨S_, .i32⟩ : BufTy).Contents (Elt F) → (⟨S5000, .i32⟩ : BufTy).Contents (Elt F)),
    StableHlo.binary main_arg2 main_case0b1_v25 main_case0b1_v26 (muli : (⟨S5000, .i32⟩ : BufTy).Contents (Elt F) → (⟨S5000, .i32⟩ : BufTy).Contents (Elt F) → (⟨S5000, .i32⟩ : BufTy).Contents (Elt F)),
    StableHlo.binary main_case0b1_v26 main_case0b1_v24 main_case0b1_v27 (addi : (⟨S5000, .i32⟩ : BufTy).Contents (Elt F) → (⟨S5000, .i32⟩ : BufTy).Contents (Elt F) → (⟨S5000, .i32⟩ : BufTy).Contents (Elt F)),
    StableHlo.unary main_case0b1_v27 main_case0b1_v28 ((fun x => Host.sort S5000 0 comparator_i32_d0 x) : (⟨S5000, .i32⟩ : BufTy).Contents (Elt F) → (⟨S5000, .i32⟩ : BufTy).Contents (Elt F)),
    StableHlo.nullary main_case0b1_c_10 (constantI S_ 32 13#32),
    StableHlo.unary main_case0b1_c_10 main_case0b1_v29 (broadcastInDim S5000 ![] bcast_S_S5000 : (⟨S_, .i32⟩ : BufTy).Contents (Elt F) → (⟨S5000, .i32⟩ : BufTy).Contents (Elt F)),
    StableHlo.binary main_case0b1_v28 main_case0b1_v29 main_case0b1_v30 (Host.shrsi : (⟨S5000, .i32⟩ : BufTy).Contents (Elt F) → (⟨S5000, .i32⟩ : BufTy).Contents (Elt F) → (⟨S5000, .i32⟩ : BufTy).Contents (Elt F)),
    StableHlo.nullary main_case0b1_c_11 (constantI S_ 32 8191#32),
    StableHlo.unary main_case0b1_c_11 main_case0b1_v31 (broadcastInDim S5000 ![] bcast_S_S5000 : (⟨S_, .i32⟩ : BufTy).Contents (Elt F) → (⟨S5000, .i32⟩ : BufTy).Contents (Elt F)),
    StableHlo.binary main_case0b1_v28 main_case0b1_v31 main_case0b1_v32 (andi : (⟨S5000, .i32⟩ : BufTy).Contents (Elt F) → (⟨S5000, .i32⟩ : BufTy).Contents (Elt F) → (⟨S5000, .i32⟩ : BufTy).Contents (Elt F)),
    StableHlo.nullary main_case0b1_c_12 (constantI S_ 1 1#1),
    StableHlo.unary main_case0b1_c_12 main_case0b1_v33 (broadcastInDim S1 ![] bcast_S_S1 : (⟨S_, .i1⟩ : BufTy).Contents (Elt F) → (⟨S1, .i1⟩ : BufTy).Contents (Elt F)),
    StableHlo.unary main_case0b1_v30 main_case0b1_v34 ((extractStridedSlice S4999 ![1] · slices_S5000_S4999_1) : (⟨S5000, .i32⟩ : BufTy).Contents (Elt F) → (⟨S4999, .i32⟩ : BufTy).Contents (Elt F)),
    StableHlo.unary main_case0b1_v30 main_case0b1_v35 ((extractStridedSlice S4999 ![0] · slices_S5000_S4999_0) : (⟨S5000, .i32⟩ : BufTy).Contents (Elt F) → (⟨S4999, .i32⟩ : BufTy).Contents (Elt F)),
    StableHlo.binary main_case0b1_v34 main_case0b1_v35 main_case0b1_v36 (cmpi .ne : (⟨S4999, .i32⟩ : BufTy).Contents (Elt F) → (⟨S4999, .i32⟩ : BufTy).Contents (Elt F) → (⟨S4999, .i1⟩ : BufTy).Contents (Elt F)),
    StableHlo.binary main_case0b1_v33 main_case0b1_v36 main_case0b1_v37 ((fun a b => concatenate S5000 0 [⟨S1, a⟩, ⟨S4999, b⟩] concatenates_S1_S4999_S5000_d0) : (⟨S1, .i1⟩ : BufTy).Contents (Elt F) → (⟨S4999, .i1⟩ : BufTy).Contents (Elt F) → (⟨S5000, .i1⟩ : BufTy).Contents (Elt F)),
    StableHlo.nullary main_case0b1_c_13 (constantI S_ 32 0#32) ]
/-- They touch buffers of the TensorCore only. -/
theorem armKeys_sub : (armKeys : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.binary_bufs_sub .., StableHlo.nullary_bufs_sub ..⟩
/-- The start of each class, marked at its first position. -/
abbrev armWhere : List (HloOp τ sig (Elt F)) :=
  [ StableHlo.TRef.unary (.of main_case0b1_c_13 : StableHlo.TRef sig ⟨S_, .i32⟩) (.of main_case0b1_call6_v0 : StableHlo.TRef sig ⟨S_, .i32⟩) id,
    StableHlo.TRef.unary (.of main_case0b1_call6_v0 : StableHlo.TRef sig ⟨S_, .i32⟩) (.of main_case0b1_call6_v1 : StableHlo.TRef sig ⟨S5000, .i32⟩) (broadcastInDim S5000 ![] bcast_S_S5000),
    StableHlo.TRef.ternary (.of main_case0b1_v37 : StableHlo.TRef sig ⟨S5000, .i1⟩) (.of main_case0b1_v24 : StableHlo.TRef sig ⟨S5000, .i32⟩) (.of main_case0b1_call6_v1 : StableHlo.TRef sig ⟨S5000, .i32⟩) (.of main_case0b1_v38 : StableHlo.TRef sig ⟨S5000, .i32⟩) select ]
/-- They touch buffers of the TensorCore only. -/
theorem armWhere_sub : (armWhere : List (HloOp τ sig (Elt F))).Forall fun op => op.bufs ⊆ StableHlo.tcRefs τ sig :=
  ⟨StableHlo.unary_bufs_sub .., StableHlo.unary_bufs_sub .., StableHlo.ternary_bufs_sub ..⟩
/-- The running maximum of the marks: where the class of each position starts. -/
abbrev armMax : List (HloOp τ sig (Elt F)) :=
  [ StableHlo.TRef.nullary (.of main_case0b1_call7_c : StableHlo.TRef sig ⟨S_, .i32⟩) (constantI S_ 32 2147483648#32),
    StableHlo.TRef.unary (.of main_case0b1_call7_c : StableHlo.TRef sig ⟨S_, .i32⟩) (.of main_case0b1_call7_v0 : StableHlo.TRef sig ⟨S_, .i32⟩) (broadcastInDim S_ ![] bcast_S_S_),
    StableHlo.TRef.binary (.of main_case0b1_v38 : StableHlo.TRef sig ⟨S5000, .i32⟩) (.of main_case0b1_call7_v0 : StableHlo.TRef sig ⟨S_, .i32⟩) (.of main_case0b1_v39 : StableHlo.TRef sig ⟨S5000, .i32⟩) (fun x v => Host.reduceWindow IntOp.maxsi ![5000] ![1] ![4999] ![0] x v reduceWindows_S5000_S5000_w5000s1p4999_0 h_S_) ]
/-- They touch buffers of the TensorCore only. -/
theorem armMax_sub : (armMax : List (HloOp τ sig (Elt F))).Forall fun op => op.bufs ⊆ StableHlo.tcRefs τ sig :=
  ⟨StableHlo.nullary_bufs_sub .., StableHlo.unary_bufs_sub .., StableHlo.binary_bufs_sub ..⟩
/-- The slots of the boxes in their classes, and the six numbers of each box. -/
abbrev armRows : List (HloOp τ sig (Elt F)) :=
  [ StableHlo.binary main_case0b1_v24 main_case0b1_v39 main_case0b1_v40 (subi : (⟨S5000, .i32⟩ : BufTy).Contents (Elt F) → (⟨S5000, .i32⟩ : BufTy).Contents (Elt F) → (⟨S5000, .i32⟩ : BufTy).Contents (Elt F)),
    StableHlo.nullary main_case0b1_c_14 (constantI S_ 32 127#32),
    StableHlo.unary main_case0b1_c_14 main_case0b1_v41 (broadcastInDim S5000 ![] bcast_S_S5000 : (⟨S_, .i32⟩ : BufTy).Contents (Elt F) → (⟨S5000, .i32⟩ : BufTy).Contents (Elt F)),
    StableHlo.binary main_case0b1_v40 main_case0b1_v41 main_case0b1_v42 (minsi : (⟨S5000, .i32⟩ : BufTy).Contents (Elt F) → (⟨S5000, .i32⟩ : BufTy).Contents (Elt F) → (⟨S5000, .i32⟩ : BufTy).Contents (Elt F)),
    StableHlo.nullary main_case0b1_c_15 (constantI S_ 32 0#32),
    StableHlo.unary main_case0b1_c_15 main_case0b1_v43 (broadcastInDim S5000 ![] bcast_S_S5000 : (⟨S_, .i32⟩ : BufTy).Contents (Elt F) → (⟨S5000, .i32⟩ : BufTy).Contents (Elt F)),
    StableHlo.nullary main_case0b1_c_16 (constantI S_ 32 0#32),
    StableHlo.unary main_case0b1_c_16 main_case0b1_v44 (broadcastInDim S5000 ![] bcast_S_S5000 : (⟨S_, .i32⟩ : BufTy).Contents (Elt F) → (⟨S5000, .i32⟩ : BufTy).Contents (Elt F)),
    StableHlo.binary main_case0b1_v32 main_case0b1_v44 main_case0b1_v45 (cmpi .slt : (⟨S5000, .i32⟩ : BufTy).Contents (Elt F) → (⟨S5000, .i32⟩ : BufTy).Contents (Elt F) → (⟨S5000, .i1⟩ : BufTy).Contents (Elt F)),
    StableHlo.nullary main_case0b1_c_17 (constantI S_ 32 5000#32),
    StableHlo.unary main_case0b1_c_17 main_case0b1_v46 (broadcastInDim S5000 ![] bcast_S_S5000 : (⟨S_, .i32⟩ : BufTy).Contents (Elt F) → (⟨S5000, .i32⟩ : BufTy).Contents (Elt F)),
    StableHlo.binary main_case0b1_v32 main_case0b1_v46 main_case0b1_v47 (addi : (⟨S5000, .i32⟩ : BufTy).Contents (Elt F) → (⟨S5000, .i32⟩ : BufTy).Contents (Elt F) → (⟨S5000, .i32⟩ : BufTy).Contents (Elt F)),
    StableHlo.ternary main_case0b1_v45 main_case0b1_v47 main_case0b1_v32 main_case0b1_v48 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_case0b1_v48 main_case0b1_v49 (broadcastInDim S5000x1 ![0] bcast_S5000_S5000x1_0 : (⟨S5000, .i32⟩ : BufTy).Contents (Elt F) → (⟨S5000x1, .i32⟩ : BufTy).Contents (Elt F)),
    StableHlo.ternary main_case0b1_v43 main_case0b1_v49 main_case0b1_v42 main_case0b1_v50 ((fun x i u => Host.scatter scatter_S5000_S5000x1_S5000_n_0_0_1 (fun _ b => b) x i u) : (⟨S5000, .i32⟩ : BufTy).Contents (Elt F) → (⟨S5000x1, .i32⟩ : BufTy).Contents (Elt F) → (⟨S5000, .i32⟩ : BufTy).Contents (Elt F) → (⟨S5000, .i32⟩ : BufTy).Contents (Elt F)),
    StableHlo.unary main_v7 main_case0b1_v51 ((extractStridedSlice S5000x1 ![0, 0] · slices_S5000x4_S5000x1_0_0) : (⟨S5000x4, .f32⟩ : BufTy).Contents (Elt F) → (⟨S5000x1, .f32⟩ : BufTy).Contents (Elt F)),
    StableHlo.reshape main_case0b1_v51 main_case0b1_v52 (rfl : (.f32 : EltTy) = .f32) shapeCasts_S5000x1_S5000,
    StableHlo.unary main_v7 main_case0b1_v53 ((extractStridedSlice S5000x1 ![0, 1] · slices_S5000x4_S5000x1_0_1) : (⟨S5000x4, .f32⟩ : BufTy).Contents (Elt F) → (⟨S5000x1, .f32⟩ : BufTy).Contents (Elt F)),
    StableHlo.reshape main_case0b1_v53 main_case0b1_v54 (rfl : (.f32 : EltTy) = .f32) shapeCasts_S5000x1_S5000,
    StableHlo.unary main_v7 main_case0b1_v55 ((extractStridedSlice S5000x1 ![0, 2] · slices_S5000x4_S5000x1_0_2) : (⟨S5000x4, .f32⟩ : BufTy).Contents (Elt F) → (⟨S5000x1, .f32⟩ : BufTy).Contents (Elt F)),
    StableHlo.reshape main_case0b1_v55 main_case0b1_v56 (rfl : (.f32 : EltTy) = .f32) shapeCasts_S5000x1_S5000,
    StableHlo.unary main_v7 main_case0b1_v57 ((extractStridedSlice S5000x1 ![0, 3] · slices_S5000x4_S5000x1_0_3) : (⟨S5000x4, .f32⟩ : BufTy).Contents (Elt F) → (⟨S5000x1, .f32⟩ : BufTy).Contents (Elt F)),
    StableHlo.reshape main_case0b1_v57 main_case0b1_v58 (rfl : (.f32 : EltTy) = .f32) shapeCasts_S5000x1_S5000,
    StableHlo.unary main_case0b1_v24 main_case0b1_v59 (sitofp .f32 : (⟨S5000, .i32⟩ : BufTy).Contents (Elt F) → (⟨S5000, .f32⟩ : BufTy).Contents (Elt F)),
    StableHlo.unary main_case0b1_v52 main_case0b1_v60 (broadcastInDim S5000x1 ![0] bcast_S5000_S5000x1_0 : (⟨S5000, .f32⟩ : BufTy).Contents (Elt F) → (⟨S5000x1, .f32⟩ : BufTy).Contents (Elt F)),
    StableHlo.unary main_case0b1_v54 main_case0b1_v61 (broadcastInDim S5000x1 ![0] bcast_S5000_S5000x1_0 : (⟨S5000, .f32⟩ : BufTy).Contents (Elt F) → (⟨S5000x1, .f32⟩ : BufTy).Contents (Elt F)),
    StableHlo.unary main_case0b1_v56 main_case0b1_v62 (broadcastInDim S5000x1 ![0] bcast_S5000_S5000x1_0 : (⟨S5000, .f32⟩ : BufTy).Contents (Elt F) → (⟨S5000x1, .f32⟩ : BufTy).Contents (Elt F)),
    StableHlo.unary main_case0b1_v58 main_case0b1_v63 (broadcastInDim S5000x1 ![0] bcast_S5000_S5000x1_0 : (⟨S5000, .f32⟩ : BufTy).Contents (Elt F) → (⟨S5000x1, .f32⟩ : BufTy).Contents (Elt F)),
    StableHlo.unary main_arg1 main_case0b1_v64 (broadcastInDim S5000x1 ![0] bcast_S5000_S5000x1_0 : (⟨S5000, .f32⟩ : BufTy).Contents (Elt F) → (⟨S5000x1, .f32⟩ : BufTy).Contents (Elt F)),
    StableHlo.unary main_case0b1_v59 main_case0b1_v65 (broadcastInDim S5000x1 ![0] bcast_S5000_S5000x1_0 : (⟨S5000, .f32⟩ : BufTy).Contents (Elt F) → (⟨S5000x1, .f32⟩ : BufTy).Contents (Elt F)),
    StableHlo.nary ![main_case0b1_v60, main_case0b1_v61, main_case0b1_v62, main_case0b1_v63, main_case0b1_v64, main_case0b1_v65] main_case0b1_v66 (fun u => (concatenate S5000x6 1 [⟨S5000x1, (u 0 : (⟨S5000x1, .f32⟩ : BufTy).Contents (Elt F))⟩, ⟨S5000x1, (u 1 : (⟨S5000x1, .f32⟩ : BufTy).Contents (Elt F))⟩, ⟨S5000x1, (u 2 : (⟨S5000x1, .f32⟩ : BufTy).Contents (Elt F))⟩, ⟨S5000x1, (u 3 : (⟨S5000x1, .f32⟩ : BufTy).Contents (Elt F))⟩, ⟨S5000x1, (u 4 : (⟨S5000x1, .f32⟩ : BufTy).Contents (Elt F))⟩, ⟨S5000x1, (u 5 : (⟨S5000x1, .f32⟩ : BufTy).Contents (Elt F))⟩] concatenates_S5000x1_S5000x1_S5000x1_S5000x1_S5000x1_S5000x1_S5000x6_d1 : (⟨S5000x6, .f32⟩ : BufTy).Contents (Elt F))) ]
/-- They touch buffers of the TensorCore only. -/
theorem armRows_sub : (armRows : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩
/-- The six class grids, filled and cut apart. -/
abbrev armGrids : List (HloOp τ sig (Elt F)) :=
  [ StableHlo.unary main_cst main_case0b1_v67 (broadcastInDim S80x128x6 ![2] bcast_S6_S80x128x6_2 : (⟨S6, .f32⟩ : BufTy).Contents (Elt F) → (⟨S80x128x6, .f32⟩ : BufTy).Contents (Elt F)),
    StableHlo.nullary main_case0b1_c_18 (constantI S_ 32 0#32),
    StableHlo.unary main_case0b1_c_18 main_case0b1_v68 (broadcastInDim S5000 ![] bcast_S_S5000 : (⟨S_, .i32⟩ : BufTy).Contents (Elt F) → (⟨S5000, .i32⟩ : BufTy).Contents (Elt F)),
    StableHlo.binary main_arg2 main_case0b1_v68 main_case0b1_v69 (cmpi .slt : (⟨S5000, .i32⟩ : BufTy).Contents (Elt F) → (⟨S5000, .i32⟩ : BufTy).Contents (Elt F) → (⟨S5000, .i1⟩ : BufTy).Contents (Elt F)),
    StableHlo.nullary main_case0b1_c_19 (constantI S_ 32 80#32),
    StableHlo.unary main_case0b1_c_19 main_case0b1_v70 (broadcastInDim S5000 ![] bcast_S_S5000 : (⟨S_, .i32⟩ : BufTy).Contents (Elt F) → (⟨S5000, .i32⟩ : BufTy).Contents (Elt F)),
    StableHlo.binary main_arg2 main_case0b1_v70 main_case0b1_v71 (addi : (⟨S5000, .i32⟩ : BufTy).Contents (Elt F) → (⟨S5000, .i32⟩ : BufTy).Contents (Elt F) → (⟨S5000, .i32⟩ : BufTy).Contents (Elt F)),
    StableHlo.ternary main_case0b1_v69 main_case0b1_v71 main_arg2 main_case0b1_v72 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.nullary main_case0b1_c_20 (constantI S_ 32 0#32),
    StableHlo.unary main_case0b1_c_20 main_case0b1_v73 (broadcastInDim S5000 ![] bcast_S_S5000 : (⟨S_, .i32⟩ : BufTy).Contents (Elt F) → (⟨S5000, .i32⟩ : BufTy).Contents (Elt F)),
    StableHlo.binary main_case0b1_v50 main_case0b1_v73 main_case0b1_v74 (cmpi .slt : (⟨S5000, .i32⟩ : BufTy).Contents (Elt F) → (⟨S5000, .i32⟩ : BufTy).Contents (Elt F) → (⟨S5000, .i1⟩ : BufTy).Contents (Elt F)),
    StableHlo.nullary main_case0b1_c_21 (constantI S_ 32 128#32),
    StableHlo.unary main_case0b1_c_21 main_case0b1_v75 (broadcastInDim S5000 ![] bcast_S_S5000 : (⟨S_, .i32⟩ : BufTy).Contents (Elt F) → (⟨S5000, .i32⟩ : BufTy).Contents (Elt F)),
    StableHlo.binary main_case0b1_v50 main_case0b1_v75 main_case0b1_v76 (addi : (⟨S5000, .i32⟩ : BufTy).Contents (Elt F) → (⟨S5000, .i32⟩ : BufTy).Contents (Elt F) → (⟨S5000, .i32⟩ : BufTy).Contents (Elt F)),
    StableHlo.ternary main_case0b1_v74 main_case0b1_v76 main_case0b1_v50 main_case0b1_v77 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_case0b1_v72 main_case0b1_v78 (broadcastInDim S5000x1 ![0] bcast_S5000_S5000x1_0 : (⟨S5000, .i32⟩ : BufTy).Contents (Elt F) → (⟨S5000x1, .i32⟩ : BufTy).Contents (Elt F)),
    StableHlo.unary main_case0b1_v77 main_case0b1_v79 (broadcastInDim S5000x1 ![0] bcast_S5000_S5000x1_0 : (⟨S5000, .i32⟩ : BufTy).Contents (Elt F) → (⟨S5000x1, .i32⟩ : BufTy).Contents (Elt F)),
    StableHlo.binary main_case0b1_v78 main_case0b1_v79 main_case0b1_v80 ((fun a b => concatenate S5000x2 1 [⟨S5000x1, a⟩, ⟨S5000x1, b⟩] concatenates_S5000x1_S5000x1_S5000x2_d1) : (⟨S5000x1, .i32⟩ : BufTy).Contents (Elt F) → (⟨S5000x1, .i32⟩ : BufTy).Contents (Elt F) → (⟨S5000x2, .i32⟩ : BufTy).Contents (Elt F)),
    StableHlo.ternary main_case0b1_v67 main_case0b1_v80 main_case0b1_v66 main_case0b1_v81 ((fun x i u => Host.scatter scatter_S80x128x6_S5000x2_S5000x6_1_01_01_1 (fun _ b => b) x i u) : (⟨S80x128x6, .f32⟩ : BufTy).Contents (Elt F) → (⟨S5000x2, .i32⟩ : BufTy).Contents (Elt F) → (⟨S5000x6, .f32⟩ : BufTy).Contents (Elt F) → (⟨S80x128x6, .f32⟩ : BufTy).Contents (Elt F)),
    StableHlo.unary main_case0b1_v81 main_case0b1_v82 ((transpose S6x80x128 [2, 0, 1] · transposes_S80x128x6_S6x80x128_2_0_1) : (⟨S80x128x6, .f32⟩ : BufTy).Contents (Elt F) → (⟨S6x80x128, .f32⟩ : BufTy).Contents (Elt F)),
    StableHlo.unary main_case0b1_v82 main_case0b1_v83 ((extractStridedSlice S1x80x128 ![0, 0, 0] · slices_S6x80x128_S1x80x128_0_0_0) : (⟨S6x80x128, .f32⟩ : BufTy).Contents (Elt F) → (⟨S1x80x128, .f32⟩ : BufTy).Contents (Elt F)),
    StableHlo.reshape main_case0b1_v83 main_case0b1_v84 (rfl : (.f32 : EltTy) = .f32) shapeCasts_S1x80x128_S80x128,
    StableHlo.unary main_case0b1_v82 main_case0b1_v85 ((extractStridedSlice S1x80x128 ![1, 0, 0] · slices_S6x80x128_S1x80x128_1_0_0) : (⟨S6x80x128, .f32⟩ : BufTy).Contents (Elt F) → (⟨S1x80x128, .f32⟩ : BufTy).Contents (Elt F)),
    StableHlo.reshape main_case0b1_v85 main_case0b1_v86 (rfl : (.f32 : EltTy) = .f32) shapeCasts_S1x80x128_S80x128,
    StableHlo.unary main_case0b1_v82 main_case0b1_v87 ((extractStridedSlice S1x80x128 ![2, 0, 0] · slices_S6x80x128_S1x80x128_2_0_0) : (⟨S6x80x128, .f32⟩ : BufTy).Contents (Elt F) → (⟨S1x80x128, .f32⟩ : BufTy).Contents (Elt F)),
    StableHlo.reshape main_case0b1_v87 main_case0b1_v88 (rfl : (.f32 : EltTy) = .f32) shapeCasts_S1x80x128_S80x128,
    StableHlo.unary main_case0b1_v82 main_case0b1_v89 ((extractStridedSlice S1x80x128 ![3, 0, 0] · slices_S6x80x128_S1x80x128_3_0_0) : (⟨S6x80x128, .f32⟩ : BufTy).Contents (Elt F) → (⟨S1x80x128, .f32⟩ : BufTy).Contents (Elt F)),
    StableHlo.reshape main_case0b1_v89 main_case0b1_v90 (rfl : (.f32 : EltTy) = .f32) shapeCasts_S1x80x128_S80x128,
    StableHlo.unary main_case0b1_v82 main_case0b1_v91 ((extractStridedSlice S1x80x128 ![4, 0, 0] · slices_S6x80x128_S1x80x128_4_0_0) : (⟨S6x80x128, .f32⟩ : BufTy).Contents (Elt F) → (⟨S1x80x128, .f32⟩ : BufTy).Contents (Elt F)),
    StableHlo.reshape main_case0b1_v91 main_case0b1_v92 (rfl : (.f32 : EltTy) = .f32) shapeCasts_S1x80x128_S80x128,
    StableHlo.unary main_case0b1_v82 main_case0b1_v93 ((extractStridedSlice S1x80x128 ![5, 0, 0] · slices_S6x80x128_S1x80x128_5_0_0) : (⟨S6x80x128, .f32⟩ : BufTy).Contents (Elt F) → (⟨S1x80x128, .f32⟩ : BufTy).Contents (Elt F)),
    StableHlo.reshape main_case0b1_v93 main_case0b1_v94 (rfl : (.f32 : EltTy) = .f32) shapeCasts_S1x80x128_S80x128,
    StableHlo.reshape main_v18 main_case0b1_v95 (rfl : (.i32 : EltTy) = .i32) shapeCasts_S_S1 ]
/-- They touch buffers of the TensorCore only. -/
theorem armGrids_sub : (armGrids : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.reshape_bufs_sub ..⟩
/-- After the pipeline: the first 5000 sorted scores and indices. -/
abbrev armTail : List (HloOp τ sig (Elt F)) :=
  [ StableHlo.reshape main_case0b1_v96_1 main_case0b1_v97 (rfl : (.f32 : EltTy) = .f32) shapeCasts_S128x128_S16384,
    StableHlo.unary main_case0b1_v97 main_case0b1_v98 ((extractStridedSlice S5000 ![0] · slices_S16384_S5000_0) : (⟨S16384, .f32⟩ : BufTy).Contents (Elt F) → (⟨S5000, .f32⟩ : BufTy).Contents (Elt F)),
    StableHlo.unary main_case0b1_v98 main_case0b1_v99 (fptosi 32 : (⟨S5000, .f32⟩ : BufTy).Contents (Elt F) → (⟨S5000, .i32⟩ : BufTy).Contents (Elt F)),
    StableHlo.reshape main_case0b1_v96_0 main_case0b1_v100 (rfl : (.f32 : EltTy) = .f32) shapeCasts_S128x128_S16384,
    StableHlo.unary main_case0b1_v100 main_case0b1_v101 ((extractStridedSlice S5000 ![0] · slices_S16384_S5000_0) : (⟨S16384, .f32⟩ : BufTy).Contents (Elt F) → (⟨S5000, .f32⟩ : BufTy).Contents (Elt F)),
    StableHlo.unary main_case0b1_v99 main_v21_0 id,
    StableHlo.unary main_case0b1_v101 main_v21_1 id ]
/-- They touch buffers of the TensorCore only. -/
theorem armTail_sub : (armTail : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.unary_bufs_sub .., StableHlo.unary_bufs_sub .., StableHlo.unary_bufs_sub ..⟩
/-- They allocate nothing. -/
theorem hostOps0_fresh : (hostOps0 : List (HloOp τ sig (Elt F))).Forall fun op => op.fresh = ∅ := by
  simp only [List.Forall]; repeat' constructor
/-- They allocate nothing. -/
theorem hostOps0_1_fresh : (hostOps0_1 : List (HloOp τ sig (Elt F))).Forall fun op => op.fresh = ∅ := by
  simp only [List.Forall]; repeat' constructor
/-- They allocate nothing. -/
theorem hostOps0_2_fresh : (hostOps0_2 : List (HloOp τ sig (Elt F))).Forall fun op => op.fresh = ∅ := by
  simp only [List.Forall]; repeat' constructor
/-- They allocate nothing. -/
theorem readOps_fresh : (readOps : List (HloOp τ sig (Elt F))).Forall fun op => op.fresh = ∅ := by
  simp only [List.Forall]; repeat' constructor
/-- They allocate nothing. -/
theorem armKeys_fresh : (armKeys : List (HloOp τ sig (Elt F))).Forall fun op => op.fresh = ∅ := by
  simp only [List.Forall]; repeat' constructor
/-- They allocate nothing. -/
theorem armWhere_fresh : (armWhere : List (HloOp τ sig (Elt F))).Forall fun op => op.fresh = ∅ := by
  simp only [List.Forall]; repeat' constructor
/-- They allocate nothing. -/
theorem armMax_fresh : (armMax : List (HloOp τ sig (Elt F))).Forall fun op => op.fresh = ∅ := by
  simp only [List.Forall]; repeat' constructor
/-- They allocate nothing. -/
theorem armRows_fresh : (armRows : List (HloOp τ sig (Elt F))).Forall fun op => op.fresh = ∅ := by
  simp only [List.Forall]; repeat' constructor
/-- They allocate nothing. -/
theorem armGrids_fresh : (armGrids : List (HloOp τ sig (Elt F))).Forall fun op => op.fresh = ∅ := by
  simp only [List.Forall]; repeat' constructor
/-- They allocate nothing. -/
theorem armTail_fresh : (armTail : List (HloOp τ sig (Elt F))).Forall fun op => op.fresh = ∅ := by
  simp only [List.Forall]; repeat' constructor
/-- They allocate nothing. -/
theorem hostOps0_3_fresh : (hostOps0_3 : List (HloOp τ sig (Elt F))).Forall fun op => op.fresh = ∅ := by
  simp only [List.Forall]; repeat' constructor

/-- The lines before the branch. -/
abbrev headLines : List (List (HloOp τ sig (Elt F))) := [hostOps0, hostOps0_1, hostOps0_2]
/-- The lines of the branch before the pipeline. -/
abbrev armLines : List (List (HloOp τ sig (Elt F))) := [armKeys, armWhere, armMax, armRows, armGrids]
/-- The lines after the pipeline. -/
abbrev tailLines : List (List (HloOp τ sig (Elt F))) := [armTail, hostOps0_3]

variable (m : (ℓ : Loc nD τ sig) → Buf (Elt F) ℓ) (ρ : Dev nD → PrngReg)

/-- The buffers when the branch word is read. -/
abbrev Vr (c : Dev nD) : Valuation τ sig (Elt F) := StableHlo.after (headLines.flatten ++ readOps) (fun b => m (c, b))
/-- The buffers when the pipeline starts. -/
abbrev V0 (c : Dev nD) : Valuation τ sig (Elt F) := StableHlo.after (headLines ++ [readOps] ++ armLines).flatten (fun b => m (c, b))
/-- The same, read at a reference of the TensorCore. -/
abbrev V (c : Dev nD) (b : Ref sig .tc) : Buf (Elt F) ((c : Thread nD τ).loc b) := V0 m c (Proc.devRef .tc b)
/-- The word that chooses the branch. -/
abbrev word (c : Dev nD) : BitVec 32 := (Vr m c (Proc.devRef .tc main_v20) : (⟨S_, .i32⟩ : BufTy).Contents (Elt F)) HostLoop.idx0

/-- The head lines touch buffers of the TensorCore only. -/
theorem headLines_sub : ∀ ops ∈ (headLines : List (List (HloOp τ sig (Elt F)))), ∀ op ∈ ops, op.bufs ⊆ StableHlo.tcRefs τ sig := by
  intro ops hops op hop
  simp only [List.mem_cons, List.mem_nil_iff, or_false] at hops
  rcases hops with rfl | rfl | rfl
  · exact (List.forall_iff_forall_mem.mp hostOps0_sub) op hop
  · exact (List.forall_iff_forall_mem.mp hostOps0_1_sub) op hop
  · exact (List.forall_iff_forall_mem.mp hostOps0_2_sub) op hop
/-- The head lines allocate nothing. -/
theorem headLines_fresh : ∀ ops ∈ (headLines : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps0_fresh) op hop
  · exact (List.forall_iff_forall_mem.mp hostOps0_1_fresh) op hop
  · exact (List.forall_iff_forall_mem.mp hostOps0_2_fresh) op hop
/-- The lines of the branch touch buffers of the TensorCore only. -/
theorem armLines_sub : ∀ ops ∈ (armLines : List (List (HloOp τ sig (Elt F)))), ∀ op ∈ ops, op.bufs ⊆ StableHlo.tcRefs τ sig := by
  intro ops hops op hop
  simp only [List.mem_cons, List.mem_nil_iff, or_false] at hops
  rcases hops with rfl | rfl | rfl | rfl | rfl
  · exact (List.forall_iff_forall_mem.mp armKeys_sub) op hop
  · exact (List.forall_iff_forall_mem.mp armWhere_sub) op hop
  · exact (List.forall_iff_forall_mem.mp armMax_sub) op hop
  · exact (List.forall_iff_forall_mem.mp armRows_sub) op hop
  · exact (List.forall_iff_forall_mem.mp armGrids_sub) op hop
/-- The lines of the branch allocate nothing. -/
theorem armLines_fresh : ∀ ops ∈ (armLines : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp armKeys_fresh) op hop
  · exact (List.forall_iff_forall_mem.mp armWhere_fresh) op hop
  · exact (List.forall_iff_forall_mem.mp armMax_fresh) op hop
  · exact (List.forall_iff_forall_mem.mp armRows_fresh) op hop
  · exact (List.forall_iff_forall_mem.mp armGrids_fresh) op hop

/-- A running program: the branch word chosen, then the rest. -/
abbrev HostProg (F : FTy → Type) [FloatOps F] := Prog (TpuEff nD τ sig (Elt F) (Pipeline.Sig Λ₀ (Fin 2) fun p => (pcfgs (F := F) p).Adm) .tc) PUnit

/-- The whole program: the head lines, the branch by its word, the last lines. -/
theorem main_split (c : Dev nD) : ∃ arm0 : HostProg F, ∃ armX : Fin 2 → HostProg F, main (F := F) c =
    Pipeline.chain (headLines.map StableHlo.seq ++ [(do
      let x ← hlo rfl (StableHlo.unary main_v19 main_v20 ((extui 32 · natLt_1_32) : (⟨S_, .i1⟩ : BufTy).Contents (Elt F) → (⟨S_, .i32⟩ : BufTy).Contents (Elt F))) (HostLoop.elt main_v20)
      HostLoop.case 2 x armX), StableHlo.seq hostOps0_3])
    ∧ armX 1 = Pipeline.chain (armLines.map StableHlo.seq ++ [Prog.lift (.customCall (Pipeline.entry 1) ()), StableHlo.seq armTail]) := by
  refine ⟨.ret ⟨⟩, _, main_chain c, ?_⟩
  chain_rfl

/-- A chain followed by a chain. -/
theorem chain_bind_chain {E : Type → Type} (xs ys : List (Prog E PUnit)) :
    (Pipeline.chain xs >>= fun _ => Pipeline.chain ys) = Pipeline.chain (xs ++ ys) := by
  induction xs with
  | nil => rfl
  | cons x xs ih => simp only [Pipeline.chain_cons, List.cons_append, bind_assoc, ih]

/-- Word one takes the arm of index one. -/
theorem branch_one : HostLoop.branch 1#32 1 = 1 := by decide

set_option maxHeartbeats 800000 in
set_option backward.isDefEq.respectTransparency.types false in
/-- The program reduced to the pipeline followed by the later lines, at a branch word of one. -/
theorem hmain (hw : ∀ c, word m c = 1#32) :
    Pipeline.HMainK (Ix := Unit) (Name := ℕ) (U := UR sig nD τ) (Lvl := ℕ) cfgs 1 defs₀ 𝒱₀ m (main (F := F)) (V m)
      (fun _ => Pipeline.chain (tailLines.map StableHlo.seq)) := by
  intro c Q
  obtain ⟨-, armX, hmain, harm⟩ := main_split (F := F) c
  rw [hmain, show unscopedBufs c (V m c) = StableHlo.held (c.tc : Thread nD τ) (Pipeline.ucRefs τ sig) (V0 m c)
      from Pipeline.unscopedBufs_held (Ix := Unit) (Name := ℕ) (U := UR sig nD τ) (Lvl := ℕ) c (V0 m c),
    show unscopedBufs c (fun b => m ((c.tc : Thread nD τ).loc b)) = StableHlo.held (c.tc : Thread nD τ) (Pipeline.ucRefs τ sig) (fun b => m (c, b))
      from Pipeline.unscopedBufs_held (Ix := Unit) (Name := ℕ) (U := UR sig nD τ) (Lvl := ℕ) c (fun b => m (c, b))]
  iintro ⟨Hk, Hb⟩
  iapply (Pipeline.wp_seqs_then pcfgs defs₀ 𝒱₀ c (Pipeline.ucRefs τ sig) _ headLines
    (fun ops ho op h => Pipeline.sub_ucRefs op (headLines_sub ops ho op h)) headLines_fresh _) $$ Hb
  iintro ⟨Hb, Hh⟩
  rw [Pipeline.chain_cons, bind_assoc, wp_bind]
  iapply (StableHlo.wp_hlo_within (Variants.lift 𝒱₀) (c : Thread nD τ) none Set.univ (Pipeline.sub_ucRefs _ (StableHlo.unary_bufs_sub ..))) $$ [Hb Hh]
  · isplitl [Hb]; · iexact Hb
    iexact Hh
  iintro Hb
  rw [HostLoop.elt_apply, wp_ret]; imodintro
  rw [HostLoop.case_succ]
  generalize hb : HostLoop.branch _ 1 = b
  obtain rfl : b = 1 := by
    rw [← hb, ← branch_one, ← hw c]
    unfold word Vr
    rw [StableHlo.after_append, StableHlo.after_cons, StableHlo.after_nil]
    congr 1
  rw [harm, chain_bind_chain, List.append_assoc]
  iapply (Pipeline.wp_seqs_then pcfgs defs₀ 𝒱₀ c (Pipeline.ucRefs τ sig) _ armLines
    (fun ops ho op h => Pipeline.sub_ucRefs op (armLines_sub ops ho op h)) armLines_fresh _) $$ Hb
  iintro Hb
  simp only [List.cons_append, List.nil_append, Pipeline.chain_cons]
  iapply Hk
  rw [show V0 m c = StableHlo.after armLines.flatten ((StableHlo.unary main_v19 main_v20 ((extui 32 · natLt_1_32) : (⟨S_, .i1⟩ : BufTy).Contents (Elt F) → (⟨S_, .i32⟩ : BufTy).Contents (Elt F))).result (StableHlo.after headLines.flatten fun b => m (c, b))) from by
    unfold V0
    rw [List.flatten_append, List.flatten_append, StableHlo.after_append, StableHlo.after_append, List.flatten_singleton, StableHlo.after_cons, StableHlo.after_nil]]
  iexact Hb

end Cert.Proof.KernelIdeal

end
-- ==== Proof.KernelIdeal.Body.lean ====
/- What one trip of the per-class launch computes, as pure functions: the greedy step over the 80 × 128 class grids,
   the compare-exchange stages of the 128 × 128 bitonic network, and the printed body as loads, these functions and
   two stores. -/
module

public import proofs.«01_k».proof.Proof.Gen.KernelIdeal.Skeleton
public import Idealize.ShloMosaic.Lib.Exec
public import Idealize.ShloMosaic.Lib.Tactic

@[expose] public section

set_option maxRecDepth 65536
set_option maxHeartbeats 4000000

noncomputable section

namespace Cert.Proof.KernelIdeal

open Cert.KernelIdeal Cert.KernelIdeal.Gen
open Idealize.ShloMosaic Idealize.ShloMosaic.TcCoe
open Idealize.SL Idealize.SL.Sem

variable {F : FTy → Type} [FloatOps F]

/-- A pair of 128 × 128 grids: the scores and the indices the network sorts together. -/
abbrev Pair (F : FTy → Type) : Type := FVec F S128x128 .f32 × FVec F S128x128 .f32

/-- A pair of 80 × 128 grids: the live scores and the scores recorded. -/
abbrev Grids (F : FTy → Type) : Type := FVec F S80x128 .f32 × FVec F S80x128 .f32

/-- Which entries of the flat index `v33` have the bit `b`. -/
def hasBit (v33 : IVec S128x128 32) (b : BitVec 32) : IVec S128x128 1 :=
  cmpi .ne (andi v33 (broadcast S128x128 b)) (broadcast S128x128 0#32)

/-- The partner at distance `st` within a row. -/
def colPartner (v33 : IVec S128x128 32) (st : BitVec 32) (X : FVec F S128x128 .f32) : FVec F S128x128 .f32 :=
  select (hasBit v33 st) (dynamicRotate 1 st none X rotates_S128x128_d1)
    (dynamicRotate 1 (Scalar.subi 128#32 st) none X rotates_S128x128_d1)

/-- `st / 128` as the kernel computes it, a floor division by words. -/
def rowAmt (st : BitVec 32) : BitVec 32 :=
  Scalar.select
    (Scalar.andi
      (Scalar.cmpi .ne
        (Scalar.subi (Scalar.extui (Scalar.cmpi .sgt st 0#32)) (Scalar.extui (Scalar.cmpi .slt st 0#32)))
        (Scalar.subi (Scalar.extui (Scalar.cmpi .sgt 128#32 0#32)) (Scalar.extui (Scalar.cmpi .slt 128#32 0#32))))
      (Scalar.cmpi .ne (Scalar.remsi st 128#32) 0#32))
    (Scalar.subi (Scalar.divsi st 128#32) 1#32) (Scalar.divsi st 128#32)

/-- The partner at distance `st`, a whole number of rows. -/
def rowPartner (v33 : IVec S128x128 32) (st : BitVec 32) (X : FVec F S128x128 .f32) : FVec F S128x128 .f32 :=
  select (hasBit v33 st) (dynamicRotate 0 (rowAmt st) none X rotates_S128x128_d0)
    (dynamicRotate 0 (Scalar.subi 128#32 (rowAmt st)) none X rotates_S128x128_d0)

/-- `(S, G)` comes before `(S', G')`: a larger score, or an equal one at a smaller index. -/
def before (S G S' G' : FVec F S128x128 .f32) : IVec S128x128 1 :=
  ori (cmpf .ogt S S') (andi (cmpf .oeq S S') (cmpf .olt G G'))

/-- Whether an entry wants the earlier of itself and its partner at distance `st` in the blocks of length `L`. -/
def wantsEarlier (v33 : IVec S128x128 32) (L st : BitVec 32) : IVec S128x128 1 :=
  xori (xori (hasBit v33 st) (hasBit v33 L)) (constantI S128x128 1 1#1)

/-- Whether an entry takes its partner `q` for itself `p`. -/
def takes (v33 : IVec S128x128 32) (L st : BitVec 32) (p q : Pair F) : IVec S128x128 1 :=
  ori (andi (wantsEarlier v33 L st) (before q.1 q.2 p.1 p.2))
    (andi (xori (wantsEarlier v33 L st) (constantI S128x128 1 1#1)) (before p.1 p.2 q.1 q.2))

/-- One compare-exchange of every entry of `p` with its partner in `q`. -/
def exchange (v33 : IVec S128x128 32) (L st : BitVec 32) (p q : Pair F) : Pair F :=
  (select (takes v33 L st p q) q.1 p.1, select (takes v33 L st p q) q.2 p.2)

/-- One stage within rows. -/
def colStage (v33 : IVec S128x128 32) (L st : BitVec 32) (p : Pair F) : Pair F :=
  exchange v33 L st p (colPartner v33 st p.1, colPartner v33 st p.2)

/-- One stage across rows. -/
def rowStage (v33 : IVec S128x128 32) (L st : BitVec 32) (p : Pair F) : Pair F :=
  exchange v33 L st p (rowPartner v33 st p.1, rowPartner v33 st p.2)

/-- `n` stages within rows, at distances `top`, `top / 2`, …. -/
def colStages (v33 : IVec S128x128 32) (L top : BitVec 32) (n : Nat) (p : Pair F) : Pair F :=
  Scf.fold (n := n) (fun i acc => colStage v33 L (Scalar.shrsi top (Scf.iv 0#32 1#32 i)) acc) p

/-- `n` stages across rows, at distances `top`, `top / 2`, …. -/
def rowStages (v33 : IVec S128x128 32) (L top : BitVec 32) (n : Nat) (p : Pair F) : Pair F :=
  Scf.fold (n := n) (fun i acc => rowStage v33 L (Scalar.shrsi top (Scf.iv 0#32 1#32 i)) acc) p

/-- One greedy step of every class at once: the class's best live score is taken, the scores still live decay by
    their overlap with its box. -/
def nmsStep (x1 y1 x2 y2 : Vec F S80x128 .f32) (acc : Grids F) : Grids F :=
  let v1 := k1_pay44 x1
  let v3 := k1_pay45 y1
  let v5 := k1_pay46 x2
  let v7 := k1_pay47 y2
  let v10 := k1_pay48 x1 y1 x2 y2
  let v12 := k1_pay49 (F := F)
  let cst : F .f32 := Scalar.ofBits .f32 0x4E6E6B28#32
  let a := k1_pay24 v12 cst acc.1
  let b := k1_pay29 v1 v3 v5 v7 v12 cst acc.1
  let d := k1_pay30 v1 v3 v5 v7 v10 v12 cst acc.1
  (k1_pay54 acc.1 a b d, k1_pay53 acc.1 acc.2 a b d)

/-- The network on blocks of up to 4 entries. -/
def sortA (v33 : IVec S128x128 32) (p : Pair F) : Pair F :=
  colStages v33 4#32 2#32 2 (colStage v33 2#32 (Scalar.shrsi 1#32 0#32) p)

/-- The network on blocks of 8 to 128 entries. -/
def sortB (v33 : IVec S128x128 32) (p : Pair F) : Pair F :=
  colStages v33 128#32 64#32 7 (colStages v33 64#32 32#32 6 (colStages v33 32#32 16#32 5 (colStages v33 16#32 8#32 4 (colStages v33 8#32 4#32 3 p))))

/-- The network on blocks of 256 to 2048 entries and the row stages of 4096. -/
def sortC (v33 : IVec S128x128 32) (p : Pair F) : Pair F :=
  rowStages v33 4096#32 2048#32 5 (colStages v33 2048#32 64#32 7 (rowStages v33 2048#32 1024#32 4 (colStages v33 1024#32 64#32 7 (rowStages v33 1024#32 512#32 3 (colStages v33 512#32 64#32 7 (rowStages v33 512#32 256#32 2 (colStages v33 256#32 64#32 7 (rowStage v33 256#32 (Scalar.shrsi 128#32 0#32) p))))))))

/-- The rest of the network. -/
def sortD (v33 : IVec S128x128 32) (p : Pair F) : Pair F :=
  colStages v33 16384#32 64#32 7 (rowStages v33 16384#32 8192#32 7 (colStages v33 8192#32 64#32 7 (rowStages v33 8192#32 4096#32 6 (colStages v33 4096#32 64#32 7 p))))

/-- The whole network on the 128 × 128 grids. -/
def network (p : Pair F) : Pair F :=
  sortD k1_pay61 (sortC k1_pay61 (sortB k1_pay61 (sortA k1_pay61 p)))

/-- The greedy passes of every class: `n` the largest class's size. -/
def greedy (x1 y1 x2 y2 s : Vec F S80x128 .f32) (n : Elt F .i32) : Grids F :=
  Scf.fold (n := (k1_t2_loop n).trips) (fun _ acc => nmsStep x1 y1 x2 y2 acc)
    (Scf.fold (n := (k1_t1_loop n).trips) (fun _ acc => nmsStep x1 y1 x2 y2 acc) (k1_pay50 s, k1_pay50 s))

/-- What the launch computes of its windows: the recorded scores and their indices, padded to 128 × 128 and sorted. -/
def result (n : Elt F .i32) (x1 y1 x2 y2 s g : Vec F S80x128 .f32) : Pair F :=
  network (k1_pay59 (greedy x1 y1 x2 y2 s n).2, k1_pay60 g)

/-! ## The printed body -/

theorem ret_bind {E : Type → Type} {α β : Type} (a : α) (k : α → Prog E β) : (Prog.ret a >>= k) = k a := rfl

theorem bind_congr {E : Type → Type} {α β : Type} (p : Prog E α) {k k' : α → Prog E β} (h : ∀ a, k a = k' a) :
    (p >>= k) = (p >>= k') := congrArg (p >>= ·) (funext h)

theorem loop_pure {E : Type → Type} {σ : Type} (l : Scf.Loop 32) (hok : l.OK) (init : σ)
    (body : Fin l.trips → σ → Prog E σ) (g : Fin l.trips → σ → σ) (hg : ∀ k acc, body k acc = .ret (g k acc)) :
    Scf.Loop.for l hok init body = .ret (Scf.fold g init) :=
  Scf.for_pure l.lb l.ub l.st hok init body g hg

section

variable (arg0 : Memref sig .tc .smem S1 .i32) (harg0 : arg0.IsWhole) (arg1 : Memref sig .tc .vmem S80x128 .f32) (harg1 : arg1.IsWhole) (arg2 : Memref sig .tc .vmem S80x128 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S80x128 .f32) (harg5 : arg5.IsWhole) (arg6 : Memref sig .tc .vmem S80x128 .f32) (harg6 : arg6.IsWhole) (arg7 : Memref sig .tc .vmem S128x128 .f32) (harg7 : arg7.IsWhole) (arg8 : Memref sig .tc .vmem S128x128 .f32) (harg8 : arg8.IsWhole)

theorem t3_loop (v24 : FVec F S128x128 .f32) (v28 : FVec F S128x128 .f32) (v33 : IVec S128x128 32) (v34 : BitVec 32) (c128_i32_18 : BitVec 32) (hok : k1_t3_loop.OK) (p : Pair F) :
    Scf.Loop.for k1_t3_loop hok p (k1_t3_body (F := F) arg0 harg0 arg1 harg1 arg2 harg2 arg3 harg3 arg4 harg4 arg5 harg5 arg6 harg6 arg7 harg7 arg8 harg8 v24 v28 v33 v34 c128_i32_18) =
      .ret (colStages v33 4#32 2#32 2 p) :=
  loop_pure k1_t3_loop hok p _ (fun i acc => colStage v33 4#32 (Scalar.shrsi 2#32 (Scf.iv 0#32 1#32 i)) acc) fun _ _ => rfl

theorem t4_loop (v33 : IVec S128x128 32) (v78_0 : FVec F S128x128 .f32) (v78_1 : FVec F S128x128 .f32) (hok : k1_t4_loop.OK) (p : Pair F) :
    Scf.Loop.for k1_t4_loop hok p (k1_t4_body (F := F) arg0 harg0 arg1 harg1 arg2 harg2 arg3 harg3 arg4 harg4 arg5 harg5 arg6 harg6 arg7 harg7 arg8 harg8 v33 v78_0 v78_1 0#32) =
      .ret (colStages v33 8#32 4#32 3 p) :=
  loop_pure k1_t4_loop hok p _ (fun i acc => colStage v33 8#32 (Scalar.shrsi 4#32 (Scf.iv 0#32 1#32 i)) acc) fun _ _ => rfl

theorem t5_loop (v33 : IVec S128x128 32) (v78_0 : FVec F S128x128 .f32) (v78_1 : FVec F S128x128 .f32) (hok : k1_t5_loop.OK) (p : Pair F) :
    Scf.Loop.for k1_t5_loop hok p (k1_t5_body (F := F) arg0 harg0 arg1 harg1 arg2 harg2 arg3 harg3 arg4 harg4 arg5 harg5 arg6 harg6 arg7 harg7 arg8 harg8 v33 v78_0 v78_1 0#32) =
      .ret (colStages v33 16#32 8#32 4 p) :=
  loop_pure k1_t5_loop hok p _ (fun i acc => colStage v33 16#32 (Scalar.shrsi 8#32 (Scf.iv 0#32 1#32 i)) acc) fun _ _ => rfl

theorem t6_loop (v33 : IVec S128x128 32) (v78_0 : FVec F S128x128 .f32) (v78_1 : FVec F S128x128 .f32) (hok : k1_t6_loop.OK) (p : Pair F) :
    Scf.Loop.for k1_t6_loop hok p (k1_t6_body (F := F) arg0 harg0 arg1 harg1 arg2 harg2 arg3 harg3 arg4 harg4 arg5 harg5 arg6 harg6 arg7 harg7 arg8 harg8 v33 v78_0 v78_1 0#32) =
      .ret (colStages v33 32#32 16#32 5 p) :=
  loop_pure k1_t6_loop hok p _ (fun i acc => colStage v33 32#32 (Scalar.shrsi 16#32 (Scf.iv 0#32 1#32 i)) acc) fun _ _ => rfl

theorem t7_loop (v33 : IVec S128x128 32) (v78_0 : FVec F S128x128 .f32) (v78_1 : FVec F S128x128 .f32) (hok : k1_t7_loop.OK) (p : Pair F) :
    Scf.Loop.for k1_t7_loop hok p (k1_t7_body (F := F) arg0 harg0 arg1 harg1 arg2 harg2 arg3 harg3 arg4 harg4 arg5 harg5 arg6 harg6 arg7 harg7 arg8 harg8 v33 v78_0 v78_1 0#32) =
      .ret (colStages v33 64#32 32#32 6 p) :=
  loop_pure k1_t7_loop hok p _ (fun i acc => colStage v33 64#32 (Scalar.shrsi 32#32 (Scf.iv 0#32 1#32 i)) acc) fun _ _ => rfl

theorem t8_loop (v33 : IVec S128x128 32) (v78_0 : FVec F S128x128 .f32) (v78_1 : FVec F S128x128 .f32) (hok : k1_t8_loop.OK) (p : Pair F) :
    Scf.Loop.for k1_t8_loop hok p (k1_t8_body (F := F) arg0 harg0 arg1 harg1 arg2 harg2 arg3 harg3 arg4 harg4 arg5 harg5 arg6 harg6 arg7 harg7 arg8 harg8 v33 v78_0 v78_1 0#32) =
      .ret (colStages v33 128#32 64#32 7 p) :=
  loop_pure k1_t8_loop hok p _ (fun i acc => colStage v33 128#32 (Scalar.shrsi 64#32 (Scf.iv 0#32 1#32 i)) acc) fun _ _ => rfl

theorem t9_loop (v33 : IVec S128x128 32) (v88_0 : FVec F S128x128 .f32) (v88_1 : FVec F S128x128 .f32) (v114 : FVec F S128x128 .f32) (v139 : FVec F S128x128 .f32) (v144 : IVec S128x128 1) (v149 : IVec S128x128 1) (v158 : IVec S128x128 1) (hok : k1_t9_loop.OK) (p : Pair F) :
    Scf.Loop.for k1_t9_loop hok p (k1_t9_body (F := F) arg0 harg0 arg1 harg1 arg2 harg2 arg3 harg3 arg4 harg4 arg5 harg5 arg6 harg6 arg7 harg7 arg8 harg8 v33 v88_0 v88_1 v114 v139 v144 v149 v158) =
      .ret (colStages v33 256#32 64#32 7 p) :=
  loop_pure k1_t9_loop hok p _ (fun i acc => colStage v33 256#32 (Scalar.shrsi 64#32 (Scf.iv 0#32 1#32 i)) acc) fun _ _ => rfl

theorem t10_loop (v33 : IVec S128x128 32) (v88_0 : FVec F S128x128 .f32) (v88_1 : FVec F S128x128 .f32) (v114 : FVec F S128x128 .f32) (v139 : FVec F S128x128 .f32) (v144 : IVec S128x128 1) (v149 : IVec S128x128 1) (v158 : IVec S128x128 1) (hok : k1_t10_loop.OK) (p : Pair F) :
    Scf.Loop.for k1_t10_loop hok p (k1_t10_body (F := F) arg0 harg0 arg1 harg1 arg2 harg2 arg3 harg3 arg4 harg4 arg5 harg5 arg6 harg6 arg7 harg7 arg8 harg8 v33 v88_0 v88_1 v114 v139 v144 v149 v158) =
      .ret (rowStages v33 512#32 256#32 2 p) :=
  loop_pure k1_t10_loop hok p _ (fun i acc => rowStage v33 512#32 (Scalar.shrsi 256#32 (Scf.iv 0#32 1#32 i)) acc) fun _ _ => rfl

theorem t11_loop (v33 : IVec S128x128 32) (v88_0 : FVec F S128x128 .f32) (v88_1 : FVec F S128x128 .f32) (v114 : FVec F S128x128 .f32) (v139 : FVec F S128x128 .f32) (v144 : IVec S128x128 1) (v149 : IVec S128x128 1) (v158 : IVec S128x128 1) (hok : k1_t11_loop.OK) (p : Pair F) :
    Scf.Loop.for k1_t11_loop hok p (k1_t11_body (F := F) arg0 harg0 arg1 harg1 arg2 harg2 arg3 harg3 arg4 harg4 arg5 harg5 arg6 harg6 arg7 harg7 arg8 harg8 v33 v88_0 v88_1 v114 v139 v144 v149 v158) =
      .ret (colStages v33 512#32 64#32 7 p) :=
  loop_pure k1_t11_loop hok p _ (fun i acc => colStage v33 512#32 (Scalar.shrsi 64#32 (Scf.iv 0#32 1#32 i)) acc) fun _ _ => rfl

theorem t12_loop (v33 : IVec S128x128 32) (v88_0 : FVec F S128x128 .f32) (v88_1 : FVec F S128x128 .f32) (v114 : FVec F S128x128 .f32) (v139 : FVec F S128x128 .f32) (v144 : IVec S128x128 1) (v149 : IVec S128x128 1) (v158 : IVec S128x128 1) (hok : k1_t12_loop.OK) (p : Pair F) :
    Scf.Loop.for k1_t12_loop hok p (k1_t12_body (F := F) arg0 harg0 arg1 harg1 arg2 harg2 arg3 harg3 arg4 harg4 arg5 harg5 arg6 harg6 arg7 harg7 arg8 harg8 v33 v88_0 v88_1 v114 v139 v144 v149 v158) =
      .ret (rowStages v33 1024#32 512#32 3 p) :=
  loop_pure k1_t12_loop hok p _ (fun i acc => rowStage v33 1024#32 (Scalar.shrsi 512#32 (Scf.iv 0#32 1#32 i)) acc) fun _ _ => rfl

theorem t13_loop (v33 : IVec S128x128 32) (v88_0 : FVec F S128x128 .f32) (v88_1 : FVec F S128x128 .f32) (v114 : FVec F S128x128 .f32) (v139 : FVec F S128x128 .f32) (v144 : IVec S128x128 1) (v149 : IVec S128x128 1) (v158 : IVec S128x128 1) (hok : k1_t13_loop.OK) (p : Pair F) :
    Scf.Loop.for k1_t13_loop hok p (k1_t13_body (F := F) arg0 harg0 arg1 harg1 arg2 harg2 arg3 harg3 arg4 harg4 arg5 harg5 arg6 harg6 arg7 harg7 arg8 harg8 v33 v88_0 v88_1 v114 v139 v144 v149 v158) =
      .ret (colStages v33 1024#32 64#32 7 p) :=
  loop_pure k1_t13_loop hok p _ (fun i acc => colStage v33 1024#32 (Scalar.shrsi 64#32 (Scf.iv 0#32 1#32 i)) acc) fun _ _ => rfl

theorem t14_loop (v33 : IVec S128x128 32) (v88_0 : FVec F S128x128 .f32) (v88_1 : FVec F S128x128 .f32) (v114 : FVec F S128x128 .f32) (v139 : FVec F S128x128 .f32) (v144 : IVec S128x128 1) (v149 : IVec S128x128 1) (v158 : IVec S128x128 1) (hok : k1_t14_loop.OK) (p : Pair F) :
    Scf.Loop.for k1_t14_loop hok p (k1_t14_body (F := F) arg0 harg0 arg1 harg1 arg2 harg2 arg3 harg3 arg4 harg4 arg5 harg5 arg6 harg6 arg7 harg7 arg8 harg8 v33 v88_0 v88_1 v114 v139 v144 v149 v158) =
      .ret (rowStages v33 2048#32 1024#32 4 p) :=
  loop_pure k1_t14_loop hok p _ (fun i acc => rowStage v33 2048#32 (Scalar.shrsi 1024#32 (Scf.iv 0#32 1#32 i)) acc) fun _ _ => rfl

theorem t15_loop (v33 : IVec S128x128 32) (v88_0 : FVec F S128x128 .f32) (v88_1 : FVec F S128x128 .f32) (v114 : FVec F S128x128 .f32) (v139 : FVec F S128x128 .f32) (v144 : IVec S128x128 1) (v149 : IVec S128x128 1) (v158 : IVec S128x128 1) (hok : k1_t15_loop.OK) (p : Pair F) :
    Scf.Loop.for k1_t15_loop hok p (k1_t15_body (F := F) arg0 harg0 arg1 harg1 arg2 harg2 arg3 harg3 arg4 harg4 arg5 harg5 arg6 harg6 arg7 harg7 arg8 harg8 v33 v88_0 v88_1 v114 v139 v144 v149 v158) =
      .ret (colStages v33 2048#32 64#32 7 p) :=
  loop_pure k1_t15_loop hok p _ (fun i acc => colStage v33 2048#32 (Scalar.shrsi 64#32 (Scf.iv 0#32 1#32 i)) acc) fun _ _ => rfl

theorem t16_loop (v33 : IVec S128x128 32) (v88_0 : FVec F S128x128 .f32) (v88_1 : FVec F S128x128 .f32) (v114 : FVec F S128x128 .f32) (v139 : FVec F S128x128 .f32) (v144 : IVec S128x128 1) (v149 : IVec S128x128 1) (v158 : IVec S128x128 1) (hok : k1_t16_loop.OK) (p : Pair F) :
    Scf.Loop.for k1_t16_loop hok p (k1_t16_body (F := F) arg0 harg0 arg1 harg1 arg2 harg2 arg3 harg3 arg4 harg4 arg5 harg5 arg6 harg6 arg7 harg7 arg8 harg8 v33 v88_0 v88_1 v114 v139 v144 v149 v158) =
      .ret (rowStages v33 4096#32 2048#32 5 p) :=
  loop_pure k1_t16_loop hok p _ (fun i acc => rowStage v33 4096#32 (Scalar.shrsi 2048#32 (Scf.iv 0#32 1#32 i)) acc) fun _ _ => rfl

theorem t17_loop (v33 : IVec S128x128 32) (hok : k1_t17_loop.OK) (p : Pair F) :
    Scf.Loop.for k1_t17_loop hok p (k1_t17_body (F := F) arg0 harg0 arg1 harg1 arg2 harg2 arg3 harg3 arg4 harg4 arg5 harg5 arg6 harg6 arg7 harg7 arg8 harg8 v33 0#32) =
      .ret (colStages v33 4096#32 64#32 7 p) :=
  loop_pure k1_t17_loop hok p _ (fun i acc => colStage v33 4096#32 (Scalar.shrsi 64#32 (Scf.iv 0#32 1#32 i)) acc) fun _ _ => rfl

theorem t18_loop (v33 : IVec S128x128 32) (hok : k1_t18_loop.OK) (p : Pair F) :
    Scf.Loop.for k1_t18_loop hok p (k1_t18_body (F := F) arg0 harg0 arg1 harg1 arg2 harg2 arg3 harg3 arg4 harg4 arg5 harg5 arg6 harg6 arg7 harg7 arg8 harg8 v33) =
      .ret (rowStages v33 8192#32 4096#32 6 p) :=
  loop_pure k1_t18_loop hok p _ (fun i acc => rowStage v33 8192#32 (Scalar.shrsi 4096#32 (Scf.iv 0#32 1#32 i)) acc) fun _ _ => rfl

theorem t19_loop (v33 : IVec S128x128 32) (hok : k1_t19_loop.OK) (p : Pair F) :
    Scf.Loop.for k1_t19_loop hok p (k1_t19_body (F := F) arg0 harg0 arg1 harg1 arg2 harg2 arg3 harg3 arg4 harg4 arg5 harg5 arg6 harg6 arg7 harg7 arg8 harg8 v33) =
      .ret (colStages v33 8192#32 64#32 7 p) :=
  loop_pure k1_t19_loop hok p _ (fun i acc => colStage v33 8192#32 (Scalar.shrsi 64#32 (Scf.iv 0#32 1#32 i)) acc) fun _ _ => rfl

theorem t20_loop (v33 : IVec S128x128 32) (hok : k1_t20_loop.OK) (p : Pair F) :
    Scf.Loop.for k1_t20_loop hok p (k1_t20_body (F := F) arg0 harg0 arg1 harg1 arg2 harg2 arg3 harg3 arg4 harg4 arg5 harg5 arg6 harg6 arg7 harg7 arg8 harg8 v33) =
      .ret (rowStages v33 16384#32 8192#32 7 p) :=
  loop_pure k1_t20_loop hok p _ (fun i acc => rowStage v33 16384#32 (Scalar.shrsi 8192#32 (Scf.iv 0#32 1#32 i)) acc) fun _ _ => rfl

theorem t21_loop (v33 : IVec S128x128 32) (hok : k1_t21_loop.OK) (p : Pair F) :
    Scf.Loop.for k1_t21_loop hok p (k1_t21_body (F := F) arg0 harg0 arg1 harg1 arg2 harg2 arg3 harg3 arg4 harg4 arg5 harg5 arg6 harg6 arg7 harg7 arg8 harg8 v33) =
      .ret (colStages v33 16384#32 64#32 7 p) :=
  loop_pure k1_t21_loop hok p _ (fun i acc => colStage v33 16384#32 (Scalar.shrsi 64#32 (Scf.iv 0#32 1#32 i)) acc) fun _ _ => rfl

theorem t1_loop (v0 v2 v4 v6 : Vec F S80x128 .f32) (v15 : Elt F .i32) (h : k1_chk1 v15) (hok : (k1_t1_loop v15).OK) (p : Grids F) :
    Scf.Loop.for (k1_t1_loop v15) hok p
        (k1_t1_body (F := F) arg0 harg0 arg1 harg1 arg2 harg2 arg3 harg3 arg4 harg4 arg5 harg5 arg6 harg6 arg7 harg7 arg8 harg8 v0 v2 v4 v6 v15 h (Scalar.ofBits .f32 0x4E6E6B28#32)) =
      .ret (Scf.fold (n := (k1_t1_loop v15).trips) (fun _ acc => nmsStep v0 v2 v4 v6 acc) p) :=
  loop_pure (k1_t1_loop v15) hok p _ (fun _ acc => nmsStep v0 v2 v4 v6 acc) fun _ _ => rfl

theorem t2_loop (v0 v2 v4 v6 : Vec F S80x128 .f32) (v15 : Elt F .i32) (h : k1_chk1 v15) (v20 : BitVec 32) (hok : (k1_t2_loop v15).OK) (p : Grids F) :
    Scf.Loop.for (k1_t2_loop v15) hok p
        (k1_t2_body (F := F) arg0 harg0 arg1 harg1 arg2 harg2 arg3 harg3 arg4 harg4 arg5 harg5 arg6 harg6 arg7 harg7 arg8 harg8 v0 v2 v4 v6 v15 h (Scalar.ofBits .f32 0x4E6E6B28#32) v20) =
      .ret (Scf.fold (n := (k1_t2_loop v15).trips) (fun _ acc => nmsStep v0 v2 v4 v6 acc) p) :=
  loop_pure (k1_t2_loop v15) hok p _ (fun _ acc => nmsStep v0 v2 v4 v6 acc) fun _ _ => rfl

theorem part10_eq (v24 v28 : FVec F S128x128 .f32) (v33 : IVec S128x128 32) :
    k1_part10 (F := F) arg0 harg0 arg1 harg1 arg2 harg2 arg3 harg3 arg4 harg4 arg5 harg5 arg6 harg6 arg7 harg7 arg8 harg8 v24 v28 v33 (Scalar.shrsi 1#32 0#32) 128#32 =
      .ret ⟨(sortA v33 (v24, v28)).1, (sortA v33 (v24, v28)).2, 0#32⟩ := by
  rw [k1_part10_eq_skeleton]; unfold k1_part10_skel
  rw [t3_loop, ret_bind]; rfl

theorem part11_eq (v33 : IVec S128x128 32) (p : Pair F) :
    k1_part11 (F := F) arg0 harg0 arg1 harg1 arg2 harg2 arg3 harg3 arg4 harg4 arg5 harg5 arg6 harg6 arg7 harg7 arg8 harg8 v33 p.1 p.2 0#32 =
      .ret ⟨(sortB v33 p).1, (sortB v33 p).2, Scalar.shrsi 128#32 0#32, k1_pay97 (sortB v33 p).1, k1_pay98 (sortB v33 p).1,
        k1_pay99 v33⟩ := by
  rw [k1_part11_eq_skeleton]; unfold k1_part11_skel
  rw [t4_loop, ret_bind]; try dsimp only
  rw [t5_loop, ret_bind]; try dsimp only
  rw [t6_loop, ret_bind]; try dsimp only
  rw [t7_loop, ret_bind]; try dsimp only
  rw [t8_loop, ret_bind]; rfl

/-- The straight-line stage at distance 128, its last statements taken by the next part. -/
theorem part12_eq (v33 : IVec S128x128 32) (p : Pair F) :
    k1_part12 (F := F) arg0 harg0 arg1 harg1 arg2 harg2 arg3 harg3 arg4 harg4 arg5 harg5 arg6 harg6 arg7 harg7 arg8 harg8 v33 p.1 p.2 (Scalar.shrsi 128#32 0#32) (k1_pay97 p.1) (k1_pay98 p.1) (k1_pay99 v33) =
      .ret ⟨rowPartner v33 (Scalar.shrsi 128#32 0#32) p.1, rowPartner v33 (Scalar.shrsi 128#32 0#32) p.2,
        before (rowPartner v33 (Scalar.shrsi 128#32 0#32) p.1) (rowPartner v33 (Scalar.shrsi 128#32 0#32) p.2) p.1 p.2,
        before p.1 p.2 (rowPartner v33 (Scalar.shrsi 128#32 0#32) p.1) (rowPartner v33 (Scalar.shrsi 128#32 0#32) p.2),
        xori (hasBit v33 (Scalar.shrsi 128#32 0#32)) (hasBit v33 256#32)⟩ := by
  rw [k1_part12_eq_skeleton]; rfl

theorem part13_eq (v33 : IVec S128x128 32) (p : Pair F) :
    k1_part13 (F := F) arg0 harg0 arg1 harg1 arg2 harg2 arg3 harg3 arg4 harg4 arg5 harg5 arg6 harg6 arg7 harg7 arg8 harg8 v33 p.1 p.2 (rowPartner v33 (Scalar.shrsi 128#32 0#32) p.1)
        (rowPartner v33 (Scalar.shrsi 128#32 0#32) p.2)
        (before (rowPartner v33 (Scalar.shrsi 128#32 0#32) p.1) (rowPartner v33 (Scalar.shrsi 128#32 0#32) p.2) p.1 p.2)
        (before p.1 p.2 (rowPartner v33 (Scalar.shrsi 128#32 0#32) p.1) (rowPartner v33 (Scalar.shrsi 128#32 0#32) p.2))
        (xori (hasBit v33 (Scalar.shrsi 128#32 0#32)) (hasBit v33 256#32)) =
      .ret ⟨(sortC v33 p).1, (sortC v33 p).2, 0#32, 7#32⟩ := by
  rw [k1_part13_eq_skeleton]; unfold k1_part13_skel
  rw [t9_loop, ret_bind]; try dsimp only
  rw [t10_loop, ret_bind]; try dsimp only
  rw [t11_loop, ret_bind]; try dsimp only
  rw [t12_loop, ret_bind]; try dsimp only
  rw [t13_loop, ret_bind]; try dsimp only
  rw [t14_loop, ret_bind]; try dsimp only
  rw [t15_loop, ret_bind]; try dsimp only
  rw [t16_loop, ret_bind]; rfl

/-- The loads of the windows, the size of the largest class, and its bound. -/
def loads (arg0 : Memref sig .tc .smem S1 .i32) (harg0 : arg0.IsWhole) (arg1 : Memref sig .tc .vmem S80x128 .f32) (harg1 : arg1.IsWhole) (arg2 : Memref sig .tc .vmem S80x128 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S80x128 .f32) (harg5 : arg5.IsWhole) (arg6 : Memref sig .tc .vmem S80x128 .f32) (harg6 : arg6.IsWhole) (arg7 : Memref sig .tc .vmem S128x128 .f32) (harg7 : arg7.IsWhole) (arg8 : Memref sig .tc .vmem S128x128 .f32) (harg8 : arg8.IsWhole) : Prog (TpuEff nD τ sig (Elt F) Λ₀ .tc) (Pair F) := do
  let v0 : Vec F S80x128 .f32 ← Prog.lift (.load arg1 (Rect.unit (s := S80x128) ![0, 0] S80x128.size inb_S80x128_S80x128_0_0).toLoadRect (View.loadsAt_vmem h_S80x128))
  let v2 : Vec F S80x128 .f32 ← Prog.lift (.load arg2 (Rect.unit (s := S80x128) ![0, 0] S80x128.size inb_S80x128_S80x128_0_0).toLoadRect (View.loadsAt_vmem h_S80x128))
  let v4 : Vec F S80x128 .f32 ← Prog.lift (.load arg3 (Rect.unit (s := S80x128) ![0, 0] S80x128.size inb_S80x128_S80x128_0_0).toLoadRect (View.loadsAt_vmem h_S80x128))
  let v6 : Vec F S80x128 .f32 ← Prog.lift (.load arg4 (Rect.unit (s := S80x128) ![0, 0] S80x128.size inb_S80x128_S80x128_0_0).toLoadRect (View.loadsAt_vmem h_S80x128))
  let v13 : Vec F S80x128 .f32 ← Prog.lift (.load arg5 (Rect.unit (s := S80x128) ![0, 0] S80x128.size inb_S80x128_S80x128_0_0).toLoadRect (View.loadsAt_vmem h_S80x128))
  let v15 : Elt F .i32 ← smemLoad arg0 (Rect.unit (s := S1) ![0] S1.size inb_S1_S1_0) numel1_S1 rfl
  let _h ← Prog.lift (TpuEff.assume (k1_chk1 v15) (k1_chk1.dec v15))
  let v25 : Vec F S80x128 .f32 ← Prog.lift (.load arg6 (Rect.unit (s := S80x128) ![0, 0] S80x128.size inb_S80x128_S80x128_0_0).toLoadRect (View.loadsAt_vmem h_S80x128))
  pure (k1_pay59 (greedy v0 v2 v4 v6 v13 v15).2, k1_pay60 v25)

/-- The body: the loads, then the two stores of the sorted grids. -/
def plain (arg0 : Memref sig .tc .smem S1 .i32) (harg0 : arg0.IsWhole) (arg1 : Memref sig .tc .vmem S80x128 .f32) (harg1 : arg1.IsWhole) (arg2 : Memref sig .tc .vmem S80x128 .f32) (harg2 : arg2.IsWhole) (arg3 : Memref sig .tc .vmem S80x128 .f32) (harg3 : arg3.IsWhole) (arg4 : Memref sig .tc .vmem S80x128 .f32) (harg4 : arg4.IsWhole) (arg5 : Memref sig .tc .vmem S80x128 .f32) (harg5 : arg5.IsWhole) (arg6 : Memref sig .tc .vmem S80x128 .f32) (harg6 : arg6.IsWhole) (arg7 : Memref sig .tc .vmem S128x128 .f32) (harg7 : arg7.IsWhole) (arg8 : Memref sig .tc .vmem S128x128 .f32) (harg8 : arg8.IsWhole) : Prog (TpuEff nD τ sig (Elt F) Λ₀ .tc) PUnit := do
  let v0 : Vec F S80x128 .f32 ← Prog.lift (.load arg1 (Rect.unit (s := S80x128) ![0, 0] S80x128.size inb_S80x128_S80x128_0_0).toLoadRect (View.loadsAt_vmem h_S80x128))
  let v2 : Vec F S80x128 .f32 ← Prog.lift (.load arg2 (Rect.unit (s := S80x128) ![0, 0] S80x128.size inb_S80x128_S80x128_0_0).toLoadRect (View.loadsAt_vmem h_S80x128))
  let v4 : Vec F S80x128 .f32 ← Prog.lift (.load arg3 (Rect.unit (s := S80x128) ![0, 0] S80x128.size inb_S80x128_S80x128_0_0).toLoadRect (View.loadsAt_vmem h_S80x128))
  let v6 : Vec F S80x128 .f32 ← Prog.lift (.load arg4 (Rect.unit (s := S80x128) ![0, 0] S80x128.size inb_S80x128_S80x128_0_0).toLoadRect (View.loadsAt_vmem h_S80x128))
  let v13 : Vec F S80x128 .f32 ← Prog.lift (.load arg5 (Rect.unit (s := S80x128) ![0, 0] S80x128.size inb_S80x128_S80x128_0_0).toLoadRect (View.loadsAt_vmem h_S80x128))
  let v15 : Elt F .i32 ← smemLoad arg0 (Rect.unit (s := S1) ![0] S1.size inb_S1_S1_0) numel1_S1 rfl
  let _h ← Prog.lift (TpuEff.assume (k1_chk1 v15) (k1_chk1.dec v15))
  let v25 : Vec F S80x128 .f32 ← Prog.lift (.load arg6 (Rect.unit (s := S80x128) ![0, 0] S80x128.size inb_S80x128_S80x128_0_0).toLoadRect (View.loadsAt_vmem h_S80x128))
  let v192 : Vec F S128x128 .f32 ← Prog.lift (.load arg7 (Rect.unit (s := S128x128) ![0, 0] S128x128.size inb_S128x128_S128x128_0_0).toLoadRect (View.loadsAt_vmem h_S128x128))
  Prog.lift (.store arg7 (Rect.unit (s := S128x128) ![0, 0] S128x128.size inb_S128x128_S128x128_0_0) (result v15 v0 v2 v4 v6 v13 v25).1 Finset.univ (View.stores_vmem_bits_univ h_S128x128 rfl) (.inl rfl))
  let v193 : Vec F S128x128 .f32 ← Prog.lift (.load arg8 (Rect.unit (s := S128x128) ![0, 0] S128x128.size inb_S128x128_S128x128_0_0).toLoadRect (View.loadsAt_vmem h_S128x128))
  Prog.lift (.store arg8 (Rect.unit (s := S128x128) ![0, 0] S128x128.size inb_S128x128_S128x128_0_0) (result v15 v0 v2 v4 v6 v13 v25).2 Finset.univ (View.stores_vmem_bits_univ h_S128x128 rfl) (.inl rfl))
  pure ⟨⟩

theorem part9_eq :
    k1_part9 (F := F) arg0 harg0 arg1 harg1 arg2 harg2 arg3 harg3 arg4 harg4 arg5 harg5 arg6 harg6 arg7 harg7 arg8 harg8 = (loads (F := F) arg0 harg0 arg1 harg1 arg2 harg2 arg3 harg3 arg4 harg4 arg5 harg5 arg6 harg6 arg7 harg7 arg8 harg8 >>= fun p => .ret ⟨p.1, p.2, k1_pay61, Scalar.shrsi 1#32 0#32, 128#32⟩) := by
  unfold loads; simp only [bind_assoc, pure_bind]
  rw [k1_part9_eq_skeleton]; unfold k1_part9_skel
  refine bind_congr _ fun v0 => bind_congr _ fun v2 => bind_congr _ fun v4 => bind_congr _ fun v6 => bind_congr _ fun v13 =>
    bind_congr _ fun v15 => bind_congr _ fun h => ?_
  try dsimp only
  rw [t1_loop, ret_bind]; try dsimp only
  rw [t2_loop, ret_bind]; rfl

/-- The printed body is that. -/
theorem body_eq : cc1__vec_kernel (F := F) arg0 harg0 arg1 harg1 arg2 harg2 arg3 harg3 arg4 harg4 arg5 harg5 arg6 harg6 arg7 harg7 arg8 harg8 = plain (F := F) arg0 harg0 arg1 harg1 arg2 harg2 arg3 harg3 arg4 harg4 arg5 harg5 arg6 harg6 arg7 harg7 arg8 harg8 := by
  rw [cc1__vec_kernel_eq_skeleton]; unfold cc1__vec_kernel_skel
  rw [part9_eq, bind_assoc]
  unfold plain loads
  simp only [bind_assoc]
  refine bind_congr _ fun v0 => bind_congr _ fun v2 => bind_congr _ fun v4 => bind_congr _ fun v6 => bind_congr _ fun v13 =>
    bind_congr _ fun v15 => bind_congr _ fun h => bind_congr _ fun v25 => ?_
  generalize hp : ((k1_pay59 (greedy v0 v2 v4 v6 v13 v15).2, k1_pay60 v25) : Pair F) = p
  have hr : result v15 v0 v2 v4 v6 v13 v25 = network p := by rw [← hp]; rfl
  rw [hr, pure_bind, ret_bind]
  try dsimp only
  rw [part10_eq, ret_bind]
  try dsimp only
  rw [part11_eq, ret_bind]
  try dsimp only
  rw [part12_eq, ret_bind]
  try dsimp only
  rw [part13_eq, ret_bind]
  try dsimp only
  rw [t17_loop, ret_bind]
  try dsimp only
  rw [t18_loop, ret_bind]
  try dsimp only
  rw [t19_loop, ret_bind]
  try dsimp only
  rw [t20_loop, ret_bind]
  try dsimp only
  rw [t21_loop, ret_bind]
  rfl
end

end Cert.Proof.KernelIdeal
-- ==== Proof.KernelIdeal.Kit.lean ====
/-
  The buffers around the per-class pipeline: the later lines keep the pipeline's arrays and the arguments, each
  window's block as the pipeline finds it, and the claim that the arguments are kept read off a run.
-/
module

public import proofs.«01_k».proof.Proof.KernelIdeal.Host
public import proofs.«01_k».proof.Proof.KernelIdeal.Body
public import proofs.«01_k».proof.Proof.Gen.KernelIdeal.Points
public import Idealize.ShloMosaic.Lib.Pipeline.FrameBody
public import Idealize.ShloMosaic.Lib.Pipeline.FrameSuffix
public import Idealize.ShloMosaic.Lib.HostLoop.Rules
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The later lines touch the pipeline's arrays and the buffers that bypass it only. -/
theorem sfx_sub : ∀ ops ∈ (tailLines : List (List (HloOp τ sig (Elt F)))), ∀ op ∈ ops,
    op.bufs ⊆ Pipeline.tailRefs sig Pipeline.Prefetch.none spec1 := by
  rw [Pipeline.tailRefs_none spec1 launch1.win.arr_unscoped]
  intro ops hops op hop
  simp only [List.mem_cons, List.mem_nil_iff, or_false] at hops
  rcases hops with rfl | rfl
  · exact Pipeline.sub_ucRefs op ((List.forall_iff_forall_mem.mp armTail_sub) op hop)
  · exact Pipeline.sub_ucRefs op ((List.forall_iff_forall_mem.mp hostOps0_3_sub) op hop)
/-- They allocate nothing. -/
theorem sfx_fresh : ∀ ops ∈ (tailLines : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp armTail_fresh) op hop
  · exact (List.forall_iff_forall_mem.mp hostOps0_3_fresh) op hop
/-- They write no array of the pipeline. -/
theorem sfx_keeps : ∀ ops ∈ (tailLines : List (List (HloOp τ sig (Elt F)))), ∀ op ∈ ops,
    ∀ w, Proc.devRef .tc (Pipeline.arrRef spec1 w) ∉ op.writes := by
  intro ops hops op hop
  simp only [List.mem_cons, List.mem_nil_iff, or_false] at hops
  rcases hops with rfl | rfl
  · simp only [armTail, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps0_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No line before the pipeline writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [headLines, readOps, armLines, hostOps0, hostOps0_1, hostOps0_2, armKeys, armWhere, armMax, armRows, armGrids, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No line after the pipeline writes `main_arg0`. -/
theorem W_main_arg0 (dats : (p : Fin 2) → (c : Dev nD) → Dat τ (Elt F) Unit ℕ (UR sig nD τ) ℕ (cfgs p) c) (c : Dev nD) :
    Pipeline.afterTail₀ cfgs dats 1 (V0 m) tailLines c main_arg0 = m ((c : Thread nD τ).loc main_arg0) := by
  unfold Pipeline.afterTail₀
  rw [StableHlo.after_of_forall_not_mem (b := Proc.devRef .tc main_arg0) _ _ (List.forall_iff_forall_mem.mp (by
      simp only [tailLines, armTail, hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec1 w ≠ main_arg0))]
  exact V_main_arg0 m c
/-- No line before the pipeline writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [headLines, readOps, armLines, hostOps0, hostOps0_1, hostOps0_2, armKeys, armWhere, armMax, armRows, armGrids, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No line after the pipeline writes `main_arg1`. -/
theorem W_main_arg1 (dats : (p : Fin 2) → (c : Dev nD) → Dat τ (Elt F) Unit ℕ (UR sig nD τ) ℕ (cfgs p) c) (c : Dev nD) :
    Pipeline.afterTail₀ cfgs dats 1 (V0 m) tailLines c main_arg1 = m ((c : Thread nD τ).loc main_arg1) := by
  unfold Pipeline.afterTail₀
  rw [StableHlo.after_of_forall_not_mem (b := Proc.devRef .tc main_arg1) _ _ (List.forall_iff_forall_mem.mp (by
      simp only [tailLines, armTail, hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec1 w ≠ main_arg1))]
  exact V_main_arg1 m c
/-- No line before the pipeline writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [headLines, readOps, armLines, hostOps0, hostOps0_1, hostOps0_2, armKeys, armWhere, armMax, armRows, armGrids, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No line after the pipeline writes `main_arg2`. -/
theorem W_main_arg2 (dats : (p : Fin 2) → (c : Dev nD) → Dat τ (Elt F) Unit ℕ (UR sig nD τ) ℕ (cfgs p) c) (c : Dev nD) :
    Pipeline.afterTail₀ cfgs dats 1 (V0 m) tailLines c main_arg2 = m ((c : Thread nD τ).loc main_arg2) := by
  unfold Pipeline.afterTail₀
  rw [StableHlo.after_of_forall_not_mem (b := Proc.devRef .tc main_arg2) _ _ (List.forall_iff_forall_mem.mp (by
      simp only [tailLines, armTail, hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec1 w ≠ main_arg2))]
  exact V_main_arg2 m c

/-- Window `w`'s block, read off its array as the pipeline finds it. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Input window 0's staging buffer holds its block when the body runs. -/
theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block when the body runs. -/
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block when the body runs. -/
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block when the body runs. -/
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block when the body runs. -/
theorem before1_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block when the body runs. -/
theorem before1_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block when the body runs. -/
theorem before1_6_of {c : Dev nD} (dat : Dat τ (Elt F) Unit ℕ (UR sig nD τ) ℕ cfg1 c) (hA : dat.A 6 = V m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The arguments are kept, read off a run of the pipeline. -/
theorem frame_of (dats : (p : Fin 2) → (c : Dev nD) → Dat τ (Elt F) Unit ℕ (UR sig nD τ) ℕ (cfgs p) c)
    (h : θ_run defs (onTc (τ := τ) (main (F := F))) (s₀ m ρ) (Pipeline.FramePost cfgs dats 1 (Pipeline.afterTail₀ cfgs dats 1 (V0 m) tailLines))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c))⟩) h

end Cert.Proof.KernelIdeal

end
-- ==== Proof.KernelIdeal.Run.lean ====
/-
  The run of the per-class pipeline: what its body leaves in the two results' buffers, the proof data, and the run of
  the whole program at a branch word of one and a count whose loops cannot wrap.
-/
module

public import proofs.«01_k».proof.Proof.KernelIdeal.Kit
public import Idealize.ShloMosaic.PureOps.BitExact
public import Idealize.ShloMosaic.Lib.VecWindow
public import proofs.«01_k».proof.Proof.Gen.KernelIdeal.Points
public import Idealize.ShloMosaic.Lib.Pipeline.FrameBody
public import Idealize.ShloMosaic.Lib.Pipeline.FrameSuffix
public import Idealize.ShloMosaic.Lib.HostLoop.Rules
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-- The one element of the count's block. -/
abbrev countOf (x0 : Vec F S1 .i32) : BitVec 32 := x0 (Shape.Idx.first (s := S1) (by decide))
/-- The sorted scores and indices the body computes from its blocks. -/
abbrev outOf (x0 : Vec F S1 .i32) (x1 : Vec F S80x128 .f32) (x2 : Vec F S80x128 .f32) (x3 : Vec F S80x128 .f32) (x4 : Vec F S80x128 .f32) (x5 : Vec F S80x128 .f32) (x6 : Vec F S80x128 .f32) : Pair F := result (countOf x0) x1 x2 x3 x4 x5 x6

/-- On whole buffers that hold the blocks, with a count whose loops cannot wrap, the body leaves the blocks and the two
    results. -/
theorem body_run (c : Dev nD) (M0 : Memref sig .tc .smem S1 .i32) (h0 : M0.IsWhole) (M1 : Memref sig .tc .vmem S80x128 .f32) (h1 : M1.IsWhole) (M2 : Memref sig .tc .vmem S80x128 .f32) (h2 : M2.IsWhole) (M3 : Memref sig .tc .vmem S80x128 .f32) (h3 : M3.IsWhole) (M4 : Memref sig .tc .vmem S80x128 .f32) (h4 : M4.IsWhole) (M5 : Memref sig .tc .vmem S80x128 .f32) (h5 : M5.IsWhole) (M6 : Memref sig .tc .vmem S80x128 .f32) (h6 : M6.IsWhole) (M7 : Memref sig .tc .vmem S128x128 .f32) (h7 : M7.IsWhole) (M8 : Memref sig .tc .vmem S128x128 .f32) (h8 : M8.IsWhole)
    (x0 : Vec F S1 .i32) (x1 : Vec F S80x128 .f32) (x2 : Vec F S80x128 .f32) (x3 : Vec F S80x128 .f32) (x4 : Vec F S80x128 .f32) (x5 : Vec F S80x128 .f32) (x6 : Vec F S80x128 .f32) (hchk : k1_chk1 (countOf x0)) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ (∃ d, owns (c : Thread nD τ) M7 fullShare d) ∗ (∃ d, owns (c : Thread nD τ) M8 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare (outOf x0 x1 x2 x3 x4 x5 x6).1 ∗ owns (c : Thread nD τ) M8 fullShare (outOf x0 x1 x2 x3 x4 x5 x6).2) -∗ K ⟨⟩))
      ⊢ wp frame (wpE (defs₀ (F := F)) 𝒱₀ c none) E (cc1__vec_kernel M0 h0 M1 h1 M2 h2 M3 h3 M4 h4 M5 h5 M6 h6 M7 h7 M8 h8) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
  rw [body_eq]
  sl_unfold [plain]
  sl_exec!
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro; unfold body_run.sl.H7_1; rw [View.read_writes_full]; rw [View.readAt_full, View.readAt_full, View.readAt_full, View.readAt_full, View.readAt_full, View.readAt_full, hf1, hf2, hf3, hf4, hf5, hf6, show body_run.sl.r c M0 h0 x0 = countOf x0 from by unfold body_run.sl.r; rw [View.readAt_full, hf0]]
  iexists _; isplitr; swap; · iexact H8
  ipureintro; unfold body_run.sl.H8_1; rw [View.read_writes_full]; rw [View.readAt_full, View.readAt_full, View.readAt_full, View.readAt_full, View.readAt_full, View.readAt_full, hf1, hf2, hf3, hf4, hf5, hf6, show body_run.sl.r c M0 h0 x0 = countOf x0 from by unfold body_run.sl.r; rw [View.readAt_full, hf0]]

/-! ## The pipeline's proof data -/

variable (m : (ℓ : Loc nD τ sig) → Buf (Elt F) ℓ) (ρ : Dev nD → PrngReg)

/-- The sorted scores and indices the body leaves, of the blocks the pipeline finds. -/
def outsAt (c : Dev nD) (t : Fin cfg1.N) : Pair F :=
  outOf (iblk m c 0 t) (iblk m c 1 t) (iblk m c 2 t) (iblk m c 3 t) (iblk m c 4 t) (iblk m c 5 t) (iblk m c 6 t)

/-- The proof data of the per-class pipeline: its arrays as found, each input left as it was, each result at its value. -/
def dat1 (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t).1
    | ⟨8, _⟩ => (outsAt m c t).2
  Φ _ := Pipeline.ΦA spec1 c
  q _ := fullShare
  owed _ := 0

/-- The proof data of the pipeline that does not run: arbitrary. -/
def dat0 (c : Dev nD) : Dat τ (Elt F) Unit ℕ (UR sig nD τ) ℕ cfg0 c where
  A w := V m c (Pipeline.arrRef spec0 w)
  after w t := match w with
    | ⟨0, _⟩ => ((cfg0.win 0).blk t).view.read (Elt F) (V m c (Pipeline.arrRef spec0 0))
    | ⟨1, _⟩ => ((cfg0.win 1).blk t).view.read (Elt F) (V m c (Pipeline.arrRef spec0 1))
    | ⟨2, _⟩ => ((cfg0.win 2).blk t).view.read (Elt F) (V m c (Pipeline.arrRef spec0 2))
    | ⟨3, _⟩ => ((cfg0.win 3).blk t).view.read (Elt F) (V m c (Pipeline.arrRef spec0 3))
    | ⟨4, _⟩ => ((cfg0.win 4).blk t).view.read (Elt F) (V m c (Pipeline.arrRef spec0 4))
    | ⟨5, _⟩ => ((cfg0.win 5).blk t).view.read (Elt F) (V m c (Pipeline.arrRef spec0 5))
    | ⟨6, _⟩ => ((cfg0.win 6).blk t).view.read (Elt F) (V m c (Pipeline.arrRef spec0 6))
    | ⟨7, _⟩ => ((cfg0.win 7).blk t).view.read (Elt F) (V m c (Pipeline.arrRef spec0 7))
    | ⟨8, _⟩ => ((cfg0.win 8).blk t).view.read (Elt F) (V m c (Pipeline.arrRef spec0 8))
    | ⟨9, _⟩ => ((cfg0.win 9).blk t).view.read (Elt F) (V m c (Pipeline.arrRef spec0 9))
    | ⟨10, _⟩ => ((cfg0.win 10).blk t).view.read (Elt F) (V m c (Pipeline.arrRef spec0 10))
  Φ _ := Pipeline.ΦA spec0 c
  q _ := fullShare
  owed _ := 0

/-- The two together. -/
def dats : (p : Fin 2) → (c : Dev nD) → Dat τ (Elt F) Unit ℕ (UR sig nD τ) ℕ (cfgs p) c
  | ⟨0, _⟩ => dat0 m
  | ⟨1, _⟩ => dat1 m

/-- The arrays as found. -/
theorem A1_eq (c : Dev nD) (w : Fin cfg1.W) : (dat1 m c).A w = V m c (Pipeline.arrRef spec1 w) := rfl
/-- What the body leaves in window 0's buffer. -/
theorem after1_0 (c : Dev nD) (t : Fin cfg1.N) : (dat1 m c).after 0 t = iblk m c 0 t := by dsimp only [dat1]
/-- What the body leaves in window 1's buffer. -/
theorem after1_1 (c : Dev nD) (t : Fin cfg1.N) : (dat1 m c).after 1 t = iblk m c 1 t := by dsimp only [dat1]
/-- What the body leaves in window 2's buffer. -/
theorem after1_2 (c : Dev nD) (t : Fin cfg1.N) : (dat1 m c).after 2 t = iblk m c 2 t := by dsimp only [dat1]
/-- What the body leaves in window 3's buffer. -/
theorem after1_3 (c : Dev nD) (t : Fin cfg1.N) : (dat1 m c).after 3 t = iblk m c 3 t := by dsimp only [dat1]
/-- What the body leaves in window 4's buffer. -/
theorem after1_4 (c : Dev nD) (t : Fin cfg1.N) : (dat1 m c).after 4 t = iblk m c 4 t := by dsimp only [dat1]
/-- What the body leaves in window 5's buffer. -/
theorem after1_5 (c : Dev nD) (t : Fin cfg1.N) : (dat1 m c).after 5 t = iblk m c 5 t := by dsimp only [dat1]
/-- What the body leaves in window 6's buffer. -/
theorem after1_6 (c : Dev nD) (t : Fin cfg1.N) : (dat1 m c).after 6 t = iblk m c 6 t := by dsimp only [dat1]
/-- What the body leaves in window 7's buffer. -/
theorem after1_7 (c : Dev nD) (t : Fin cfg1.N) : (dat1 m c).after 7 t = (outsAt m c t).1 := by dsimp only [dat1]
/-- What the body leaves in window 8's buffer. -/
theorem after1_8 (c : Dev nD) (t : Fin cfg1.N) : (dat1 m c).after 8 t = (outsAt m c t).2 := by dsimp only [dat1]
/-- Window 0's buffer holds its block when the body runs. -/
theorem before1_0 (c : Dev nD) (t : Fin cfg1.N) (d) : (dat1 m c).before 0 t d = iblk m c 0 t :=
  before1_0_of m (dat1 m c) (A1_eq m c 0) (after1_0 m c) t d
/-- Window 1's buffer holds its block when the body runs. -/
theorem before1_1 (c : Dev nD) (t : Fin cfg1.N) (d) : (dat1 m c).before 1 t d = iblk m c 1 t :=
  before1_1_of m (dat1 m c) (A1_eq m c 1) (after1_1 m c) t d
/-- Window 2's buffer holds its block when the body runs. -/
theorem before1_2 (c : Dev nD) (t : Fin cfg1.N) (d) : (dat1 m c).before 2 t d = iblk m c 2 t :=
  before1_2_of m (dat1 m c) (A1_eq m c 2) (after1_2 m c) t d
/-- Window 3's buffer holds its block when the body runs. -/
theorem before1_3 (c : Dev nD) (t : Fin cfg1.N) (d) : (dat1 m c).before 3 t d = iblk m c 3 t :=
  before1_3_of m (dat1 m c) (A1_eq m c 3) (after1_3 m c) t d
/-- Window 4's buffer holds its block when the body runs. -/
theorem before1_4 (c : Dev nD) (t : Fin cfg1.N) (d) : (dat1 m c).before 4 t d = iblk m c 4 t :=
  before1_4_of m (dat1 m c) (A1_eq m c 4) (after1_4 m c) t d
/-- Window 5's buffer holds its block when the body runs. -/
theorem before1_5 (c : Dev nD) (t : Fin cfg1.N) (d) : (dat1 m c).before 5 t d = iblk m c 5 t :=
  before1_5_of m (dat1 m c) (A1_eq m c 5) (after1_5 m c) t d
/-- Window 6's buffer holds its block when the body runs. -/
theorem before1_6 (c : Dev nD) (t : Fin cfg1.N) (d) : (dat1 m c).before 6 t d = iblk m c 6 t :=
  before1_6_of m (dat1 m c) (A1_eq m c 6) (after1_6 m c) t d

/-- The body meets its obligation, at a count whose loops cannot wrap. -/
theorem body_obligation (c : Dev nD) (hchk : ∀ t, k1_chk1 (countOf (iblk m c 0 t))) :
    BodyObligation (dat1 (F := F) m c) (defs₀ (F := F)) 𝒱₀ () Set.univ := fun t => by
  rw [bigSep_W1, bigSep_W1]
  sl_whnfR [defs₀, Defs.onTc]
  simp only [before1_0, before1_1, before1_2, before1_3, before1_4, before1_5, before1_6]
  rw [show (dat1 m c).Φ t.succ = (dat1 m c).Φ t.castSucc from rfl,
    show (dat1 m c).owesAt () t.succ = (dat1 m c).owesAt () t.castSucc from rfl, after1_0, after1_1, after1_2, after1_3, after1_4, after1_5, after1_6, after1_7, after1_8]
  unfold outsAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c _ _ _ _ _ _ _ _ _ _ _ _ _ _ _ _ _ _ (iblk m c 0 t) (iblk m c 1 t) (iblk m c 2 t) (iblk m c 3 t) (iblk m c 4 t) (iblk m c 5 t) (iblk m c 6 t) (hchk t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- Every weakly fair execution of the program ends with the pipeline's arrays and the other buffers at the computed
    contents and every counter at zero, when the branch word is one and the loops cannot wrap. -/
theorem run_main (hw : ∀ c, word m c = 1#32) (hchk : ∀ c t, k1_chk1 (countOf (iblk m c 0 t))) :
    θ_run defs (onTc (τ := τ) (main (F := F))) (s₀ m ρ)
      (fun r => Pipeline.FramePost cfgs (dats m) 1 (Pipeline.afterTail₀ cfgs (dats m) 1 (V0 m) tailLines) r ∧ r.2.sem = fun _ => 0) :=
  Pipeline.θ_run_frame_around (Q' := _) cfgs (dats m) 1 launch1 defs₀ 𝒱₀ m ρ main (fun c => (body_obligation m c (hchk c)).loose)
    (fun c => (dat1 m c).share_full fun _ => rfl) (fun _ _ => rfl) (V0 m) tailLines sfx_sub sfx_fresh sfx_keeps (hmain m hw) (fun c w => A1_eq m c w) (fun _ _ => rfl)
    (hQ' := fun _ h => h)

end Cert.Proof.KernelIdeal

end
-- ==== Proof.KernelIdeal.Frame.lean ====
/-
  The frame of the program where no class has more than 128 boxes: the largest class count decides the branch word and
  keeps the loops of the body from wrapping.
-/
module

public import proofs.«01_k».proof.Proof.KernelIdeal.Run
public import proofs.«01_k».proof.Proof.Gen.Pre_fits
public import Idealize.ShloMosaic.Lib.StableHlo.RunRead
public import Idealize.ShloMosaic.Lib.WordArith
public import proofs.«01_k».proof.Proof.Gen.KernelIdeal.Points
public import Idealize.ShloMosaic.Lib.Pipeline.FrameBody
public import Idealize.ShloMosaic.Lib.Pipeline.FrameSuffix
public import Idealize.ShloMosaic.Lib.HostLoop.Rules
public import Idealize.ShloMosaic.Lib.Ring
public import Idealize.ShloMosaic.Lib.Tactic
public import Idealize.ShloMosaic.Lib.WordCmp

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The classes with negative ones counted from the end, as the count takes them. -/
def countedClass (idxs : IVec S5000 32) : IVec S5000 32 :=
  let v9 : IVec S5000 32 := maxsi (broadcastInDim S5000 ![] bcast_S_S5000 (id (constantI S_ 32 0#32))) idxs
  select (cmpi .slt v9 (broadcastInDim S5000 ![] bcast_S_S5000 (constantI S_ 32 0#32)))
    (addi v9 (broadcastInDim S5000 ![] bcast_S_S5000 (constantI S_ 32 80#32))) v9

/-- How many boxes each class has. -/
def classCounts (idxs : IVec S5000 32) : IVec S80 32 :=
  Host.scatter scatter_S80_S5000x1_S5000_n_0_0_1 IntOp.addi (broadcastInDim S80 ![] bcast_S_S80 (constantI S_ 32 0#32))
    (broadcastInDim S5000x1 ![0] bcast_S5000_S5000x1_0 (countedClass idxs)) (broadcastInDim S5000 ![] bcast_S_S5000 (constantI S_ 32 1#32))

/-- The largest class count. -/
def largest (idxs : IVec S5000 32) : IVec S_ 32 :=
  Host.reduce IntOp.maxsi (classCounts idxs) (constantI S_ 32 2147483648#32) reducesTo_S80_S_d0 h_S_

/-- What the branch word is computed from. -/
theorem word_eq (c : Dev nD) : word m c = (extui 32 (cmpi .sle (largest (m (c, Proc.devRef .tc main_arg2))) (constantI S_ 32 128#32)) natLt_1_32 : IVec S_ 32) HostLoop.idx0 := by
  unfold word Vr
  after_reads_simp
  rfl

/-- The count the body reads. -/
theorem count_eq (c : Dev nD) : V m c main_case0b1_v95 = shapeCast S1 (largest (m (c, Proc.devRef .tc main_arg2))) shapeCasts_S_S1 := by
  unfold V V0
  after_reads_simp
  rfl

/-- The bound of the first loop is the count. -/
theorem t1_loop_eq (v : BitVec 32) : k1_t1_loop v = ⟨0#32, v, 1#32⟩ := by
  unfold k1_t1_loop
  simp [Scalar.subi, Scalar.muli, Scalar.addi, Scalar.divsi, IntOp.subi, IntOp.muli, IntOp.addi, WordArith.divsi_one]

/-- The second loop starts at its bound. -/
theorem t2_loop_eq (v : BitVec 32) : k1_t2_loop v = ⟨v, v, 1#32⟩ := by
  unfold k1_t2_loop
  simp [Scalar.subi, Scalar.muli, Scalar.addi, Scalar.divsi, IntOp.subi, IntOp.muli, IntOp.addi, WordArith.divsi_one]

/-- The first loop has as many trips as the count says. -/
theorem t1_trips (v : BitVec 32) : (k1_t1_loop v).trips = v.toInt.toNat := by
  rw [t1_loop_eq]; simp [Scf.Loop.trips, Scf.trips]

/-- The second loop has no trip. -/
theorem t2_trips (v : BitVec 32) : (k1_t2_loop v).trips = 0 := by
  rw [t2_loop_eq]; simp [Scf.Loop.trips, Scf.trips]

/-- The loops of the body never wrap. -/
theorem chk_all (v : BitVec 32) : k1_chk1 v := by
  have h1 : (k1_t1_loop v).OK := by
    have e := t1_trips v
    rw [t1_loop_eq] at e ⊢
    have := BitVec.toInt_lt (x := v)
    refine ⟨by show 0 < (1#32 : BitVec 32).toInt; decide, ?_⟩
    dsimp only at e ⊢
    rw [show Scf.trips 0#32 v 1#32 = v.toInt.toNat from e]
    simp; omega
  have h2 : (k1_t2_loop v).OK := by
    have e := t2_trips v
    rw [t2_loop_eq] at e ⊢
    have := BitVec.toInt_lt (x := v)
    refine ⟨by show 0 < (1#32 : BitVec 32).toInt; decide, ?_⟩
    dsimp only at e ⊢
    rw [show Scf.trips v v 1#32 = 0 from e]
    simp; omega
  exact ⟨h1, h2⟩

/-- Where no class has more than 128 boxes the branch word is one. -/
theorem word_one (h : ∀ c, Cert.Pre_fits.fn (F := F) (m (c, Proc.devRef .tc main_arg0)) (m (c, Proc.devRef .tc main_arg1)) (m (c, Proc.devRef .tc main_arg2)) = fun _ => 1#1)
    (c : Dev nD) : word m c = 1#32 := by
  have e2 : Cert.Pre_fits.fn (F := F) (m (c, Proc.devRef .tc main_arg0)) (m (c, Proc.devRef .tc main_arg1)) (m (c, Proc.devRef .tc main_arg2))
      = cmpi .sle (largest (m (c, Proc.devRef .tc main_arg2))) (constantI S_ 32 128#32) := rfl
  rw [word_eq, ← e2, h c]
  decide

/-- The frame: every weakly fair execution ends, the arguments as launched and every counter at zero. -/
theorem frame (h : ∀ c, Cert.Pre_fits.fn (F := F) (m (c, Proc.devRef .tc main_arg0)) (m (c, Proc.devRef .tc main_arg1)) (m (c, Proc.devRef .tc main_arg2)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  have hr := run_main m ρ (word_one m h) (fun c t => chk_all _)
  exact θ_run_with_sems (frame_of m ρ (dats m)) hr

end Cert.Proof.KernelIdeal

end
-- ==== Proof.ReferenceIdeal.Host.lean ====
/-
  The host lines of the program as lists of operations: before the loop, the loop's condition and body, after the loop.
-/
module

public import proofs.«01_k».proof.Proof.Gen.ReferenceIdeal
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent
public import Idealize.ShloMosaic.Lib.Tactic

@[expose] public section

set_option maxRecDepth 16384

noncomputable section

namespace Cert.Proof.ReferenceIdeal

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

/-- The lines before the loop. -/
abbrev preOps : List (HloOp τ sig (Elt F)) :=
  [ StableHlo.nullary main_cst (constant S_ .f32 0xFF800000#32),
    StableHlo.binary main_arg0 main_cst main_v0 ((fun x v => Host.reduce FloatOps.maximumf x v reducesTo_S5000x4_S_d0_1 h_S_) : (⟨S5000x4, .f32⟩ : BufTy).Contents (Elt F) → (⟨S_, .f32⟩ : BufTy).Contents (Elt F) → (⟨S_, .f32⟩ : BufTy).Contents (Elt F)),
    StableHlo.unary main_arg2 main_v1 (sitofp .f32 : (⟨S5000, .i32⟩ : BufTy).Contents (Elt F) → (⟨S5000, .f32⟩ : BufTy).Contents (Elt F)),
    StableHlo.nullary main_cst_0 (constant S_ .f32 0x3F800000#32),
    StableHlo.binary main_v0 main_cst_0 main_v2 (addf : (⟨S_, .f32⟩ : BufTy).Contents (Elt F) → (⟨S_, .f32⟩ : BufTy).Contents (Elt F) → (⟨S_, .f32⟩ : BufTy).Contents (Elt F)),
    StableHlo.unary main_v2 main_v3 (broadcastInDim S5000 ![] bcast_S_S5000 : (⟨S_, .f32⟩ : BufTy).Contents (Elt F) → (⟨S5000, .f32⟩ : BufTy).Contents (Elt F)),
    StableHlo.binary main_v1 main_v3 main_v4 (mulf : (⟨S5000, .f32⟩ : BufTy).Contents (Elt F) → (⟨S5000, .f32⟩ : BufTy).Contents (Elt F) → (⟨S5000, .f32⟩ : BufTy).Contents (Elt F)),
    StableHlo.unary main_v4 main_v5 (broadcastInDim S5000x1 ![0] bcast_S5000_S5000x1_0 : (⟨S5000, .f32⟩ : BufTy).Contents (Elt F) → (⟨S5000x1, .f32⟩ : BufTy).Contents (Elt F)),
    StableHlo.unary main_v5 main_v6 (broadcastInDim S5000x4 ![0, 1] bcast_S5000x1_S5000x4_0_1 : (⟨S5000x1, .f32⟩ : BufTy).Contents (Elt F) → (⟨S5000x4, .f32⟩ : BufTy).Contents (Elt F)),
    StableHlo.binary main_arg0 main_v6 main_v7 (addf : (⟨S5000x4, .f32⟩ : BufTy).Contents (Elt F) → (⟨S5000x4, .f32⟩ : BufTy).Contents (Elt F) → (⟨S5000x4, .f32⟩ : BufTy).Contents (Elt F)),
    StableHlo.nullary main_v8 (iotaInDim S5000 32 0),
    StableHlo.nullary main_c (constantI S_ 1 1#1),
    StableHlo.unary main_c main_v9 (broadcastInDim S5000 ![] bcast_S_S5000 : (⟨S_, .i1⟩ : BufTy).Contents (Elt F) → (⟨S5000, .i1⟩ : BufTy).Contents (Elt F)),
    StableHlo.nullary main_c_1 (constantI S_ 32 0#32),
    StableHlo.unary main_c_1 main_v10 (broadcastInDim S5000 ![] bcast_S_S5000 : (⟨S_, .i32⟩ : BufTy).Contents (Elt F) → (⟨S5000, .i32⟩ : BufTy).Contents (Elt F)),
    StableHlo.nullary main_cst_2 (constant S_ .f32 0x00000000#32),
    StableHlo.unary main_cst_2 main_v11 (broadcastInDim S5000 ![] bcast_S_S5000 : (⟨S_, .f32⟩ : BufTy).Contents (Elt F) → (⟨S5000, .f32⟩ : BufTy).Contents (Elt F)),
    StableHlo.nullary main_c_3 (constantI S_ 32 0#32),
    StableHlo.unary main_v7 main_v12_0 id,
    StableHlo.unary main_v8 main_v12_1 id,
    StableHlo.unary main_c_3 main_v12_2 id,
    StableHlo.unary main_arg1 main_v12_3 id,
    StableHlo.unary main_v9 main_v12_4 id,
    StableHlo.unary main_v10 main_v12_5 id,
    StableHlo.unary main_v11 main_v12_6 id ]
/-- They touch buffers of the TensorCore only. -/
theorem preOps_sub : (preOps : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The lines of the condition. -/
abbrev condOps : List (HloOp τ sig (Elt F)) :=
  [ StableHlo.nullary main_while0c_c_11 (constantI S_ 32 5000#32),
    StableHlo.binary main_v12_2 main_while0c_c_11 main_while0c_v15 (cmpi .slt : (⟨S_, .i32⟩ : BufTy).Contents (Elt F) → (⟨S_, .i32⟩ : BufTy).Contents (Elt F) → (⟨S_, .i1⟩ : BufTy).Contents (Elt F)) ]
/-- They touch buffers of the TensorCore only. -/
theorem condOps_sub : (condOps : List (HloOp τ sig (Elt F))).Forall fun op => op.bufs ⊆ StableHlo.tcRefs τ sig :=
  ⟨StableHlo.nullary_bufs_sub .., StableHlo.binary_bufs_sub ..⟩
/-- The loop body up to the score of the box it picks. -/
abbrev bodyPick : List (HloOp τ sig (Elt F)) :=
  [ StableHlo.nullary main_while0b_cst_11 (constant S_ .f32 0xFF800000#32),
    StableHlo.TRef.unary (.of main_while0b_cst_11 : StableHlo.TRef sig ⟨S_, .f32⟩) (.of main_while0b_call0_v0 : StableHlo.TRef sig ⟨S_, .f32⟩) id,
    StableHlo.TRef.unary (.of main_while0b_call0_v0 : StableHlo.TRef sig ⟨S_, .f32⟩) (.of main_while0b_call0_v1 : StableHlo.TRef sig ⟨S5000, .f32⟩) (broadcastInDim S5000 ![] bcast_S_S5000),
    StableHlo.TRef.ternary (.of main_v12_4 : StableHlo.TRef sig ⟨S5000, .i1⟩) (.of main_v12_3 : StableHlo.TRef sig ⟨S5000, .f32⟩) (.of main_while0b_call0_v1 : StableHlo.TRef sig ⟨S5000, .f32⟩) (.of main_while0b_v15 : StableHlo.TRef sig ⟨S5000, .f32⟩) select,
    StableHlo.TRef.nullary (.of main_while0b_call1_v0 : StableHlo.TRef sig ⟨S5000, .i32⟩) (iotaInDim S5000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v15 : StableHlo.TRef sig ⟨S5000, .f32⟩) (.of main_while0b_call1_v0 : StableHlo.TRef sig ⟨S5000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S5000_S_d0 h_S_ j).1),
    StableHlo.TRef.quaternary (.of main_while0b_v15 : StableHlo.TRef sig ⟨S5000, .f32⟩) (.of main_while0b_call1_v0 : StableHlo.TRef sig ⟨S5000, .i32⟩) (.of main_while0b_call1_cst : StableHlo.TRef sig ⟨S_, .f32⟩) (.of main_while0b_call1_c : StableHlo.TRef sig ⟨S_, .i32⟩) (.of main_while0b_v16 : StableHlo.TRef sig ⟨S_, .i32⟩) (fun x y u v j => (Host.argReduce reducer_argmax_f32_i32 x y u v reducesTo_S5000_S_d0 h_S_ j).2),
    StableHlo.nullary main_while0b_c_12 (constantI S_ 32 0#32),
    StableHlo.binary main_while0b_v16 main_while0b_c_12 main_while0b_v17 (cmpi .slt : (⟨S_, .i32⟩ : BufTy).Contents (Elt F) → (⟨S_, .i32⟩ : BufTy).Contents (Elt F) → (⟨S_, .i1⟩ : BufTy).Contents (Elt F)),
    StableHlo.nullary main_while0b_c_13 (constantI S_ 32 5000#32),
    StableHlo.binary main_while0b_v16 main_while0b_c_13 main_while0b_v18 (addi : (⟨S_, .i32⟩ : BufTy).Contents (Elt F) → (⟨S_, .i32⟩ : BufTy).Contents (Elt F) → (⟨S_, .i32⟩ : BufTy).Contents (Elt F)),
    StableHlo.ternary main_while0b_v17 main_while0b_v18 main_while0b_v16 main_while0b_v19 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_while0b_v15 ![main_while0b_v19] ⟨S_, .i32⟩ main_while0b_v20 ((fun x i => Host.dynamicSlice S1 x (fun k => (i k (Shape.Idx.first h_S_)).toInt) sliceFits_S5000_S1) : (⟨S5000, .f32⟩ : BufTy).Contents (Elt F) → (Fin 1 → (⟨S_, .i32⟩ : BufTy).Contents (Elt F)) → (⟨S1, .f32⟩ : BufTy).Contents (Elt F)),
    StableHlo.reshape main_while0b_v20 main_while0b_v21 (rfl : (.f32 : EltTy) = .f32) shapeCasts_S1_S_ ]
/-- They touch buffers of the TensorCore only. -/
theorem bodyPick_sub : (bodyPick : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub ..⟩
/-- The loop body up to the widths of the boxes. -/
abbrev bodyInter : List (HloOp τ sig (Elt F)) :=
  [ StableHlo.nullary main_while0b_c_14 (constantI S_ 32 0#32),
    StableHlo.binary main_while0b_v16 main_while0b_c_14 main_while0b_v22 (cmpi .slt : (⟨S_, .i32⟩ : BufTy).Contents (Elt F) → (⟨S_, .i32⟩ : BufTy).Contents (Elt F) → (⟨S_, .i1⟩ : BufTy).Contents (Elt F)),
    StableHlo.nullary main_while0b_c_15 (constantI S_ 32 5000#32),
    StableHlo.binary main_while0b_v16 main_while0b_c_15 main_while0b_v23 (addi : (⟨S_, .i32⟩ : BufTy).Contents (Elt F) → (⟨S_, .i32⟩ : BufTy).Contents (Elt F) → (⟨S_, .i32⟩ : BufTy).Contents (Elt F)),
    StableHlo.ternary main_while0b_v22 main_while0b_v23 main_while0b_v16 main_while0b_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_16 (constantI S_ 32 0#32),
    StableHlo.nullary main_while0b_c_17 (constantI S_ 32 0#32),
    StableHlo.binary main_while0b_c_16 main_while0b_c_17 main_while0b_v25 (cmpi .slt : (⟨S_, .i32⟩ : BufTy).Contents (Elt F) → (⟨S_, .i32⟩ : BufTy).Contents (Elt F) → (⟨S_, .i1⟩ : BufTy).Contents (Elt F)),
    StableHlo.nullary main_while0b_c_18 (constantI S_ 32 0#32),
    StableHlo.nullary main_while0b_c_19 (constantI S_ 32 4#32),
    StableHlo.binary main_while0b_c_18 main_while0b_c_19 main_while0b_v26 (addi : (⟨S_, .i32⟩ : BufTy).Contents (Elt F) → (⟨S_, .i32⟩ : BufTy).Contents (Elt F) → (⟨S_, .i32⟩ : BufTy).Contents (Elt F)),
    StableHlo.nullary main_while0b_c_20 (constantI S_ 32 0#32),
    StableHlo.ternary main_while0b_v25 main_while0b_v26 main_while0b_c_20 main_while0b_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v12_0 ![main_while0b_v24, main_while0b_v27] ⟨S_, .i32⟩ main_while0b_v28 ((fun x i => Host.dynamicSlice S1x4 x (fun k => (i k (Shape.Idx.first h_S_)).toInt) sliceFits_S5000x4_S1x4) : (⟨S5000x4, .f32⟩ : BufTy).Contents (Elt F) → (Fin 2 → (⟨S_, .i32⟩ : BufTy).Contents (Elt F)) → (⟨S1x4, .f32⟩ : BufTy).Contents (Elt F)),
    StableHlo.reshape main_while0b_v28 main_while0b_v29 (rfl : (.f32 : EltTy) = .f32) shapeCasts_S1x4_S4,
    StableHlo.unary main_while0b_v29 main_while0b_v30 ((extractStridedSlice S2 ![0] · slices_S4_S2_0) : (⟨S4, .f32⟩ : BufTy).Contents (Elt F) → (⟨S2, .f32⟩ : BufTy).Contents (Elt F)),
    StableHlo.unary main_v12_0 main_while0b_v31 ((extractStridedSlice S5000x2 ![0, 0] · slices_S5000x4_S5000x2_0_0) : (⟨S5000x4, .f32⟩ : BufTy).Contents (Elt F) → (⟨S5000x2, .f32⟩ : BufTy).Contents (Elt F)),
    StableHlo.unary main_while0b_v30 main_while0b_v32 (broadcastInDim S1x2 ![1] bcast_S2_S1x2_1 : (⟨S2, .f32⟩ : BufTy).Contents (Elt F) → (⟨S1x2, .f32⟩ : BufTy).Contents (Elt F)),
    StableHlo.unary main_while0b_v32 main_while0b_v33 (broadcastInDim S5000x2 ![0, 1] bcast_S1x2_S5000x2_0_1 : (⟨S1x2, .f32⟩ : BufTy).Contents (Elt F) → (⟨S5000x2, .f32⟩ : BufTy).Contents (Elt F)),
    StableHlo.binary main_while0b_v33 main_while0b_v31 main_while0b_v34 (maximumf : (⟨S5000x2, .f32⟩ : BufTy).Contents (Elt F) → (⟨S5000x2, .f32⟩ : BufTy).Contents (Elt F) → (⟨S5000x2, .f32⟩ : BufTy).Contents (Elt F)),
    StableHlo.unary main_while0b_v29 main_while0b_v35 ((extractStridedSlice S2 ![2] · slices_S4_S2_2) : (⟨S4, .f32⟩ : BufTy).Contents (Elt F) → (⟨S2, .f32⟩ : BufTy).Contents (Elt F)),
    StableHlo.unary main_v12_0 main_while0b_v36 ((extractStridedSlice S5000x2 ![0, 2] · slices_S5000x4_S5000x2_0_2) : (⟨S5000x4, .f32⟩ : BufTy).Contents (Elt F) → (⟨S5000x2, .f32⟩ : BufTy).Contents (Elt F)),
    StableHlo.unary main_while0b_v35 main_while0b_v37 (broadcastInDim S1x2 ![1] bcast_S2_S1x2_1 : (⟨S2, .f32⟩ : BufTy).Contents (Elt F) → (⟨S1x2, .f32⟩ : BufTy).Contents (Elt F)),
    StableHlo.unary main_while0b_v37 main_while0b_v38 (broadcastInDim S5000x2 ![0, 1] bcast_S1x2_S5000x2_0_1 : (⟨S1x2, .f32⟩ : BufTy).Contents (Elt F) → (⟨S5000x2, .f32⟩ : BufTy).Contents (Elt F)),
    StableHlo.binary main_while0b_v38 main_while0b_v36 main_while0b_v39 (minimumf : (⟨S5000x2, .f32⟩ : BufTy).Contents (Elt F) → (⟨S5000x2, .f32⟩ : BufTy).Contents (Elt F) → (⟨S5000x2, .f32⟩ : BufTy).Contents (Elt F)),
    StableHlo.binary main_while0b_v39 main_while0b_v34 main_while0b_v40 (subf : (⟨S5000x2, .f32⟩ : BufTy).Contents (Elt F) → (⟨S5000x2, .f32⟩ : BufTy).Contents (Elt F) → (⟨S5000x2, .f32⟩ : BufTy).Contents (Elt F)),
    StableHlo.nullary main_while0b_cst_21 (constant S_ .f32 0x00000000#32),
    StableHlo.unary main_while0b_cst_21 main_while0b_v41 (broadcastInDim S5000x2 ![] bcast_S_S5000x2 : (⟨S_, .f32⟩ : BufTy).Contents (Elt F) → (⟨S5000x2, .f32⟩ : BufTy).Contents (Elt F)),
    StableHlo.binary main_while0b_v40 main_while0b_v41 main_while0b_v42 (maximumf : (⟨S5000x2, .f32⟩ : BufTy).Contents (Elt F) → (⟨S5000x2, .f32⟩ : BufTy).Contents (Elt F) → (⟨S5000x2, .f32⟩ : BufTy).Contents (Elt F)),
    StableHlo.unary main_while0b_v42 main_while0b_v43 ((extractStridedSlice S5000x1 ![0, 0] · slices_S5000x2_S5000x1_0_0) : (⟨S5000x2, .f32⟩ : BufTy).Contents (Elt F) → (⟨S5000x1, .f32⟩ : BufTy).Contents (Elt F)),
    StableHlo.reshape main_while0b_v43 main_while0b_v44 (rfl : (.f32 : EltTy) = .f32) shapeCasts_S5000x1_S5000,
    StableHlo.unary main_while0b_v42 main_while0b_v45 ((extractStridedSlice S5000x1 ![0, 1] · slices_S5000x2_S5000x1_0_1) : (⟨S5000x2, .f32⟩ : BufTy).Contents (Elt F) → (⟨S5000x1, .f32⟩ : BufTy).Contents (Elt F)),
    StableHlo.reshape main_while0b_v45 main_while0b_v46 (rfl : (.f32 : EltTy) = .f32) shapeCasts_S5000x1_S5000,
    StableHlo.binary main_while0b_v44 main_while0b_v46 main_while0b_v47 (mulf : (⟨S5000, .f32⟩ : BufTy).Contents (Elt F) → (⟨S5000, .f32⟩ : BufTy).Contents (Elt F) → (⟨S5000, .f32⟩ : BufTy).Contents (Elt F)),
    StableHlo.unary main_while0b_v29 main_while0b_v48 ((extractStridedSlice S1 ![2] · slices_S4_S1_2) : (⟨S4, .f32⟩ : BufTy).Contents (Elt F) → (⟨S1, .f32⟩ : BufTy).Contents (Elt F)),
    StableHlo.reshape main_while0b_v48 main_while0b_v49 (rfl : (.f32 : EltTy) = .f32) shapeCasts_S1_S_,
    StableHlo.unary main_while0b_v29 main_while0b_v50 ((extractStridedSlice S1 ![0] · slices_S4_S1_0) : (⟨S4, .f32⟩ : BufTy).Contents (Elt F) → (⟨S1, .f32⟩ : BufTy).Contents (Elt F)),
    StableHlo.reshape main_while0b_v50 main_while0b_v51 (rfl : (.f32 : EltTy) = .f32) shapeCasts_S1_S_,
    StableHlo.binary main_while0b_v49 main_while0b_v51 main_while0b_v52 (subf : (⟨S_, .f32⟩ : BufTy).Contents (Elt F) → (⟨S_, .f32⟩ : BufTy).Contents (Elt F) → (⟨S_, .f32⟩ : BufTy).Contents (Elt F)),
    StableHlo.unary main_while0b_v29 main_while0b_v53 ((extractStridedSlice S1 ![3] · slices_S4_S1_3) : (⟨S4, .f32⟩ : BufTy).Contents (Elt F) → (⟨S1, .f32⟩ : BufTy).Contents (Elt F)),
    StableHlo.reshape main_while0b_v53 main_while0b_v54 (rfl : (.f32 : EltTy) = .f32) shapeCasts_S1_S_,
    StableHlo.unary main_while0b_v29 main_while0b_v55 ((extractStridedSlice S1 ![1] · slices_S4_S1_1) : (⟨S4, .f32⟩ : BufTy).Contents (Elt F) → (⟨S1, .f32⟩ : BufTy).Contents (Elt F)),
    StableHlo.reshape main_while0b_v55 main_while0b_v56 (rfl : (.f32 : EltTy) = .f32) shapeCasts_S1_S_,
    StableHlo.binary main_while0b_v54 main_while0b_v56 main_while0b_v57 (subf : (⟨S_, .f32⟩ : BufTy).Contents (Elt F) → (⟨S_, .f32⟩ : BufTy).Contents (Elt F) → (⟨S_, .f32⟩ : BufTy).Contents (Elt F)),
    StableHlo.binary main_while0b_v52 main_while0b_v57 main_while0b_v58 (mulf : (⟨S_, .f32⟩ : BufTy).Contents (Elt F) → (⟨S_, .f32⟩ : BufTy).Contents (Elt F) → (⟨S_, .f32⟩ : BufTy).Contents (Elt F)),
    StableHlo.unary main_v12_0 main_while0b_v59 ((extractStridedSlice S5000x1 ![0, 2] · slices_S5000x4_S5000x1_0_2) : (⟨S5000x4, .f32⟩ : BufTy).Contents (Elt F) → (⟨S5000x1, .f32⟩ : BufTy).Contents (Elt F)),
    StableHlo.reshape main_while0b_v59 main_while0b_v60 (rfl : (.f32 : EltTy) = .f32) shapeCasts_S5000x1_S5000,
    StableHlo.unary main_v12_0 main_while0b_v61 ((extractStridedSlice S5000x1 ![0, 0] · slices_S5000x4_S5000x1_0_0) : (⟨S5000x4, .f32⟩ : BufTy).Contents (Elt F) → (⟨S5000x1, .f32⟩ : BufTy).Contents (Elt F)),
    StableHlo.reshape main_while0b_v61 main_while0b_v62 (rfl : (.f32 : EltTy) = .f32) shapeCasts_S5000x1_S5000,
    StableHlo.binary main_while0b_v60 main_while0b_v62 main_while0b_v63 (subf : (⟨S5000, .f32⟩ : BufTy).Contents (Elt F) → (⟨S5000, .f32⟩ : BufTy).Contents (Elt F) → (⟨S5000, .f32⟩ : BufTy).Contents (Elt F)) ]
/-- They touch buffers of the TensorCore only. -/
theorem bodyInter_sub : (bodyInter : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub ..⟩
/-- The loop body from the heights of the boxes on. -/
abbrev bodyRest : List (HloOp τ sig (Elt F)) :=
  [ StableHlo.unary main_v12_0 main_while0b_v64 ((extractStridedSlice S5000x1 ![0, 3] · slices_S5000x4_S5000x1_0_3) : (⟨S5000x4, .f32⟩ : BufTy).Contents (Elt F) → (⟨S5000x1, .f32⟩ : BufTy).Contents (Elt F)),
    StableHlo.reshape main_while0b_v64 main_while0b_v65 (rfl : (.f32 : EltTy) = .f32) shapeCasts_S5000x1_S5000,
    StableHlo.unary main_v12_0 main_while0b_v66 ((extractStridedSlice S5000x1 ![0, 1] · slices_S5000x4_S5000x1_0_1) : (⟨S5000x4, .f32⟩ : BufTy).Contents (Elt F) → (⟨S5000x1, .f32⟩ : BufTy).Contents (Elt F)),
    StableHlo.reshape main_while0b_v66 main_while0b_v67 (rfl : (.f32 : EltTy) = .f32) shapeCasts_S5000x1_S5000,
    StableHlo.binary main_while0b_v65 main_while0b_v67 main_while0b_v68 (subf : (⟨S5000, .f32⟩ : BufTy).Contents (Elt F) → (⟨S5000, .f32⟩ : BufTy).Contents (Elt F) → (⟨S5000, .f32⟩ : BufTy).Contents (Elt F)),
    StableHlo.binary main_while0b_v63 main_while0b_v68 main_while0b_v69 (mulf : (⟨S5000, .f32⟩ : BufTy).Contents (Elt F) → (⟨S5000, .f32⟩ : BufTy).Contents (Elt F) → (⟨S5000, .f32⟩ : BufTy).Contents (Elt F)),
    StableHlo.unary main_while0b_v58 main_while0b_v70 (broadcastInDim S5000 ![] bcast_S_S5000 : (⟨S_, .f32⟩ : BufTy).Contents (Elt F) → (⟨S5000, .f32⟩ : BufTy).Contents (Elt F)),
    StableHlo.binary main_while0b_v70 main_while0b_v69 main_while0b_v71 (addf : (⟨S5000, .f32⟩ : BufTy).Contents (Elt F) → (⟨S5000, .f32⟩ : BufTy).Contents (Elt F) → (⟨S5000, .f32⟩ : BufTy).Contents (Elt F)),
    StableHlo.binary main_while0b_v71 main_while0b_v47 main_while0b_v72 (subf : (⟨S5000, .f32⟩ : BufTy).Contents (Elt F) → (⟨S5000, .f32⟩ : BufTy).Contents (Elt F) → (⟨S5000, .f32⟩ : BufTy).Contents (Elt F)),
    StableHlo.nullary main_while0b_cst_22 (constant S_ .f32 0x2B8CBCCC#32),
    StableHlo.unary main_while0b_cst_22 main_while0b_v73 (broadcastInDim S5000 ![] bcast_S_S5000 : (⟨S_, .f32⟩ : BufTy).Contents (Elt F) → (⟨S5000, .f32⟩ : BufTy).Contents (Elt F)),
    StableHlo.binary main_while0b_v72 main_while0b_v73 main_while0b_v74 (addf : (⟨S5000, .f32⟩ : BufTy).Contents (Elt F) → (⟨S5000, .f32⟩ : BufTy).Contents (Elt F) → (⟨S5000, .f32⟩ : BufTy).Contents (Elt F)),
    StableHlo.binary main_while0b_v47 main_while0b_v74 main_while0b_v75 (Host.divf : (⟨S5000, .f32⟩ : BufTy).Contents (Elt F) → (⟨S5000, .f32⟩ : BufTy).Contents (Elt F) → (⟨S5000, .f32⟩ : BufTy).Contents (Elt F)),
    StableHlo.nullary main_while0b_cst_23 (constant S_ .f32 0x3F000000#32),
    StableHlo.unary main_while0b_cst_23 main_while0b_v76 (broadcastInDim S5000 ![] bcast_S_S5000 : (⟨S_, .f32⟩ : BufTy).Contents (Elt F) → (⟨S5000, .f32⟩ : BufTy).Contents (Elt F)),
    StableHlo.binary main_while0b_v75 main_while0b_v76 main_while0b_v77 (cmpf .ogt : (⟨S5000, .f32⟩ : BufTy).Contents (Elt F) → (⟨S5000, .f32⟩ : BufTy).Contents (Elt F) → (⟨S5000, .i1⟩ : BufTy).Contents (Elt F)),
    StableHlo.nullary main_while0b_cst_24 (constant S_ .f32 0x3F800000#32),
    StableHlo.unary main_while0b_cst_24 main_while0b_v78 (broadcastInDim S5000 ![] bcast_S_S5000 : (⟨S_, .f32⟩ : BufTy).Contents (Elt F) → (⟨S5000, .f32⟩ : BufTy).Contents (Elt F)),
    StableHlo.binary main_while0b_v78 main_while0b_v75 main_while0b_v79 (subf : (⟨S5000, .f32⟩ : BufTy).Contents (Elt F) → (⟨S5000, .f32⟩ : BufTy).Contents (Elt F) → (⟨S5000, .f32⟩ : BufTy).Contents (Elt F)),
    StableHlo.nullary main_while0b_cst_25 (constant S_ .f32 0x3F800000#32),
    StableHlo.TRef.unary (.of main_while0b_cst_25 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S5000, .f32⟩) (broadcastInDim S5000 ![] bcast_S_S5000),
    StableHlo.TRef.ternary (.of main_while0b_v77 : StableHlo.TRef sig ⟨S5000, .i1⟩) (.of main_while0b_v79 : StableHlo.TRef sig ⟨S5000, .f32⟩) (.of main_while0b_call2_v1 : StableHlo.TRef sig ⟨S5000, .f32⟩) (.of main_while0b_v80 : StableHlo.TRef sig ⟨S5000, .f32⟩) select,
    StableHlo.unary main_while0b_v16 main_while0b_v81 (broadcastInDim S5000 ![] bcast_S_S5000 : (⟨S_, .i32⟩ : BufTy).Contents (Elt F) → (⟨S5000, .i32⟩ : BufTy).Contents (Elt F)),
    StableHlo.binary main_v12_1 main_while0b_v81 main_while0b_v82 (cmpi .ne : (⟨S5000, .i32⟩ : BufTy).Contents (Elt F) → (⟨S5000, .i32⟩ : BufTy).Contents (Elt F) → (⟨S5000, .i1⟩ : BufTy).Contents (Elt F)),
    StableHlo.binary main_v12_4 main_while0b_v82 main_while0b_v83 (andi : (⟨S5000, .i1⟩ : BufTy).Contents (Elt F) → (⟨S5000, .i1⟩ : BufTy).Contents (Elt F) → (⟨S5000, .i1⟩ : BufTy).Contents (Elt F)),
    StableHlo.binary main_v12_3 main_while0b_v80 main_while0b_v84 (mulf : (⟨S5000, .f32⟩ : BufTy).Contents (Elt F) → (⟨S5000, .f32⟩ : BufTy).Contents (Elt F) → (⟨S5000, .f32⟩ : BufTy).Contents (Elt F)),
    StableHlo.TRef.ternary (.of main_while0b_v83 : StableHlo.TRef sig ⟨S5000, .i1⟩) (.of main_while0b_v84 : StableHlo.TRef sig ⟨S5000, .f32⟩) (.of main_v12_3 : StableHlo.TRef sig ⟨S5000, .f32⟩) (.of main_while0b_v85 : StableHlo.TRef sig ⟨S5000, .f32⟩) select,
    StableHlo.nullary main_while0b_c_26 (constantI S_ 32 0#32),
    StableHlo.binary main_while0b_v16 main_while0b_c_26 main_while0b_v86 (cmpi .slt : (⟨S_, .i32⟩ : BufTy).Contents (Elt F) → (⟨S_, .i32⟩ : BufTy).Contents (Elt F) → (⟨S_, .i1⟩ : BufTy).Contents (Elt F)),
    StableHlo.nullary main_while0b_c_27 (constantI S_ 32 5000#32),
    StableHlo.binary main_while0b_v16 main_while0b_c_27 main_while0b_v87 (addi : (⟨S_, .i32⟩ : BufTy).Contents (Elt F) → (⟨S_, .i32⟩ : BufTy).Contents (Elt F) → (⟨S_, .i32⟩ : BufTy).Contents (Elt F)),
    StableHlo.ternary main_while0b_v86 main_while0b_v87 main_while0b_v16 main_while0b_v88 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v88 main_while0b_v89 (broadcastInDim S1 ![] bcast_S_S1 : (⟨S_, .i32⟩ : BufTy).Contents (Elt F) → (⟨S1, .i32⟩ : BufTy).Contents (Elt F)),
    StableHlo.nullary main_while0b_c_28 (constantI S_ 1 0#1),
    StableHlo.ternary main_v12_4 main_while0b_v89 main_while0b_c_28 main_while0b_v90 ((fun x i u => Host.scatter scatter_S5000_S1_S__n_0_0_0 (fun _ b => b) x i u) : (⟨S5000, .i1⟩ : BufTy).Contents (Elt F) → (⟨S1, .i32⟩ : BufTy).Contents (Elt F) → (⟨S_, .i1⟩ : BufTy).Contents (Elt F) → (⟨S5000, .i1⟩ : BufTy).Contents (Elt F)),
    StableHlo.TRef.unary (.of main_while0b_v16 : StableHlo.TRef sig ⟨S_, .i32⟩) (.of main_while0b_call4_v0 : StableHlo.TRef sig ⟨S1, .i32⟩) (broadcastInDim S1 ![] bcast_S_S1),
    StableHlo.TRef.binaryIndexed (.of main_v12_5 : StableHlo.TRef sig ⟨S5000, .i32⟩) (.of main_while0b_call4_v0 : StableHlo.TRef sig ⟨S1, .i32⟩) ![(.of main_v12_2 : StableHlo.TRef sig ⟨S_, .i32⟩)] (.of main_while0b_v91 : StableHlo.TRef sig ⟨S5000, .i32⟩) (fun x u i => Host.dynamicUpdateSlice x u (fun k => (i k (Shape.Idx.first h_S_)).toInt) updateFits_S5000_S1),
    StableHlo.TRef.unary (.of main_while0b_v21 : StableHlo.TRef sig ⟨S_, .f32⟩) (.of main_while0b_call5_v0 : StableHlo.TRef sig ⟨S1, .f32⟩) (broadcastInDim S1 ![] bcast_S_S1),
    StableHlo.TRef.binaryIndexed (.of main_v12_6 : StableHlo.TRef sig ⟨S5000, .f32⟩) (.of main_while0b_call5_v0 : StableHlo.TRef sig ⟨S1, .f32⟩) ![(.of main_v12_2 : StableHlo.TRef sig ⟨S_, .i32⟩)] (.of main_while0b_v92 : StableHlo.TRef sig ⟨S5000, .f32⟩) (fun x u i => Host.dynamicUpdateSlice x u (fun k => (i k (Shape.Idx.first h_S_)).toInt) updateFits_S5000_S1),
    StableHlo.nullary main_while0b_c_29 (constantI S_ 32 1#32),
    StableHlo.binary main_v12_2 main_while0b_c_29 main_while0b_v93 (addi : (⟨S_, .i32⟩ : BufTy).Contents (Elt F) → (⟨S_, .i32⟩ : BufTy).Contents (Elt F) → (⟨S_, .i32⟩ : BufTy).Contents (Elt F)),
    StableHlo.unary main_while0b_v93 main_v12_2 id,
    StableHlo.unary main_while0b_v85 main_v12_3 id,
    StableHlo.unary main_while0b_v90 main_v12_4 id,
    StableHlo.unary main_while0b_v91 main_v12_5 id,
    StableHlo.unary main_while0b_v92 main_v12_6 id ]
/-- They touch buffers of the TensorCore only. -/
theorem bodyRest_sub : (bodyRest : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.binary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.unary_bufs_sub .., StableHlo.binaryIndexed_bufs_sub .., StableHlo.unary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- The lines after the loop. -/
abbrev postOps : List (HloOp τ sig (Elt F)) :=
  [ StableHlo.nullary main_cst_4 (constant S_ .f32 0x3D4CCCCD#32),
    StableHlo.unary main_cst_4 main_v13 (broadcastInDim S5000 ![] bcast_S_S5000 : (⟨S_, .f32⟩ : BufTy).Contents (Elt F) → (⟨S5000, .f32⟩ : BufTy).Contents (Elt F)),
    StableHlo.binary main_v12_6 main_v13 main_v14 (cmpf .ogt : (⟨S5000, .f32⟩ : BufTy).Contents (Elt F) → (⟨S5000, .f32⟩ : BufTy).Contents (Elt F) → (⟨S5000, .i1⟩ : BufTy).Contents (Elt F)) ]
/-- They touch buffers of the TensorCore only. -/
theorem postOps_sub : (postOps : List (HloOp τ sig (Elt F))).Forall fun op => op.bufs ⊆ StableHlo.tcRefs τ sig :=
  ⟨StableHlo.nullary_bufs_sub .., StableHlo.unary_bufs_sub .., StableHlo.binary_bufs_sub ..⟩
/-- The lines before the loop, as one stretch. -/
abbrev preI : List (List (HloOp τ sig (Elt F))) := [preOps]
/-- The loop body, in three stretches. -/
abbrev bodyI : List (List (HloOp τ sig (Elt F))) := [bodyPick, bodyInter, bodyRest]
/-- The lines after the loop, as one stretch. -/
abbrev postI : List (List (HloOp τ sig (Elt F))) := [postOps]

/-- The program is its lines, the loop and its later lines. -/
theorem main_eq (c : Dev nD) : main (F := F) c = Pipeline.chain
    ((preI.map fun ops => (StableHlo.seq ops : Prog _ PUnit)) ++ HostLoop.enter 0 :: postI.map fun ops => (StableHlo.seq ops : Prog _ PUnit)) := by
  chain_rfl

/-- The loop body is its stretches. -/
theorem body_eq : main_while0_body (F := F) = Pipeline.chain (bodyI.map fun ops => (StableHlo.seq ops : Prog _ PUnit)) := by
  chain_rfl

/-- The stretch before the loop is plain. -/
theorem preI_plain : StableHlo.Plain (preI (F := F)) := .cons preOps_sub .nil
/-- The stretches of the body are plain. -/
theorem bodyI_plain : StableHlo.Plain (bodyI (F := F)) := .cons bodyPick_sub (.cons bodyInter_sub (.cons bodyRest_sub .nil))
/-- The stretch after the loop is plain. -/
theorem postI_plain : StableHlo.Plain (postI (F := F)) := .cons postOps_sub .nil

end Cert.Proof.ReferenceIdeal

end
-- ==== Proof.ReferenceIdeal.Run.lean ====
/-
  The run of the program: five thousand rounds of the loop from the lines before it, and the argument arrays unchanged.
-/
module

public import proofs.«01_k».proof.Proof.ReferenceIdeal.Host

@[expose] public section

set_option maxRecDepth 16384

noncomputable section

namespace Cert.Proof.ReferenceIdeal

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

variable (m : (ℓ : Loc nD τ sig) → Buf (Elt F) ℓ) (ρ : Dev nD → PrngReg)

/-- The buffers before round `k` of the loop. -/
abbrev Wk (k : ℕ) (c : Dev nD) : Valuation τ sig (Elt F) := StableHlo.atTrip condOps bodyI (StableHlo.entryContents preI m) k c
/-- The buffers at the end. -/
abbrev Wend (c : Dev nD) : Valuation τ sig (Elt F) := StableHlo.finalContents condOps preI bodyI postI 5000 m c

/-- The counter at the loop's entry is zero. -/
theorem counter_zero (c : Dev nD) : Wk m 0 c (Proc.devRef .tc main_v12_2) = (fun _ => (0#32 : BitVec 32) : (⟨S_, .i32⟩ : BufTy).Contents (Elt F)) := by
  unfold Wk StableHlo.entryContents
  simp only [StableHlo.atTrip_zero, StableHlo.afterL_cons, StableHlo.afterL_nil]
  after_reads_simp; rfl

/-- One round adds one to the counter. -/
theorem counter_step (W : Valuation τ sig (Elt F)) :
    StableHlo.afterL bodyI (StableHlo.after condOps W) (Proc.devRef .tc main_v12_2)
      = (fun i => IntOp.addi ((W (Proc.devRef .tc main_v12_2) : (⟨S_, .i32⟩ : BufTy).Contents (Elt F)) i) 1#32 : (⟨S_, .i32⟩ : BufTy).Contents (Elt F)) := by
  simp only [StableHlo.afterL_cons, StableHlo.afterL_nil]
  after_reads_simp; rfl

/-- The counter before round `k`. -/
theorem counter_eq (c : Dev nD) : ∀ k : ℕ, Wk m k c (Proc.devRef .tc main_v12_2) = (fun _ => Scf.iv 0#32 1#32 k : (⟨S_, .i32⟩ : BufTy).Contents (Elt F))
  | 0 => by rw [counter_zero]; rfl
  | k + 1 => by
    unfold Wk
    rw [StableHlo.atTrip_succ, counter_step]
    have := counter_eq c k
    unfold Wk at this
    rw [this]
    funext i
    rw [Scf.iv_succ]; rfl

set_option backward.isDefEq.respectTransparency.types false in
/-- The loop's condition, run for the `k`-th time, says whether `k` is below five thousand. -/
theorem cond_spec : StableHlo.CondSpec (pcfgs (F := F)) defs₀ loops main_while0_cond condOps bodyI (StableHlo.entryContents preI m) 5000 := by
  intro k hk c bd
  have hctr := counter_eq m c k
  unfold Wk at hctr
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (StableHlo.atTrip condOps bodyI (StableHlo.entryContents preI m) k c) main_v12_2 HostLoop.idx0)
        (HloOp.result _ (StableHlo.atTrip condOps bodyI (StableHlo.entryContents preI m) k c) main_while0c_c_11 HostLoop.idx0) = 1#1) (k < 5000)
    rw [StableHlo.nullary_result_ne _ _ _ _ (by decide), StableHlo.nullary_result, hctr]
    exact Scf.cmpi_slt_iv_ub_iff (lb := 0#32) (ub := 5000#32) (st := 1#32) (by decide) (by simpa [Scf.trips] using hk)
  isplitl [Hb]; · iexact Hb
  rw [StableHlo.after_cons, StableHlo.after_cons, StableHlo.after_nil]; iexact Hh

/-- Every buffer that holds a value of the program ends at its contents after the five thousand rounds and the later lines. -/
theorem run_main : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Wend m c (Proc.devRef .tc b)) :=
  StableHlo.run_loop pcfgs defs₀ loops main 0 main_while0_cond main_while0_body rfl preI bodyI postI condOps
    preI_plain bodyI_plain postI_plain main_eq body_eq 5000 m ρ (cond_spec m)

/-- A buffer that no line of the loop writes is as it was at the loop's entry. -/
theorem Wk_keep (b : Ref sig .tc) (hb : ∀ W : Valuation τ sig (Elt F), StableHlo.afterL bodyI (StableHlo.after condOps W) (Proc.devRef .tc b) = W (Proc.devRef .tc b))
    (c : Dev nD) : ∀ k : ℕ, Wk m k c (Proc.devRef .tc b) = Wk m 0 c (Proc.devRef .tc b)
  | 0 => rfl
  | k + 1 => by
    rw [← Wk_keep b hb c k]
    unfold Wk
    rw [StableHlo.atTrip_succ, hb]

/-- The first argument is unchanged. -/
theorem Wend_arg0 (c : Dev nD) : Wend m c (Proc.devRef .tc main_arg0) = m (c, Proc.devRef .tc main_arg0) := by
  have h := Wk_keep m main_arg0 (fun W => by simp only [StableHlo.afterL_cons, StableHlo.afterL_nil]; after_reads_simp) c 5000
  have h0 : Wk m 0 c (Proc.devRef .tc main_arg0) = m (c, Proc.devRef .tc main_arg0) := by
    unfold Wk StableHlo.entryContents
    simp only [StableHlo.atTrip_zero, StableHlo.afterL_cons, StableHlo.afterL_nil]
    after_reads_simp
  rw [← h0, ← h]
  unfold Wend StableHlo.finalContents Wk
  simp only [StableHlo.afterL_cons, StableHlo.afterL_nil]
  after_reads_simp
/-- The second argument is unchanged. -/
theorem Wend_arg1 (c : Dev nD) : Wend m c (Proc.devRef .tc main_arg1) = m (c, Proc.devRef .tc main_arg1) := by
  have h := Wk_keep m main_arg1 (fun W => by simp only [StableHlo.afterL_cons, StableHlo.afterL_nil]; after_reads_simp) c 5000
  have h0 : Wk m 0 c (Proc.devRef .tc main_arg1) = m (c, Proc.devRef .tc main_arg1) := by
    unfold Wk StableHlo.entryContents
    simp only [StableHlo.atTrip_zero, StableHlo.afterL_cons, StableHlo.afterL_nil]
    after_reads_simp
  rw [← h0, ← h]
  unfold Wend StableHlo.finalContents Wk
  simp only [StableHlo.afterL_cons, StableHlo.afterL_nil]
  after_reads_simp
/-- The third argument is unchanged. -/
theorem Wend_arg2 (c : Dev nD) : Wend m c (Proc.devRef .tc main_arg2) = m (c, Proc.devRef .tc main_arg2) := by
  have h := Wk_keep m main_arg2 (fun W => by simp only [StableHlo.afterL_cons, StableHlo.afterL_nil]; after_reads_simp) c 5000
  have h0 : Wk m 0 c (Proc.devRef .tc main_arg2) = m (c, Proc.devRef .tc main_arg2) := by
    unfold Wk StableHlo.entryContents
    simp only [StableHlo.atTrip_zero, StableHlo.afterL_cons, StableHlo.afterL_nil]
    after_reads_simp
  rw [← h0, ← h]
  unfold Wend StableHlo.finalContents Wk
  simp only [StableHlo.afterL_cons, StableHlo.afterL_nil]
  after_reads_simp

/-- The program ends with its three arguments unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => ⟨(h c main_arg0 rfl).trans (Wend_arg0 m c), (h c main_arg1 rfl).trans (Wend_arg1 m c),
    (h c main_arg2 rfl).trans (Wend_arg2 m c)⟩, sem_eq_zero_of_no_sems rfl r.2⟩) (run_main m ρ)

end Cert.Proof.ReferenceIdeal

end
-- ==== Proof.KernelIdeal.Final.lean ====
/-
  What the program leaves in its three results, of the grids the pipeline finds.
-/
module

public import proofs.«01_k».proof.Proof.KernelIdeal.Run
public import proofs.«01_k».proof.Proof.KernelIdeal.Frame
public import Idealize.ShloMosaic.Lib.Pipeline.ValueKit

@[expose] public section
set_option maxRecDepth 16384
noncomputable section
namespace Cert.Proof.KernelIdeal

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)

variable {F : FTy → Type} [FloatOps F] (m : (ℓ : Loc nD τ sig) → Buf (Elt F) ℓ) (ρ : Dev nD → PrngReg)

/-- The one point of the pipeline. -/
abbrev only : Fin cfg1.N := ⟨0, by decide⟩

/-- Every window's block is its array. -/
theorem at_zero : win1_0.index only = ![0] ∧ win1_1.index only = ![0, 0] ∧ win1_2.index only = ![0, 0] ∧ win1_3.index only = ![0, 0] ∧ win1_4.index only = ![0, 0] ∧ win1_5.index only = ![0, 0]
    ∧ win1_6.index only = ![0, 0] := by decide +kernel

theorem block0 (c : Dev nD) : iblk m c 0 only = V m c main_case0b1_v95 := by
  funext x
  blk_simp [iblk]
  refine congrArg (V m c main_case0b1_v95) ?_
  blk_ext! [at_zero.1]

theorem block1 (c : Dev nD) : iblk m c 1 only = V m c main_case0b1_v84 := by
  funext x
  blk_simp [iblk]
  refine congrArg (V m c main_case0b1_v84) ?_
  blk_ext! [at_zero.2.1]

theorem block2 (c : Dev nD) : iblk m c 2 only = V m c main_case0b1_v86 := by
  funext x
  blk_simp [iblk]
  refine congrArg (V m c main_case0b1_v86) ?_
  blk_ext! [at_zero.2.2.1]

theorem block3 (c : Dev nD) : iblk m c 3 only = V m c main_case0b1_v88 := by
  funext x
  blk_simp [iblk]
  refine congrArg (V m c main_case0b1_v88) ?_
  blk_ext! [at_zero.2.2.2.1]

theorem block4 (c : Dev nD) : iblk m c 4 only = V m c main_case0b1_v90 := by
  funext x
  blk_simp [iblk]
  refine congrArg (V m c main_case0b1_v90) ?_
  blk_ext! [at_zero.2.2.2.2.1]

theorem block5 (c : Dev nD) : iblk m c 5 only = V m c main_case0b1_v92 := by
  funext x
  blk_simp [iblk]
  refine congrArg (V m c main_case0b1_v92) ?_
  blk_ext! [at_zero.2.2.2.2.2.1]

theorem block6 (c : Dev nD) : iblk m c 6 only = V m c main_case0b1_v94 := by
  funext x
  blk_simp [iblk]
  refine congrArg (V m c main_case0b1_v94) ?_
  blk_ext! [at_zero.2.2.2.2.2.2]

/-- The sorted scores and indices, of the grids the pipeline finds. -/
def sortedPair (c : Dev nD) : Pair F := outOf (V m c main_case0b1_v95) (V m c main_case0b1_v84) (V m c main_case0b1_v86) (V m c main_case0b1_v88) (V m c main_case0b1_v90) (V m c main_case0b1_v92) (V m c main_case0b1_v94)

theorem outsAt_only (c : Dev nD) : outsAt m c only = sortedPair m c := by
  unfold outsAt sortedPair
  rw [block0, block1, block2, block3, block4, block5, block6]

theorem final7 (c : Dev nD) : (dats m 1 c).arrAt 7 cfg1.N = (sortedPair m c).1 := by
  refine (dat1 m c).arrAt_eq_of_after_last 7 only (by decide +kernel) _ fun j => ?_
  blk_simp
  rw [after1_7, outsAt_only]

theorem final8 (c : Dev nD) : (dats m 1 c).arrAt 8 cfg1.N = (sortedPair m c).2 := by
  refine (dat1 m c).arrAt_eq_of_after_last 8 only (by decide +kernel) _ fun j => ?_
  blk_simp
  rw [after1_8, outsAt_only]

/-- The first 5000 of a 128 by 128 grid. -/
def firstOf (x : FVec F S128x128 .f32) : FVec F S5000 .f32 := extractStridedSlice S5000 ![0] (shapeCast S16384 x shapeCasts_S128x128_S16384) slices_S16384_S5000_0

/-- Which scores are above 0.05. -/
def aboveOf (x : FVec F S5000 .f32) : IVec S5000 1 := cmpf .ogt x (broadcastInDim S5000 ![] bcast_S_S5000 (constant S_ .f32 0x3D4CCCCD#32))

theorem tail_reads (W : Valuation τ sig (Elt F)) :
    StableHlo.after (tailLines : List (List (HloOp τ sig (Elt F)))).flatten W (Proc.devRef .tc main_v21_0) = fptosi 32 (firstOf (W (Proc.devRef .tc main_case0b1_v96_1)))
    ∧ StableHlo.after (tailLines : List (List (HloOp τ sig (Elt F)))).flatten W (Proc.devRef .tc main_v21_1) = firstOf (W (Proc.devRef .tc main_case0b1_v96_0))
    ∧ StableHlo.after (tailLines : List (List (HloOp τ sig (Elt F)))).flatten W (Proc.devRef .tc main_v23) = aboveOf (firstOf (W (Proc.devRef .tc main_case0b1_v96_0))) := by
  unfold tailLines armTail hostOps0_3 firstOf aboveOf
  simp only [List.flatten_cons, List.flatten_nil, List.append_nil, List.cons_append, List.nil_append]
  refine ⟨?_, ?_, ?_⟩
  · after_reads_simp; rfl
  · after_reads_simp; rfl
  · after_reads_simp; rfl

theorem arr7 (c : Dev nD) (U : Valuation τ sig (Elt F)) : Pipeline.withArrays (cfgs 1).spec c U (fun w => (dats m 1 c).arrAt w (cfgs 1).N) (Proc.devRef .tc main_case0b1_v96_0) = (sortedPair m c).1 :=
  (Pipeline.withArrays_arr spec1 launch1.win.arr_inj c U (fun w => (dats m 1 c).arrAt w (cfgs 1).N) 7).trans (final7 m c)
theorem arr8 (c : Dev nD) (U : Valuation τ sig (Elt F)) : Pipeline.withArrays (cfgs 1).spec c U (fun w => (dats m 1 c).arrAt w (cfgs 1).N) (Proc.devRef .tc main_case0b1_v96_1) = (sortedPair m c).2 :=
  (Pipeline.withArrays_arr spec1 launch1.win.arr_inj c U (fun w => (dats m 1 c).arrAt w (cfgs 1).N) 8).trans (final8 m c)

/-- The run, with its three results read off. -/
theorem run_values (h : ∀ c, Cert.Pre_fits.fn (F := F) (m (c, Proc.devRef .tc main_arg0)) (m (c, Proc.devRef .tc main_arg1)) (m (c, Proc.devRef .tc main_arg2)) = fun _ => 1#1) :
    θ_run defs (onTc (τ := τ) (main (F := F))) ⟨m, fun _ => 0, ρ⟩ (fun r => ∀ c : Dev nD,
      r.2.mem ((c.tc : Thread nD τ).loc main_v21_0) = fptosi 32 (firstOf (sortedPair m c).2)
      ∧ r.2.mem ((c.tc : Thread nD τ).loc main_v21_1) = firstOf (sortedPair m c).1
      ∧ r.2.mem ((c.tc : Thread nD τ).loc main_v23) = aboveOf (firstOf (sortedPair m c).1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hr := run_main m ρ (word_one m h) (fun c t => chk_all _)
  refine (θ_run defs _ _).mono (fun r hp c => ?_) hr
  have hq := hp.1 c
  obtain ⟨t0, t1, t2⟩ := tail_reads (Pipeline.withArrays (cfgs 1).spec c (V0 m c) fun w => (dats m 1 c).arrAt w (cfgs 1).N)
  refine ⟨(hq.2 main_v21_0 (Pipeline.mem_restRefs_of _ (by decide) (by decide))).trans ?_, (hq.2 main_v21_1 (Pipeline.mem_restRefs_of _ (by decide) (by decide))).trans ?_,
    (hq.2 main_v23 (Pipeline.mem_restRefs_of _ (by decide) (by decide))).trans ?_, (hq.2 main_arg0 (Pipeline.mem_restRefs_of _ (by decide) (by decide))).trans (W_main_arg0 m (dats m) c),
    (hq.2 main_arg1 (Pipeline.mem_restRefs_of _ (by decide) (by decide))).trans (W_main_arg1 m (dats m) c), (hq.2 main_arg2 (Pipeline.mem_restRefs_of _ (by decide) (by decide))).trans (W_main_arg2 m (dats m) c)⟩
  · exact t0.trans (by rw [arr8])
  · exact t1.trans (by rw [arr7])
  · exact t2.trans (by rw [arr7])

end Cert.Proof.KernelIdeal
-- ==== Proof.KernelIdeal.Slots.lean ====
/-
  The lane each item is given within its class: the sort by class and index, the start of each class in the sorted
  order, and the distance from it.
-/
module

public import proofs.«01_k».proof.Proof.KernelIdeal.Frame
public import Idealize.ShloMosaic.Lib.Pointwise
public import Idealize.ShloMosaic.Lib.SortFacts
public import Idealize.ShloMosaic.Lib.Routing.OpsSet
public import Mathlib.Data.Fintype.Card
public import Mathlib.Data.Finset.Card
@[expose] public section
set_option maxRecDepth 16384
noncomputable section
namespace Cert.Proof.KernelIdeal
open Cert.KernelIdeal Cert.KernelIdeal.Gen
open Idealize.ShloMosaic Idealize.ShloMosaic.TcCoe Idealize.ShloMosaic.Tactic

/-- A small number as a word, read back signed. -/
theorem intOf (n : ℕ) (h : n < 2 ^ 31) : (BitVec.ofNat 32 n).toInt = (n : Int) := by
  rw [BitVec.toInt_eq_toNat_cond, BitVec.toNat_ofNat]
  split <;> omega

/-! ## The running maximum -/

theorem maxsi_spec (a b : BitVec 32) : (IntOp.maxsi a b = a ∨ IntOp.maxsi a b = b) ∧ a.toInt ≤ (IntOp.maxsi a b).toInt ∧ b.toInt ≤ (IntOp.maxsi a b).toInt := by
  unfold IntOp.maxsi
  have : b.slt a = decide (b.toInt < a.toInt) := rfl
  rw [this]
  by_cases h : b.toInt < a.toInt
  · rw [if_pos (decide_eq_true h)]; exact ⟨Or.inl rfl, le_refl _, h.le⟩
  · rw [if_neg (by simpa using h)]; exact ⟨Or.inr rfl, not_lt.1 h, le_refl _⟩

theorem fold_maxsi {ι : Type} (f : ι → BitVec 32) (l : List ι) (v : BitVec 32) :
    (l.foldl (fun r n => IntOp.maxsi r (f n)) v = v ∨ ∃ n ∈ l, l.foldl (fun r n => IntOp.maxsi r (f n)) v = f n)
    ∧ v.toInt ≤ (l.foldl (fun r n => IntOp.maxsi r (f n)) v).toInt ∧ ∀ n ∈ l, (f n).toInt ≤ (l.foldl (fun r n => IntOp.maxsi r (f n)) v).toInt := by
  induction l generalizing v with
  | nil => exact ⟨Or.inl rfl, le_refl _, fun n h => nomatch h⟩
  | cons x l ih =>
    obtain ⟨i1, i2, i3⟩ := ih (IntOp.maxsi v (f x))
    obtain ⟨m1, m2, m3⟩ := maxsi_spec v (f x)
    rw [List.foldl_cons]
    refine ⟨?_, m2.trans i2, fun n hn => ?_⟩
    · rcases i1 with h | ⟨n, hn, h⟩
      · rcases m1 with r | r
        · exact Or.inl (h.trans r)
        · exact Or.inr ⟨x, List.mem_cons_self, h.trans r⟩
      · exact Or.inr ⟨n, List.mem_cons_of_mem _ hn, h⟩
    · rcases List.mem_cons.1 hn with rfl | hn
      · exact m3.trans i2
      · exact i3 n hn

/-- The running maximum as the host takes it: a window of the whole length, padded low. -/
def runningMax (x : IVec S5000 32) : IVec S5000 32 :=
  Host.reduceWindow IntOp.maxsi ![5000] ![1] ![4999] ![0] x (broadcastInDim S_ ![] bcast_S_S_ (constantI S_ 32 2147483648#32)) reduceWindows_S5000_S5000_w5000s1p4999_0 h_S_

theorem runningMax_at (x : IVec S5000 32) (j : Fin 5000) :
    (∃ q : Fin 5000, q ≤ j ∧ runningMax x (ix1 j) = x (ix1 q)) ∧ ∀ q : Fin 5000, q ≤ j → (x (ix1 q)).toInt ≤ (runningMax x (ix1 j)).toInt := by
  have hval : ∀ n : Fin S5000.numel, (S5000.rowMajor.symm n 0).val = n.val := fun n => by
    rw [show S5000.rowMajor.symm n = ix1 (n.cast (Routing.numel1 5000)) from Routing.symm1 n]; rfl
  have hnum : S5000.numel = 5000 := Routing.numel1 5000
  let f : Fin S5000.numel → BitVec 32 := fun n => if h : 4999 ≤ j.val + n.val ∧ j.val + n.val - 4999 < 5000 then x (ix1 ⟨j.val + n.val - 4999, h.2⟩) else 2147483648#32
  have key : runningMax x (ix1 j) = (List.finRange S5000.numel).foldl (fun r n => IntOp.maxsi r (f n)) 2147483648#32 := by
    unfold runningMax Host.reduceWindow
    refine congrArg (fun g => List.foldl g (2147483648#32 : BitVec 32) (List.finRange S5000.numel)) (funext fun r => funext fun n => ?_)
    dsimp only [f]
    refine congrArg (IntOp.maxsi r) ?_
    have hv := hval n
    by_cases h : 4999 ≤ j.val + n.val ∧ j.val + n.val - 4999 < 5000
    · rw [dif_pos h, dif_pos (fun a => by
        match a with
        | ⟨0, _⟩ =>
          show 4999 ≤ j.val * 1 + (S5000.rowMajor.symm n 0).val ∧ j.val * 1 + (S5000.rowMajor.symm n 0).val - 4999 < 5000
          rw [hv]; omega)]
      refine congrArg x (funext fun a => Fin.ext ?_)
      match a with
      | ⟨0, _⟩ =>
        show j.val * 1 + (S5000.rowMajor.symm n 0).val - 4999 = j.val + n.val - 4999
        rw [hv, Nat.mul_one]
    · rw [dif_neg h, dif_neg]
      · rfl
      · intro hh
        have h0 : 4999 ≤ j.val * 1 + (S5000.rowMajor.symm n 0).val ∧ j.val * 1 + (S5000.rowMajor.symm n 0).val - 4999 < 5000 := hh 0
        rw [hv] at h0
        exact h (by omega)
  obtain ⟨h1, h2, h3⟩ := fold_maxsi f (List.finRange S5000.numel) 2147483648#32
  rw [← key] at h1 h2 h3
  have hge : ∀ q : Fin 5000, q ≤ j → (x (ix1 q)).toInt ≤ (runningMax x (ix1 j)).toInt := fun q hq => by
    have hq' : q.val ≤ j.val := hq
    have := h3 ⟨q.val + 4999 - j.val, by omega⟩ (List.mem_finRange _)
    have hf : f ⟨q.val + 4999 - j.val, by omega⟩ = x (ix1 q) := by
      dsimp only [f]
      rw [dif_pos ⟨by omega, by omega⟩]
      exact congrArg (fun k => x (ix1 k)) (Fin.ext (by show j.val + (q.val + 4999 - j.val) - 4999 = q.val; omega))
    rwa [hf] at this
  refine ⟨?_, hge⟩
  have hinit : runningMax x (ix1 j) = 2147483648#32 → ∃ q : Fin 5000, q ≤ j ∧ runningMax x (ix1 j) = x (ix1 q) := fun h => by
    refine ⟨j, le_refl _, BitVec.eq_of_toInt_eq (le_antisymm ?_ (hge j (le_refl _)))⟩
    rw [h]
    have := BitVec.le_toInt (x (ix1 j))
    exact le_trans (by decide) this
  rcases h1 with h | ⟨n, _, h⟩
  · exact hinit h
  · by_cases hc : 4999 ≤ j.val + n.val ∧ j.val + n.val - 4999 < 5000
    · refine ⟨⟨j.val + n.val - 4999, hc.2⟩, ?_, ?_⟩
      · have := n.isLt
        show j.val + n.val - 4999 ≤ j.val
        omega
      · rw [h]; dsimp only [f]; rw [dif_pos hc]
    · refine hinit ?_
      rw [h]; dsimp only [f]; rw [dif_neg hc]

/-! ## The sort by class and index -/

def classKey (idxs : IVec S5000 32) : IVec S5000 32 := addi (muli idxs (broadcastInDim S5000 ![] bcast_S_S5000 (constantI S_ 32 8192#32))) (iotaInDim S5000 32 0)

def keyNat (cls : Fin 5000 → Fin 80) (i : Fin 5000) : ℕ := (cls i).val * 8192 + i.val

variable {idxs : IVec S5000 32} {cls : Fin 5000 → Fin 80}

theorem keyNat_lt (i : Fin 5000) : keyNat cls i < 655360 := by
  have := (cls i).isLt
  unfold keyNat; omega

theorem classKey_at (h : ∀ i, idxs (ix1 i) = BitVec.ofNat 32 (cls i).val) (i : Fin 5000) : classKey idxs (ix1 i) = BitVec.ofNat 32 (keyNat cls i) := by
  pointwise [classKey]
  rw [h]
  show BitVec.ofNat 32 (cls i).val * 8192#32 + BitVec.ofNat 32 i.val = _
  unfold keyNat
  rw [BitVec.ofNat_add, BitVec.ofNat_mul]

theorem perm_of_sorted {n : ℕ} (R : Fin n → Fin n → Bool) : ∃ σ : Equiv.Perm (Fin n), ∀ p, σ p = sortedFrom R p :=
  ⟨Equiv.ofBijective (sortedFrom R) ⟨sortedFrom_injective R, sortedFrom_surjective R⟩, fun _ => rfl⟩

theorem sort_at (x : IVec S5000 32) (p : Fin 5000) : Host.sort S5000 0 comparator_i32_d0 x (ix1 p)
    = x (Shape.Idx.ofFin (sortedFrom (fun k k' => comparator_i32_d0 (x (Shape.Idx.ofFin k)) (x (Shape.Idx.ofFin k')) == 1#1) p)) := by
  have h := Host.sort_rank1 (n := 5000) comparator_i32_d0 x (ix1 p)
  generalize sortedFrom (fun k k' : Fin 5000 => comparator_i32_d0 (x (Shape.Idx.ofFin k)) (x (Shape.Idx.ofFin k')) == 1#1) = g at h ⊢
  exact h

theorem sorted_keys (h : ∀ i, idxs (ix1 i) = BitVec.ofNat 32 (cls i).val) : ∃ σ : Equiv.Perm (Fin 5000),
    (∀ p, Host.sort S5000 0 comparator_i32_d0 (classKey idxs) (ix1 p) = BitVec.ofNat 32 (keyNat cls (σ p))) ∧ ∀ p q, p < q → keyNat cls (σ p) < keyNat cls (σ q) := by
  have hof : ∀ k : Fin 5000, (Shape.Idx.ofFin k : S5000.Idx) = ix1 k := fun k => funext fun a => by match a with | ⟨0, _⟩ => rfl
  obtain ⟨R, hRd⟩ : ∃ R : Fin 5000 → Fin 5000 → Bool, R = fun k k' => comparator_i32_d0 (classKey idxs (Shape.Idx.ofFin k)) (classKey idxs (Shape.Idx.ofFin k')) == 1#1 := ⟨_, rfl⟩
  have hR : ∀ k k', R k k' = decide (keyNat cls k < keyNat cls k') := fun k k' => by
    have e : ∀ k : Fin 5000, classKey idxs (Shape.Idx.ofFin k) = BitVec.ofNat 32 (keyNat cls k) := fun k => by
      rw [← classKey_at h k]
      exact congrArg _ (funext fun a => by match a with | ⟨0, _⟩ => rfl)
    rw [hRd]
    show ((IntOp.cmpi .slt _ _ : BitVec 1) == 1#1) = _
    rw [e, e]
    show (BitVec.ofBool (decide ((BitVec.ofNat 32 (keyNat cls k)).toInt < (BitVec.ofNat 32 (keyNat cls k')).toInt)) == 1#1) = _
    have l1 := keyNat_lt (cls := cls) k
    have l2 := keyNat_lt (cls := cls) k'
    rw [intOf _ (by omega), intOf _ (by omega)]
    by_cases c : keyNat cls k < keyNat cls k'
    · simp [c]
    · simp [c]
  obtain ⟨σ, hσ⟩ := perm_of_sorted R
  refine ⟨σ, fun p => ?_, fun p q hpq => ?_⟩
  · rw [← classKey_at h]
    rw [hσ p, ← hof (sortedFrom R p)]
    rw [hRd]
    exact sort_at (classKey idxs) p
  · have hno := sortedFrom_noInversion R R (fun a b hab => by rw [hR] at hab ⊢; have := of_decide_eq_true hab; exact decide_eq_false (by omega)) (fun _ _ h => h)
      (fun a b c hab hbc => by rw [hR] at hab hbc ⊢; have := of_decide_eq_false hab; have := of_decide_eq_false hbc; exact decide_eq_false (by omega)) p q hpq
    rw [hR] at hno
    have hle := of_decide_eq_false hno
    have hne : σ p ≠ σ q := fun e => hpq.ne (σ.injective e)
    have hk : keyNat cls (σ p) ≠ keyNat cls (σ q) := fun e => hne (Fin.ext (by
      have a1 := (σ p).isLt; have a2 := (σ q).isLt
      unfold keyNat at e; omega))
    rw [← hσ, ← hσ] at hle
    exact lt_of_le_of_ne (not_lt.1 hle) hk

/-! ## The start of each class in the sorted order -/

/-- The first place, and each place whose class differs from that of the place before. -/
def Starts (c : ℕ → ℕ) (q : ℕ) : Prop := q = 0 ∨ c q ≠ c (q - 1)

/-- Between the last start at or before a place and that place the class is one. -/
theorem same_from_start {c : ℕ → ℕ} {s p : ℕ} (hno : ∀ q, s < q → q ≤ p → ¬ Starts c q) : ∀ q, s ≤ q → q ≤ p → c q = c s := by
  intro q hs hq
  induction q with
  | zero => have : s = 0 := by omega
            rw [this]
  | succ q ih =>
    by_cases e : s = q + 1
    · rw [e]
    · have h1 := ih (by omega) (by omega)
      have h2 := hno (q + 1) (by omega) hq
      unfold Starts at h2
      push Not at h2
      have := h2.2
      rw [Nat.add_sub_cancel] at this
      omega

/-- Two places of one class have one start. -/
theorem start_unique {c : ℕ → ℕ} {s s' p p' : ℕ} (hmono : ∀ a b, a ≤ b → b ≤ p' → c a ≤ c b) (hs : Starts c s) (hs' : Starts c s') (hsp : s ≤ p) (hsp' : s' ≤ p')
    (hno : ∀ q, s < q → q ≤ p → ¬ Starts c q) (hno' : ∀ q, s' < q → q ≤ p' → ¬ Starts c q) (hpp : p ≤ p') (hc : c p = c p') : s = s' := by
  have hle : s' ≤ p := by
    by_contra hlt
    rcases hs' with h | h
    · omega
    · have h1 := hmono p (s' - 1) (by omega) (by omega)
      have h2 := hmono (s' - 1) s' (by omega) hsp'
      have h3 := hmono s' p' hsp' (le_refl _)
      omega
  rcases lt_trichotomy s s' with h | h | h
  · exact absurd hs' (hno s' h hle)
  · exact h
  · exact absurd hs (hno' s h (by omega))

/-! ## The lanes as the host computes them -/

def everywhere (v : BitVec 32) : IVec S5000 32 := broadcastInDim S5000 ![] bcast_S_S5000 (constantI S_ 32 v)
def sortedKey (idxs : IVec S5000 32) : IVec S5000 32 := Host.sort S5000 0 comparator_i32_d0 (classKey idxs)
def sortedClass (idxs : IVec S5000 32) : IVec S5000 32 := Host.shrsi (sortedKey idxs) (everywhere 13#32)
def sortedItem (idxs : IVec S5000 32) : IVec S5000 32 := andi (sortedKey idxs) (everywhere 8191#32)
def opens (x : IVec S5000 32) : IVec S5000 1 :=
  concatenate S5000 0 [⟨S1, broadcastInDim S1 ![] bcast_S_S1 (constantI S_ 1 1#1)⟩, ⟨S4999, cmpi .ne (extractStridedSlice S4999 ![1] x slices_S5000_S4999_1) (extractStridedSlice S4999 ![0] x slices_S5000_S4999_0)⟩] concatenates_S1_S4999_S5000_d0
def marks (x : IVec S5000 32) : IVec S5000 32 := select (opens x) (iotaInDim S5000 32 0) (everywhere 0#32)
def places (x : IVec S5000 32) : IVec S5000 32 := minsi (subi (iotaInDim S5000 32 0) (runningMax (marks x))) (everywhere 127#32)
def wrapBy (n : BitVec 32) (x : IVec S5000 32) : IVec S5000 32 := select (cmpi .slt x (everywhere 0#32)) (addi x (everywhere n)) x
def laneWords (idxs : IVec S5000 32) : IVec S5000 32 :=
  Host.scatter scatter_S5000_S5000x1_S5000_n_0_0_1 (fun _ b => b) (everywhere 0#32) (broadcastInDim S5000x1 ![0] bcast_S5000_S5000x1_0 (wrapBy 5000#32 (sortedItem idxs))) (places (sortedClass idxs))

theorem wrapBy_at (n : BitVec 32) (x : IVec S5000 32) (i : Fin 5000) (k : ℕ) (hk : k < 2 ^ 31) (h : x (ix1 i) = BitVec.ofNat 32 k) : wrapBy n x (ix1 i) = BitVec.ofNat 32 k := by
  have hc : IntOp.cmpi .slt (BitVec.ofNat 32 k) 0#32 = 0#1 := by
    show BitVec.ofBool (decide ((BitVec.ofNat 32 k).toInt < (0#32 : BitVec 32).toInt)) = _
    rw [intOf k hk, decide_eq_false (by simp)]; rfl
  pointwise [wrapBy, everywhere]
  rw [h, hc]; rfl

variable {idxs : IVec S5000 32} {cls : Fin 5000 → Fin 80} {σ : Equiv.Perm (Fin 5000)}

theorem sortedClass_at (hσ : ∀ p, sortedKey idxs (ix1 p) = BitVec.ofNat 32 (keyNat cls (σ p))) (p : Fin 5000) : sortedClass idxs (ix1 p) = BitVec.ofNat 32 (cls (σ p)).val := by
  have hk := keyNat_lt (cls := cls) (σ p)
  pointwise [sortedClass, everywhere]
  rw [hσ]
  have h1 := (σ p).isLt
  unfold keyNat at hk ⊢
  unfold IntOp.shrsi
  rw [if_pos (by decide)]
  show (BitVec.ofNat 32 _).sshiftRight 13 = _
  rw [BitVec.sshiftRight_eq_of_msb_false (by rw [BitVec.msb_eq_decide, BitVec.toNat_ofNat]; exact decide_eq_false (by omega))]
  apply BitVec.eq_of_toNat_eq
  rw [BitVec.toNat_ushiftRight, BitVec.toNat_ofNat, BitVec.toNat_ofNat, Nat.shiftRight_eq_div_pow]
  have := (cls (σ p)).isLt
  omega

theorem sortedItem_at (hσ : ∀ p, sortedKey idxs (ix1 p) = BitVec.ofNat 32 (keyNat cls (σ p))) (p : Fin 5000) : sortedItem idxs (ix1 p) = BitVec.ofNat 32 (σ p).val := by
  have hk := keyNat_lt (cls := cls) (σ p)
  pointwise [sortedItem, everywhere]
  rw [hσ]
  have h1 := (σ p).isLt
  unfold keyNat at hk ⊢
  apply BitVec.eq_of_toNat_eq
  show (BitVec.ofNat 32 _ &&& 8191#32).toNat = _
  rw [BitVec.toNat_and, BitVec.toNat_ofNat, BitVec.toNat_ofNat, BitVec.toNat_ofNat, Nat.mod_eq_of_lt (by omega), show 8191 % 2 ^ 32 = 2 ^ 13 - 1 by norm_num, Nat.and_two_pow_sub_one_eq_mod]
  omega

theorem opens_at (x : IVec S5000 32) (c : ℕ → ℕ) (hc : ∀ q, c q < 80) (hx : ∀ q : Fin 5000, x (ix1 q) = BitVec.ofNat 32 (c q.val)) (q : Fin 5000) :
    opens x (ix1 q) = 1#1 ↔ Starts c q.val := by
  have he : opens x (ix1 q) = (if h : q.val < 1 then 1#1 else IntOp.cmpi CmpIPredicate.ne (x (ix1 ⟨1 + (q.val - 1), by omega⟩)) (x (ix1 ⟨q.val - 1, by omega⟩))) := by
    pointwise [opens]
  rw [he]
  unfold Starts
  by_cases h0 : q.val = 0
  · rw [dif_pos (by omega)]
    simp [h0]
  · rw [dif_neg (by omega), hx, hx]
    have e : 1 + (q.val - 1) = q.val := by omega
    dsimp only
    rw [e]
    have a1 := hc q.val
    have a2 := hc (q.val - 1)
    have hb : (BitVec.ofNat 32 (c q.val) != BitVec.ofNat 32 (c (q.val - 1))) = decide (c q.val ≠ c (q.val - 1)) := by
      by_cases hh : c q.val = c (q.val - 1)
      · simp [hh]
      · have : BitVec.ofNat 32 (c q.val) ≠ BitVec.ofNat 32 (c (q.val - 1)) := fun e => hh (by
          have := congrArg BitVec.toInt e
          rw [intOf _ (by omega), intOf _ (by omega)] at this
          omega)
        rw [decide_eq_true hh]; simpa using this
    show BitVec.ofBool (BitVec.ofNat 32 (c q.val) != BitVec.ofNat 32 (c (q.val - 1))) = 1#1 ↔ _
    rw [hb]
    by_cases hh : c q.val = c (q.val - 1) <;> simp [hh, h0]

end Cert.Proof.KernelIdeal
-- ==== Proof.KernelIdeal.Counts.lean ====
/-
  The class counts: each is how many items have the class, and none exceeds the largest.
-/
module

public import proofs.«01_k».proof.Proof.KernelIdeal.Slots
public import Idealize.ShloMosaic.Lib.Routing.OpsPair

@[expose] public section
set_option maxRecDepth 16384
noncomputable section
namespace Cert.Proof.KernelIdeal

open Cert.KernelIdeal Cert.KernelIdeal.Gen
open Idealize.ShloMosaic Idealize.ShloMosaic.TcCoe Idealize.ShloMosaic.Tactic
open Idealize.ShloMosaic.Routing

/-- Where an update of a vector lands: at the entry its one word names. -/
theorem lands_entry {M N w : ℕ} (d : ScatterDims (shape1 M) (shape2 N 1) (shape1 N)) (hiw : d.insertedWindowDims = [0])
    (hsd : d.scatterDimsToOperandDims = [0]) (hivd : d.indexVectorDim = 1) (idx : IVec (shape2 N 1) w) (i : Fin N) (x : Fin M) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hstart : d.start (ix1 i) idx 0 = (idx (ix2 i (0 : Fin 1))).toInt := by
    unfold ScatterDims.start
    rw [dif_pos hm]
    refine congrArg (fun j => (idx j).toInt) (funext fun b => Fin.ext ?_)
    match b with
    | ⟨0, _⟩ =>
      unfold ScatterDims.siIdx
      rw [dif_neg (by rw [hivd]; exact (by decide : (0 : ℕ) ≠ 1))]
      unfold ScatterDims.siCoord
      simp only [Fin.val_cast]
      exact congrArg (fun t => ((ix1 i : (shape1 N).Idx) t).val) (Subsingleton.elim (α := Fin 1) _ 0)
    | ⟨1, h1⟩ =>
      exact congrArg Fin.val (Subsingleton.elim (α := Fin 1) (d.siIdx (ix1 i) ⟨d.scatterDimsToOperandDims.idxOf 0, List.idxOf_lt_length_iff.2 hm⟩ ⟨1, h1⟩) (0 : Fin 1))
  rw [resultIdx?_eq_some]
  constructor
  · intro h
    have h0 := h 0
    rw [hstart, hwin] at h0
    have e0 : (((ix1 x : (shape1 M).Idx) 0).val : Int) = x.val := rfl
    rw [e0] at h0
    simpa using h0
  · intro h q
    match q with
    | ⟨0, _⟩ => show d.start (ix1 i) idx 0 + (d.window (ix1 i) 0 : Int) = x.val; rw [hstart, hwin, h]; simp

theorem fold_count {ι : Type} (hit : ι → Prop) [DecidablePred hit] (l : List ι) (z : ℕ) :
    l.foldl (fun a n => if hit n then IntOp.addi a 1#32 else a) (BitVec.ofNat 32 z) = BitVec.ofNat 32 (z + l.countP fun n => decide (hit n)) := by
  induction l generalizing z with
  | nil => rfl
  | cons n l ih =>
    rw [List.foldl_cons, List.countP_cons]
    by_cases h : hit n
    · rw [if_pos h, show IntOp.addi (BitVec.ofNat 32 z) 1#32 = BitVec.ofNat 32 (z + 1) from (BitVec.ofNat_add z 1).symm, ih]
      congr 1; simp [h]; omega
    · rw [if_neg h, ih]
      congr 1; simp [h]

theorem countP_finRange {n : ℕ} (P : Fin n → Prop) [DecidablePred P] : (List.finRange n).countP (fun i => decide (P i)) = (Finset.univ.filter P).card := by
  rw [List.countP_eq_length_filter]
  rfl

/-- Ones added up at the entries the words name: each entry counts its words. -/
theorem scatter_counts {M N w : ℕ} (d : ScatterDims (shape1 M) (shape2 N 1) (shape1 N)) (hiw : d.insertedWindowDims = [0])
    (hsd : d.scatterDimsToOperandDims = [0]) (hivd : d.indexVectorDim = 1) (x0 : IVec (shape1 M) 32) (idx : IVec (shape2 N 1) w) (upd : IVec (shape1 N) 32) (x : Fin M)
    (h0 : x0 (ix1 x) = 0#32) (h1 : ∀ i, upd i = 1#32) (hit : Fin N → Prop) [DecidablePred hit] (hidx : ∀ i, (idx (ix2 i (0 : Fin 1))).toInt = (x.val : Int) ↔ hit i) :
    Host.scatter d IntOp.addi x0 idx upd (ix1 x) = BitVec.ofNat 32 (Finset.univ.filter hit).card := by
  rw [scatter_at]
  have hstep : (fun (a : BitVec 32) (n : Fin (shape1 N).numel) => if d.resultIdx? ((shape1 N).rowMajor.symm n) idx = some (ix1 x)
        then IntOp.addi a (upd ((shape1 N).rowMajor.symm n)) else a) = fun a n => if hit (n.cast (numel1 N)) then IntOp.addi a 1#32 else a := by
    funext a n
    rw [h1, symm1]
    exact if_congr ((lands_entry d hiw hsd hivd idx (n.cast (numel1 N)) x).trans (hidx _)) rfl rfl
  rw [hstep, h0]
  refine (fold_count (fun n : Fin (shape1 N).numel => hit (n.cast (numel1 N))) _ 0).trans ?_
  rw [Nat.zero_add, countP_finRange]
  congr 1
  refine Finset.card_nbij' (fun n => n.cast (numel1 N)) (fun i => i.cast (numel1 N).symm) ?_ ?_ ?_ ?_
  · intro n hn; simpa using hn
  · intro n hn; simpa using hn
  · intro n _; rfl
  · intro n _; rfl

variable {idxs : IVec S5000 32} {cls : Fin 5000 → Fin 80}

theorem countedClass_at (h : ∀ i, idxs (ix1 i) = BitVec.ofNat 32 (cls i).val) (i : Fin 5000) : countedClass idxs (ix1 i) = BitVec.ofNat 32 (cls i).val := by
  have hlt := (cls i).isLt
  have hm : (maxsi (broadcastInDim S5000 ![] bcast_S_S5000 (id (constantI S_ 32 0#32))) idxs : IVec S5000 32) (ix1 i) = BitVec.ofNat 32 (cls i).val := by
    have e : (maxsi (broadcastInDim S5000 ![] bcast_S_S5000 (id (constantI S_ 32 0#32))) idxs : IVec S5000 32) (ix1 i) = IntOp.maxsi 0#32 (idxs (ix1 i)) := rfl
    rw [e, h]
    obtain ⟨h1, h2, h3⟩ := maxsi_spec 0#32 (BitVec.ofNat 32 (cls i).val)
    rcases h1 with q | q
    · rw [q] at h3 ⊢
      rw [intOf _ (by omega)] at h3
      have : (cls i).val = 0 := by
        have : (0#32 : BitVec 32).toInt = 0 := by decide
        omega
      rw [this]
    · exact q
  exact wrapBy_at 80#32 _ i (cls i).val (by omega) hm

theorem classCounts_at (h : ∀ i, idxs (ix1 i) = BitVec.ofNat 32 (cls i).val) (r : Fin 80) : classCounts idxs (ix1 r) = BitVec.ofNat 32 (Finset.univ.filter fun i => cls i = r).card := by
  have hidx : ∀ i : Fin 5000, ((broadcastInDim S5000x1 ![0] bcast_S5000_S5000x1_0 (countedClass idxs) : IVec S5000x1 32) (ix2 i (0 : Fin 1))).toInt = (r.val : Int) ↔ cls i = r := by
    intro i
    have hlt := (cls i).isLt
    have e : (broadcastInDim S5000x1 ![0] bcast_S5000_S5000x1_0 (countedClass idxs) : IVec S5000x1 32) (ix2 i (0 : Fin 1)) = countedClass idxs (ix1 i) := by pointwise []
    rw [e, countedClass_at h, intOf _ (by omega)]
    exact ⟨fun q => Fin.ext (by omega), fun q => by rw [q]⟩
  exact scatter_counts scatter_S80_S5000x1_S5000_n_0_0_1 rfl rfl rfl _ _ _ r rfl (fun _ => rfl) (fun i => cls i = r) hidx

/-- No class has more items than the largest count says. -/
theorem card_le_largest (h : ∀ i, idxs (ix1 i) = BitVec.ofNat 32 (cls i).val) (r : Fin 80) (j : S_.Idx) : ((Finset.univ.filter fun i => cls i = r).card : Int) ≤ (largest idxs j).toInt := by
  have hc := classCounts_at h r
  have hlt : (Finset.univ.filter fun i => cls i = r).card ≤ 5000 := by
    have := Finset.card_le_univ (Finset.univ.filter fun i => cls i = r)
    rwa [Fintype.card_fin] at this
  have hmem : S80.rowMajor (ix1 r) ∈ (List.finRange S80.numel).filter fun n => decide (reducesTo_S80_S_d0.drop (S80.rowMajor.symm n) = j) := by
    rw [List.mem_filter]
    exact ⟨List.mem_finRange _, decide_eq_true (funext fun a => a.elim0)⟩
  have := (fold_maxsi (fun n => classCounts idxs (S80.rowMajor.symm n)) _ 2147483648#32).2.2 _ hmem
  rw [Equiv.symm_apply_apply, hc, intOf _ (by omega)] at this
  exact this

end Cert.Proof.KernelIdeal
-- ==== Proof.KernelIdeal.Valid.lean ====
/-
  What the condition on the arguments says of them, entry by entry.
-/
module

public import proofs.«01_k».proof.Proof.KernelIdeal.Counts
public import proofs.«01_k».proof.Proof.Gen.Pre_valid
public import Idealize.ShloMosaic.Lib.ReduceAll
public import Idealize.ShloMosaic.Lib.Affine

@[expose] public section
set_option maxRecDepth 16384
noncomputable section
namespace Cert.Proof.KernelIdeal

open Cert.KernelIdeal Cert.KernelIdeal.Gen
open Idealize.ShloMosaic Idealize.ShloMosaic.TcCoe Idealize.ShloMosaic.Tactic

theorem ofBits_zero : Ideal.ofBits FTy.f32 0#32 = (0 : EReal) := by simp [Ideal.ofBits, Ideal.ieee]

theorem of_ofBool {P : Prop} [Decidable P] (h : BitVec.ofBool (decide P) = 1#1) : P := by
  by_contra hn
  rw [decide_eq_false hn] at h
  exact absurd h (by decide)

/-- A word from 0 on and below 80 is a class. -/
theorem class_of_word (x : BitVec 32) (h1 : IntOp.cmpi .sge x 0#32 = 1#1) (h2 : IntOp.cmpi .slt x 80#32 = 1#1) : ∃ k : Fin 80, x = BitVec.ofNat 32 k.val := by
  have a1 : (0#32 : BitVec 32).toInt ≤ x.toInt := of_ofBool h1
  have a2 : x.toInt < (80#32 : BitVec 32).toInt := of_ofBool h2
  have e1 : (0#32 : BitVec 32).toInt = 0 := by decide
  have e2 : (80#32 : BitVec 32).toInt = 80 := by decide
  rw [e1] at a1; rw [e2] at a2
  refine ⟨⟨x.toInt.toNat, by omega⟩, BitVec.eq_of_toInt_eq ?_⟩
  rw [intOf _ (by show x.toInt.toNat < 2 ^ 31; omega)]
  show x.toInt = (x.toInt.toNat : Int)
  omega

theorem sle_of (a b : BitVec 32) (h : IntOp.cmpi .sle a b = 1#1) : a.toInt ≤ b.toInt := of_ofBool h

instance : Subsingleton S_.Idx := ⟨fun a b => funext fun k => k.elim0⟩

/-- The arguments the condition admits. -/
structure Valid (b : FVec Ideal S5000x4 .f32) (s : FVec Ideal S5000 .f32) (n : IVec S5000 32) : Prop where
  cls : ∀ i : Fin 5000, ∃ k : Fin 80, n (ix1 i) = BitVec.ofNat 32 k.val
  score : ∀ i : Fin 5000, (0 : EReal) ≤ s (ix1 i)
  low : ∀ (i : Fin 5000), (0 : EReal) ≤ b (ix2 i 0) ∧ (0 : EReal) ≤ b (ix2 i 1)

theorem fits_iff (b : FVec Ideal S5000x4 .f32) (s : FVec Ideal S5000 .f32) (n : IVec S5000 32) (h1 : cmpi .sle (largest n) (constantI S_ 32 128#32) HostLoop.idx0 = 1#1) :
    Cert.Pre_fits.fn (F := Ideal) b s n = fun _ => 1#1 := by
  have e2 : Cert.Pre_fits.fn (F := Ideal) b s n = cmpi .sle (largest n) (constantI S_ 32 128#32) := rfl
  rw [e2]
  funext j
  rw [Subsingleton.elim j HostLoop.idx0]
  exact h1

theorem few_of (b : FVec Ideal S5000x4 .f32) (s : FVec Ideal S5000 .f32) (n : IVec S5000 32) (h : Cert.Pre_fits.fn (F := Ideal) b s n = fun _ => 1#1) : (largest n HostLoop.idx0).toInt ≤ 128 := by
  have e2 : Cert.Pre_fits.fn (F := Ideal) b s n = cmpi .sle (largest n) (constantI S_ 32 128#32) := rfl
  rw [e2] at h
  have := sle_of (largest n HostLoop.idx0) 128#32 (congrFun h HostLoop.idx0)
  have e3 : (128#32 : BitVec 32).toInt = 128 := by decide
  rw [← e3]; exact this

theorem valid_of (b : FVec Ideal S5000x4 .f32) (s : FVec Ideal S5000 .f32) (n : IVec S5000 32) (h : Cert.Pre_valid.fn (F := Ideal) b s n = fun _ => 1#1) : Valid b s n := by
  have h0 := congrFun h HostLoop.idx0
  have e : Cert.Pre_valid.fn (F := Ideal) b s n HostLoop.idx0 = IntOp.andi (IntOp.andi (IntOp.andi
      (Host.reduce IntOp.andi (cmpi .sge n (broadcastInDim S5000 ![] bcast_S_S5000 (constantI S_ 32 0#32))) (constantI S_ 1 1#1) Cert.Pre_valid.Facts.reducesTo_S5000_S_d0 Cert.Pre_valid.Facts.h_S_ HostLoop.idx0)
      (Host.reduce IntOp.andi (cmpi .slt n (broadcastInDim S5000 ![] bcast_S_S5000 (constantI S_ 32 80#32))) (constantI S_ 1 1#1) Cert.Pre_valid.Facts.reducesTo_S5000_S_d0 Cert.Pre_valid.Facts.h_S_ HostLoop.idx0))
      (Host.reduce IntOp.andi (cmpf .oge s (broadcastInDim S5000 ![] bcast_S_S5000 (constant S_ .f32 0x00000000#32))) (constantI S_ 1 1#1) Cert.Pre_valid.Facts.reducesTo_S5000_S_d0 Cert.Pre_valid.Facts.h_S_ HostLoop.idx0))
      (Host.reduce IntOp.andi (cmpf .oge (extractStridedSlice Cert.Pre_valid.S5000x2 ![0, 0] b Cert.Pre_valid.Facts.slices_S5000x4_S5000x2_0_0) (broadcastInDim Cert.Pre_valid.S5000x2 ![] Cert.Pre_valid.Facts.bcast_S_S5000x2 (constant S_ .f32 0x00000000#32))) (constantI S_ 1 1#1) Cert.Pre_valid.Facts.reducesTo_S5000x2_S_d0_1 Cert.Pre_valid.Facts.h_S_ HostLoop.idx0) := rfl
  rw [e] at h0
  obtain ⟨h0, h5⟩ := IntOp.andi_eq_one.1 h0
  obtain ⟨h0, h4⟩ := IntOp.andi_eq_one.1 h0
  obtain ⟨h2, h3⟩ := IntOp.andi_eq_one.1 h0
  have g2 := Host.reduce_andi_all (t := S_) _ _ _ _ _ h2
  have g3 := Host.reduce_andi_all (t := S_) _ _ _ _ _ h3
  have g4 := Host.reduce_andi_all (t := S_) _ _ _ _ _ h4
  have g5 := Host.reduce_andi_all (t := S_) _ _ _ _ _ h5
  have l0 : ∀ (i : Fin 5000) (k : Fin 2), (extractStridedSlice Cert.Pre_valid.S5000x2 ![0, 0] b Cert.Pre_valid.Facts.slices_S5000x4_S5000x2_0_0) (ix2 i k) = b (ix2 i ⟨k.val, by omega⟩) := by
    intro i k; pointwise []
  have z : (FloatOps.ofBits .f32 0x00000000#32 : Ideal .f32) = (0 : EReal) := ofBits_zero
  have k5 : ∀ (i : Fin 5000) (k : Fin 2), (0 : EReal) ≤ b (ix2 i ⟨k.val, by omega⟩) := fun i k => by
    have := of_ofBool (g5 (ix2 i k))
    rw [l0] at this
    rw [← z]; exact this
  refine ⟨?_, ?_, fun i => ⟨k5 i 0, k5 i 1⟩⟩
  · intro i
    exact class_of_word _ (g2 (ix1 i)) (g3 (ix1 i))
  · intro i
    have := of_ofBool (g4 (ix1 i))
    rw [← z]; exact this

end Cert.Proof.KernelIdeal
-- ==== Proof.KernelIdeal.Reads.lean ====
/-
  The host lines of the branch before the pipeline, read off segment by segment.
-/
module

public import proofs.«01_k».proof.Proof.KernelIdeal.Slots
public import Idealize.ShloMosaic.Lib.StableHlo.RunLoop
@[expose] public section
set_option maxRecDepth 16384
noncomputable section
namespace Cert.Proof.KernelIdeal
open Cert.KernelIdeal Cert.KernelIdeal.Gen
open Idealize.ShloMosaic Idealize.ShloMosaic.TcCoe Idealize.ShloMosaic.Tactic
variable {F : FTy → Type} [FloatOps F] (W : Valuation τ sig (Elt F))

theorem keys33 : StableHlo.upto armKeys W 17 (Proc.devRef .tc main_case0b1_v33) = broadcastInDim S1 ![] bcast_S_S1 (constantI S_ 1 1#1) := by
  after_reads_simp

theorem keys36 : StableHlo.upto armKeys W 17 (Proc.devRef .tc main_case0b1_v36) =
    cmpi .ne (extractStridedSlice S4999 ![1] (sortedClass (W (Proc.devRef .tc main_arg2))) slices_S5000_S4999_1) (extractStridedSlice S4999 ![0] (sortedClass (W (Proc.devRef .tc main_arg2))) slices_S5000_S4999_0) := by
  after_reads_simp
  rfl

theorem keys37 : StableHlo.after armKeys W (Proc.devRef .tc main_case0b1_v37) = opens (sortedClass (W (Proc.devRef .tc main_arg2))) := by
  after_reads_simp
  rw [keys33, keys36]
  rfl

theorem keys24 : StableHlo.after armKeys W (Proc.devRef .tc main_case0b1_v24) = (iotaInDim S5000 32 0 : IVec S5000 32) := by
  after_reads_simp

theorem keys32 : StableHlo.after armKeys W (Proc.devRef .tc main_case0b1_v32) = sortedItem (W (Proc.devRef .tc main_arg2)) := by
  after_reads_simp; rfl

theorem keys13 : StableHlo.after armKeys W (Proc.devRef .tc main_case0b1_c_13) = (constantI S_ 32 0#32 : IVec S_ 32) := by
  after_reads_simp

theorem keysKeep : StableHlo.after armKeys W (Proc.devRef .tc main_v7) = W (Proc.devRef .tc main_v7) ∧ StableHlo.after armKeys W (Proc.devRef .tc main_arg1) = W (Proc.devRef .tc main_arg1)
    ∧ StableHlo.after armKeys W (Proc.devRef .tc main_arg2) = W (Proc.devRef .tc main_arg2) ∧ StableHlo.after armKeys W (Proc.devRef .tc main_cst) = W (Proc.devRef .tc main_cst) := by
  refine ⟨?_, ?_, ?_, ?_⟩ <;> after_reads_simp

theorem where38 : StableHlo.after armWhere W (Proc.devRef .tc main_case0b1_v38) = select (W (Proc.devRef .tc main_case0b1_v37)) (W (Proc.devRef .tc main_case0b1_v24)) (broadcastInDim S5000 ![] bcast_S_S5000 (W (Proc.devRef .tc main_case0b1_c_13) : IVec S_ 32)) := by
  after_reads_simp; rfl

theorem whereKeep : StableHlo.after armWhere W (Proc.devRef .tc main_v7) = W (Proc.devRef .tc main_v7) ∧ StableHlo.after armWhere W (Proc.devRef .tc main_arg1) = W (Proc.devRef .tc main_arg1)
    ∧ StableHlo.after armWhere W (Proc.devRef .tc main_arg2) = W (Proc.devRef .tc main_arg2) ∧ StableHlo.after armWhere W (Proc.devRef .tc main_cst) = W (Proc.devRef .tc main_cst)
    ∧ StableHlo.after armWhere W (Proc.devRef .tc main_case0b1_v24) = W (Proc.devRef .tc main_case0b1_v24) ∧ StableHlo.after armWhere W (Proc.devRef .tc main_case0b1_v32) = W (Proc.devRef .tc main_case0b1_v32) := by
  refine ⟨?_, ?_, ?_, ?_, ?_, ?_⟩ <;> after_reads_simp

theorem max39 : StableHlo.after armMax W (Proc.devRef .tc main_case0b1_v39) = runningMax (W (Proc.devRef .tc main_case0b1_v38)) := by

  after_reads_simp
  unfold runningMax
  simp only [StableHlo.TRef.ofBuf_toBuf]
  simp only [StableHlo.TRef.toBuf, StableHlo.TRef.ofBuf, cast_eq]

theorem maxKeep : StableHlo.after armMax W (Proc.devRef .tc main_v7) = W (Proc.devRef .tc main_v7) ∧ StableHlo.after armMax W (Proc.devRef .tc main_arg1) = W (Proc.devRef .tc main_arg1)
    ∧ StableHlo.after armMax W (Proc.devRef .tc main_arg2) = W (Proc.devRef .tc main_arg2) ∧ StableHlo.after armMax W (Proc.devRef .tc main_cst) = W (Proc.devRef .tc main_cst)
    ∧ StableHlo.after armMax W (Proc.devRef .tc main_case0b1_v24) = W (Proc.devRef .tc main_case0b1_v24) ∧ StableHlo.after armMax W (Proc.devRef .tc main_case0b1_v32) = W (Proc.devRef .tc main_case0b1_v32) := by
  refine ⟨?_, ?_, ?_, ?_, ?_, ?_⟩ <;> after_reads_simp

theorem rows50 : StableHlo.after armRows W (Proc.devRef .tc main_case0b1_v50) =
    Host.scatter scatter_S5000_S5000x1_S5000_n_0_0_1 (fun _ b => b) (everywhere 0#32) (broadcastInDim S5000x1 ![0] bcast_S5000_S5000x1_0 (wrapBy 5000#32 (W (Proc.devRef .tc main_case0b1_v32))))
      (minsi (subi (W (Proc.devRef .tc main_case0b1_v24)) (W (Proc.devRef .tc main_case0b1_v39))) (everywhere 127#32)) := by
  after_reads_simp; rfl

theorem rowsKeep : StableHlo.after armRows W (Proc.devRef .tc main_arg2) = W (Proc.devRef .tc main_arg2) ∧ StableHlo.after armRows W (Proc.devRef .tc main_cst) = W (Proc.devRef .tc main_cst) := by
  refine ⟨?_, ?_⟩ <;> after_reads_simp

/-- One column of the shifted boxes, as a column. -/
def column (k : ℕ) (h : S5000x4.Slices ![0, k] S5000x1) (o : FVec F S5000x4 .f32) : FVec F S5000x1 .f32 :=
  broadcastInDim S5000x1 ![0] bcast_S5000_S5000x1_0 (shapeCast S5000 (extractStridedSlice S5000x1 ![0, k] o h) shapeCasts_S5000x1_S5000)

/-- The six numbers of each item. -/
def itemRows (o : FVec F S5000x4 .f32) (s : FVec F S5000 .f32) (n : IVec S5000 32) : FVec F S5000x6 .f32 :=
  concatenate S5000x6 1 [⟨S5000x1, column 0 slices_S5000x4_S5000x1_0_0 o⟩, ⟨S5000x1, column 1 slices_S5000x4_S5000x1_0_1 o⟩, ⟨S5000x1, column 2 slices_S5000x4_S5000x1_0_2 o⟩, ⟨S5000x1, column 3 slices_S5000x4_S5000x1_0_3 o⟩,
    ⟨S5000x1, broadcastInDim S5000x1 ![0] bcast_S5000_S5000x1_0 s⟩, ⟨S5000x1, broadcastInDim S5000x1 ![0] bcast_S5000_S5000x1_0 (sitofp .f32 n)⟩] concatenates_S5000x1_S5000x1_S5000x1_S5000x1_S5000x1_S5000x1_S5000x6_d1

theorem rows60 : StableHlo.upto armRows W 30 (Proc.devRef .tc main_case0b1_v60) = column 0 slices_S5000x4_S5000x1_0_0 (W (Proc.devRef .tc main_v7)) := by after_reads_simp; rfl
theorem rows61 : StableHlo.upto armRows W 30 (Proc.devRef .tc main_case0b1_v61) = column 1 slices_S5000x4_S5000x1_0_1 (W (Proc.devRef .tc main_v7)) := by after_reads_simp; rfl
theorem rows62 : StableHlo.upto armRows W 30 (Proc.devRef .tc main_case0b1_v62) = column 2 slices_S5000x4_S5000x1_0_2 (W (Proc.devRef .tc main_v7)) := by after_reads_simp; rfl
theorem rows63 : StableHlo.upto armRows W 30 (Proc.devRef .tc main_case0b1_v63) = column 3 slices_S5000x4_S5000x1_0_3 (W (Proc.devRef .tc main_v7)) := by after_reads_simp; rfl
theorem rows64 : StableHlo.upto armRows W 30 (Proc.devRef .tc main_case0b1_v64) = (broadcastInDim S5000x1 ![0] bcast_S5000_S5000x1_0 (W (Proc.devRef .tc main_arg1)) : FVec F S5000x1 .f32) := by after_reads_simp
theorem rows65 : StableHlo.upto armRows W 30 (Proc.devRef .tc main_case0b1_v65) = (broadcastInDim S5000x1 ![0] bcast_S5000_S5000x1_0 (sitofp .f32 (W (Proc.devRef .tc main_case0b1_v24) : IVec S5000 32)) : FVec F S5000x1 .f32) := by after_reads_simp

theorem rows66 : StableHlo.after armRows W (Proc.devRef .tc main_case0b1_v66) = itemRows (W (Proc.devRef .tc main_v7)) (W (Proc.devRef .tc main_arg1)) (W (Proc.devRef .tc main_case0b1_v24)) := by
  after_reads_simp
  show concatenate S5000x6 1 [⟨S5000x1, StableHlo.upto armRows W 30 (Proc.devRef .tc main_case0b1_v60)⟩, ⟨S5000x1, StableHlo.upto armRows W 30 (Proc.devRef .tc main_case0b1_v61)⟩, ⟨S5000x1, StableHlo.upto armRows W 30 (Proc.devRef .tc main_case0b1_v62)⟩, ⟨S5000x1, StableHlo.upto armRows W 30 (Proc.devRef .tc main_case0b1_v63)⟩,
    ⟨S5000x1, StableHlo.upto armRows W 30 (Proc.devRef .tc main_case0b1_v64)⟩, ⟨S5000x1, StableHlo.upto armRows W 30 (Proc.devRef .tc main_case0b1_v65)⟩] _ = _
  rw [rows60, rows61, rows62, rows63, rows64, rows65]
  rfl

/-! ## The grids -/

/-- The row and lane each item goes to, in pairs. -/
def targets (idxs lanes : IVec S5000 32) : IVec S5000x2 32 :=
  concatenate S5000x2 1 [⟨S5000x1, broadcastInDim S5000x1 ![0] bcast_S5000_S5000x1_0 (wrapBy 80#32 idxs)⟩, ⟨S5000x1, broadcastInDim S5000x1 ![0] bcast_S5000_S5000x1_0 (wrapBy 128#32 lanes)⟩] concatenates_S5000x1_S5000x1_S5000x2_d1

def gridStack (fill : FVec F S6 .f32) (idxs lanes : IVec S5000 32) (rows : FVec F S5000x6 .f32) : FVec F S6x80x128 .f32 :=
  transpose S6x80x128 [2, 0, 1] (Host.scatter scatter_S80x128x6_S5000x2_S5000x6_1_01_01_1 (fun _ b => b) (broadcastInDim S80x128x6 ![2] bcast_S6_S80x128x6_2 fill) (targets idxs lanes) rows) transposes_S80x128x6_S6x80x128_2_0_1

theorem grids78 : StableHlo.upto armGrids W 17 (Proc.devRef .tc main_case0b1_v78) = broadcastInDim S5000x1 ![0] bcast_S5000_S5000x1_0 (wrapBy 80#32 (W (Proc.devRef .tc main_arg2))) := by after_reads_simp; rfl
theorem grids79 : StableHlo.upto armGrids W 17 (Proc.devRef .tc main_case0b1_v79) = broadcastInDim S5000x1 ![0] bcast_S5000_S5000x1_0 (wrapBy 128#32 (W (Proc.devRef .tc main_case0b1_v50))) := by after_reads_simp; rfl

theorem grids82 : StableHlo.after armGrids W (Proc.devRef .tc main_case0b1_v82) = gridStack (W (Proc.devRef .tc main_cst)) (W (Proc.devRef .tc main_arg2)) (W (Proc.devRef .tc main_case0b1_v50)) (W (Proc.devRef .tc main_case0b1_v66)) := by
  after_reads_simp
  rw [grids78, grids79]
  rfl

/-- One of the six grids. -/
def layer (k : ℕ) (h : S6x80x128.Slices ![k, 0, 0] S1x80x128) (x : FVec F S6x80x128 .f32) : FVec F S80x128 .f32 :=
  shapeCast S80x128 (extractStridedSlice S1x80x128 ![k, 0, 0] x h) shapeCasts_S1x80x128_S80x128

theorem grids84 : StableHlo.after armGrids W (Proc.devRef .tc main_case0b1_v84) = layer 0 slices_S6x80x128_S1x80x128_0_0_0 (StableHlo.after armGrids W (Proc.devRef .tc main_case0b1_v82)) := by after_reads_simp; rfl
theorem grids86 : StableHlo.after armGrids W (Proc.devRef .tc main_case0b1_v86) = layer 1 slices_S6x80x128_S1x80x128_1_0_0 (StableHlo.after armGrids W (Proc.devRef .tc main_case0b1_v82)) := by after_reads_simp; rfl
theorem grids88 : StableHlo.after armGrids W (Proc.devRef .tc main_case0b1_v88) = layer 2 slices_S6x80x128_S1x80x128_2_0_0 (StableHlo.after armGrids W (Proc.devRef .tc main_case0b1_v82)) := by after_reads_simp; rfl
theorem grids90 : StableHlo.after armGrids W (Proc.devRef .tc main_case0b1_v90) = layer 3 slices_S6x80x128_S1x80x128_3_0_0 (StableHlo.after armGrids W (Proc.devRef .tc main_case0b1_v82)) := by after_reads_simp; rfl
theorem grids92 : StableHlo.after armGrids W (Proc.devRef .tc main_case0b1_v92) = layer 4 slices_S6x80x128_S1x80x128_4_0_0 (StableHlo.after armGrids W (Proc.devRef .tc main_case0b1_v82)) := by after_reads_simp; rfl
theorem grids94 : StableHlo.after armGrids W (Proc.devRef .tc main_case0b1_v94) = layer 5 slices_S6x80x128_S1x80x128_5_0_0 (StableHlo.after armGrids W (Proc.devRef .tc main_case0b1_v82)) := by after_reads_simp; rfl

/-! ## The lines before the branch -/

/-- The boxes, each moved by its class. -/
def shifted (boxes : FVec F S5000x4 .f32) (idxs : IVec S5000 32) : FVec F S5000x4 .f32 :=
  addf boxes (broadcastInDim S5000x4 ![0, 1] bcast_S5000x1_S5000x4_0_1 (broadcastInDim S5000x1 ![0] bcast_S5000_S5000x1_0
    (mulf (sitofp .f32 idxs) (broadcastInDim S5000 ![] bcast_S_S5000 (addf (Host.reduce FloatOps.maximumf boxes (constant S_ .f32 0xFF800000#32) reducesTo_S5000x4_S_d0_1 h_S_) (constant S_ .f32 0x3F800000#32))))))

/-- What a place without an item holds. -/
def filling : FVec F S6 .f32 := fun i => FloatOps.ofBits .f32 (lit0 (S6.rowMajor i))

/-- The buffers when the branch begins. -/
def atBranch (W : Valuation τ sig (Elt F)) : Valuation τ sig (Elt F) := StableHlo.after (hostOps0 ++ (hostOps0_1 ++ (hostOps0_2 ++ readOps))) W

theorem branchKeep : atBranch W (Proc.devRef .tc main_arg1) = W (Proc.devRef .tc main_arg1) ∧ atBranch W (Proc.devRef .tc main_arg2) = W (Proc.devRef .tc main_arg2)
    ∧ atBranch W (Proc.devRef .tc main_cst) = (filling : FVec F S6 .f32) ∧ atBranch W (Proc.devRef .tc main_v7) = shifted (W (Proc.devRef .tc main_arg0)) (W (Proc.devRef .tc main_arg2)) := by
  unfold atBranch
  refine ⟨?_, ?_, ?_, ?_⟩
  · after_reads_simp
  · after_reads_simp
  · after_reads_simp; rfl
  · after_reads_simp; rfl

theorem stack_eq : StableHlo.after armGrids (StableHlo.after armRows (StableHlo.after armMax (StableHlo.after armWhere (StableHlo.after armKeys (atBranch W))))) (Proc.devRef .tc main_case0b1_v82) =
    gridStack filling (W (Proc.devRef .tc main_arg2)) (laneWords (W (Proc.devRef .tc main_arg2))) (itemRows (shifted (W (Proc.devRef .tc main_arg0)) (W (Proc.devRef .tc main_arg2))) (W (Proc.devRef .tc main_arg1)) (iotaInDim S5000 32 0)) := by
  obtain ⟨b1, b2, b3, b4⟩ := branchKeep W
  rw [grids82, rows50, rows66]
  obtain ⟨a1, a2⟩ := rowsKeep (StableHlo.after armMax (StableHlo.after armWhere (StableHlo.after armKeys (atBranch W))))
  rw [a1, a2]
  obtain ⟨a1, a2, a3, a4, a5, a6⟩ := maxKeep (StableHlo.after armWhere (StableHlo.after armKeys (atBranch W)))
  rw [a1, a2, a3, a4, a5, a6, max39]
  obtain ⟨a1, a2, a3, a4, a5, a6⟩ := whereKeep (StableHlo.after armKeys (atBranch W))
  rw [a1, a2, a3, a4, a5, a6, where38]
  obtain ⟨a1, a2, a3, a4⟩ := keysKeep (atBranch W)
  rw [a1, a2, a3, a4, keys13, keys24, keys32, keys37, b1, b2, b3, b4]
  rfl

/-- The six grids stacked, as the pipeline finds them. -/
def stackOf (boxes : FVec F S5000x4 .f32) (scores : FVec F S5000 .f32) (idxs : IVec S5000 32) : FVec F S6x80x128 .f32 :=
  gridStack filling idxs (laneWords idxs) (itemRows (shifted boxes idxs) scores (iotaInDim S5000 32 0))

variable (m : (l : Loc nD τ sig) → Buf (Elt F) l) (c : Dev nD)

theorem after_nine (a b c d e f g h i : List (HloOp τ sig (Elt F))) (W : Valuation τ sig (Elt F)) :
    StableHlo.after ([a, b, c] ++ [d] ++ [e, f, g, h, i]).flatten W = StableHlo.after i (StableHlo.after h (StableHlo.after g (StableHlo.after f (StableHlo.after e (StableHlo.after (a ++ (b ++ (c ++ d))) W))))) := by
  simp only [List.cons_append, List.nil_append, List.flatten_cons, List.flatten_nil, StableHlo.after_append, List.append_nil]

theorem V0_split : V0 m c = StableHlo.after armGrids (StableHlo.after armRows (StableHlo.after armMax (StableHlo.after armWhere (StableHlo.after armKeys (atBranch fun b => m (c, b)))))) := by
  exact after_nine hostOps0 hostOps0_1 hostOps0_2 readOps armKeys armWhere armMax armRows armGrids _

/-- The grids the pipeline reads. -/
theorem grid_reads : V m c main_case0b1_v84 = layer 0 slices_S6x80x128_S1x80x128_0_0_0 (stackOf (m (c, Proc.devRef .tc main_arg0)) (m (c, Proc.devRef .tc main_arg1)) (m (c, Proc.devRef .tc main_arg2)))
    ∧ V m c main_case0b1_v86 = layer 1 slices_S6x80x128_S1x80x128_1_0_0 (stackOf (m (c, Proc.devRef .tc main_arg0)) (m (c, Proc.devRef .tc main_arg1)) (m (c, Proc.devRef .tc main_arg2)))
    ∧ V m c main_case0b1_v88 = layer 2 slices_S6x80x128_S1x80x128_2_0_0 (stackOf (m (c, Proc.devRef .tc main_arg0)) (m (c, Proc.devRef .tc main_arg1)) (m (c, Proc.devRef .tc main_arg2)))
    ∧ V m c main_case0b1_v90 = layer 3 slices_S6x80x128_S1x80x128_3_0_0 (stackOf (m (c, Proc.devRef .tc main_arg0)) (m (c, Proc.devRef .tc main_arg1)) (m (c, Proc.devRef .tc main_arg2)))
    ∧ V m c main_case0b1_v92 = layer 4 slices_S6x80x128_S1x80x128_4_0_0 (stackOf (m (c, Proc.devRef .tc main_arg0)) (m (c, Proc.devRef .tc main_arg1)) (m (c, Proc.devRef .tc main_arg2)))
    ∧ V m c main_case0b1_v94 = layer 5 slices_S6x80x128_S1x80x128_5_0_0 (stackOf (m (c, Proc.devRef .tc main_arg0)) (m (c, Proc.devRef .tc main_arg1)) (m (c, Proc.devRef .tc main_arg2))) := by
  have h := V0_split m c
  have hs := stack_eq fun b => m (c, b)
  refine ⟨?_, ?_, ?_, ?_, ?_, ?_⟩
  · exact (congrFun h _).trans ((grids84 _).trans (congrArg _ hs))
  · exact (congrFun h _).trans ((grids86 _).trans (congrArg _ hs))
  · exact (congrFun h _).trans ((grids88 _).trans (congrArg _ hs))
  · exact (congrFun h _).trans ((grids90 _).trans (congrArg _ hs))
  · exact (congrFun h _).trans ((grids92 _).trans (congrArg _ hs))
  · exact (congrFun h _).trans ((grids94 _).trans (congrArg _ hs))

end Cert.Proof.KernelIdeal
-- ==== Proof.Math.Greedy.lean ====
/-
  Greedy suppression, as mathematics: one run over all boxes against one run per class on a row of lanes. The scores a
  box ends with agree, and the boxes come out in the order of those scores.
-/
module

public import Mathlib.Data.EReal.Operations
public import Mathlib.Data.EReal.Inv
public import Mathlib.Data.Fintype.Card
public import Mathlib.Data.Finset.Card
public import Mathlib.Algebra.BigOperators.Group.Finset.Basic
public import Mathlib.Tactic.Common

@[expose] public section

namespace Cert.Proof.Math

/-- `m` is the first of the greatest entries of `s` over `A`. -/
def IsBest {ι : Type} [LinearOrder ι] (s : ι → EReal) (A : Finset ι) (m : ι) : Prop :=
  m ∈ A ∧ ∀ i ∈ A, s i < s m ∨ (s i = s m ∧ m ≤ i)

/-- The best is unique. -/
theorem IsBest.unique {ι : Type} [LinearOrder ι] {s : ι → EReal} {A : Finset ι} {m m' : ι} (h : IsBest s A m) (h' : IsBest s A m') : m = m' := by
  rcases h.2 m' h'.1 with h1 | ⟨h1, h2⟩
  · rcases h'.2 m h.1 with h3 | ⟨h3, h4⟩
    · exact absurd (h1.trans h3) (lt_irrefl _)
    · rw [h3] at h1; exact absurd h1 (lt_irrefl _)
  · rcases h'.2 m h.1 with h3 | ⟨h3, h4⟩
    · rw [h1] at h3; exact absurd h3 (lt_irrefl _)
    · exact le_antisymm h2 h4

/-- The run over all boxes: `A k` the boxes left, `S k` the scores, `m k` the box taken in round `k`. -/
structure GreedyRun {n : ℕ} (D : Fin n → Fin n → EReal) (S : ℕ → Fin n → EReal) (A : ℕ → Finset (Fin n)) (m : ℕ → Fin n) : Prop where
  init : A 0 = Finset.univ
  stepA : ∀ k, A (k + 1) = (A k).erase (m k)
  stepS : ∀ k i, S (k + 1) i = if i ∈ A k ∧ i ≠ m k then S k i * D (m k) i else S k i
  best : ∀ k, (∀ i, 0 ≤ S k i) → (A k).Nonempty → IsBest (S k) (A k) (m k)

namespace GreedyRun

variable {n : ℕ} {D : Fin n → Fin n → EReal} {S : ℕ → Fin n → EReal} {A : ℕ → Finset (Fin n)} {m : ℕ → Fin n}

/-- The scores stay nonnegative. -/
theorem nonneg (h : GreedyRun D S A m) (hD : ∀ i j, 0 ≤ D i j) (h0 : ∀ i, 0 ≤ S 0 i) : ∀ k i, 0 ≤ S k i
  | 0, i => h0 i
  | k + 1, i => by
    rw [h.stepS]
    split
    · exact mul_nonneg (nonneg h hD h0 k i) (hD _ _)
    · exact nonneg h hD h0 k i

/-- After `k` rounds `n - k` boxes are left. -/
theorem card (h : GreedyRun D S A m) (hD : ∀ i j, 0 ≤ D i j) (h0 : ∀ i, 0 ≤ S 0 i) : ∀ k, k ≤ n → (A k).card = n - k
  | 0, _ => by rw [h.init]; simp
  | k + 1, hk => by
    have ih := card h hD h0 k (by omega)
    have hb := h.best k (h.nonneg hD h0 k) (Finset.card_pos.mp (by omega))
    rw [h.stepA, Finset.card_erase_of_mem hb.1, ih]
    omega

/-- Every round takes the best of the boxes left. -/
theorem isBest (h : GreedyRun D S A m) (hD : ∀ i j, 0 ≤ D i j) (h0 : ∀ i, 0 ≤ S 0 i) (k : ℕ) (hk : k < n) : IsBest (S k) (A k) (m k) :=
  h.best k (h.nonneg hD h0 k) (Finset.card_pos.mp (by rw [h.card hD h0 k hk.le]; omega))

/-- The boxes left only become fewer. -/
theorem anti (h : GreedyRun D S A m) {k k' : ℕ} (hk : k ≤ k') : A k' ⊆ A k := by
  induction k', hk using Nat.le_induction with
  | base => exact Finset.Subset.refl _
  | succ j _ ih => rw [h.stepA]; exact (Finset.erase_subset _ _).trans ih

/-- Once taken, a box keeps its score. -/
theorem fixed (h : GreedyRun D S A m) {k k' : ℕ} (hk : k ≤ k') (i : Fin n) (hi : i ∉ A k) : S k' i = S k i := by
  induction k', hk using Nat.le_induction with
  | base => rfl
  | succ j hj ih => rw [h.stepS, if_neg (fun hh => hi (h.anti hj hh.1)), ih]

/-- A box's score in the round that takes it is the score it ends with. -/
theorem taken (h : GreedyRun D S A m) {k K : ℕ} (hk : k < K) : S K (m k) = S k (m k) := by
  rw [h.fixed (k := k + 1) hk (m k) (by rw [h.stepA]; simp), h.stepS, if_neg (fun hh => hh.2 rfl)]

/-- Scores only fall. -/
theorem fall (h : GreedyRun D S A m) (hD : ∀ i j, 0 ≤ D i j) (hD1 : ∀ i j, D i j ≤ 1) (h0 : ∀ i, 0 ≤ S 0 i) {k k' : ℕ} (hk : k ≤ k') (i : Fin n) :
    S k' i ≤ S k i := by
  induction k', hk using Nat.le_induction with
  | base => exact le_refl _
  | succ j _ ih =>
    refine le_trans ?_ ih
    rw [h.stepS]
    split
    · calc S j i * D (m j) i ≤ S j i * 1 := mul_le_mul_of_nonneg_left (hD1 _ _) (h.nonneg hD h0 j i)
        _ = S j i := mul_one _
    · exact le_refl _

/-- A later box comes after in the order of the final scores, ties by index. -/
theorem ordered (h : GreedyRun D S A m) (hD : ∀ i j, 0 ≤ D i j) (hD1 : ∀ i j, D i j ≤ 1) (h0 : ∀ i, 0 ≤ S 0 i) {k k' : ℕ} (hk : k < k') (hk' : k' < n) :
    S n (m k') < S n (m k) ∨ (S n (m k') = S n (m k) ∧ m k < m k') := by
  have hb := h.isBest hD h0 k (hk.trans hk')
  have hb' := h.isBest hD h0 k' hk'
  have hmem : m k' ∈ A k := h.anti hk.le hb'.1
  have hne : m k ≠ m k' := fun e => by
    have : m k' ∈ A (k + 1) := h.anti hk hb'.1
    rw [h.stepA, ← e] at this
    exact absurd this (Finset.notMem_erase _ _)
  rw [h.taken hk', h.taken (hk.trans hk')]
  have hf := h.fall hD hD1 h0 hk.le (m k')
  rcases hb.2 _ hmem with h1 | ⟨h1, h2⟩
  · exact .inl (hf.trans_lt h1)
  · rcases lt_or_eq_of_le (hf.trans h1.le) with h3 | h3
    · exact .inl h3
    · exact .inr ⟨h3, lt_of_le_of_ne h2 hne⟩

/-- No box is taken twice. -/
theorem injective (h : GreedyRun D S A m) (hD : ∀ i j, 0 ≤ D i j) (h0 : ∀ i, 0 ≤ S 0 i) {k k' : ℕ} (hk : k < k') (hk' : k' < n) : m k ≠ m k' := fun e => by
  have hb' := h.isBest hD h0 k' hk'
  have : m k' ∈ A (k + 1) := h.anti hk hb'.1
  rw [h.stepA, ← e] at this
  exact absurd this (Finset.notMem_erase _ _)

end GreedyRun

/-- The run on a row of lanes: `sw` the live scores, `sf` the scores recorded, `win t` the lane taken in round `t`. -/
structure RowRun {w : ℕ} (E : Fin w → Fin w → EReal) (sw sf : ℕ → Fin w → EReal) (win : ℕ → Fin w) : Prop where
  init : sf 0 = sw 0
  stepW : ∀ t l, sw (t + 1) l = if l = win t then ⊥ else if sw t l ≠ ⊥ then sw t l * E (win t) l else sw t l
  stepF : ∀ t l, sf (t + 1) l = if sw t l ≠ ⊥ ∧ l ≠ win t then sf t l * E (win t) l else sf t l
  best : ∀ t, IsBest (sw t) Finset.univ (win t)

/-- How many of the first `k` rounds took a box of class `c`. -/
def taken {n : ℕ} {C : Type} [DecidableEq C] (cls : Fin n → C) (m : ℕ → Fin n) (c : C) : ℕ → ℕ
  | 0 => 0
  | k + 1 => taken cls m c k + if cls (m k) = c then 1 else 0

section

variable {n w : ℕ} {C : Type} [DecidableEq C] {D : Fin n → Fin n → EReal} {S : ℕ → Fin n → EReal} {A : ℕ → Finset (Fin n)} {m : ℕ → Fin n}
  (h : GreedyRun D S A m) (hD : ∀ i j, 0 ≤ D i j) (h0 : ∀ i, 0 ≤ S 0 i) (cls : Fin n → C) (pos : Fin n → Fin w)
  (hcross : ∀ i j, cls i ≠ cls j → D i j = 1)
  (hpos : ∀ i j, cls i = cls j → i < j → pos i < pos j)
  (c : C) {E : Fin w → Fin w → EReal} {sw sf : ℕ → Fin w → EReal} {win : ℕ → Fin w} (r : RowRun E sw sf win)
  (hE : ∀ i j, cls i = c → cls j = c → E (pos i) (pos j) = D i j)
  (hs : ∀ i, cls i = c → sw 0 (pos i) = S 0 i)
  (hpad : ∀ l, (∀ i, cls i = c → pos i ≠ l) → sw 0 l = ⊥)

include h hD h0 hcross hpos r hE hs hpad in
/-- The row after as many rounds as the class was taken shows the run over all boxes. -/
theorem sim : ∀ k, k ≤ n →
    (∀ i, cls i = c → sf (taken cls m c k) (pos i) = S k i)
    ∧ (∀ i, cls i = c → sw (taken cls m c k) (pos i) = if i ∈ A k then S k i else ⊥)
    ∧ (∀ l, (∀ i, cls i = c → pos i ≠ l) → sw (taken cls m c k) l = ⊥)
  | 0, _ => by
    refine ⟨fun i hi => ?_, fun i hi => ?_, fun l hl => hpad l hl⟩
    · show sf 0 _ = _; rw [r.init, hs i hi]
    · show sw 0 _ = _; rw [hs i hi, h.init, if_pos (Finset.mem_univ _)]
  | k + 1, hk => by
    obtain ⟨ih1, ih2, ih3⟩ := sim k (by omega)
    have hb := h.isBest hD h0 k (by omega)
    have hn := h.nonneg hD h0 k
    have hbot : ∀ i, S k i ≠ ⊥ := fun i e => absurd (hn i) (by rw [e]; simp)
    by_cases hc : cls (m k) = c
    · -- the round takes a box of this class
      have ht : taken cls m c (k + 1) = taken cls m c k + 1 := by simp [taken, hc]
      rw [ht]
      generalize taken cls m c k = t at ih1 ih2 ih3
      have hinj : ∀ i j, cls i = c → cls j = c → pos i = pos j → i = j := fun i j hi hj e => by
        rcases lt_trichotomy i j with hl | hl | hl
        · exact absurd e (hpos i j (hi.trans hj.symm) hl).ne
        · exact hl
        · exact absurd e.symm (hpos j i (hj.trans hi.symm) hl).ne
      have hwin : win t = pos (m k) := by
        refine (r.best t).unique ⟨Finset.mem_univ _, fun l _ => ?_⟩
        rw [ih2 _ hc, if_pos hb.1]
        by_cases hl : ∃ i, cls i = c ∧ pos i = l
        · obtain ⟨i, hi, rfl⟩ := hl
          rw [ih2 i hi]
          by_cases hA : i ∈ A k
          · rw [if_pos hA]
            rcases hb.2 i hA with h1 | ⟨h1, h2⟩
            · exact .inl h1
            · refine .inr ⟨h1, ?_⟩
              rcases lt_or_eq_of_le h2 with h3 | h3
              · exact (hpos _ _ (hc.trans hi.symm) h3).le
              · rw [h3]
          · rw [if_neg hA]; exact .inl (bot_lt_iff_ne_bot.mpr (hbot _))
        · rw [ih3 l (fun i hi e => hl ⟨i, hi, e⟩)]; exact .inl (bot_lt_iff_ne_bot.mpr (hbot _))
      refine ⟨fun i hi => ?_, fun i hi => ?_, fun l hl => ?_⟩
      · rw [r.stepF, h.stepS, ih1 i hi, ih2 i hi, hwin, hE _ _ hc hi]
        by_cases hA : i ∈ A k
        · by_cases hm : i = m k
          · subst hm; simp
          · rw [if_pos hA, if_pos ⟨hbot _, fun e => hm (hinj _ _ hi hc e)⟩, if_pos ⟨hA, hm⟩]
        · simp [hA]
      · rw [r.stepW, h.stepS, ih2 i hi, hwin, hE _ _ hc hi, h.stepA]
        by_cases hm : i = m k
        · subst hm; simp
        · rw [if_neg (fun e => hm (hinj _ _ hi hc e))]
          by_cases hA : i ∈ A k
          · simp [hA, hm, hbot]
          · simp [hA]
      · rw [r.stepW, hwin, if_neg (fun e => hl _ hc e.symm), ih3 l hl]; simp
    · -- the round takes a box of another class
      have ht : taken cls m c (k + 1) = taken cls m c k := by simp [taken, hc]
      rw [ht]
      have hS : ∀ i, cls i = c → S (k + 1) i = S k i := fun i hi => by
        rw [h.stepS]
        split
        · rw [hcross _ _ (by rw [hi]; exact hc), mul_one]
        · rfl
      refine ⟨fun i hi => by rw [ih1 i hi, hS i hi], fun i hi => ?_, ih3⟩
      have hne : i ≠ m k := fun e => hc (e ▸ hi)
      rw [ih2 i hi, hS i hi, h.stepA]
      simp [hne]

include h hD h0 in
/-- In `n` rounds a class is taken as often as it has boxes. -/
theorem taken_eq : taken cls m c n = (Finset.univ.filter fun i => cls i = c).card := by
  have hcount : ∀ k, k ≤ n → taken cls m c k + ((A k).filter fun i => cls i = c).card = (Finset.univ.filter fun i => cls i = c).card := by
    intro k
    induction k with
    | zero => intro _; rw [h.init]; simp [taken]
    | succ k ih =>
      intro hk
      have ih := ih (by omega)
      have hb := h.isBest hD h0 k (by omega)
      rw [h.stepA, Finset.filter_erase]
      by_cases hc : cls (m k) = c
      · have hm : m k ∈ (A k).filter fun i => cls i = c := Finset.mem_filter.mpr ⟨hb.1, hc⟩
        have hp := Finset.card_pos.mpr ⟨_, hm⟩
        rw [Finset.card_erase_of_mem hm]
        simp only [taken, hc, if_true]
        omega
      have hnm : m k ∉ (A k).filter fun i => cls i = c := fun hh => hc (Finset.mem_filter.mp hh).2
      rw [Finset.erase_eq_of_notMem hnm]
      have ht : taken cls m c (k + 1) = taken cls m c k := by simp [taken, hc]
      rw [ht]; exact ih
  have := hcount n (le_refl n)
  have hA : A n = ∅ := Finset.card_eq_zero.mp (by rw [h.card hD h0 n (le_refl n)]; omega)
  rw [hA] at this
  simpa using this

include h hD h0 hcross hpos r hE hs hpad in
/-- The scores the row records, once it has run as many rounds as the class has boxes, are the final scores. -/
theorem final_eq {t : ℕ} (ht : (Finset.univ.filter fun i => cls i = c).card ≤ t) (i : Fin n) (hi : cls i = c) : sf t (pos i) = S n i := by
  have hs' := sim h hD h0 cls pos hcross hpos c r hE hs hpad n (le_refl n)
  rw [taken_eq h hD h0 cls c] at hs'
  have hA : A n = ∅ := Finset.card_eq_zero.mp (by rw [h.card hD h0 n (le_refl n)]; omega)
  generalize (Finset.univ.filter fun i => cls i = c).card = t0 at hs' ht
  have hdead : ∀ l, sw t0 l = ⊥ := fun l => by
    by_cases hl : ∃ i, cls i = c ∧ pos i = l
    · obtain ⟨i, hi, rfl⟩ := hl
      rw [hs'.2.1 i hi, hA]; simp
    · exact hs'.2.2 l (fun i hi e => hl ⟨i, hi, e⟩)
  have hstay : ∀ u, t0 ≤ u → (∀ l, sw u l = ⊥) ∧ sf u = sf t0 := by
    intro u hu
    induction u, hu using Nat.le_induction with
    | base => exact ⟨hdead, rfl⟩
    | succ j _ ih =>
      refine ⟨fun l => by rw [r.stepW, ih.1]; simp, ?_⟩
      rw [← ih.2]; funext l
      rw [r.stepF, ih.1]; simp
  rw [(hstay t ht).2, hs'.1 i hi]

end

end Cert.Proof.Math
-- ==== Proof.Math.Boxes.lean ====
/-
  The overlap of two boxes and the factor a score decays by: between 0 and 1, and 1 for boxes apart.
-/
module

public import Mathlib.Data.EReal.Operations
public import Mathlib.Data.EReal.Inv
public import Mathlib.Tactic.Common
public import Mathlib.Tactic.Linarith
public import Mathlib.Tactic.NormNum
public import Mathlib.Tactic.Positivity
public import Idealize.ShloMosaic.PureOps.Ideal

@[expose] public section

noncomputable section

namespace Cert.Proof.Math

open Idealize.ShloMosaic

/-- A box: its least and greatest corner. -/
structure Box where
  x1 : EReal
  y1 : EReal
  x2 : EReal
  y2 : EReal

/-- The area of a box. -/
def area (b : Box) : EReal := (b.x2 - b.x1) * (b.y2 - b.y1)

/-- The area two boxes share. -/
def shared (a b : Box) : EReal := max (min a.x2 b.x2 - max a.x1 b.x1) 0 * max (min a.y2 b.y2 - max a.y1 b.y1) 0

/-- Shared area over joint area. -/
def iou (eps : EReal) (a b : Box) : EReal := Ideal.div (shared a b) (area a + area b - shared a b + eps)

/-- What a score is multiplied by. -/
def decay (half eps one : EReal) (a b : Box) : EReal := if half < iou eps a b then one - iou eps a b else one

/-- The real coordinates of a box whose corners are in order. -/
structure Good (b : Box) : Prop where
  real : ∃ x1 y1 x2 y2 : ℝ, b = ⟨x1, y1, x2, y2⟩ ∧ x1 ≤ x2 ∧ y1 ≤ y2

theorem clip_eq (p q r s : ℝ) : max (min (p : EReal) q - max (r : EReal) s) 0 = ((max (min p q - max r s) 0 : ℝ) : EReal) := by
  have hm : Monotone ((↑) : ℝ → EReal) := fun _ _ h => EReal.coe_le_coe_iff.mpr h
  rw [hm.map_max, EReal.coe_sub, hm.map_min, hm.map_max, EReal.coe_zero]

/-- For boxes with corners in order the overlap quotient is a real number between 0 and 1. -/
theorem iou_mem {eps : EReal} (e : ℝ) (he : eps = e) (h0 : 0 < e) {a b : Box} (ha : Good a) (hb : Good b) :
    ∃ r : ℝ, iou eps a b = r ∧ 0 ≤ r ∧ r ≤ 1 ∧ (shared a b = 0 → r = 0) := by
  obtain ⟨ax1, ay1, ax2, ay2, rfl, hax, hay⟩ := ha.real
  obtain ⟨bx1, by1, bx2, by2, rfl, hbx, hby⟩ := hb.real
  unfold iou shared area
  simp only [clip_eq, he]
  set w : ℝ := max (min ax2 bx2 - max ax1 bx1) 0 with hw
  set h : ℝ := max (min ay2 by2 - max ay1 by1) 0 with hh
  have hw0 : 0 ≤ w := le_max_right _ _
  have hh0 : 0 ≤ h := le_max_right _ _
  have hwa : w ≤ ax2 - ax1 := max_le (sub_le_sub (min_le_left _ _) (le_max_left _ _)) (by linarith)
  have hwb : w ≤ bx2 - bx1 := max_le (sub_le_sub (min_le_right _ _) (le_max_right _ _)) (by linarith)
  have hha : h ≤ ay2 - ay1 := max_le (sub_le_sub (min_le_left _ _) (le_max_left _ _)) (by linarith)
  have hhb : h ≤ by2 - by1 := max_le (sub_le_sub (min_le_right _ _) (le_max_right _ _)) (by linarith)
  have h1 : w * h ≤ (ax2 - ax1) * (ay2 - ay1) := mul_le_mul hwa hha hh0 (by linarith)
  have h2 : w * h ≤ (bx2 - bx1) * (by2 - by1) := mul_le_mul hwb hhb hh0 (by linarith)
  have hs0 : 0 ≤ w * h := mul_nonneg hw0 hh0
  set d : ℝ := (ax2 - ax1) * (ay2 - ay1) + (bx2 - bx1) * (by2 - by1) - w * h + e with hd
  have hd0 : 0 < d := by rw [hd]; linarith
  have hden : ((ax2 : EReal) - ax1) * (ay2 - ay1) + ((bx2 : EReal) - bx1) * (by2 - by1) - (w : EReal) * h + (e : EReal) = (d : EReal) := by
    rw [hd]; push_cast; rfl
  rw [hden]
  refine ⟨w * h / d, ?_, div_nonneg hs0 hd0.le, (div_le_one hd0).mpr (by rw [hd]; linarith), fun hz => ?_⟩
  · unfold Ideal.div
    rw [if_neg (by exact_mod_cast hd0.ne'), div_eq_mul_inv, EReal.coe_mul, EReal.coe_mul, EReal.coe_inv]
  · have : w * h = 0 := by exact_mod_cast hz
    rw [this, zero_div]

/-- A difference that is not above zero is clipped to zero. -/
theorem clip_zero {x y : EReal} (h : x ≤ y) : max (x - y) 0 = 0 := by
  refine max_eq_right ?_
  exact (EReal.sub_le_sub h (le_refl y)).trans EReal.sub_self_le_zero

theorem lt_of_clip {x y : EReal} (h : max (x - y) 0 ≠ 0) : y < x := by
  by_contra hn
  exact h (clip_zero (not_lt.1 hn))

theorem shared_zero_left {a b : Box} (h : min a.x2 b.x2 ≤ max a.x1 b.x1) : shared a b = 0 := by
  unfold shared
  rw [clip_zero h, zero_mul]

theorem div_zero_left (d : EReal) : Ideal.div 0 d = ⊥ ∨ Ideal.div 0 d = 0 := by
  unfold Ideal.div
  by_cases h : d = 0
  · left; rw [if_pos h, if_neg (lt_irrefl _)]
  · right; rw [if_neg h, zero_mul]

/-- A box whose least corner is not negative. -/
structure Low (b : Box) : Prop where
  x : 0 ≤ b.x1
  y : 0 ≤ b.y1

theorem diff_pos {x y : EReal} (h0 : 0 ≤ x) (h : x < y) : 0 < y - x ∧ (y = ⊤ → y - x = ⊤) := by
  induction x with
  | bot => simp at h0
  | top => simp at h
  | coe x =>
    induction y with
    | bot => simp at h
    | top => exact ⟨by simp, fun _ => by simp⟩
    | coe y =>
      refine ⟨?_, fun e => by simp at e⟩
      have : x < y := by exact_mod_cast h
      exact_mod_cast sub_pos.2 this

theorem div_infinite (s : EReal) {t : EReal} (e : ℝ) (h : t = ⊤) : Ideal.div s (t - s + (e : EReal)) = 0 := by
  subst h
  have : (⊤ : EReal) - s + (e : EReal) = ⊤ ∨ (⊤ : EReal) - s + (e : EReal) = ⊥ := by
    induction s with
    | bot => left; simp
    | top => right; simp
    | coe r => left; simp
  unfold Ideal.div
  rcases this with h | h <;> rw [h] <;> simp

theorem real_of {x : EReal} (h0 : 0 ≤ x) (h1 : x ≠ ⊤) : ∃ r : ℝ, x = r :=
  ⟨x.toReal, (EReal.coe_toReal h1 (fun e => by rw [e] at h0; simp at h0)).symm⟩

/-- The overlap quotient is below every real number, or a real number that is at most 1, and then zero where nothing is shared. -/
theorem iou_cases {eps : EReal} (e : ℝ) (he : eps = e) (h0 : 0 < e) {a b : Box} (ha : Low a) (hb : Low b) :
    iou eps a b = ⊥ ∨ ∃ r : ℝ, iou eps a b = r ∧ r ≤ 1 ∧ (shared a b = 0 → r = 0) := by
  by_cases hs : shared a b = 0
  · unfold iou
    rw [hs]
    rcases div_zero_left (area a + area b - 0 + eps) with h | h
    · exact Or.inl h
    · exact Or.inr ⟨0, h, by norm_num, fun _ => rfl⟩
  right
  have hw : max a.x1 b.x1 < min a.x2 b.x2 := lt_of_clip fun h => hs (by unfold shared; rw [h, zero_mul])
  have hh : max a.y1 b.y1 < min a.y2 b.y2 := lt_of_clip fun h => hs (by unfold shared; rw [h, mul_zero])
  have ax : a.x1 < a.x2 := (le_max_left _ _).trans_lt (hw.trans_le (min_le_left _ _))
  have bx : b.x1 < b.x2 := (le_max_right _ _).trans_lt (hw.trans_le (min_le_right _ _))
  have ay : a.y1 < a.y2 := (le_max_left _ _).trans_lt (hh.trans_le (min_le_left _ _))
  have bY : b.y1 < b.y2 := (le_max_right _ _).trans_lt (hh.trans_le (min_le_right _ _))
  have hpa : 0 < area a := EReal.mul_pos (diff_pos ha.x ax).1 (diff_pos ha.y ay).1
  have hpb : 0 < area b := EReal.mul_pos (diff_pos hb.x bx).1 (diff_pos hb.y bY).1
  have inf : ∀ z : Box, Low z → z.x1 < z.x2 → z.y1 < z.y2 → (z.x2 = ⊤ ∨ z.y2 = ⊤) → area z = ⊤ := by
    intro z hz h1 h2 h
    unfold area
    rcases h with h | h
    · rw [(diff_pos hz.x h1).2 h, EReal.top_mul_of_pos (diff_pos hz.y h2).1]
    · rw [(diff_pos hz.y h2).2 h, EReal.mul_top_of_pos (diff_pos hz.x h1).1]
  have zero : area a + area b = ⊤ → ∃ r : ℝ, iou eps a b = r ∧ r ≤ 1 ∧ (shared a b = 0 → r = 0) := fun h => by
    refine ⟨0, ?_, by norm_num, fun _ => rfl⟩
    unfold iou
    rw [he]
    exact div_infinite _ e h
  by_cases hta : a.x2 = ⊤ ∨ a.y2 = ⊤
  · exact zero (by rw [inf a ha ax ay hta]; exact EReal.top_add_of_ne_bot (ne_of_gt (bot_le.trans_lt hpb)))
  by_cases htb : b.x2 = ⊤ ∨ b.y2 = ⊤
  · exact zero (by rw [inf b hb bx bY htb]; exact EReal.add_top_of_ne_bot (ne_of_gt (bot_le.trans_lt hpa)))
  have good : ∀ z : Box, Low z → z.x1 < z.x2 → z.y1 < z.y2 → ¬(z.x2 = ⊤ ∨ z.y2 = ⊤) → Good z := by
    intro z hz h1 h2 h
    obtain ⟨h3, h4⟩ := not_or.1 h
    obtain ⟨p, hp⟩ := real_of hz.x (ne_top_of_lt h1)
    obtain ⟨q, hq⟩ := real_of hz.y (ne_top_of_lt h2)
    obtain ⟨r, hr⟩ := real_of (hz.x.trans h1.le) h3
    obtain ⟨t, ht⟩ := real_of (hz.y.trans h2.le) h4
    refine ⟨⟨p, q, r, t, by rw [← hp, ← hq, ← hr, ← ht], ?_, ?_⟩⟩
    · rw [hp, hr] at h1; exact_mod_cast h1.le
    · rw [hq, ht] at h2; exact_mod_cast h2.le
  obtain ⟨r, hr, _, hr1, hz⟩ := iou_mem e he h0 (good a ha ax ay hta) (good b hb bx bY htb)
  exact ⟨r, hr, hr1, hz⟩

section

variable {half eps one : EReal} (e : ℝ) (he : eps = e) (h0 : 0 < e) (h1 : one = 1) (hhalf : 0 ≤ half)

include he h0 h1 hhalf in
theorem decay_mem {a b : Box} (ha : Low a) (hb : Low b) : (0 ≤ decay half eps one a b ∧ decay half eps one a b ≤ 1) ∧ (shared a b = 0 → decay half eps one a b = 1) := by
  unfold decay
  rw [h1]
  rcases iou_cases e he h0 ha hb with h | ⟨r, hr, hr1, hz⟩
  · rw [h, if_neg not_lt_bot]
    exact ⟨⟨zero_le_one, le_refl _⟩, fun _ => rfl⟩
  · rw [hr]
    refine ⟨?_, fun hs => ?_⟩
    · split
      · rename_i hlt
        have hr0 : 0 < r := by exact_mod_cast hhalf.trans_lt hlt
        have g1 : (0 : EReal) ≤ ((1 - r : ℝ) : EReal) := by exact_mod_cast sub_nonneg.mpr hr1
        have g2 : ((1 - r : ℝ) : EReal) ≤ 1 := by exact_mod_cast (by linarith : 1 - r ≤ 1)
        exact ⟨by simpa using g1, by simpa using g2⟩
      · exact ⟨zero_le_one, le_refl _⟩
    · rw [hz hs, if_neg]
      simpa using hhalf

end

/-- Of two boxes within `[0, M]`, moved by different multiples of `M + 1`, the second begins after the first ends. -/
theorem moved_apart {M : EReal} (hM : 0 ≤ M) {c d : Nat} (hcd : c < d) {x y : EReal} (hx : x ≤ M) (hy : 0 ≤ y) :
    x + (((c : Int) : ℝ) : EReal) * (M + 1) ≤ y + (((d : Int) : ℝ) : EReal) * (M + 1) := by
  have key : M + (((c : Int) : ℝ) : EReal) * (M + 1) ≤ (((d : Int) : ℝ) : EReal) * (M + 1) := by
    induction M with
    | bot => simp at hM
    | top =>
      have hd : (0 : EReal) < (((d : Int) : ℝ) : EReal) := by
        have : 0 < d := by omega
        exact_mod_cast this
      have : (⊤ : EReal) + 1 = ⊤ := EReal.top_add_of_ne_bot (ne_of_gt (EReal.bot_lt_zero.trans zero_lt_one))
      rw [this, EReal.mul_top_of_pos hd]
      exact le_top
    | coe M =>
      have hM' : 0 ≤ M := by exact_mod_cast hM
      have h : ((c : Int) : ℝ) + 1 ≤ ((d : Int) : ℝ) := by exact_mod_cast hcd
      have := mul_le_mul_of_nonneg_right h (by linarith : 0 ≤ M + 1)
      have g : M + ((c : Int) : ℝ) * (M + 1) ≤ ((d : Int) : ℝ) * (M + 1) := by linarith
      exact_mod_cast g
  calc x + (((c : Int) : ℝ) : EReal) * (M + 1) ≤ M + (((c : Int) : ℝ) : EReal) * (M + 1) := by gcongr
    _ ≤ (((d : Int) : ℝ) : EReal) * (M + 1) := key
    _ ≤ y + (((d : Int) : ℝ) : EReal) * (M + 1) := le_add_of_nonneg_left hy

end Cert.Proof.Math
-- ==== Proof.KernelIdeal.Rows.lean ====
/- One greedy step of the launch, row by row: the first of the best live lanes is taken, the other live lanes decay by
   their overlap with its box. -/
module

public import proofs.«01_k».proof.Proof.KernelIdeal.Body
public import proofs.«01_k».proof.Proof.Math.Greedy
public import proofs.«01_k».proof.Proof.Math.Boxes
public import Idealize.ShloMosaic.Lib.Pointwise

@[expose] public section

set_option maxRecDepth 16384

noncomputable section

namespace Cert.Proof.Math

/-- There is a first of the greatest entries. -/
theorem exists_best {n : ℕ} [NeZero n] (s : Fin n → EReal) : ∃ m, IsBest s Finset.univ m := by
  obtain ⟨x, _, hx⟩ := Finset.exists_max_image Finset.univ s ⟨0, Finset.mem_univ _⟩
  have hne : (Finset.univ.filter fun i => s i = s x).Nonempty := ⟨x, by simp⟩
  refine ⟨(Finset.univ.filter fun i => s i = s x).min' hne, Finset.mem_univ _, fun i _ => ?_⟩
  have hm := (Finset.mem_filter.mp (Finset.min'_mem _ hne)).2
  rw [hm]
  rcases lt_or_eq_of_le (hx i (Finset.mem_univ _)) with h | h
  · exact .inl h
  · exact .inr ⟨h, Finset.min'_le _ _ (by simp [h])⟩

theorem IsBest.le {n : ℕ} {s : Fin n → EReal} {m : Fin n} (h : IsBest s Finset.univ m) (i : Fin n) : s i ≤ s m := by
  rcases h.2 i (Finset.mem_univ _) with h | h
  · exact h.le
  · exact h.1.le

theorem fold_max_eq {n : ℕ} {s : Fin n → EReal} {b x : EReal} (m : Fin n) (hm : s m = x) (hb : b ≤ x) (h : ∀ i, s i ≤ x) :
    Finset.fold max b s Finset.univ = x :=
  le_antisymm ((Finset.fold_max_le _).mpr ⟨hb, fun i _ => h i⟩) ((Finset.le_fold_max _).mpr (.inr ⟨m, Finset.mem_univ _, hm.ge⟩))

theorem fold_min_eq {n : ℕ} {s : Fin n → EReal} {b x : EReal} (m : Fin n) (hm : s m = x) (hb : x ≤ b) (h : ∀ i, x ≤ s i) :
    Finset.fold min b s Finset.univ = x :=
  le_antisymm ((Finset.fold_min_le _).mpr (.inr ⟨m, Finset.mem_univ _, hm.le⟩)) ((Finset.le_fold_min _).mpr ⟨hb, fun i _ => h i⟩)

end Cert.Proof.Math

namespace Cert.Proof.KernelIdeal

open Cert.KernelIdeal Cert.KernelIdeal.Gen
open Idealize.ShloMosaic Cert.Proof.Math

theorem ofBits_ninf : Ideal.ofBits FTy.f32 4286578688#32 = (⊥ : EReal) := by simp [Ideal.ofBits, Ideal.ieee]
theorem ofBits_pinf : Ideal.ofBits FTy.f32 2139095040#32 = (⊤ : EReal) := by simp [Ideal.ofBits, Ideal.ieee]
theorem ofBits_big : Ideal.ofBits FTy.f32 1315859240#32 = ((1000000000 : ℝ) : EReal) := by
  simp [Ideal.ofBits, Ideal.ieee, -EReal.coe_mul]; norm_num

/-- The threshold of the overlap. -/
def half : EReal := Ideal.ofBits FTy.f32 1056964608#32
/-- The small number added to the joint area. -/
def eps : EReal := Ideal.ofBits FTy.f32 730643660#32

theorem half_nonneg : 0 ≤ half := by
  have : half = ((1 / 2 : ℝ) : EReal) := by unfold half; simp [Ideal.ofBits, Ideal.ieee, -EReal.coe_mul]; norm_num
  rw [this]; exact_mod_cast (by norm_num : (0 : ℝ) ≤ 1 / 2)

theorem eps_pos : ∃ e : ℝ, eps = e ∧ 0 < e := by
  refine ⟨(9223372 : ℝ) * (2 : ℝ) ^ (-63 : ℤ), ?_, by positivity⟩
  unfold eps; simp [Ideal.ofBits, Ideal.ieee, -EReal.coe_mul]

/-- The number of a lane. -/
theorem lane_val (l : Fin 128) : (FloatOps.sitofp FTy.f32 (BitVec.ofNat 32 l.val) : Ideal .f32) = ((l.val : ℝ) : EReal) := by
  have : (BitVec.ofNat 32 l.val).toInt = (l.val : ℤ) := by
    have := l.isLt
    rw [BitVec.toInt_eq_toNat_cond, BitVec.toNat_ofNat]
    split <;> omega
  show (((BitVec.ofNat 32 l.val).toInt : ℝ) : EReal) = _
  rw [this]; simp

section

variable (x1 y1 x2 y2 : FVec Ideal S80x128 .f32)

/-- The box in lane `l` of row `c`. -/
def boxAt (c : Fin 80) (l : Fin 128) : Box := ⟨x1 (ix2 c l), y1 (ix2 c l), x2 (ix2 c l), y2 (ix2 c l)⟩

/-- The lane numbers. -/
abbrev lanes : FVec Ideal S80x128 .f32 := k1_pay49
abbrev big : Ideal .f32 := Scalar.ofBits .f32 0x4E6E6B28#32

theorem lanes_at (c : Fin 80) (l : Fin 128) : (lanes (ix2 c l) : EReal) = ((l.val : ℝ) : EReal) := by
  have : (lanes (ix2 c l) : Ideal .f32) = FloatOps.sitofp FTy.f32 (BitVec.ofNat 32 l.val) := by unfold lanes; pointwise [k1_pay49]
  rw [this, lane_val]

variable (sw : FVec Ideal S80x128 .f32) (c : Fin 80) (w : Fin 128) (hw : IsBest (fun l => (sw (ix2 c l) : EReal)) Finset.univ w)

include hw

/-- The lane taken, as the kernel marks it. -/
theorem onehot_at (l : Fin 128) : k1_pay24 lanes big sw (ix2 c l) = BitVec.ofBool (decide (l = w)) := by
  have hmax : Finset.fold max (⊥ : EReal) (fun x => (sw (ix2 c x) : EReal)) Finset.univ = sw (ix2 c w) :=
    fold_max_eq w rfl bot_le hw.le
  have hmin : Finset.fold min (⊤ : EReal) (fun x => if (sw (ix2 c x) : EReal) = sw (ix2 c w) then (lanes (ix2 c x) : EReal) else big) Finset.univ = ((w.val : ℝ) : EReal) := by
    refine fold_min_eq w (by rw [if_pos rfl, lanes_at]) le_top fun i => ?_
    split
    · rename_i he
      rw [lanes_at]
      rcases hw.2 i (Finset.mem_univ _) with h | h
      · exact absurd he h.ne
      · exact_mod_cast h.2
    · show _ ≤ Ideal.ofBits FTy.f32 1315859240#32
      rw [ofBits_big]
      have := w.isLt
      exact_mod_cast (show (w.val : ℝ) ≤ 1000000000 by exact_mod_cast (by omega : w.val ≤ 1000000000))
  have : k1_pay24 lanes big sw (ix2 c l) = BitVec.ofBool (decide ((lanes (ix2 c l) : EReal) = ((w.val : ℝ) : EReal))) := by
    rw [← hmin, ← hmax, ← ofBits_ninf, ← ofBits_pinf]
    pointwise [k1_pay24]
  rw [this, lanes_at]
  congr 1
  rw [Bool.eq_iff_iff, decide_eq_true_iff, decide_eq_true_iff, EReal.coe_eq_coe_iff, Nat.cast_inj, Fin.val_inj]

/-- The coordinate of the lane taken, as the kernel picks it out. -/
theorem pick_at (X : FVec Ideal S80x128 .f32) :
    Finset.fold max (Ideal.ofBits FTy.f32 4286578688#32) (fun x => Scalar.select (k1_pay24 lanes big sw (ix2 c x)) (X (ix2 c x)) (Ideal.ofBits FTy.f32 4286578688#32)) Finset.univ = X (ix2 c w) := by
  have e : (fun x => Scalar.select (k1_pay24 lanes big sw (ix2 c x)) (X (ix2 c x)) (Ideal.ofBits FTy.f32 4286578688#32)) = fun x => if x = w then (X (ix2 c x) : EReal) else ⊥ := by
    funext x
    rw [onehot_at sw c w hw, ofBits_ninf]
    by_cases h : x = w <;> simp [h, Scalar.select]
  rw [e, ofBits_ninf]
  refine fold_max_eq w (by simp) bot_le fun i => ?_
  by_cases h : i = w
  · subst h; simp
  · simp [h]

theorem pay25_at : (k1_pay25 x1 lanes big sw (ix2 c 0) : EReal) = x1 (ix2 c w) := by
  rw [← pick_at sw c w hw x1]; pointwise [k1_pay25]
theorem pay26_at : (k1_pay26 y1 lanes big sw (ix2 c 0) : EReal) = y1 (ix2 c w) := by
  rw [← pick_at sw c w hw y1]; pointwise [k1_pay26]
theorem pay27_at : (k1_pay27 x2 lanes big sw (ix2 c 0) : EReal) = x2 (ix2 c w) := by
  rw [← pick_at sw c w hw x2]; pointwise [k1_pay27]
theorem pay28_at : (k1_pay28 y2 lanes big sw (ix2 c 0) : EReal) = y2 (ix2 c w) := by
  rw [← pick_at sw c w hw y2]; pointwise [k1_pay28]

theorem pay29_at (l : Fin 128) : (k1_pay29 x1 y1 x2 y2 lanes big sw (ix2 c l) : EReal) = shared (boxAt x1 y1 x2 y2 c w) (boxAt x1 y1 x2 y2 c l) := by
  unfold shared boxAt
  dsimp only
  rw [← pay25_at x1 sw c w hw, ← pay26_at y1 sw c w hw, ← pay27_at x2 sw c w hw, ← pay28_at y2 sw c w hw]
  pointwise [k1_pay29]

theorem pay30_at (v10 : FVec Ideal S80x128 .f32) (l : Fin 128) (h10 : (v10 (ix2 c l) : EReal) = area (boxAt x1 y1 x2 y2 c l)) :
    (k1_pay30 x1 y1 x2 y2 v10 lanes big sw (ix2 c l) : EReal) =
      area (boxAt x1 y1 x2 y2 c w) + area (boxAt x1 y1 x2 y2 c l) - shared (boxAt x1 y1 x2 y2 c w) (boxAt x1 y1 x2 y2 c l) := by
  rw [← pay29_at x1 y1 x2 y2 sw c w hw, ← h10]
  unfold area boxAt
  dsimp only
  rw [← pay25_at x1 sw c w hw, ← pay26_at y1 sw c w hw, ← pay27_at x2 sw c w hw, ← pay28_at y2 sw c w hw]
  pointwise [k1_pay30]

end

theorem pay44_eq (x : Vec Ideal S80x128 .f32) : k1_pay44 x = x := by funext j; pointwise [k1_pay44]
theorem pay45_eq (x : Vec Ideal S80x128 .f32) : k1_pay45 x = x := by funext j; pointwise [k1_pay45]
theorem pay46_eq (x : Vec Ideal S80x128 .f32) : k1_pay46 x = x := by funext j; pointwise [k1_pay46]
theorem pay47_eq (x : Vec Ideal S80x128 .f32) : k1_pay47 x = x := by funext j; pointwise [k1_pay47]
theorem pay50_eq (x : Vec Ideal S80x128 .f32) : k1_pay50 x = x := by funext j; pointwise [k1_pay50]

section

variable (x1 y1 x2 y2 : Vec Ideal S80x128 .f32)

theorem pay48_at (c : Fin 80) (l : Fin 128) : (k1_pay48 x1 y1 x2 y2 (ix2 c l) : EReal) = area (boxAt x1 y1 x2 y2 c l) := by
  unfold area boxAt
  have : (k1_pay48 x1 y1 x2 y2 (ix2 c l) : EReal) = (k1_pay46 x2 (ix2 c l) - k1_pay44 x1 (ix2 c l)) * (k1_pay47 y2 (ix2 c l) - k1_pay45 y1 (ix2 c l)) := by
    pointwise [k1_pay48]
  rw [this, pay44_eq, pay45_eq, pay46_eq, pay47_eq]

/-- The factor between two lanes of a row. -/
def laneDecay (c : Fin 80) (a b : Fin 128) : EReal := decay half eps 1 (boxAt x1 y1 x2 y2 c a) (boxAt x1 y1 x2 y2 c b)

/-- One step at a lane. -/
theorem step_at (acc : Grids Ideal) (c : Fin 80) (w : Fin 128) (hw : IsBest (fun l => (acc.1 (ix2 c l) : EReal)) Finset.univ w) (l : Fin 128) :
    ((nmsStep x1 y1 x2 y2 acc).1 (ix2 c l) : EReal) = (if l = w then ⊥ else if (acc.1 (ix2 c l) : EReal) ≠ ⊥ then (acc.1 (ix2 c l) : EReal) * laneDecay x1 y1 x2 y2 c w l else acc.1 (ix2 c l))
    ∧ ((nmsStep x1 y1 x2 y2 acc).2 (ix2 c l) : EReal) = if (acc.1 (ix2 c l) : EReal) ≠ ⊥ ∧ l ≠ w then (acc.2 (ix2 c l) : EReal) * laneDecay x1 y1 x2 y2 c w l else acc.2 (ix2 c l) := by
  have hone := onehot_at acc.1 c w hw l
  have h29 := pay29_at x1 y1 x2 y2 acc.1 c w hw l
  have h30 := pay30_at x1 y1 x2 y2 acc.1 c w hw (k1_pay48 x1 y1 x2 y2) l (pay48_at x1 y1 x2 y2 c l)
  unfold nmsStep
  simp only [pay44_eq, pay45_eq, pay46_eq, pay47_eq]
  have hdec : laneDecay x1 y1 x2 y2 c w l = if half < Ideal.div (k1_pay29 x1 y1 x2 y2 lanes big acc.1 (ix2 c l)) (k1_pay30 x1 y1 x2 y2 (k1_pay48 x1 y1 x2 y2) lanes big acc.1 (ix2 c l) + eps) then 1 - Ideal.div (k1_pay29 x1 y1 x2 y2 lanes big acc.1 (ix2 c l)) (k1_pay30 x1 y1 x2 y2 (k1_pay48 x1 y1 x2 y2) lanes big acc.1 (ix2 c l) + eps) else 1 := by
    unfold laneDecay decay iou
    rw [← h30, ← h29]
  rw [hdec]
  unfold half eps
  generalize k1_pay24 lanes big acc.1 = oh at hone
  generalize k1_pay29 x1 y1 x2 y2 lanes big acc.1 = a
  generalize k1_pay30 x1 y1 x2 y2 (k1_pay48 x1 y1 x2 y2) lanes big acc.1 = b
  obtain ⟨sw, sf⟩ := acc
  dsimp only
  constructor
  · refine Eq.trans (b := Scalar.select (oh (ix2 c l)) (Ideal.ofBits FTy.f32 4286578688#32)
      (Scalar.select (IntOp.andi (BitVec.ofBool (decide (sw (ix2 c l) ≠ Ideal.ofBits FTy.f32 4286578688#32))) (IntOp.xori (oh (ix2 c l)) 1#1))
        (sw (ix2 c l) * (if Ideal.ofBits FTy.f32 1056964608#32 < Ideal.div (a (ix2 c l)) (b (ix2 c l) + Ideal.ofBits FTy.f32 730643660#32) then 1 - Ideal.div (a (ix2 c l)) (b (ix2 c l) + Ideal.ofBits FTy.f32 730643660#32) else 1)) (sw (ix2 c l)))) (by pointwise [k1_pay54, k1_pay52, k1_pay51]) ?_
    rw [hone, ofBits_ninf]
    by_cases h1 : l = w
    · simp [h1, Scalar.select]
    · by_cases h2 : (sw (ix2 c l) : EReal) = ⊥ <;> simp [h1, h2, Scalar.select, IntOp.andi, IntOp.xori]
  · refine Eq.trans (b :=
      (Scalar.select (IntOp.andi (BitVec.ofBool (decide (sw (ix2 c l) ≠ Ideal.ofBits FTy.f32 4286578688#32))) (IntOp.xori (oh (ix2 c l)) 1#1))
        (sf (ix2 c l) * (if Ideal.ofBits FTy.f32 1056964608#32 < Ideal.div (a (ix2 c l)) (b (ix2 c l) + Ideal.ofBits FTy.f32 730643660#32) then 1 - Ideal.div (a (ix2 c l)) (b (ix2 c l) + Ideal.ofBits FTy.f32 730643660#32) else 1)) (sf (ix2 c l)))) (by pointwise [k1_pay53, k1_pay52, k1_pay51]) ?_
    rw [hone, ofBits_ninf]
    by_cases h1 : l = w
    · simp [h1, Scalar.select, IntOp.andi, IntOp.xori]
    · by_cases h2 : (sw (ix2 c l) : EReal) = ⊥ <;> simp [h1, h2, Scalar.select, IntOp.andi, IntOp.xori]

variable (s : Vec Ideal S80x128 .f32)

/-- The grids after `t` steps. -/
def gridsAt : ℕ → Grids Ideal
  | 0 => (s, s)
  | t + 1 => nmsStep x1 y1 x2 y2 (gridsAt t)

/-- Row `c` over the steps is a run on a row of lanes. -/
theorem row_run (c : Fin 80) : ∃ win, RowRun (laneDecay x1 y1 x2 y2 c) (fun t l => ((gridsAt x1 y1 x2 y2 s t).1 (ix2 c l) : EReal))
    (fun t l => ((gridsAt x1 y1 x2 y2 s t).2 (ix2 c l) : EReal)) win := by
  choose win hwin using fun t => exists_best (n := 128) fun l => ((gridsAt x1 y1 x2 y2 s t).1 (ix2 c l) : EReal)
  exact ⟨win, rfl, fun t l => (step_at x1 y1 x2 y2 (gridsAt x1 y1 x2 y2 s t) c (win t) (hwin t) l).1,
    fun t l => (step_at x1 y1 x2 y2 (gridsAt x1 y1 x2 y2 s t) c (win t) (hwin t) l).2, hwin⟩

theorem foldl_steps : ∀ (n : ℕ) (l : List (Fin n)) (t : ℕ), l.foldl (fun acc _ => nmsStep x1 y1 x2 y2 acc) (gridsAt x1 y1 x2 y2 s t) = gridsAt x1 y1 x2 y2 s (t + l.length)
  | _, [], _ => rfl
  | n, _ :: l, t => by
    rw [List.foldl_cons]
    refine (foldl_steps n l (t + 1)).trans ?_
    rw [List.length_cons]; congr 1; omega

/-- The greedy passes are that many steps. -/
theorem greedy_eq (n : Elt Ideal .i32) (h2 : (k1_t2_loop n).trips = 0) : greedy x1 y1 x2 y2 s n = gridsAt x1 y1 x2 y2 s (k1_t1_loop n).trips := by
  unfold greedy
  rw [Scf.fold_eq, Scf.fold_eq, pay50_eq]
  have e : List.finRange (k1_t2_loop n).trips = [] := by
    apply List.eq_nil_of_length_eq_zero; rw [List.length_finRange, h2]
  rw [e, List.foldl_nil]
  refine (foldl_steps x1 y1 x2 y2 s _ _ 0).trans ?_
  rw [List.length_finRange, Nat.zero_add]

end

end Cert.Proof.KernelIdeal
-- ==== Proof.KernelIdeal.Moved.lean ====
/-
  The boxes moved apart by class: their least corners are not negative, and boxes of different classes share nothing.
-/
module

public import proofs.«01_k».proof.Proof.KernelIdeal.Valid
public import proofs.«01_k».proof.Proof.KernelIdeal.Reads
public import proofs.«01_k».proof.Proof.KernelIdeal.Rows

@[expose] public section
set_option maxRecDepth 16384
noncomputable section
namespace Cert.Proof.KernelIdeal

open Cert.KernelIdeal Cert.KernelIdeal.Gen
open Idealize.ShloMosaic Idealize.ShloMosaic.TcCoe Idealize.ShloMosaic.Tactic
open Cert.Proof.Math

/-- The largest coordinate. -/
def topVec (b : FVec Ideal S5000x4 .f32) : FVec Ideal S_ .f32 := Host.reduce FloatOps.maximumf b (constant S_ .f32 0xFF800000#32) reducesTo_S5000x4_S_d0_1 h_S_

def topOf (b : FVec Ideal S5000x4 .f32) : EReal := topVec b HostLoop.idx0

theorem fold_max {ι : Type} (f : ι → EReal) (l : List ι) (v : EReal) :
    (l.foldl (fun r n => max r (f n)) v = v ∨ ∃ n ∈ l, l.foldl (fun r n => max r (f n)) v = f n) ∧ v ≤ l.foldl (fun r n => max r (f n)) v
    ∧ ∀ n ∈ l, f n ≤ l.foldl (fun r n => max r (f n)) v := by
  induction l generalizing v with
  | nil => exact ⟨Or.inl rfl, le_refl _, fun n h => nomatch h⟩
  | cons x l ih =>
    obtain ⟨i1, i2, i3⟩ := ih (max v (f x))
    rw [List.foldl_cons]
    refine ⟨?_, (le_max_left _ _).trans i2, fun n hn => ?_⟩
    · rcases i1 with h | ⟨n, hn, h⟩
      · rcases max_choice v (f x) with r | r
        · exact Or.inl (h.trans r)
        · exact Or.inr ⟨x, List.mem_cons_self, h.trans r⟩
      · exact Or.inr ⟨n, List.mem_cons_of_mem _ hn, h⟩
    · rcases List.mem_cons.1 hn with rfl | hn
      · exact (le_max_right _ _).trans i2
      · exact i3 n hn

theorem reduce_max_spec {s t : Shape} {axes : List (Fin s.rank)} (x : s.Idx → EReal) (init : S_.Idx → EReal) (hi : ∀ j, init j = (⊥ : EReal)) (hr : s.ReducesTo axes t) (hsub : Subsingleton t.Idx) (k0 : s.Idx) (j : t.Idx) :
    (∃ k, (Host.reduce (max : EReal → EReal → EReal) x init hr h_S_ j : EReal) = x k) ∧ ∀ k, (x k : EReal) ≤ Host.reduce (max : EReal → EReal → EReal) x init hr h_S_ j := by
  obtain ⟨L, hL⟩ : ∃ L, L = (List.finRange s.numel).filter fun n => decide (hr.drop (s.rowMajor.symm n) = j) := ⟨_, rfl⟩
  have e : (Host.reduce (max : EReal → EReal → EReal) x init hr h_S_ j : EReal) = L.foldl (fun r n => max r (x (s.rowMajor.symm n) : EReal)) ⊥ := by
    rw [hL, ← hi (Shape.Idx.first h_S_)]
    rfl
  have hmem : ∀ k : s.Idx, s.rowMajor k ∈ L := fun k => by
    rw [hL, List.mem_filter]
    exact ⟨List.mem_finRange _, decide_eq_true (Subsingleton.elim _ _)⟩
  obtain ⟨h1, h2, h3⟩ := fold_max (fun n => (x (s.rowMajor.symm n) : EReal)) L ⊥
  rw [← e] at h1 h2 h3
  have hall : ∀ k, (x k : EReal) ≤ Host.reduce (max : EReal → EReal → EReal) x init hr h_S_ j := fun k => by
    have := h3 _ (hmem k)
    rwa [Equiv.symm_apply_apply] at this
  refine ⟨?_, hall⟩
  rcases h1 with h | ⟨n, _, h⟩
  · refine ⟨k0, ?_⟩
    have := hall k0
    rw [h] at this ⊢
    exact (le_bot_iff.1 this).symm
  · exact ⟨_, h⟩

/-- The largest coordinate is one of them, and none exceeds it. -/
theorem topOf_spec (b : FVec Ideal S5000x4 .f32) (i : Fin 5000) : (∃ j, topOf b = b j) ∧ ∀ j, (b j : EReal) ≤ topOf b := by
  obtain ⟨I, hI⟩ : ∃ I : FVec Ideal S_ .f32, I = constant S_ .f32 0xFF800000#32 := ⟨_, rfl⟩
  have hi : ∀ j, I j = (⊥ : EReal) := fun _ => by rw [hI]; exact ofBits_ninf
  have e : topOf b = Host.reduce (max : EReal → EReal → EReal) b I reducesTo_S5000x4_S_d0_1 h_S_ HostLoop.idx0 := by
    unfold topOf topVec
    rw [← hI]
    rfl
  rw [e]
  exact reduce_max_spec b I hi reducesTo_S5000x4_S_d0_1 inferInstance (ix2 i 0) HostLoop.idx0

theorem shifted_at (b : FVec Ideal S5000x4 .f32) (n : IVec S5000 32) (i : Fin 5000) (k : Fin 4) :
    (shifted b n (ix2 i k) : EReal) = b (ix2 i k) + (((n (ix1 i)).toInt : ℝ) : EReal) * (topOf b + 1) := by
  have e : (shifted b n (ix2 i k) : EReal) = b (ix2 i k) + (FloatOps.sitofp (F := Ideal) .f32 (n (ix1 i)) : EReal) * (topVec b HostLoop.idx0 + 1) := by
    unfold shifted topVec
    generalize Host.reduce FloatOps.maximumf b (constant S_ .f32 0xFF800000#32) reducesTo_S5000x4_S_d0_1 h_S_ = R
    rw [Subsingleton.elim HostLoop.idx0 ix0]
    pointwise []
  exact e

/-- The box of an item, moved. -/
def movedBox (b : FVec Ideal S5000x4 .f32) (n : IVec S5000 32) (i : Fin 5000) : Box := ⟨shifted b n (ix2 i 0), shifted b n (ix2 i 1), shifted b n (ix2 i 2), shifted b n (ix2 i 3)⟩

/-- The decay between two moved boxes. -/
def pairDecay (b : FVec Ideal S5000x4 .f32) (n : IVec S5000 32) (i j : Fin 5000) : EReal := decay half eps 1 (movedBox b n i) (movedBox b n j)

variable {b : FVec Ideal S5000x4 .f32} {s : FVec Ideal S5000 .f32} {n : IVec S5000 32} {cls : Fin 5000 → Fin 80}

theorem moved_facts (h : Valid b s n) (hc : ∀ i, n (ix1 i) = BitVec.ofNat 32 (cls i).val) (i0 : Fin 5000) :
    (∀ i, Low (movedBox b n i)) ∧ ∀ i j, cls i ≠ cls j → shared (movedBox b n i) (movedBox b n j) = 0 := by
  obtain ⟨_, hall⟩ := topOf_spec b i0
  have hM : 0 ≤ topOf b := (h.low i0).1.trans (hall _)
  have hsh : ∀ i k, (shifted b n (ix2 i k) : EReal) = b (ix2 i k) + ((((cls i).val : ℤ) : ℝ) : EReal) * (topOf b + 1) := by
    intro i k
    have hlt := (cls i).isLt
    rw [shifted_at, hc, intOf _ (by omega)]
  have hoff : ∀ i, 0 ≤ ((((cls i).val : ℤ) : ℝ) : EReal) * (topOf b + 1) := fun i =>
    mul_nonneg (by exact_mod_cast Nat.zero_le _) (add_nonneg hM zero_le_one)
  have hlow : ∀ i, Low (movedBox b n i) := fun i => by
    unfold movedBox
    rw [hsh, hsh, hsh, hsh]
    exact ⟨add_nonneg (h.low i).1 (hoff i), add_nonneg (h.low i).2 (hoff i)⟩
  refine ⟨hlow, fun i j hij => shared_zero_left ?_⟩
  unfold movedBox
  dsimp only
  rw [hsh, hsh, hsh, hsh]
  rcases lt_or_gt_of_ne (fun e => hij (Fin.ext e) : (cls i).val ≠ (cls j).val) with hlt | hlt
  · exact (min_le_left _ _).trans ((moved_apart hM hlt (hall _) (h.low j).1).trans (le_max_right _ _))
  · exact (min_le_right _ _).trans ((moved_apart hM hlt (hall _) (h.low i).1).trans (le_max_left _ _))

/-- The decay is between 0 and 1, and 1 across classes. -/
theorem pairDecay_facts (h : Valid b s n) (hc : ∀ i, n (ix1 i) = BitVec.ofNat 32 (cls i).val) (i0 : Fin 5000) :
    (∀ i j, 0 ≤ pairDecay b n i j) ∧ (∀ i j, pairDecay b n i j ≤ 1) ∧ ∀ i j, cls i ≠ cls j → pairDecay b n i j = 1 := by
  obtain ⟨e, he, h0⟩ := eps_pos
  obtain ⟨hg, hs⟩ := moved_facts h hc i0
  exact ⟨fun i j => (decay_mem e he h0 rfl half_nonneg (hg i) (hg j)).1.1, fun i j => (decay_mem e he h0 rfl half_nonneg (hg i) (hg j)).1.2, fun i j hij => (decay_mem e he h0 rfl half_nonneg (hg i) (hg j)).2 (hs i j hij)⟩

end Cert.Proof.KernelIdeal
-- ==== Proof.KernelIdeal.Network.lean ====
/- The compare-exchange network of the launch is Batcher's bitonic network on the 16384 entries read row by row, ordered
   by score downward and index upward: so it sorts them. -/
module

public import proofs.«01_k».proof.Proof.KernelIdeal.Body
public import Idealize.ShloMosaic.Lib.SortNet.Sorts
public import Idealize.ShloMosaic.Lib.SortNet.Printed
public import Idealize.ShloMosaic.Lib.Pointwise
public import Mathlib.Data.Prod.Lex

@[expose] public section

set_option maxRecDepth 16384

noncomputable section

namespace Cert.Proof.KernelIdeal

open Cert.KernelIdeal Cert.KernelIdeal.Gen
open Idealize.ShloMosaic Idealize.ShloMosaic.SortNet

/-- The order the network sorts by: a larger score first, then a smaller index. -/
abbrev Key : Type := Lex (ERealᵒᵈ × EReal)

/-- The place of the flat position `i` on the 128 × 128 grid. -/
def spot (i : Fin (2 ^ 14)) : S128x128.Idx :=
  ix2 (n0 := 128) (n1 := 128) ⟨i.val / 128, by have := i.isLt; omega⟩ ⟨i.val % 128, by omega⟩

/-- The key at a flat position. -/
def keys (p : Pair Ideal) (i : Fin (2 ^ 14)) : Key := toLex (OrderDual.toDual (p.1 (spot i) : EReal), (p.2 (spot i) : EReal))

theorem pay61_spot (i : Fin (2 ^ 14)) : k1_pay61 (spot i) = BitVec.ofNat 32 i.val := by
  have hi := i.isLt
  have e : k1_pay61 (spot i) = BitVec.ofNat 32 (i.val / 128) * 128#32 + BitVec.ofNat 32 (i.val % 128) := by
    unfold spot; pointwise [k1_pay61]
    rfl
  rw [e]
  apply BitVec.eq_of_toNat_eq
  simp only [BitVec.toNat_add, BitVec.toNat_mul, BitVec.toNat_ofNat]
  omega

theorem hasBit_spot (d : BitVec 32) {s : Nat} (hd : d.toNat = 2 ^ s) (i : Fin (2 ^ 14)) :
    hasBit k1_pay61 d (spot i) = BitVec.ofBool (decide (i.val &&& 2 ^ s ≠ 0)) := by
  have hi : i.val < 2 ^ 32 := i.isLt.trans (by norm_num)
  show BitVec.ofBool (IntOp.andi (k1_pay61 (spot i)) d != 0#32) = _
  rw [pay61_spot]
  congr 1
  rw [Bool.eq_iff_iff, bne_iff_ne, decide_eq_true_eq, Ne, and_distance_eq_zero_iff hi d hd]

theorem ix2_congr {a a' b b' : Fin 128} (ha : a = a') (hb : b = b') :
    ix2 a b = ix2 a' b' := by rw [ha, hb]

/-- A rotation along a row, read at a flat position. -/
theorem rotate1_spot (n : BitVec 32) (X : FVec Ideal S128x128 .f32) (i j : Fin (2 ^ 14))
    (hr : i.val / 128 = j.val / 128) (hc : (i.val % 128 + 128 - n.toNat % 128) % 128 = j.val % 128) :
    dynamicRotate 1 n none X rotates_S128x128_d1 (spot i) = X (spot j) := by
  have e : spot j = fun b : Fin 2 => if b = 1 then (⟨((spot i b).val + S128x128.size b - (n.toNat + 0) % S128x128.size b) % S128x128.size b, Nat.mod_lt _ (Fin.pos (spot i b))⟩ : Fin (S128x128.size b)) else spot i b := by
    funext b
    match b with
    | ⟨0, _⟩ => exact Fin.ext hr.symm
    | ⟨1, _⟩ => exact Fin.ext (by
        show j.val % 128 = (i.val % 128 + 128 - (n.toNat + 0) % 128) % 128
        rw [Nat.add_zero]; exact hc.symm)
  rw [e]; rfl

/-- A rotation across rows, read at a flat position. -/
theorem rotate0_spot (n : BitVec 32) (X : FVec Ideal S128x128 .f32) (i j : Fin (2 ^ 14))
    (hc : i.val % 128 = j.val % 128) (hr : (i.val / 128 + 128 - n.toNat % 128) % 128 = j.val / 128) :
    dynamicRotate 0 n none X rotates_S128x128_d0 (spot i) = X (spot j) := by
  have e : spot j = fun b : Fin 2 => if b = 0 then (⟨((spot i b).val + S128x128.size b - (n.toNat + 0) % S128x128.size b) % S128x128.size b, Nat.mod_lt _ (Fin.pos (spot i b))⟩ : Fin (S128x128.size b)) else spot i b := by
    funext b
    match b with
    | ⟨0, _⟩ => exact Fin.ext (by
        show j.val / 128 = (i.val / 128 + 128 - (n.toNat + 0) % 128) % 128
        rw [Nat.add_zero]; exact hr.symm)
    | ⟨1, _⟩ => exact Fin.ext hc.symm
  rw [e]; rfl

theorem select_at {α : Type} (c : IVec S128x128 1) (u v : S128x128.Idx → α) (j : S128x128.Idx) (b : Bool) (h : c j = BitVec.ofBool b) :
    select c u v j = if b then u j else v j := by
  show Scalar.select (c j) (u j) (v j) = _
  rw [h, select_ofBool]

theorem colPartner_spot (st : BitVec 32) {s : Nat} (hs : s < 7) (hst : st.toNat = 2 ^ s) (X : FVec Ideal S128x128 .f32) (i : Fin (2 ^ 14)) :
    colPartner k1_pay61 st X (spot i) = X (spot (partner 14 s i)) := by
  have hi := i.isLt
  have h2 : 2 ^ s ∣ 128 := (Nat.pow_dvd_pow 2 (by omega : s ≤ 7))
  have hlt : 2 ^ s < 128 := (Nat.pow_lt_pow_right (by decide) hs)
  have hsub : (Scalar.subi 128#32 st).toNat = 128 - 2 ^ s := by
    show (128#32 - st).toNat = _
    rw [BitVec.toNat_sub, hst]; simp only [BitVec.toNat_ofNat]; omega
  have hpos : 0 < 2 ^ s := Nat.two_pow_pos s
  have htb : i.val.testBit s = (i.val % 128).testBit s := by
    rw [show 128 = 2 ^ 7 from rfl, Nat.testBit_mod_two_pow]; simp [hs]
  rw [colPartner, select_at _ _ _ _ _ (hasBit_spot st hst i)]
  by_cases hb : i.val &&& 2 ^ s = 0
  · rw [if_neg (by simpa using hb)]
    have hp := partner_val_of_clear (p := 14) (by omega) i hb
    have hle : i.val % 128 + 2 ^ s < 128 := by
      have hb' := (and_two_pow_eq_zero_iff_testBit _ _).mp hb
      rw [htb] at hb'
      have hx := xor_two_pow_of_clear (i.val % 128) s ((and_two_pow_eq_zero_iff_testBit _ _).mpr hb')
      have := Nat.xor_lt_two_pow (n := 7) (show i.val % 128 < 2 ^ 7 by omega) (show 2 ^ s < 2 ^ 7 from hlt)
      omega
    refine rotate1_spot _ _ _ _ ?_ ?_
    · rw [hp]; omega
    · rw [hp, hsub]; omega
  · rw [if_pos (by simpa using hb)]
    have hp := partner_val_of_set (p := 14) (by omega) i hb
    have hle : 2 ^ s ≤ i.val % 128 := by
      refine Nat.ge_two_pow_of_testBit (i := s) ?_
      rw [← htb]
      by_contra hc
      exact hb ((and_two_pow_eq_zero_iff_testBit _ _).mpr (by simpa using hc))
    refine rotate1_spot _ _ _ _ ?_ ?_
    · rw [hp.2]; omega
    · rw [hp.2, hst]; omega

theorem rowPartner_spot (st : BitVec 32) {s : Nat} (hs7 : 7 ≤ s) (hs : s < 14) (hst : st.toNat = 2 ^ s) (hamt : (rowAmt st).toNat = 2 ^ (s - 7))
    (X : FVec Ideal S128x128 .f32) (i : Fin (2 ^ 14)) : rowPartner k1_pay61 st X (spot i) = X (spot (partner 14 s i)) := by
  have hi := i.isLt
  obtain ⟨u, rfl⟩ : ∃ u, s = u + 7 := ⟨s - 7, by omega⟩
  have hu : u < 7 := by omega
  have hlt : 2 ^ u < 128 := (Nat.pow_lt_pow_right (by decide) hu)
  rw [Nat.add_sub_cancel] at hamt
  have hpow : 2 ^ (u + 7) = 2 ^ u * 128 := by rw [Nat.pow_add]
  have hpos : 0 < 2 ^ u := Nat.two_pow_pos u
  have hsub : (Scalar.subi 128#32 (rowAmt st)).toNat = 128 - 2 ^ u := by
    show (128#32 - rowAmt st).toNat = _
    rw [BitVec.toNat_sub, hamt]; simp only [BitVec.toNat_ofNat]; omega
  rw [rowPartner, select_at _ _ _ _ _ (hasBit_spot st hst i)]
  by_cases hb : i.val &&& 2 ^ (u + 7) = 0
  · rw [if_neg (by simpa using hb)]
    have hp := partner_val_of_clear (p := 14) (by omega) i hb
    have hl := (partner 14 (u + 7) i).isLt
    rw [hpow] at hp
    refine rotate0_spot _ _ _ _ ?_ ?_
    · rw [hp]; omega
    · rw [hp, hsub]; omega
  · rw [if_pos (by simpa using hb)]
    have hp := partner_val_of_set (p := 14) (by omega) i hb
    rw [hpow] at hp
    refine rotate0_spot _ _ _ _ ?_ ?_
    · rw [hp.2]; omega
    · rw [hp.2, hamt]; omega

/-- The direction of the blocks of length `2 ^ (l + 1)`: the network's, ascending. -/
def low (l : Nat) (i : Fin (2 ^ 14)) : Bool := (decide (i.val &&& 2 ^ (l + 1) = 0)) == false

theorem keys_lt (S G S' G' : EReal) :
    (toLex (OrderDual.toDual S, G) : Key) < toLex (OrderDual.toDual S', G') ↔ S' < S ∨ (S = S' ∧ G < G') := by
  rw [Prod.Lex.toLex_lt_toLex]
  exact Iff.rfl

theorem cmp_ogt (a b : Ideal .f32) : FloatOps.cmpf .ogt a b = BitVec.ofBool (decide ((b : EReal) < a)) := rfl
theorem cmp_olt (a b : Ideal .f32) : FloatOps.cmpf .olt a b = BitVec.ofBool (decide ((a : EReal) < b)) := rfl
theorem cmp_oeq (a b : Ideal .f32) : FloatOps.cmpf .oeq a b = BitVec.ofBool (decide ((a : EReal) = b)) := rfl

theorem ofBool_and' (x y : Bool) : IntOp.andi (BitVec.ofBool x) (BitVec.ofBool y) = BitVec.ofBool (x && y) := by cases x <;> cases y <;> rfl
theorem ofBool_or' (x y : Bool) : IntOp.ori (BitVec.ofBool x) (BitVec.ofBool y) = BitVec.ofBool (x || y) := by cases x <;> cases y <;> rfl

theorem before_spot (p q : Pair Ideal) (x : S128x128.Idx) :
    before p.1 p.2 q.1 q.2 x = BitVec.ofBool (decide ((toLex (OrderDual.toDual (p.1 x : EReal), (p.2 x : EReal)) : Key) < toLex (OrderDual.toDual (q.1 x : EReal), (q.2 x : EReal)))) := by
  show IntOp.ori (FloatOps.cmpf .ogt (p.1 x) (q.1 x)) (IntOp.andi (FloatOps.cmpf .oeq (p.1 x) (q.1 x)) (FloatOps.cmpf .olt (p.2 x) (q.2 x))) = _
  rw [cmp_ogt, cmp_oeq, cmp_olt, ofBool_and', ofBool_or']
  congr 1
  rw [Bool.eq_iff_iff, decide_eq_true_iff, keys_lt]
  simp

theorem wantsEarlier_spot (L st : BitVec 32) {l s : Nat} (hL : L.toNat = 2 ^ (l + 1)) (hst : st.toNat = 2 ^ s) (i : Fin (2 ^ 14)) :
    wantsEarlier k1_pay61 L st (spot i) = BitVec.ofBool (!upperXor s (low l) i) := by
  rw [wantsEarlier, xori_one_apply _ _ _ (xori_apply_ofBool _ _ _ _ _ (hasBit_spot st hst i) (hasBit_spot L hL i))]
  congr 2
  unfold upperXor low
  congr 1
  by_cases h : i.val &&& 2 ^ (l + 1) = 0 <;> simp [h]

/-- One printed exchange with the partners is one stage of the network. -/
theorem exchange_keys (L st : BitVec 32) {l s : Nat} (hs : s < 14) (hsl : s ≤ l) (hL : L.toNat = 2 ^ (l + 1)) (hst : st.toNat = 2 ^ s) (p q : Pair Ideal)
    (h1 : ∀ i, q.1 (spot i) = p.1 (spot (partner 14 s i))) (h2 : ∀ i, q.2 (spot i) = p.2 (spot (partner 14 s i))) :
    keys (exchange k1_pay61 L st p q) = Network.apply (stage 14 s (low l)) (keys p) := by
  have hkeep : ∀ j, upperXor s (low l) (partner 14 s j) = !upperXor s (low l) j := fun j =>
    upperXor_partner hs _ j (sizeClear_partner hs hsl false j)
  funext i
  rw [← stage_upperXor, apply_stage_select hs _ hkeep]
  have ht : takes k1_pay61 L st p q (spot i) =
      BitVec.ofBool (if upperXor s (low l) i then decide (keys p i < keys p (partner 14 s i)) else decide (keys p (partner 14 s i) < keys p i)) := by
    show IntOp.ori (IntOp.andi (wantsEarlier k1_pay61 L st (spot i)) (before q.1 q.2 p.1 p.2 (spot i)))
      (IntOp.andi (xori (wantsEarlier k1_pay61 L st) (constantI S128x128 1 1#1) (spot i)) (before p.1 p.2 q.1 q.2 (spot i))) = _
    rw [xori_one_apply _ _ _ (wantsEarlier_spot L st hL hst i), wantsEarlier_spot L st hL hst i, before_spot p q, before_spot q p,
      ofBool_and', ofBool_and', ofBool_or', h1, h2]
    unfold keys
    cases upperXor s (low l) i <;> simp
  unfold keys at ht ⊢
  show toLex (OrderDual.toDual (select (takes k1_pay61 L st p q) q.1 p.1 (spot i) : EReal), (select (takes k1_pay61 L st p q) q.2 p.2 (spot i) : EReal)) = _
  rw [select_at _ _ _ _ _ ht, select_at _ _ _ _ _ ht, h1, h2]
  generalize hA : (toLex (OrderDual.toDual (p.1 (spot (partner 14 s i)) : EReal), (p.2 (spot (partner 14 s i)) : EReal)) : Key) = a
  generalize hB : (toLex (OrderDual.toDual (p.1 (spot i) : EReal), (p.2 (spot i) : EReal)) : Key) = b
  have hite : ∀ c : Bool, (toLex (OrderDual.toDual (if c then p.1 (spot (partner 14 s i)) else p.1 (spot i) : EReal), (if c then p.2 (spot (partner 14 s i)) else p.2 (spot i) : EReal)) : Key)
      = if c then a else b := by intro c; rw [← hA, ← hB]; cases c <;> rfl
  refine (hite _).trans ?_
  rcases lt_trichotomy a b with h | h | h
  · have h' := h.not_gt
    cases upperXor s (low l) i <;> simp [h, h']
  · subst h; simp
  · have h' := h.not_gt
    cases upperXor s (low l) i <;> simp [h, h']

theorem colStage_keys (L st : BitVec 32) {l s : Nat} (hs : s < 7) (hsl : s ≤ l) (hL : L.toNat = 2 ^ (l + 1)) (hst : st.toNat = 2 ^ s) (p : Pair Ideal) :
    keys (colStage k1_pay61 L st p) = Network.apply (stage 14 s (low l)) (keys p) :=
  exchange_keys L st (by omega) hsl hL hst p _ (fun i => colPartner_spot st hs hst _ i) (fun i => colPartner_spot st hs hst _ i)

theorem rowStage_keys (L st : BitVec 32) {l s : Nat} (hs7 : 7 ≤ s) (hs : s < 14) (hsl : s ≤ l) (hL : L.toNat = 2 ^ (l + 1)) (hst : st.toNat = 2 ^ s)
    (hamt : (rowAmt st).toNat = 2 ^ (s - 7)) (p : Pair Ideal) :
    keys (rowStage k1_pay61 L st p) = Network.apply (stage 14 s (low l)) (keys p) :=
  exchange_keys L st hs hsl hL hst p _ (fun i => rowPartner_spot st hs7 hs hst hamt _ i) (fun i => rowPartner_spot st hs7 hs hst hamt _ i)

theorem foldl_keys {n : Nat} (f : Fin n → Pair Ideal → Pair Ideal) (N : Fin n → Network (2 ^ 14)) (h : ∀ i p, keys (f i p) = Network.apply (N i) (keys p)) :
    ∀ (l : List (Fin n)) (p : Pair Ideal), keys (l.foldl (fun acc k => f k acc) p) = Network.apply (l.flatMap N) (keys p)
  | [], _ => rfl
  | k :: l, p => by rw [List.foldl_cons, foldl_keys f N h l, h, List.flatMap_cons, Network.apply_append]

/-- `n` stages within rows: the distances `2 ^ (n - 1)` down to `1`. -/
theorem colStages_keys (L top : BitVec 32) {l n : Nat} (hn : n ≤ 7) (hnl : n ≤ l + 1) (hL : L.toNat = 2 ^ (l + 1))
    (htop : ∀ i : Fin n, (Scalar.shrsi top (Scf.iv 0#32 1#32 i)).toNat = 2 ^ (n - 1 - i.val)) (p : Pair Ideal) :
    keys (colStages k1_pay61 L top n p) = Network.apply ((List.finRange n).flatMap fun i => stage 14 (n - 1 - i.val) (low l)) (keys p) := by
  rw [colStages, Scf.fold_eq]
  exact foldl_keys (fun i acc => colStage k1_pay61 L (Scalar.shrsi top (Scf.iv 0#32 1#32 i)) acc) (fun i => stage 14 (n - 1 - i.val) (low l))
    (fun i q => colStage_keys L _ (by omega) (by omega) hL (htop i) q) (List.finRange n) p

/-- `n` stages across rows: the distances `2 ^ (n + 6)` down to `128`. -/
theorem rowStages_keys (L top : BitVec 32) {l n : Nat} (hn : n ≤ 7) (hnl : n + 7 ≤ l + 1) (hL : L.toNat = 2 ^ (l + 1))
    (htop : ∀ i : Fin n, (Scalar.shrsi top (Scf.iv 0#32 1#32 i)).toNat = 2 ^ (n + 6 - i.val) ∧ (rowAmt (Scalar.shrsi top (Scf.iv 0#32 1#32 i))).toNat = 2 ^ (n + 6 - i.val - 7)) (p : Pair Ideal) :
    keys (rowStages k1_pay61 L top n p) = Network.apply ((List.finRange n).flatMap fun i => stage 14 (n + 6 - i.val) (low l)) (keys p) := by
  rw [rowStages, Scf.fold_eq]
  exact foldl_keys (fun i acc => rowStage k1_pay61 L (Scalar.shrsi top (Scf.iv 0#32 1#32 i)) acc) (fun i => stage 14 (n + 6 - i.val) (low l))
    (fun i q => rowStage_keys L _ (by omega) (by omega) (by omega) hL (htop i).1 (htop i).2 q) (List.finRange n) p

/-- The stages in the order the launch runs them. -/
theorem stages_order {α : Type} (N : Nat → Nat → List α) :
    ((List.range 14).flatMap fun l => (List.range (l + 1)).reverse.flatMap fun s => N l s) =
      N 0 0 ++ (((List.finRange 2).flatMap fun i => N 1 (2 - 1 - i.val)) ++ (((List.finRange 3).flatMap fun i => N 2 (3 - 1 - i.val)) ++
      (((List.finRange 4).flatMap fun i => N 3 (4 - 1 - i.val)) ++ (((List.finRange 5).flatMap fun i => N 4 (5 - 1 - i.val)) ++
      (((List.finRange 6).flatMap fun i => N 5 (6 - 1 - i.val)) ++ (((List.finRange 7).flatMap fun i => N 6 (7 - 1 - i.val)) ++
      (N 7 7 ++ (((List.finRange 7).flatMap fun i => N 7 (7 - 1 - i.val)) ++
      (((List.finRange 2).flatMap fun i => N 8 (2 + 6 - i.val)) ++ (((List.finRange 7).flatMap fun i => N 8 (7 - 1 - i.val)) ++
      (((List.finRange 3).flatMap fun i => N 9 (3 + 6 - i.val)) ++ (((List.finRange 7).flatMap fun i => N 9 (7 - 1 - i.val)) ++
      (((List.finRange 4).flatMap fun i => N 10 (4 + 6 - i.val)) ++ (((List.finRange 7).flatMap fun i => N 10 (7 - 1 - i.val)) ++
      (((List.finRange 5).flatMap fun i => N 11 (5 + 6 - i.val)) ++ (((List.finRange 7).flatMap fun i => N 11 (7 - 1 - i.val)) ++
      (((List.finRange 6).flatMap fun i => N 12 (6 + 6 - i.val)) ++ (((List.finRange 7).flatMap fun i => N 12 (7 - 1 - i.val)) ++
      (((List.finRange 7).flatMap fun i => N 13 (7 + 6 - i.val)) ++ ((List.finRange 7).flatMap fun i => N 13 (7 - 1 - i.val))))))))))))))))))))) := by
  simp [List.range_succ, List.finRange_succ, List.flatMap_append, List.reverse_append]

/-- The launch's network is the bitonic one. -/
theorem network_keys (p : Pair Ideal) : keys (network p) = Network.apply (sortNet 14 false) (keys p) := by
  unfold network sortD sortC sortB sortA
  rw [colStages_keys _ _ (l := 13) (by decide) (by decide) (by decide) (by decide),
    rowStages_keys _ _ (l := 13) (by decide) (by decide) (by decide) (by decide),
    colStages_keys _ _ (l := 12) (by decide) (by decide) (by decide) (by decide),
    rowStages_keys _ _ (l := 12) (by decide) (by decide) (by decide) (by decide),
    colStages_keys _ _ (l := 11) (by decide) (by decide) (by decide) (by decide),
    rowStages_keys _ _ (l := 11) (by decide) (by decide) (by decide) (by decide),
    colStages_keys _ _ (l := 10) (by decide) (by decide) (by decide) (by decide),
    rowStages_keys _ _ (l := 10) (by decide) (by decide) (by decide) (by decide),
    colStages_keys _ _ (l := 9) (by decide) (by decide) (by decide) (by decide),
    rowStages_keys _ _ (l := 9) (by decide) (by decide) (by decide) (by decide),
    colStages_keys _ _ (l := 8) (by decide) (by decide) (by decide) (by decide),
    rowStages_keys _ _ (l := 8) (by decide) (by decide) (by decide) (by decide),
    colStages_keys _ _ (l := 7) (by decide) (by decide) (by decide) (by decide),
    rowStage_keys _ _ (l := 7) (s := 7) (by decide) (by decide) (by decide) (by decide) (by decide) (by decide),
    colStages_keys _ _ (l := 6) (by decide) (by decide) (by decide) (by decide),
    colStages_keys _ _ (l := 5) (by decide) (by decide) (by decide) (by decide),
    colStages_keys _ _ (l := 4) (by decide) (by decide) (by decide) (by decide),
    colStages_keys _ _ (l := 3) (by decide) (by decide) (by decide) (by decide),
    colStages_keys _ _ (l := 2) (by decide) (by decide) (by decide) (by decide),
    colStages_keys _ _ (l := 1) (by decide) (by decide) (by decide) (by decide),
    colStage_keys _ _ (l := 0) (s := 0) (by decide) (by decide) (by decide) (by decide)]
  have e : sortNet 14 false = (List.range 14).flatMap fun l => (List.range (l + 1)).reverse.flatMap fun s => stage 14 s (low l) := rfl
  rw [e, stages_order fun l s => stage 14 s (low l)]
  simp only [Network.apply_append]

/-- The network's result is sorted, … -/
theorem network_monotone (p : Pair Ideal) : Monotone (keys (network p)) := by
  rw [network_keys]; exact sortNet_apply_monotone 14 (keys p)

/-- … a rearrangement of what it is given. -/
theorem network_perm (p : Pair Ideal) : ∃ σ : Equiv.Perm (Fin (2 ^ 14)), keys (network p) = keys p ∘ σ := by
  rw [network_keys]; exact Network.exists_perm _ _

end Cert.Proof.KernelIdeal
-- ==== Proof.Math.Sorted.lean ====
/-
  A monotone rearrangement of a family is settled by counting: the entries known to be the least, in order, come first.
-/
module

public import Mathlib.Data.Finset.Card
public import Mathlib.Data.Fintype.Card
public import Mathlib.Data.Fintype.Fin
public import Mathlib.Order.Interval.Finset.Fin
import Mathlib.Tactic.Common

@[expose] public section
namespace Cert.Proof.Math

variable {α : Type} [LinearOrder α] {N n : ℕ}

/-- How many entries satisfy a condition is the same in every order. -/
theorem card_reordered {f g : Fin N → α} {σ : Equiv.Perm (Fin N)} (h : f = g ∘ σ) (P : α → Prop) [DecidablePred P] :
    (Finset.univ.filter fun j => P (f j)).card = (Finset.univ.filter fun j => P (g j)).card := by
  refine Finset.card_nbij' (fun j => σ j) (fun j => σ.symm j) ?_ ?_ ?_ ?_
  · intro j hj
    have := (Finset.mem_filter.1 (Finset.mem_coe.1 hj)).2
    rw [h] at this
    exact Finset.mem_coe.2 (Finset.mem_filter.2 ⟨Finset.mem_univ _, this⟩)
  · intro j hj
    have := (Finset.mem_filter.1 (Finset.mem_coe.1 hj)).2
    refine Finset.mem_coe.2 (Finset.mem_filter.2 ⟨Finset.mem_univ _, ?_⟩)
    rw [h]; dsimp only [Function.comp]; rw [Equiv.apply_symm_apply]; exact this
  · intro j _; exact σ.symm_apply_apply j
  · intro j _; exact σ.apply_symm_apply j

/-- A monotone rearrangement `f` of `g`: where `g ∘ e` increases strictly and every other entry of `g` exceeds all of
    it, `f` begins with `g ∘ e`. -/
theorem head_of_sorted {f g : Fin N → α} {σ : Equiv.Perm (Fin N)} (h : f = g ∘ σ) (hf : Monotone f) (e : Fin n → Fin N) (he : ∀ a b, a < b → g (e a) < g (e b))
    (hother : ∀ j, (∀ a, e a ≠ j) → ∀ a, g (e a) < g j) (hn : n ≤ N) (k : Fin n) : f (k.castLE hn) = g (e k) := by
  have hle : ∀ a b, g (e a) < g (e b) → a < b := by
    intro a b hab
    by_contra hno
    rcases lt_or_eq_of_le (not_lt.1 hno) with c | c
    · exact absurd hab (not_lt.2 (he b a c).le)
    · rw [c] at hab; exact lt_irrefl _ hab
  have hinj : Function.Injective e := by
    intro a b hab
    rcases lt_trichotomy a b with c | c | c
    · have := he a b c; rw [hab] at this; exact absurd this (lt_irrefl _)
    · exact c
    · have := he b a c; rw [hab] at this; exact absurd this (lt_irrefl _)
  apply le_antisymm
  · by_contra hno
    have hlt := not_le.1 hno
    have h1 : (Finset.univ.filter fun j => f j ≤ g (e k)).card ≤ k.val := by
      have hs : (Finset.univ.filter fun j => f j ≤ g (e k)) ⊆ Finset.Iio (k.castLE hn) := by
        intro j hj
        have hj' := (Finset.mem_filter.1 hj).2
        rw [Finset.mem_Iio]
        by_contra hk
        exact absurd (lt_of_lt_of_le hlt (hf (not_lt.1 hk))) (not_lt.2 hj')
      have := Finset.card_le_card hs
      rwa [Fin.card_Iio] at this
    have h2 : k.val + 1 ≤ (Finset.univ.filter fun j => g j ≤ g (e k)).card := by
      have hs : (Finset.Iic k).image e ⊆ Finset.univ.filter fun j => g j ≤ g (e k) := by
        intro j hj
        obtain ⟨a, ha, rfl⟩ := Finset.mem_image.1 hj
        refine Finset.mem_filter.2 ⟨Finset.mem_univ _, ?_⟩
        rcases lt_or_eq_of_le (Finset.mem_Iic.1 ha) with c | c
        · exact (he _ _ c).le
        · rw [c]
      have := Finset.card_le_card hs
      rwa [Finset.card_image_of_injective _ hinj, Fin.card_Iic] at this
    rw [card_reordered h (fun x => x ≤ g (e k))] at h1
    omega
  · by_contra hno
    have hlt := not_le.1 hno
    have h1 : k.val + 1 ≤ (Finset.univ.filter fun j => f j < g (e k)).card := by
      have hs : Finset.Iic (k.castLE hn) ⊆ Finset.univ.filter fun j => f j < g (e k) := by
        intro j hj
        exact Finset.mem_filter.2 ⟨Finset.mem_univ _, lt_of_le_of_lt (hf (Finset.mem_Iic.1 hj)) hlt⟩
      have := Finset.card_le_card hs
      rwa [Fin.card_Iic] at this
    have h2 : (Finset.univ.filter fun j => g j < g (e k)).card ≤ k.val := by
      have hs : (Finset.univ.filter fun j => g j < g (e k)) ⊆ (Finset.Iio k).image e := by
        intro j hj
        have hj' := (Finset.mem_filter.1 hj).2
        by_cases hx : ∃ a, e a = j
        · obtain ⟨a, rfl⟩ := hx
          exact Finset.mem_image.2 ⟨a, Finset.mem_Iio.2 (hle _ _ hj'), rfl⟩
        · exact absurd hj' (not_lt.2 (hother j (fun a ha => hx ⟨a, ha⟩) k).le)
      have := (Finset.card_le_card hs).trans Finset.card_image_le
      rwa [Fin.card_Iio] at this
    rw [card_reordered h (fun x => x < g (e k))] at h1
    omega

end Cert.Proof.Math
-- ==== Proof.KernelIdeal.Result.lean ====
/-
  The pipeline's two results on grids that hold the items by class and lane: the picks of the greedy run in order, and
  their scores.
-/
module

public import proofs.«01_k».proof.Proof.KernelIdeal.Rows
public import proofs.«01_k».proof.Proof.KernelIdeal.Network
public import proofs.«01_k».proof.Proof.Math.Sorted

@[expose] public section
set_option maxRecDepth 16384
noncomputable section
namespace Cert.Proof.KernelIdeal

open Cert.KernelIdeal Cert.KernelIdeal.Gen
open Idealize.ShloMosaic Idealize.ShloMosaic.TcCoe Idealize.ShloMosaic.Tactic
open Cert.Proof.Math

/-- The flat position of a row and a lane. -/
def flat (r : Fin 80) (l : Fin 128) : Fin (2 ^ 14) := ⟨r.val * 128 + l.val, by have := r.isLt; have := l.isLt; norm_num; omega⟩

theorem pay59_at (v : FVec Ideal S80x128 .f32) (a b : Fin 128) : (k1_pay59 v (ix2 a b) : EReal) = if h : a.val < 80 then v (ix2 ⟨a.val, h⟩ b) else ⊥ := by
  rw [← ofBits_ninf]
  pointwise [k1_pay59]

theorem pay60_at (v : Vec Ideal S80x128 .f32) (a b : Fin 128) : (k1_pay60 (F := Ideal) v (ix2 a b) : EReal) = if h : a.val < 80 then v (ix2 ⟨a.val, h⟩ b) else Ideal.ofBits .f32 0x4B7FFFFF#32 := by
  pointwise [k1_pay60]

theorem spot_flat (r : Fin 80) (l : Fin 128) : spot (flat r l) = ix2 ⟨r.val, by have := r.isLt; omega⟩ l := by
  have h1 := r.isLt
  have h2 := l.isLt
  unfold spot flat
  exact ix2_congr (Fin.ext (by show (r.val * 128 + l.val) / 128 = r.val; omega)) (Fin.ext (by show (r.val * 128 + l.val) % 128 = l.val; omega))

section

variable (x1 y1 x2 y2 s g : Vec Ideal S80x128 .f32) {cls : Fin 5000 → Fin 80} {pos : Fin 5000 → Fin 128}
  {D : Fin 5000 → Fin 5000 → EReal} {S : ℕ → Fin 5000 → EReal} {A : ℕ → Finset (Fin 5000)} {m : ℕ → Fin 5000}

/-- The recorded scores of a lane without an item stay at the filling. -/
theorem pad_stays {w : ℕ} {E : Fin w → Fin w → EReal} {sw sf : ℕ → Fin w → EReal} {win : ℕ → Fin w} (r : RowRun E sw sf win) (l : Fin w) (h : sw 0 l = ⊥) (t : ℕ) :
    sw t l = ⊥ ∧ sf t l = ⊥ := by
  induction t with
  | zero => exact ⟨h, by rw [r.init]; exact h⟩
  | succ t ih =>
    refine ⟨?_, ?_⟩
    · rw [r.stepW, ih.1]; simp
    · rw [r.stepF, ih.1, ih.2]; simp

theorem result_at (h : GreedyRun D S A m) (hD : ∀ i j, 0 ≤ D i j) (hD1 : ∀ i j, D i j ≤ 1) (h0 : ∀ i, 0 ≤ S 0 i)
    (hcross : ∀ i j, cls i ≠ cls j → D i j = 1) (hpos : ∀ i j, cls i = cls j → i < j → pos i < pos j)
    (hE : ∀ i j, cls i = cls j → laneDecay x1 y1 x2 y2 (cls i) (pos i) (pos j) = D i j)
    (hs : ∀ i, (s (ix2 (cls i) (pos i)) : EReal) = S 0 i) (hpad : ∀ r l, (∀ i, ¬ (cls i = r ∧ pos i = l)) → (s (ix2 r l) : EReal) = ⊥)
    (hg : ∀ i, (g (ix2 (cls i) (pos i)) : EReal) = ((i.val : ℝ) : EReal))
    (n : Elt Ideal .i32) (h2 : (k1_t2_loop n).trips = 0) (hcap : ∀ r, (Finset.univ.filter fun i => cls i = r).card ≤ (k1_t1_loop n).trips) (k : Fin 5000) :
    ((result n x1 y1 x2 y2 s g).1 (spot (k.castLE (by norm_num))) : EReal) = S 5000 (m k) ∧ ((result n x1 y1 x2 y2 s g).2 (spot (k.castLE (by norm_num))) : EReal) = (((m k).val : ℝ) : EReal) := by
  unfold result
  rw [greedy_eq x1 y1 x2 y2 s n h2]
  generalize (k1_t1_loop n).trips = t at hcap
  obtain ⟨R, hR⟩ : ∃ R : Vec Ideal S80x128 .f32, R = (gridsAt x1 y1 x2 y2 s t).2 := ⟨_, rfl⟩
  rw [← hR]
  have hinj2 : ∀ i j, cls i = cls j → pos i = pos j → i = j := by
    intro i j hc hp
    rcases lt_trichotomy i j with q | q | q
    · exact absurd (hpos i j hc q) (by rw [hp]; exact lt_irrefl _)
    · exact q
    · exact absurd (hpos j i hc.symm q) (by rw [hp]; exact lt_irrefl _)
  have hfin : ∀ i, (R (ix2 (cls i) (pos i)) : EReal) = S 5000 i := by
    intro i
    obtain ⟨win, r⟩ := row_run x1 y1 x2 y2 s (cls i)
    rw [hR]
    exact final_eq h hD h0 cls pos hcross hpos (cls i) r (fun a b ha hb => by rw [← hE a b (ha.trans hb.symm), ha]) (fun a ha => by rw [← hs a, ha]; rfl)
      (fun l hl => hpad (cls i) l fun a ha => hl a ha.1 ha.2) (hcap (cls i)) i rfl
  have hbot : ∀ r l, (∀ i, ¬ (cls i = r ∧ pos i = l)) → (R (ix2 r l) : EReal) = ⊥ := by
    intro r l hno
    obtain ⟨win, rr⟩ := row_run x1 y1 x2 y2 s r
    rw [hR]
    exact (pad_stays rr l (hpad r l hno) t).2
  obtain ⟨p, hp⟩ : ∃ p : Pair Ideal, p = (k1_pay59 R, k1_pay60 g) := ⟨_, rfl⟩
  rw [← hp]
  have hitem : ∀ i, keys p (flat (cls i) (pos i)) = toLex (OrderDual.toDual (S 5000 i), (((i.val : ℝ)) : EReal)) := by
    intro i
    have hlt := (cls i).isLt
    unfold keys
    rw [hp, spot_flat]
    dsimp only
    rw [pay59_at, pay60_at, dif_pos hlt, dif_pos hlt, ← hfin i, ← hg i]
  have hbij : Function.Surjective fun k : Fin 5000 => m k.val := by
    apply Finite.surjective_of_injective
    intro a b hab
    rcases lt_trichotomy a b with q | q | q
    · exact absurd hab (h.injective hD h0 (show a.val < b.val from q) b.isLt)
    · exact q
    · exact absurd hab.symm (h.injective hD h0 (show b.val < a.val from q) a.isLt)
  have hnon := h.nonneg hD h0 5000
  obtain ⟨σ, hσ⟩ := network_perm p
  have key := head_of_sorted hσ (network_monotone p) (fun k : Fin 5000 => flat (cls (m k.val)) (pos (m k.val))) (fun a b hab => by
      rw [hitem, hitem, Prod.Lex.toLex_lt_toLex]
      rcases h.ordered hD hD1 h0 (show a.val < b.val from hab) b.isLt with q | ⟨q, q'⟩
      · exact Or.inl (OrderDual.toDual_lt_toDual.2 q)
      · refine Or.inr ⟨by rw [q], ?_⟩
        have : (m a.val).val < (m b.val).val := q'
        exact EReal.coe_lt_coe_iff.2 (by exact_mod_cast this))
    (fun j hj a => by
      rw [hitem]
      have hj0 : (p.1 (spot j) : EReal) = ⊥ := by
        have e : spot j = ix2 (⟨j.val / 128, by have := j.isLt; omega⟩ : Fin 128) (⟨j.val % 128, by omega⟩ : Fin 128) := rfl
        rw [hp]
        dsimp only
        rw [e, pay59_at]
        split
        · rename_i hr
          apply hbot
          rintro i ⟨hi1, hi2⟩
          obtain ⟨k, hk⟩ := hbij i
          apply hj k
          dsimp only at hk ⊢
          rw [hk, hi1, hi2]
          unfold flat
          exact Fin.ext (by show j.val / 128 * 128 + j.val % 128 = j.val; omega)
        · rfl
      unfold keys
      rw [hj0, Prod.Lex.toLex_lt_toLex]
      exact Or.inl (OrderDual.toDual_lt_toDual.2 (lt_of_lt_of_le (by simp) (hnon _))))
    (by norm_num) k
  rw [hitem] at key
  unfold keys at key
  have := toLex.injective key
  exact ⟨OrderDual.toDual.injective (congrArg Prod.fst this), congrArg Prod.snd this⟩

end

end Cert.Proof.KernelIdeal
-- ==== Proof.KernelIdeal.Lanes.lean ====
/-
  The lane each item has in its class's row of the grids: how many items of its class come before it.
-/
module

public import proofs.«01_k».proof.Proof.KernelIdeal.Slots
import Mathlib.Data.Finset.Card

@[expose] public section
set_option maxRecDepth 16384
noncomputable section
namespace Cert.Proof.KernelIdeal

open Cert.KernelIdeal Cert.KernelIdeal.Gen
open Idealize.ShloMosaic Idealize.ShloMosaic.TcCoe Idealize.ShloMosaic.Tactic

variable {idxs : IVec S5000 32} {cls : Fin 5000 → Fin 80} {σ : Equiv.Perm (Fin 5000)}

/-- The mark of a place: its own number where a class starts, else zero. -/
theorem marks_at (x : IVec S5000 32) (c : ℕ → ℕ) (hc : ∀ q, c q < 80) (hx : ∀ q : Fin 5000, x (ix1 q) = BitVec.ofNat 32 (c q.val)) (q : Fin 5000) :
    (Starts c q.val → marks x (ix1 q) = BitVec.ofNat 32 q.val) ∧ (¬ Starts c q.val → marks x (ix1 q) = 0#32) := by
  have h := opens_at x c hc hx q
  have hm : marks x (ix1 q) = if opens x (ix1 q) = 1#1 then BitVec.ofNat 32 q.val else 0#32 := by
    unfold marks everywhere
    rfl
  rw [hm]
  refine ⟨fun hs => if_pos (h.2 hs), fun hs => if_neg fun e => hs (h.1 e)⟩

/-- The running maximum of the marks is the last start. -/
theorem start_at (x : IVec S5000 32) (c : ℕ → ℕ) (hc : ∀ q, c q < 80) (hx : ∀ q : Fin 5000, x (ix1 q) = BitVec.ofNat 32 (c q.val)) (p : Fin 5000) :
    ∃ s : ℕ, s ≤ p.val ∧ runningMax (marks x) (ix1 p) = BitVec.ofNat 32 s ∧ Starts c s ∧ ∀ q, s < q → q ≤ p.val → ¬ Starts c q := by
  obtain ⟨⟨q, hqp, hq⟩, hall⟩ := runningMax_at (marks x) p
  have hp := p.isLt
  have hqp' : q.val ≤ p.val := hqp
  obtain ⟨s, hs1, hs2, hs3⟩ : ∃ s : ℕ, s ≤ p.val ∧ runningMax (marks x) (ix1 p) = BitVec.ofNat 32 s ∧ Starts c s := by
    by_cases h : Starts c q.val
    · exact ⟨q.val, hqp', hq.trans ((marks_at x c hc hx q).1 h), h⟩
    · exact ⟨0, Nat.zero_le _, hq.trans ((marks_at x c hc hx q).2 h), Or.inl rfl⟩
  refine ⟨s, hs1, hs2, hs3, fun r hr hrp hst => ?_⟩
  have h1 := hall ⟨r, by omega⟩ (by show r ≤ p.val; exact hrp)
  rw [(marks_at x c hc hx ⟨r, by omega⟩).1 hst, hs2, intOf _ (by show r < 2 ^ 31; omega), intOf _ (by omega)] at h1
  dsimp only at h1
  omega

/-- The lane a place names. -/
theorem places_at (x : IVec S5000 32) (p : Fin 5000) (s : ℕ) (hs : s ≤ p.val) (h : runningMax (marks x) (ix1 p) = BitVec.ofNat 32 s) (hle : p.val - s < 128) :
    places x (ix1 p) = BitVec.ofNat 32 (p.val - s) := by
  have hm : places x (ix1 p) = IntOp.minsi (BitVec.ofNat 32 p.val - runningMax (marks x) (ix1 p)) 127#32 := by
    unfold places everywhere
    rfl
  have hp := p.isLt
  have hsub : BitVec.ofNat 32 p.val - BitVec.ofNat 32 s = BitVec.ofNat 32 (p.val - s) := by
    apply BitVec.eq_of_toNat_eq
    rw [BitVec.toNat_sub, BitVec.toNat_ofNat, BitVec.toNat_ofNat, BitVec.toNat_ofNat]
    omega
  rw [hm, h, hsub]
  unfold IntOp.minsi
  have h1 := intOf (p.val - s) (by omega)
  have h2 := intOf 127 (by omega)
  by_cases he : p.val - s = 127
  · rw [he]; simp
  · have : (BitVec.ofNat 32 (p.val - s)).slt 127#32 = true := by
      rw [BitVec.slt, h1, h2]; exact decide_eq_true (by omega)
    simp [this]

/-- The lane word of an item is the word at its place in the sorted order. -/
theorem laneWords_at (hσ : ∀ p, sortedKey idxs (ix1 p) = BitVec.ofNat 32 (keyNat cls (σ p))) (i : Fin 5000) :
    laneWords idxs (ix1 i) = places (sortedClass idxs) (ix1 (σ.symm i)) := by
  have hidx : ∀ q : Fin 5000, (broadcastInDim S5000x1 ![0] bcast_S5000_S5000x1_0 (wrapBy 5000#32 (sortedItem idxs)) : IVec S5000x1 32) (ix2 q (0 : Fin 1)) = BitVec.ofNat 32 (σ q).val := by
    intro q
    have := (σ q).isLt
    rw [← wrapBy_at 5000#32 (sortedItem idxs) q (σ q).val (by omega) (sortedItem_at hσ q)]
    pointwise []
  have hint : ∀ q : Fin 5000, ((broadcastInDim S5000x1 ![0] bcast_S5000_S5000x1_0 (wrapBy 5000#32 (sortedItem idxs)) : IVec S5000x1 32) (ix2 q (0 : Fin 1))).toInt = (i.val : Int) ↔ q = σ.symm i := by
    intro q
    have h1 := (σ q).isLt
    rw [hidx, intOf _ (by omega)]
    constructor
    · intro e
      rw [Equiv.eq_symm_apply]
      exact Fin.ext (by omega)
    · rintro rfl
      rw [Equiv.apply_symm_apply]
  unfold laneWords
  exact (Routing.scatter_set_signed scatter_S5000_S5000x1_S5000_n_0_0_1 rfl rfl rfl (everywhere 0#32) _ (places (sortedClass idxs)) i (places (sortedClass idxs) (ix1 (σ.symm i)))
    fun q hq => by rw [(hint q).1 hq]; rfl).1 ⟨σ.symm i, (hint _).2 rfl⟩

/-- No class having more than 128 items, each item has a lane of its own in its class's row, and items of one class keep
    their order. -/
theorem lanes_spec (h : ∀ i, idxs (ix1 i) = BitVec.ofNat 32 (cls i).val) (hcap : ∀ k, (Finset.univ.filter fun i => cls i = k).card ≤ 128) :
    ∃ pos : Fin 5000 → Fin 128, (∀ i, laneWords idxs (ix1 i) = BitVec.ofNat 32 (pos i).val) ∧ ∀ i j, cls i = cls j → i < j → pos i < pos j := by
  obtain ⟨σ, hσ, hlt⟩ := sorted_keys h
  obtain ⟨c, hcd⟩ : ∃ c : ℕ → ℕ, c = fun q => if hq : q < 5000 then (cls (σ ⟨q, hq⟩)).val else 0 := ⟨_, rfl⟩
  have hcv : ∀ q : Fin 5000, c q.val = (cls (σ q)).val := fun q => by rw [hcd]; dsimp only; rw [dif_pos q.isLt]
  have hc : ∀ q, c q < 80 := fun q => by
    rw [hcd]; dsimp only; split
    · exact (cls _).isLt
    · omega
  have hx : ∀ q : Fin 5000, sortedClass idxs (ix1 q) = BitVec.ofNat 32 (c q.val) := fun q => by rw [hcv]; exact sortedClass_at hσ q
  choose st hst1 hst2 hst3 hst4 using start_at (sortedClass idxs) c hc hx
  have hmono : ∀ p' : Fin 5000, ∀ a b, a ≤ b → b ≤ p'.val → c a ≤ c b := by
    intro p' a b hab hb
    have hp := p'.isLt
    rcases Nat.eq_or_lt_of_le hab with e | e
    · rw [e]
    · have h1 := hlt ⟨a, by omega⟩ ⟨b, by omega⟩ (by show a < b; exact e)
      have e1 := hcv ⟨a, by omega⟩
      have e2 := hcv ⟨b, by omega⟩
      dsimp only at e1 e2
      rw [e1, e2]
      unfold keyNat at h1
      have := (σ ⟨a, by omega⟩).isLt; have := (σ ⟨b, by omega⟩).isLt
      omega
  have hfit : ∀ p : Fin 5000, p.val - st p < 128 := by
    intro p
    have hp := p.isLt
    have hsame := same_from_start (hst4 p)
    have hcard := Finset.card_le_card_of_injOn (s := Finset.range (p.val - st p + 1)) (t := Finset.univ.filter fun i => cls i = cls (σ p))
      (fun k => if hk : st p + k < 5000 then σ ⟨st p + k, hk⟩ else σ p) (by
        intro k hk
        have hk' := Finset.mem_range.1 hk
        have h5 : st p + k < 5000 := by have := hst1 p; omega
        dsimp only
        rw [dif_pos h5]
        rw [Finset.mem_coe, Finset.mem_filter]
        refine ⟨Finset.mem_univ _, Fin.ext ?_⟩
        rw [← hcv, ← hcv]
        dsimp only
        rw [hsame _ (by omega) (by have := hst1 p; omega), hsame p.val (hst1 p) (le_refl _)])
      (by
        intro a ha b hb hab
        have ha' := Finset.mem_range.1 (Finset.mem_coe.1 ha)
        have hb' := Finset.mem_range.1 (Finset.mem_coe.1 hb)
        have := hst1 p
        dsimp only at hab
        rw [dif_pos (by omega), dif_pos (by omega)] at hab
        have := congrArg Fin.val (σ.injective hab)
        dsimp only at this
        omega)
    rw [Finset.card_range] at hcard
    have := hcap (cls (σ p))
    omega
  refine ⟨fun i => ⟨(σ.symm i).val - st (σ.symm i), hfit _⟩, fun i => ?_, fun i j hij hlt' => ?_⟩
  · rw [laneWords_at hσ, places_at _ _ _ (hst1 _) (hst2 _) (hfit _)]
  · have hk : keyNat cls i < keyNat cls j := by
      have : i.val < j.val := hlt'
      unfold keyNat
      rw [hij]; omega
    have hpq : σ.symm i < σ.symm j := by
      by_contra hno
      rcases lt_or_eq_of_le (not_lt.1 hno) with e | e
      · have := hlt _ _ e
        rw [Equiv.apply_symm_apply, Equiv.apply_symm_apply] at this
        omega
      · rw [σ.symm.injective e] at hk; omega
    have hci : c (σ.symm i).val = c (σ.symm j).val := by
      rw [hcv, hcv, Equiv.apply_symm_apply, Equiv.apply_symm_apply, hij]
    have hu := start_unique (hmono (σ.symm j)) (hst3 _) (hst3 _) (hst1 _) (hst1 _) (hst4 _) (hst4 _) (show (σ.symm i).val ≤ (σ.symm j).val from hpq.le) hci
    show (σ.symm i).val - st (σ.symm i) < (σ.symm j).val - st (σ.symm j)
    have h1 : (σ.symm i).val < (σ.symm j).val := hpq
    have h2 := hst1 (σ.symm i)
    omega

end Cert.Proof.KernelIdeal
-- ==== Proof.KernelIdeal.Grids.lean ====
/-
  The grids entry by entry: at the row of its class and its lane an item's numbers, elsewhere the filling.
-/
module

public import proofs.«01_k».proof.Proof.KernelIdeal.Reads
public import proofs.«01_k».proof.Proof.KernelIdeal.Lanes
public import proofs.«01_k».proof.Proof.KernelIdeal.Rows
public import Idealize.ShloMosaic.Lib.Routing.OpsPair

@[expose] public section
set_option maxRecDepth 16384
noncomputable section
namespace Cert.Proof.KernelIdeal

open Cert.KernelIdeal Cert.KernelIdeal.Gen
open Idealize.ShloMosaic Idealize.ShloMosaic.TcCoe Idealize.ShloMosaic.Tactic
open Idealize.ShloMosaic.Routing

/-- Where an update of a table of rows lands: at the row and the lane its two words name, in its own column. -/
theorem lands_row {R C K N w : ℕ} (d : ScatterDims (shape3 R C K) (shape2 N 2) (shape2 N K)) (huw : d.updateWindowDims = [1]) (hiw : d.insertedWindowDims = [0, 1])
    (hsd : d.scatterDimsToOperandDims = [0, 1]) (hivd : d.indexVectorDim = 1) (idx : IVec (shape2 N 2) w) (a : Fin N) (k : Fin K) (r : Fin R) (c : Fin C) (l : Fin K) :
    d.resultIdx? (ix2 a k) idx = some (ix3 r c l) ↔ (idx (ix2 a 0)).toInt = r.val ∧ (idx (ix2 a 1)).toInt = c.val ∧ k = l := by
  have hk : d.sKept = [2] := by
    show (shape3 R C K).kept d.insertedWindowDims = _
    rw [hiw]; rfl
  have hu : d.uScatter = [0] := by
    show (shape2 N K).kept d.updateWindowDims = _
    rw [huw]; rfl
  have hs : d.siKept = [0] := by
    show (List.finRange 2).filter (fun x => decide (x.val ≠ d.indexVectorDim)) = _
    rw [hivd]; rfl
  have one : ∀ {n : ℕ} (L : List (Fin n)) (x : Fin n) (p : ℕ) (h : p < L.length), L = [x] → L[p]'h = x := by
    intro n L x p h e
    subst e
    have : p = 0 := by simpa using h
    subst this; rfl
  have hwin2 : d.window (ix2 a k) 2 = k.val := by
    unfold ScatterDims.window
    rw [dif_pos (by rw [hk]; simp), one _ 1 _ _ huw]
    rfl
  have hwin : ∀ q : Fin 3, q ≠ 2 → d.window (ix2 a k) q = 0 := fun q hq => by
    unfold ScatterDims.window
    rw [dif_neg (by rw [hk]; simpa using hq)]
  have hm : ∀ q : Fin 3, q ≠ 2 → q ∈ d.scatterDimsToOperandDims := fun q hq => by rw [hsd]; exact (show ∀ q : Fin 3, q ≠ 2 → q ∈ ([0, 1] : List (Fin 3)) by decide) q hq
  have hsi : ∀ (q : Fin d.scatterDimsToOperandDims.length) (q' : Fin 2), q.val = q'.val → d.siIdx (ix2 a k) q = ix2 a q' := fun q q' hq => by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      rw [one _ 0 _ _ hu]
      rfl
    | ⟨1, _⟩ =>
      unfold ScatterDims.siIdx
      rw [dif_pos (by rw [hivd])]
      exact hq
  have hst0 : d.start (ix2 a k) idx 0 = (idx (ix2 a 0)).toInt := by
    unfold ScatterDims.start
    rw [dif_pos (hm 0 (by decide)), hsi _ 0 (by show List.idxOf _ d.scatterDimsToOperandDims = _; rw [hsd]; rfl)]
  have hst1 : d.start (ix2 a k) idx 1 = (idx (ix2 a 1)).toInt := by
    unfold ScatterDims.start
    rw [dif_pos (hm 1 (by decide)), hsi _ 1 (by show List.idxOf _ d.scatterDimsToOperandDims = _; rw [hsd]; rfl)]
  have hst2 : d.start (ix2 a k) idx 2 = 0 := by
    unfold ScatterDims.start
    rw [dif_neg (by rw [hsd]; exact (show (2 : Fin 3) ∉ ([0, 1] : List (Fin 3)) by decide))]
  rw [resultIdx?_eq_some]
  constructor
  · intro h
    have h0 := h 0; have h1 := h 1; have h2 := h 2
    rw [hst0, hwin 0 (by decide)] at h0
    rw [hst1, hwin 1 (by decide)] at h1
    rw [hst2, hwin2] at h2
    have e0 : (((ix3 r c l : (shape3 R C K).Idx) 0).val : Int) = r.val := rfl
    have e1 : (((ix3 r c l : (shape3 R C K).Idx) 1).val : Int) = c.val := rfl
    have e2 : (((ix3 r c l : (shape3 R C K).Idx) 2).val : Int) = l.val := rfl
    rw [e0] at h0; rw [e1] at h1; rw [e2] at h2
    exact ⟨by omega, by omega, Fin.ext (by omega)⟩
  · rintro ⟨h0, h1, h2⟩ q
    match q with
    | ⟨0, _⟩ => show d.start (ix2 a k) idx 0 + (d.window (ix2 a k) 0 : Int) = r.val; rw [hst0, hwin 0 (by decide), h0]; simp
    | ⟨1, _⟩ => show d.start (ix2 a k) idx 1 + (d.window (ix2 a k) 1 : Int) = c.val; rw [hst1, hwin 1 (by decide), h1]; simp
    | ⟨2, _⟩ => show d.start (ix2 a k) idx 2 + (d.window (ix2 a k) 2 : Int) = l.val; rw [hst2, hwin2, h2]; simp

variable {idxs lanes : IVec S5000 32} {cls : Fin 5000 → Fin 80} {pos : Fin 5000 → Fin 128}

theorem targets_at (h : ∀ i, idxs (ix1 i) = BitVec.ofNat 32 (cls i).val) (hl : ∀ i, lanes (ix1 i) = BitVec.ofNat 32 (pos i).val) (i : Fin 5000) :
    (targets idxs lanes (ix2 i 0)).toInt = (cls i).val ∧ (targets idxs lanes (ix2 i 1)).toInt = (pos i).val := by
  have h1 := (cls i).isLt
  have h2 := (pos i).isLt
  have e1 : targets idxs lanes (ix2 i 0) = wrapBy 80#32 idxs (ix1 i) := by
    pointwise [targets]
  have e2 : targets idxs lanes (ix2 i 1) = wrapBy 128#32 lanes (ix1 i) := by
    pointwise [targets]
  rw [e1, e2, wrapBy_at 80#32 idxs i _ (by omega) (h i), wrapBy_at 128#32 lanes i _ (by omega) (hl i)]
  exact ⟨intOf _ (by omega), intOf _ (by omega)⟩

/-- The table of rows by class and lane. -/
def table (fill : FVec Ideal S6 .f32) (idxs lanes : IVec S5000 32) (rows : FVec Ideal S5000x6 .f32) : FVec Ideal S80x128x6 .f32 :=
  Host.scatter scatter_S80x128x6_S5000x2_S5000x6_1_01_01_1 (fun _ b => b) (broadcastInDim S80x128x6 ![2] bcast_S6_S80x128x6_2 fill) (targets idxs lanes) rows

theorem table_hit (h : ∀ i, idxs (ix1 i) = BitVec.ofNat 32 (cls i).val) (hl : ∀ i, lanes (ix1 i) = BitVec.ofNat 32 (pos i).val)
    (hinj : ∀ i j, cls i = cls j → pos i = pos j → i = j) (fill : FVec Ideal S6 .f32) (rows : FVec Ideal S5000x6 .f32) (i : Fin 5000) (k : Fin 6) :
    table fill idxs lanes rows (ix3 (cls i) (pos i) k) = rows (ix2 i k) := by
  have hland := lands_row scatter_S80x128x6_S5000x2_S5000x6_1_01_01_1 rfl rfl rfl rfl (targets idxs lanes)
  refine scatter_set_hit scatter_S80x128x6_S5000x2_S5000x6_1_01_01_1 _ (targets idxs lanes) rows _ _ (fun q hq => ?_) (ix2 i k) ((hland i k _ _ k).2 ⟨(targets_at h hl i).1, (targets_at h hl i).2, rfl⟩)
  obtain ⟨a, b, rfl⟩ : ∃ (a : Fin 5000) (b : Fin 6), q = ix2 a b := ⟨q 0, q 1, eq_ix2 q⟩
  obtain ⟨h0, h1, h2⟩ := (hland a b _ _ k).1 hq
  rw [(targets_at h hl a).1] at h0
  rw [(targets_at h hl a).2] at h1
  have : a = i := hinj a i (Fin.ext (by omega)) (Fin.ext (by omega))
  rw [this, h2]

theorem table_miss (h : ∀ i, idxs (ix1 i) = BitVec.ofNat 32 (cls i).val) (hl : ∀ i, lanes (ix1 i) = BitVec.ofNat 32 (pos i).val)
    (fill : FVec Ideal S6 .f32) (rows : FVec Ideal S5000x6 .f32) (r : Fin 80) (l : Fin 128) (k : Fin 6) (hno : ∀ i, ¬ (cls i = r ∧ pos i = l)) :
    table fill idxs lanes rows (ix3 r l k) = fill (ix1 k) := by
  have hland := lands_row scatter_S80x128x6_S5000x2_S5000x6_1_01_01_1 rfl rfl rfl rfl (targets idxs lanes)
  have e : table fill idxs lanes rows (ix3 r l k) = (broadcastInDim S80x128x6 ![2] bcast_S6_S80x128x6_2 fill : FVec Ideal S80x128x6 .f32) (ix3 r l k) := by
    refine scatter_set_miss scatter_S80x128x6_S5000x2_S5000x6_1_01_01_1 _ (targets idxs lanes) rows _ fun q hq => ?_
    obtain ⟨a, b, rfl⟩ : ∃ (a : Fin 5000) (b : Fin 6), q = ix2 a b := ⟨q 0, q 1, eq_ix2 q⟩
    obtain ⟨h0, h1, h2⟩ := (hland a b _ _ k).1 hq
    rw [(targets_at h hl a).1] at h0
    rw [(targets_at h hl a).2] at h1
    exact hno a ⟨Fin.ext (by omega), Fin.ext (by omega)⟩
  rw [e]
  pointwise []

/-- The layers of the stack are the columns of the table. -/
theorem layer_at (fill : FVec Ideal S6 .f32) (rows : FVec Ideal S5000x6 .f32) (r : Fin 80) (l : Fin 128) :
    layer 0 slices_S6x80x128_S1x80x128_0_0_0 (gridStack fill idxs lanes rows) (ix2 r l) = table fill idxs lanes rows (ix3 r l 0)
    ∧ layer 1 slices_S6x80x128_S1x80x128_1_0_0 (gridStack fill idxs lanes rows) (ix2 r l) = table fill idxs lanes rows (ix3 r l 1)
    ∧ layer 2 slices_S6x80x128_S1x80x128_2_0_0 (gridStack fill idxs lanes rows) (ix2 r l) = table fill idxs lanes rows (ix3 r l 2)
    ∧ layer 3 slices_S6x80x128_S1x80x128_3_0_0 (gridStack fill idxs lanes rows) (ix2 r l) = table fill idxs lanes rows (ix3 r l 3)
    ∧ layer 4 slices_S6x80x128_S1x80x128_4_0_0 (gridStack fill idxs lanes rows) (ix2 r l) = table fill idxs lanes rows (ix3 r l 4)
    ∧ layer 5 slices_S6x80x128_S1x80x128_5_0_0 (gridStack fill idxs lanes rows) (ix2 r l) = table fill idxs lanes rows (ix3 r l 5) := by
  have e : gridStack fill idxs lanes rows = transpose S6x80x128 [2, 0, 1] (table fill idxs lanes rows) transposes_S80x128x6_S6x80x128_2_0_1 := rfl
  rw [e]
  generalize table fill idxs lanes rows = T
  refine ⟨?_, ?_, ?_, ?_, ?_, ?_⟩ <;> pointwise [layer]

/-- An item's six numbers. -/
theorem rows_at (o : FVec Ideal S5000x4 .f32) (s : FVec Ideal S5000 .f32) (i : Fin 5000) :
    itemRows o s (iotaInDim S5000 32 0) (ix2 i 0) = o (ix2 i 0) ∧ itemRows o s (iotaInDim S5000 32 0) (ix2 i 1) = o (ix2 i 1)
    ∧ itemRows o s (iotaInDim S5000 32 0) (ix2 i 2) = o (ix2 i 2) ∧ itemRows o s (iotaInDim S5000 32 0) (ix2 i 3) = o (ix2 i 3)
    ∧ itemRows o s (iotaInDim S5000 32 0) (ix2 i 4) = s (ix1 i) ∧ itemRows o s (iotaInDim S5000 32 0) (ix2 i 5) = (((i.val : ℝ)) : EReal) := by
  refine ⟨?_, ?_, ?_, ?_, ?_, ?_⟩
  · pointwise [itemRows, column]
  · pointwise [itemRows, column]
  · pointwise [itemRows, column]
  · pointwise [itemRows, column]
  · pointwise [itemRows, column]
  · pointwise [itemRows, column]
    have := i.isLt
    show (((BitVec.ofNat 32 i.val).toInt : ℝ) : EReal) = _
    rw [intOf _ (by omega)]
    simp

theorem filling_at : (filling : FVec Ideal S6 .f32) (ix1 4) = ⊥ ∧ (filling : FVec Ideal S6 .f32) (ix1 5) = Ideal.ofBits .f32 0x4B7FFFFF#32 := by
  have e : ∀ k : Fin 6, S6.rowMajor (ix1 k) = k := fun k => Fin.ext (Shape.rowMajor_val_one _)
  constructor
  · show Ideal.ofBits .f32 (lit0 (S6.rowMajor (ix1 4))) = ⊥
    rw [e]
    exact ofBits_ninf
  · show Ideal.ofBits .f32 (lit0 (S6.rowMajor (ix1 5))) = _
    rw [e]
    rfl

end Cert.Proof.KernelIdeal
-- ==== Proof.KernelIdeal.Value.lean ====
/-
  The results of the program, element by element, against a greedy run on the same boxes and scores.
-/
module

public import proofs.«01_k».proof.Proof.KernelIdeal.Final
public import proofs.«01_k».proof.Proof.KernelIdeal.Moved
public import proofs.«01_k».proof.Proof.KernelIdeal.Result
public import proofs.«01_k».proof.Proof.KernelIdeal.Grids
public import proofs.«01_k».proof.Proof.KernelIdeal.Lanes
public import proofs.«01_k».proof.Proof.KernelIdeal.Counts

@[expose] public section
set_option maxRecDepth 16384
noncomputable section
namespace Cert.Proof.KernelIdeal

open Cert.KernelIdeal Cert.KernelIdeal.Gen
open Idealize.ShloMosaic Idealize.ShloMosaic.TcCoe Idealize.ShloMosaic.Tactic
open Cert.Proof.Math

theorem firstOf_at (x : FVec Ideal S128x128 .f32) (k : Fin 5000) : firstOf x (ix1 k) = x (spot (k.castLE (by norm_num))) := by
  have hk := k.isLt
  unfold firstOf
  refine (extractStridedSlice_apply ![0] _ slices_S16384_S5000_0 (ix1 k) (ix1 (⟨k.val, by omega⟩ : Fin 16384)) ?_).trans ?_
  · intro a
    fin_cases a
    simp [ix1]
  · refine shapeCast_apply x shapeCasts_S128x128_S16384 _ (spot (k.castLE (by norm_num))) ?_
    unfold spot
    rw [Shape.rowMajor_val_one, Shape.rowMajor_val_two]
    simp [ix1, ix2]
    omega

theorem fptosi_nat (n : ℕ) (h : n < 2 ^ 31) : Ideal.fptosi 32 ((n : ℝ) : EReal) = BitVec.ofNat 32 n := by
  have e : max (-((2 ^ (32 - 1) : ℕ) : Int)) (min (((2 ^ (32 - 1) : ℕ) : Int) - 1) (n : Int)) = n := by
    norm_num
    omega
  rw [Ideal.fptosi, Ideal.toIntClamped_coe, if_pos (Nat.cast_nonneg n), Int.floor_natCast, e]
  simp

variable {b : FVec Ideal S5000x4 .f32} {s : FVec Ideal S5000 .f32} {n : IVec S5000 32}

theorem pair_at (hv : Valid b s n) (hfew : (largest n HostLoop.idx0).toInt ≤ 128) {S : ℕ → Fin 5000 → EReal} {A : ℕ → Finset (Fin 5000)} {p : ℕ → Fin 5000} (h : GreedyRun (pairDecay b n) S A p) (hS : ∀ i, S 0 i = s (ix1 i))
    (w : Vec Ideal S1 .i32) (hw : w = shapeCast S1 (largest n) shapeCasts_S_S1) (k : Fin 5000) :
    ((outOf w (layer 0 slices_S6x80x128_S1x80x128_0_0_0 (stackOf b s n)) (layer 1 slices_S6x80x128_S1x80x128_1_0_0 (stackOf b s n)) (layer 2 slices_S6x80x128_S1x80x128_2_0_0 (stackOf b s n))
      (layer 3 slices_S6x80x128_S1x80x128_3_0_0 (stackOf b s n)) (layer 4 slices_S6x80x128_S1x80x128_4_0_0 (stackOf b s n)) (layer 5 slices_S6x80x128_S1x80x128_5_0_0 (stackOf b s n))).1 (spot (k.castLE (by norm_num))) : EReal) = S 5000 (p k)
    ∧ ((outOf w (layer 0 slices_S6x80x128_S1x80x128_0_0_0 (stackOf b s n)) (layer 1 slices_S6x80x128_S1x80x128_1_0_0 (stackOf b s n)) (layer 2 slices_S6x80x128_S1x80x128_2_0_0 (stackOf b s n))
      (layer 3 slices_S6x80x128_S1x80x128_3_0_0 (stackOf b s n)) (layer 4 slices_S6x80x128_S1x80x128_4_0_0 (stackOf b s n)) (layer 5 slices_S6x80x128_S1x80x128_5_0_0 (stackOf b s n))).2 (spot (k.castLE (by norm_num))) : EReal) = (((p k).val : ℝ) : EReal) := by
  choose cls hc using hv.cls
  have hcount : countOf w = largest n HostLoop.idx0 := by
    obtain ⟨j, hj⟩ : ∃ j, countOf w = largest n j := by
      rw [hw]
      exact ⟨_, rfl⟩
    rw [hj, Subsingleton.elim j]
  have hcard := fun r => card_le_largest hc r HostLoop.idx0
  obtain ⟨pos, hl, hpos⟩ := lanes_spec hc fun r => by
    have := hcard r
    have := hfew
    omega
  obtain ⟨hD, hD1, hcross⟩ := pairDecay_facts hv hc k
  have hinj : ∀ i j, cls i = cls j → pos i = pos j → i = j := by
    intro i j hcc hp
    rcases lt_trichotomy i j with q | q | q
    · exact absurd (hpos i j hcc q) (by rw [hp]; exact lt_irrefl _)
    · exact q
    · exact absurd (hpos j i hcc.symm q) (by rw [hp]; exact lt_irrefl _)
  have hlay := layer_at (idxs := n) (lanes := laneWords n) filling (itemRows (shifted b n) s (iotaInDim S5000 32 0))
  have hrow := rows_at (shifted b n) s
  have hit := table_hit hc hl hinj filling (itemRows (shifted b n) s (iotaInDim S5000 32 0))
  have miss := table_miss hc hl filling (itemRows (shifted b n) s (iotaInDim S5000 32 0))
  unfold outOf
  rw [hcount]
  refine result_at (cls := cls) (pos := pos) _ _ _ _ _ _ h hD hD1 (fun i => by rw [hS]; exact hv.score i) hcross hpos ?_ ?_ ?_ ?_ _ (t2_trips _) ?_ k
  · intro i j hij
    have hb : ∀ i, boxAt (layer 0 slices_S6x80x128_S1x80x128_0_0_0 (stackOf b s n)) (layer 1 slices_S6x80x128_S1x80x128_1_0_0 (stackOf b s n)) (layer 2 slices_S6x80x128_S1x80x128_2_0_0 (stackOf b s n))
        (layer 3 slices_S6x80x128_S1x80x128_3_0_0 (stackOf b s n)) (cls i) (pos i) = movedBox b n i := fun i => by
      unfold boxAt movedBox stackOf
      rw [(hlay (cls i) (pos i)).1, (hlay (cls i) (pos i)).2.1, (hlay (cls i) (pos i)).2.2.1, (hlay (cls i) (pos i)).2.2.2.1, hit, hit, hit, hit, (hrow i).1, (hrow i).2.1, (hrow i).2.2.1, (hrow i).2.2.2.1]
    unfold laneDecay pairDecay
    rw [hb, hij, hb]
  · intro i
    unfold stackOf
    rw [(hlay (cls i) (pos i)).2.2.2.2.1, hit, (hrow i).2.2.2.2.1, hS]
  · intro r l hno
    unfold stackOf
    rw [(hlay r l).2.2.2.2.1, miss r l 4 hno]
    exact filling_at.1
  · intro i
    unfold stackOf
    rw [(hlay (cls i) (pos i)).2.2.2.2.2, hit, (hrow i).2.2.2.2.2]
  · intro r
    rw [t1_trips]
    have := hcard r
    omega

variable (m : (ℓ : Loc nD τ sig) → Buf (Elt Ideal) ℓ) (c : Dev nD)

theorem values_at (hv : Valid (m (c, Proc.devRef .tc main_arg0)) (m (c, Proc.devRef .tc main_arg1)) (m (c, Proc.devRef .tc main_arg2))) (hfew : (largest (m (c, Proc.devRef .tc main_arg2)) HostLoop.idx0).toInt ≤ 128)
    {S : ℕ → Fin 5000 → EReal} {A : ℕ → Finset (Fin 5000)} {p : ℕ → Fin 5000} (h : GreedyRun (pairDecay (m (c, Proc.devRef .tc main_arg0)) (m (c, Proc.devRef .tc main_arg2))) S A p)
    (hS : ∀ i, S 0 i = (m (c, Proc.devRef .tc main_arg1) : FVec Ideal S5000 .f32) (ix1 i)) (k : Fin 5000) :
    (firstOf (sortedPair m c).1 (ix1 k) : EReal) = S 5000 (p k) ∧ (fptosi 32 (firstOf (sortedPair m c).2) : IVec S5000 32) (ix1 k) = BitVec.ofNat 32 (p k).val := by
  obtain ⟨g0, g1, g2, g3, g4, g5⟩ := grid_reads m c
  obtain ⟨h1, h2⟩ := pair_at hv hfew h hS _ (count_eq m c) k
  unfold sortedPair
  rw [g0, g1, g2, g3, g4, g5]
  refine ⟨by rw [firstOf_at]; exact h1, ?_⟩
  have hk := (p k).isLt
  show FloatOps.fptosi 32 (firstOf _ (ix1 k)) = _
  rw [firstOf_at, h2]
  exact fptosi_nat (p k).val (by omega)

end Cert.Proof.KernelIdeal
-- ==== Proof.KernelIdeal.Global.Host.lean ====
/-
  The host side of the program around the pipeline over all boxes: the lines of the other branch as lists of operations,
  the contents of the buffers when that pipeline starts, and the program reduced to the pipeline followed by its later
  lines whenever the branch word is zero.
-/
module

public import proofs.«01_k».proof.Proof.KernelIdeal.Host
public import proofs.«01_k».proof.Proof.Gen.KernelIdeal.Points
public import Idealize.ShloMosaic.Lib.Pipeline.FrameBody
public import Idealize.ShloMosaic.Lib.Pipeline.FrameSuffix
public import Idealize.ShloMosaic.Lib.HostLoop.Rules
public import Idealize.ShloMosaic.Lib.Ring
public import Idealize.ShloMosaic.Lib.Tactic
public import Idealize.ShloMosaic.Lib.WordCmp

@[expose] public section

set_option maxRecDepth 16384

noncomputable section

namespace Cert.Proof.KernelIdeal.Global

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Lines of the branch before the pipeline. -/
abbrev arm0 : List (HloOp τ sig (Elt F)) :=
  [ StableHlo.unary main_v7 main_case0b0_v24 ((extractStridedSlice S5000x1 ![0, 0] · slices_S5000x4_S5000x1_0_0) : (⟨S5000x4, .f32⟩ : BufTy).Contents (Elt F) → (⟨S5000x1, .f32⟩ : BufTy).Contents (Elt F)),
    StableHlo.reshape main_case0b0_v24 main_case0b0_v25 (rfl : (.f32 : EltTy) = .f32) shapeCasts_S5000x1_S5000,
    StableHlo.nullary main_case0b0_c_9 (constantI S_ 32 0#32) ]
/-- They touch buffers of the TensorCore only. -/
theorem arm0_sub : (arm0 : List (HloOp τ sig (Elt F))).Forall fun op => op.bufs ⊆ StableHlo.tcRefs τ sig :=
  ⟨StableHlo.unary_bufs_sub .., StableHlo.reshape_bufs_sub .., StableHlo.nullary_bufs_sub ..⟩
/-- They allocate nothing. -/
theorem arm0_fresh : (arm0 : List (HloOp τ sig (Elt F))).Forall fun op => op.fresh = ∅ := by
  simp only [List.Forall]; repeat' constructor
/-- A row padded to 40 rows of 128. -/
abbrev arm1 : List (HloOp τ sig (Elt F)) :=
  [ StableHlo.TRef.unary (.of main_case0b0_c_9 : StableHlo.TRef sig ⟨S_, .i32⟩) (.of main_case0b0_call1_v0 : StableHlo.TRef sig ⟨S_, .f32⟩) (sitofp .f32),
    StableHlo.TRef.binary (.of main_case0b0_v25 : StableHlo.TRef sig ⟨S5000, .f32⟩) (.of main_case0b0_call1_v0 : StableHlo.TRef sig ⟨S_, .f32⟩) (.of main_case0b0_v26 : StableHlo.TRef sig ⟨S5120, .f32⟩) (fun x v => pad S5120 ![0] ![120] ![0] x v pads_S5000_S5120_01200 h_S_) ]
/-- They touch buffers of the TensorCore only. -/
theorem arm1_sub : (arm1 : List (HloOp τ sig (Elt F))).Forall fun op => op.bufs ⊆ StableHlo.tcRefs τ sig :=
  ⟨StableHlo.unary_bufs_sub .., StableHlo.binary_bufs_sub ..⟩
/-- They allocate nothing. -/
theorem arm1_fresh : (arm1 : List (HloOp τ sig (Elt F))).Forall fun op => op.fresh = ∅ := by
  simp only [List.Forall]; repeat' constructor
/-- Lines of the branch before the pipeline. -/
abbrev arm2 : List (HloOp τ sig (Elt F)) :=
  [ StableHlo.reshape main_case0b0_v26 main_case0b0_v27 (rfl : (.f32 : EltTy) = .f32) shapeCasts_S5120_S40x128,
    StableHlo.unary main_v7 main_case0b0_v28 ((extractStridedSlice S5000x1 ![0, 1] · slices_S5000x4_S5000x1_0_1) : (⟨S5000x4, .f32⟩ : BufTy).Contents (Elt F) → (⟨S5000x1, .f32⟩ : BufTy).Contents (Elt F)),
    StableHlo.reshape main_case0b0_v28 main_case0b0_v29 (rfl : (.f32 : EltTy) = .f32) shapeCasts_S5000x1_S5000,
    StableHlo.nullary main_case0b0_c_10 (constantI S_ 32 0#32) ]
/-- They touch buffers of the TensorCore only. -/
theorem arm2_sub : (arm2 : List (HloOp τ sig (Elt F))).Forall fun op => op.bufs ⊆ StableHlo.tcRefs τ sig :=
  ⟨StableHlo.reshape_bufs_sub .., StableHlo.unary_bufs_sub .., StableHlo.reshape_bufs_sub .., StableHlo.nullary_bufs_sub ..⟩
/-- They allocate nothing. -/
theorem arm2_fresh : (arm2 : List (HloOp τ sig (Elt F))).Forall fun op => op.fresh = ∅ := by
  simp only [List.Forall]; repeat' constructor
/-- A row padded to 40 rows of 128. -/
abbrev arm3 : List (HloOp τ sig (Elt F)) :=
  [ StableHlo.TRef.unary (.of main_case0b0_c_10 : StableHlo.TRef sig ⟨S_, .i32⟩) (.of main_case0b0_call2_v0 : StableHlo.TRef sig ⟨S_, .f32⟩) (sitofp .f32),
    StableHlo.TRef.binary (.of main_case0b0_v29 : StableHlo.TRef sig ⟨S5000, .f32⟩) (.of main_case0b0_call2_v0 : StableHlo.TRef sig ⟨S_, .f32⟩) (.of main_case0b0_v30 : StableHlo.TRef sig ⟨S5120, .f32⟩) (fun x v => pad S5120 ![0] ![120] ![0] x v pads_S5000_S5120_01200 h_S_) ]
/-- They touch buffers of the TensorCore only. -/
theorem arm3_sub : (arm3 : List (HloOp τ sig (Elt F))).Forall fun op => op.bufs ⊆ StableHlo.tcRefs τ sig :=
  ⟨StableHlo.unary_bufs_sub .., StableHlo.binary_bufs_sub ..⟩
/-- They allocate nothing. -/
theorem arm3_fresh : (arm3 : List (HloOp τ sig (Elt F))).Forall fun op => op.fresh = ∅ := by
  simp only [List.Forall]; repeat' constructor
/-- Lines of the branch before the pipeline. -/
abbrev arm4 : List (HloOp τ sig (Elt F)) :=
  [ StableHlo.reshape main_case0b0_v30 main_case0b0_v31 (rfl : (.f32 : EltTy) = .f32) shapeCasts_S5120_S40x128,
    StableHlo.unary main_v7 main_case0b0_v32 ((extractStridedSlice S5000x1 ![0, 2] · slices_S5000x4_S5000x1_0_2) : (⟨S5000x4, .f32⟩ : BufTy).Contents (Elt F) → (⟨S5000x1, .f32⟩ : BufTy).Contents (Elt F)),
    StableHlo.reshape main_case0b0_v32 main_case0b0_v33 (rfl : (.f32 : EltTy) = .f32) shapeCasts_S5000x1_S5000,
    StableHlo.nullary main_case0b0_c_11 (constantI S_ 32 0#32) ]
/-- They touch buffers of the TensorCore only. -/
theorem arm4_sub : (arm4 : List (HloOp τ sig (Elt F))).Forall fun op => op.bufs ⊆ StableHlo.tcRefs τ sig :=
  ⟨StableHlo.reshape_bufs_sub .., StableHlo.unary_bufs_sub .., StableHlo.reshape_bufs_sub .., StableHlo.nullary_bufs_sub ..⟩
/-- They allocate nothing. -/
theorem arm4_fresh : (arm4 : List (HloOp τ sig (Elt F))).Forall fun op => op.fresh = ∅ := by
  simp only [List.Forall]; repeat' constructor
/-- A row padded to 40 rows of 128. -/
abbrev arm5 : List (HloOp τ sig (Elt F)) :=
  [ StableHlo.TRef.unary (.of main_case0b0_c_11 : StableHlo.TRef sig ⟨S_, .i32⟩) (.of main_case0b0_call3_v0 : StableHlo.TRef sig ⟨S_, .f32⟩) (sitofp .f32),
    StableHlo.TRef.binary (.of main_case0b0_v33 : StableHlo.TRef sig ⟨S5000, .f32⟩) (.of main_case0b0_call3_v0 : StableHlo.TRef sig ⟨S_, .f32⟩) (.of main_case0b0_v34 : StableHlo.TRef sig ⟨S5120, .f32⟩) (fun x v => pad S5120 ![0] ![120] ![0] x v pads_S5000_S5120_01200 h_S_) ]
/-- They touch buffers of the TensorCore only. -/
theorem arm5_sub : (arm5 : List (HloOp τ sig (Elt F))).Forall fun op => op.bufs ⊆ StableHlo.tcRefs τ sig :=
  ⟨StableHlo.unary_bufs_sub .., StableHlo.binary_bufs_sub ..⟩
/-- They allocate nothing. -/
theorem arm5_fresh : (arm5 : List (HloOp τ sig (Elt F))).Forall fun op => op.fresh = ∅ := by
  simp only [List.Forall]; repeat' constructor
/-- Lines of the branch before the pipeline. -/
abbrev arm6 : List (HloOp τ sig (Elt F)) :=
  [ StableHlo.reshape main_case0b0_v34 main_case0b0_v35 (rfl : (.f32 : EltTy) = .f32) shapeCasts_S5120_S40x128,
    StableHlo.unary main_v7 main_case0b0_v36 ((extractStridedSlice S5000x1 ![0, 3] · slices_S5000x4_S5000x1_0_3) : (⟨S5000x4, .f32⟩ : BufTy).Contents (Elt F) → (⟨S5000x1, .f32⟩ : BufTy).Contents (Elt F)),
    StableHlo.reshape main_case0b0_v36 main_case0b0_v37 (rfl : (.f32 : EltTy) = .f32) shapeCasts_S5000x1_S5000,
    StableHlo.nullary main_case0b0_c_12 (constantI S_ 32 0#32) ]
/-- They touch buffers of the TensorCore only. -/
theorem arm6_sub : (arm6 : List (HloOp τ sig (Elt F))).Forall fun op => op.bufs ⊆ StableHlo.tcRefs τ sig :=
  ⟨StableHlo.reshape_bufs_sub .., StableHlo.unary_bufs_sub .., StableHlo.reshape_bufs_sub .., StableHlo.nullary_bufs_sub ..⟩
/-- They allocate nothing. -/
theorem arm6_fresh : (arm6 : List (HloOp τ sig (Elt F))).Forall fun op => op.fresh = ∅ := by
  simp only [List.Forall]; repeat' constructor
/-- A row padded to 40 rows of 128. -/
abbrev arm7 : List (HloOp τ sig (Elt F)) :=
  [ StableHlo.TRef.unary (.of main_case0b0_c_12 : StableHlo.TRef sig ⟨S_, .i32⟩) (.of main_case0b0_call4_v0 : StableHlo.TRef sig ⟨S_, .f32⟩) (sitofp .f32),
    StableHlo.TRef.binary (.of main_case0b0_v37 : StableHlo.TRef sig ⟨S5000, .f32⟩) (.of main_case0b0_call4_v0 : StableHlo.TRef sig ⟨S_, .f32⟩) (.of main_case0b0_v38 : StableHlo.TRef sig ⟨S5120, .f32⟩) (fun x v => pad S5120 ![0] ![120] ![0] x v pads_S5000_S5120_01200 h_S_) ]
/-- They touch buffers of the TensorCore only. -/
theorem arm7_sub : (arm7 : List (HloOp τ sig (Elt F))).Forall fun op => op.bufs ⊆ StableHlo.tcRefs τ sig :=
  ⟨StableHlo.unary_bufs_sub .., StableHlo.binary_bufs_sub ..⟩
/-- They allocate nothing. -/
theorem arm7_fresh : (arm7 : List (HloOp τ sig (Elt F))).Forall fun op => op.fresh = ∅ := by
  simp only [List.Forall]; repeat' constructor
/-- Lines of the branch before the pipeline. -/
abbrev arm8 : List (HloOp τ sig (Elt F)) :=
  [ StableHlo.reshape main_case0b0_v38 main_case0b0_v39 (rfl : (.f32 : EltTy) = .f32) shapeCasts_S5120_S40x128,
    StableHlo.nullary main_case0b0_cst_13 (constant S_ .f32 0xFF800000#32) ]
/-- They touch buffers of the TensorCore only. -/
theorem arm8_sub : (arm8 : List (HloOp τ sig (Elt F))).Forall fun op => op.bufs ⊆ StableHlo.tcRefs τ sig :=
  ⟨StableHlo.reshape_bufs_sub .., StableHlo.nullary_bufs_sub ..⟩
/-- They allocate nothing. -/
theorem arm8_fresh : (arm8 : List (HloOp τ sig (Elt F))).Forall fun op => op.fresh = ∅ := by
  simp only [List.Forall]; repeat' constructor
/-- A row padded to 40 rows of 128. -/
abbrev arm9 : List (HloOp τ sig (Elt F)) :=
  [ StableHlo.TRef.unary (.of main_case0b0_cst_13 : StableHlo.TRef sig ⟨S_, .f32⟩) (.of main_case0b0_call5_v0 : StableHlo.TRef sig ⟨S_, .f32⟩) id,
    StableHlo.TRef.binary (.of main_arg1 : StableHlo.TRef sig ⟨S5000, .f32⟩) (.of main_case0b0_call5_v0 : StableHlo.TRef sig ⟨S_, .f32⟩) (.of main_case0b0_v40 : StableHlo.TRef sig ⟨S5120, .f32⟩) (fun x v => pad S5120 ![0] ![120] ![0] x v pads_S5000_S5120_01200 h_S_) ]
/-- They touch buffers of the TensorCore only. -/
theorem arm9_sub : (arm9 : List (HloOp τ sig (Elt F))).Forall fun op => op.bufs ⊆ StableHlo.tcRefs τ sig :=
  ⟨StableHlo.unary_bufs_sub .., StableHlo.binary_bufs_sub ..⟩
/-- They allocate nothing. -/
theorem arm9_fresh : (arm9 : List (HloOp τ sig (Elt F))).Forall fun op => op.fresh = ∅ := by
  simp only [List.Forall]; repeat' constructor
/-- Lines of the branch before the pipeline. -/
abbrev arm10 : List (HloOp τ sig (Elt F)) :=
  [ StableHlo.reshape main_case0b0_v40 main_case0b0_v41 (rfl : (.f32 : EltTy) = .f32) shapeCasts_S5120_S40x128,
    StableHlo.unary main_v7 main_case0b0_v42 ((extractStridedSlice S5000x1 ![0, 0] · slices_S5000x4_S5000x1_0_0) : (⟨S5000x4, .f32⟩ : BufTy).Contents (Elt F) → (⟨S5000x1, .f32⟩ : BufTy).Contents (Elt F)),
    StableHlo.reshape main_case0b0_v42 main_case0b0_v43 (rfl : (.f32 : EltTy) = .f32) shapeCasts_S5000x1_S5000,
    StableHlo.unary main_v7 main_case0b0_v44 ((extractStridedSlice S5000x1 ![0, 1] · slices_S5000x4_S5000x1_0_1) : (⟨S5000x4, .f32⟩ : BufTy).Contents (Elt F) → (⟨S5000x1, .f32⟩ : BufTy).Contents (Elt F)),
    StableHlo.reshape main_case0b0_v44 main_case0b0_v45 (rfl : (.f32 : EltTy) = .f32) shapeCasts_S5000x1_S5000,
    StableHlo.unary main_v7 main_case0b0_v46 ((extractStridedSlice S5000x1 ![0, 2] · slices_S5000x4_S5000x1_0_2) : (⟨S5000x4, .f32⟩ : BufTy).Contents (Elt F) → (⟨S5000x1, .f32⟩ : BufTy).Contents (Elt F)),
    StableHlo.reshape main_case0b0_v46 main_case0b0_v47 (rfl : (.f32 : EltTy) = .f32) shapeCasts_S5000x1_S5000,
    StableHlo.unary main_v7 main_case0b0_v48 ((extractStridedSlice S5000x1 ![0, 3] · slices_S5000x4_S5000x1_0_3) : (⟨S5000x4, .f32⟩ : BufTy).Contents (Elt F) → (⟨S5000x1, .f32⟩ : BufTy).Contents (Elt F)),
    StableHlo.reshape main_case0b0_v48 main_case0b0_v49 (rfl : (.f32 : EltTy) = .f32) shapeCasts_S5000x1_S5000 ]
/-- They touch buffers of the TensorCore only. -/
theorem arm10_sub : (arm10 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- They allocate nothing. -/
theorem arm10_fresh : (arm10 : List (HloOp τ sig (Elt F))).Forall fun op => op.fresh = ∅ := by
  simp only [List.Forall]; repeat' constructor
/-- After the pipeline: its two results named. -/
abbrev armTail : List (HloOp τ sig (Elt F)) :=
  [ StableHlo.unary main_case0b0_v50_0 main_v21_0 id,
    StableHlo.unary main_case0b0_v50_1 main_v21_1 id ]
/-- They touch buffers of the TensorCore only. -/
theorem armTail_sub : (armTail : List (HloOp τ sig (Elt F))).Forall fun op => op.bufs ⊆ StableHlo.tcRefs τ sig :=
  ⟨StableHlo.unary_bufs_sub .., StableHlo.unary_bufs_sub ..⟩
/-- They allocate nothing. -/
theorem armTail_fresh : (armTail : List (HloOp τ sig (Elt F))).Forall fun op => op.fresh = ∅ := by
  simp only [List.Forall]; repeat' constructor

/-- The lines of the branch before the pipeline. -/
abbrev armLines : List (List (HloOp τ sig (Elt F))) := [arm0, arm1, arm2, arm3, arm4, arm5, arm6, arm7, arm8, arm9, arm10]
/-- The lines after the pipeline. -/
abbrev tailLines : List (List (HloOp τ sig (Elt F))) := [armTail, hostOps0_3]

variable (m : (ℓ : Loc nD τ sig) → Buf (Elt F) ℓ) (ρ : Dev nD → PrngReg)

/-- The buffers when the pipeline starts. -/
abbrev V0 (c : Dev nD) : Valuation τ sig (Elt F) := StableHlo.after (headLines ++ [readOps] ++ armLines).flatten (fun b => m (c, b))
/-- The same, read at a reference of the TensorCore. -/
abbrev V (c : Dev nD) (b : Ref sig .tc) : Buf (Elt F) ((c : Thread nD τ).loc b) := V0 m c (Proc.devRef .tc b)

/-- The lines of the branch touch buffers of the TensorCore only. -/
theorem armLines_sub : ∀ ops ∈ (armLines : List (List (HloOp τ sig (Elt F)))), ∀ op ∈ ops, op.bufs ⊆ StableHlo.tcRefs τ sig := by
  intro ops hops op hop
  simp only [List.mem_cons, List.mem_nil_iff, or_false] at hops
  rcases hops with rfl | rfl | rfl | rfl | rfl | rfl | rfl | rfl | rfl | rfl | rfl
  · exact (List.forall_iff_forall_mem.mp arm0_sub) op hop
  · exact (List.forall_iff_forall_mem.mp arm1_sub) op hop
  · exact (List.forall_iff_forall_mem.mp arm2_sub) op hop
  · exact (List.forall_iff_forall_mem.mp arm3_sub) op hop
  · exact (List.forall_iff_forall_mem.mp arm4_sub) op hop
  · exact (List.forall_iff_forall_mem.mp arm5_sub) op hop
  · exact (List.forall_iff_forall_mem.mp arm6_sub) op hop
  · exact (List.forall_iff_forall_mem.mp arm7_sub) op hop
  · exact (List.forall_iff_forall_mem.mp arm8_sub) op hop
  · exact (List.forall_iff_forall_mem.mp arm9_sub) op hop
  · exact (List.forall_iff_forall_mem.mp arm10_sub) op hop
/-- The lines of the branch allocate nothing. -/
theorem armLines_fresh : ∀ ops ∈ (armLines : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp arm0_fresh) op hop
  · exact (List.forall_iff_forall_mem.mp arm1_fresh) op hop
  · exact (List.forall_iff_forall_mem.mp arm2_fresh) op hop
  · exact (List.forall_iff_forall_mem.mp arm3_fresh) op hop
  · exact (List.forall_iff_forall_mem.mp arm4_fresh) op hop
  · exact (List.forall_iff_forall_mem.mp arm5_fresh) op hop
  · exact (List.forall_iff_forall_mem.mp arm6_fresh) op hop
  · exact (List.forall_iff_forall_mem.mp arm7_fresh) op hop
  · exact (List.forall_iff_forall_mem.mp arm8_fresh) op hop
  · exact (List.forall_iff_forall_mem.mp arm9_fresh) op hop
  · exact (List.forall_iff_forall_mem.mp arm10_fresh) op hop

/-- The whole program: the head lines, the branch by its word, the last lines. -/
theorem main_split (c : Dev nD) : ∃ armX : Fin 2 → HostProg F, main (F := F) c =
    Pipeline.chain (headLines.map StableHlo.seq ++ [(do
      let x ← hlo rfl (StableHlo.unary main_v19 main_v20 ((extui 32 · natLt_1_32) : (⟨S_, .i1⟩ : BufTy).Contents (Elt F) → (⟨S_, .i32⟩ : BufTy).Contents (Elt F))) (HostLoop.elt main_v20)
      HostLoop.case 2 x armX), StableHlo.seq hostOps0_3])
    ∧ armX 0 = Pipeline.chain (armLines.map StableHlo.seq ++ [Prog.lift (.customCall (Pipeline.entry 0) ()), StableHlo.seq armTail]) := by
  refine ⟨_, main_chain c, ?_⟩
  chain_rfl

/-- Word zero takes the arm of index zero. -/
theorem branch_zero : HostLoop.branch 0#32 1 = 0 := by decide

set_option maxHeartbeats 800000 in
set_option backward.isDefEq.respectTransparency.types false in
/-- The program reduced to the pipeline followed by the later lines, at a branch word of zero. -/
theorem hmain (hw : ∀ c, word m c = 0#32) :
    Pipeline.HMainK (Ix := Unit) (Name := ℕ) (U := UR sig nD τ) (Lvl := ℕ) cfgs 0 defs₀ 𝒱₀ m (main (F := F)) (V m)
      (fun _ => Pipeline.chain (tailLines.map StableHlo.seq)) := by
  intro c Q
  obtain ⟨armX, hmain, harm⟩ := main_split (F := F) c
  rw [hmain, show unscopedBufs c (V m c) = StableHlo.held (c.tc : Thread nD τ) (Pipeline.ucRefs τ sig) (V0 m c)
      from Pipeline.unscopedBufs_held (Ix := Unit) (Name := ℕ) (U := UR sig nD τ) (Lvl := ℕ) c (V0 m c),
    show unscopedBufs c (fun b => m ((c.tc : Thread nD τ).loc b)) = StableHlo.held (c.tc : Thread nD τ) (Pipeline.ucRefs τ sig) (fun b => m (c, b))
      from Pipeline.unscopedBufs_held (Ix := Unit) (Name := ℕ) (U := UR sig nD τ) (Lvl := ℕ) c (fun b => m (c, b))]
  iintro ⟨Hk, Hb⟩
  iapply (Pipeline.wp_seqs_then pcfgs defs₀ 𝒱₀ c (Pipeline.ucRefs τ sig) _ headLines
    (fun ops ho op h => Pipeline.sub_ucRefs op (headLines_sub ops ho op h)) headLines_fresh _) $$ Hb
  iintro ⟨Hb, Hh⟩
  rw [Pipeline.chain_cons, bind_assoc, wp_bind]
  iapply (StableHlo.wp_hlo_within (Variants.lift 𝒱₀) (c : Thread nD τ) none Set.univ (Pipeline.sub_ucRefs _ (StableHlo.unary_bufs_sub ..))) $$ [Hb Hh]
  · isplitl [Hb]; · iexact Hb
    iexact Hh
  iintro Hb
  rw [HostLoop.elt_apply, wp_ret]; imodintro
  rw [HostLoop.case_succ]
  generalize hb : HostLoop.branch _ 1 = b
  obtain rfl : b = 0 := by
    rw [← hb, ← branch_zero, ← hw c]
    unfold word Vr
    rw [StableHlo.after_append, StableHlo.after_cons, StableHlo.after_nil]
    congr 1
  rw [harm, chain_bind_chain, List.append_assoc]
  iapply (Pipeline.wp_seqs_then pcfgs defs₀ 𝒱₀ c (Pipeline.ucRefs τ sig) _ armLines
    (fun ops ho op h => Pipeline.sub_ucRefs op (armLines_sub ops ho op h)) armLines_fresh _) $$ Hb
  iintro Hb
  simp only [List.cons_append, List.nil_append, Pipeline.chain_cons]
  iapply Hk
  rw [show V0 m c = StableHlo.after armLines.flatten ((StableHlo.unary main_v19 main_v20 ((extui 32 · natLt_1_32) : (⟨S_, .i1⟩ : BufTy).Contents (Elt F) → (⟨S_, .i32⟩ : BufTy).Contents (Elt F))).result (StableHlo.after headLines.flatten fun b => m (c, b))) from by
    unfold V0
    rw [List.flatten_append, List.flatten_append, StableHlo.after_append, StableHlo.after_append, List.flatten_singleton, StableHlo.after_cons, StableHlo.after_nil]]
  iexact Hb

end Cert.Proof.KernelIdeal.Global

end
-- ==== Proof.KernelIdeal.Global.Body.lean ====
/-
  The body of the pipeline over all boxes: its rounds as one function of the blocks it finds, and its run.
-/
module

public import proofs.«01_k».proof.Proof.KernelIdeal.Global.Host
public import proofs.«01_k».proof.Proof.Gen.KernelIdeal.Skeleton
public import Idealize.ShloMosaic.Lib.CellWrites
public import Idealize.ShloMosaic.Lib.Pointwise
public import Idealize.ShloMosaic.PureOps.BitExact
public import Idealize.ShloMosaic.Lib.VecWindow
public import proofs.«01_k».proof.Proof.Gen.KernelIdeal.Points
public import Idealize.ShloMosaic.Lib.Pipeline.FrameBody
public import Idealize.ShloMosaic.Lib.Pipeline.FrameSuffix
public import Idealize.ShloMosaic.Lib.HostLoop.Rules
public import Idealize.ShloMosaic.Lib.Ring
public import Idealize.ShloMosaic.Lib.Tactic
public import Idealize.ShloMosaic.Lib.WordCmp

@[expose] public section

set_option maxRecDepth 16384

noncomputable section

namespace Cert.Proof.KernelIdeal.Global

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-! ## What the body computes -/

/-- The entry of a list a word names. -/
def cell (x : Vec F S5000 .f32) (w : BitVec 32) : F .f32 := if h : k0_off1 w 0 < 5000 then x (ValueIdx.ix1 ⟨k0_off1 w 0, h⟩) else x (ValueIdx.ix1 0)

/-- The box a round takes: the first of the greatest scores. -/
def pick (s : FVec F S40x128 .f32) : BitVec 32 := Scalar.fptosi 32 (k0_pay11 k0_pay7 (Scalar.ofBits .f32 0x7F61B1E6#32) s)

/-- The blocks the body finds: the boxes and the scores as grids, the boxes as lists. -/
structure Blocks (F : FTy → Type) [FloatOps F] where
  x0 : Vec F S40x128 .f32
  x1 : Vec F S40x128 .f32
  x2 : Vec F S40x128 .f32
  x3 : Vec F S40x128 .f32
  x4 : Vec F S40x128 .f32
  x5 : Vec F S5000 .f32
  x6 : Vec F S5000 .f32
  x7 : Vec F S5000 .f32
  x8 : Vec F S5000 .f32

/-- The scores after one round. -/
def Blocks.step (B : Blocks F) (s : FVec F S40x128 .f32) : FVec F S40x128 .f32 :=
  k0_pay9 s (pick s) (k0_pay12 (k0_pay1 B.x0) (k0_pay2 B.x1) (k0_pay3 B.x2) (k0_pay4 B.x3) (cell B.x5 (pick s)) (cell B.x6 (pick s)) (cell B.x7 (pick s)) (cell B.x8 (pick s)))
    (k0_pay13 (k0_pay1 B.x0) (k0_pay2 B.x1) (k0_pay3 B.x2) (k0_pay4 B.x3) (k0_pay5 B.x0 B.x1 B.x2 B.x3) (cell B.x5 (pick s)) (cell B.x6 (pick s)) (cell B.x7 (pick s)) (cell B.x8 (pick s)))

/-- The scores before round `k`. -/
def Blocks.iter (B : Blocks F) : ℕ → FVec F S40x128 .f32
  | 0 => k0_pay8 B.x4
  | k + 1 => B.step (B.iter k)

/-- The boxes in the order they are taken. -/
def Blocks.order (B : Blocks F) : Vec F S5000 .i32 := fun j => pick (B.iter (j 0).val)
/-- The scores they are taken at. -/
def Blocks.sel (B : Blocks F) : Vec F S5000 .f32 := fun j => k0_pay10 (B.iter (j 0).val)

/-- A list filled up to `k`. -/
def filled {α : Type} (k : ℕ) (new old : S5000.Idx → α) : S5000.Idx → α := fun j => if (j 0).val < k then new j else old j

/-- A load of one cell at a word whose side condition holds reads the entry it names. -/
theorem read_cell {sp : Space} (M : Memref sig .tc sp S5000 .f32) (x : Vec F S5000 .f32) (f : M.view.ty.Contents (Elt F)) (hf : M.view.read (Elt F) f = x) (w : BitVec 32) (inb : ∀ a, k0_off1 w a + S1.size a ≤ S5000.size a) (hn : 0 < S1.numel) :
    M.view.readAt (Elt F) (Rect.unit (s := S5000) (k0_off1 w) S1.size inb).toLoadRect f (Shape.Idx.first (s := S1) hn) = cell x w := by
  subst hf
  have h : k0_off1 w 0 < 5000 := by
    have := inb 0
    have e1 : S1.size 0 = 1 := rfl
    have e2 : S5000.size 0 = 5000 := rfl
    omega
  unfold cell
  rw [dif_pos h, View.readAt_apply]
  refine congrArg (M.view.read (Elt F) f) (funext fun a => Fin.ext ?_)
  rw [LoadRect.idx_apply]
  fin_cases a
  show k0_off1 w 0 + 0 * 1 = k0_off1 w 0
  omega

/-- Every cell filled. -/
theorem filled_all {α : Type} (new old : S5000.Idx → α) : filled 5000 new old = new := funext fun j => if_pos (j 0).isLt

/-- One more cell filled. -/
theorem filled_succ {e : EltTy} {sp : Space} (M : Memref sig .tc sp S5000 e) (k : Fin k0_t1_loop.trips) (new old : S5000.Idx → Elt F e) (f : M.view.ty.Contents (Elt F)) (hf : M.view.read (Elt F) f = filled k.val new old)
    (inb : ∀ a, k0_off2 k a + S1.size a ≤ S5000.size a) (p : Elt F e) (hp : ∀ j : S5000.Idx, (j 0).val = k.val → new j = p) :
    M.view.read (Elt F) (M.view.writes (Elt F) f [⟨Rect.unit (s := S5000) (k0_off2 k) S1.size inb, fun _ => p⟩]) = filled (k.val + 1) new old := by
  funext j
  refine (View.read_writes_cons_cell (d := ![5000]) M.view f (off := k0_off2 k) inb p [] j).trans ?_
  have e : k0_off2 k 0 = k.val := by rw [k0_off2_eq]; rfl
  rw [e]
  unfold filled
  by_cases h : (j 0).val = k.val
  · rw [if_pos h, if_pos (by omega), hp j h]
  · rw [if_neg h]
    show M.view.read (Elt F) f j = _
    rw [hf]
    unfold filled
    by_cases h2 : (j 0).val < k.val
    · rw [if_pos h2, if_pos (by omega)]
    · rw [if_neg h2, if_neg (by omega)]

/-- Before trip `k`: the scores so far, the lists of the boxes as found, the two results filled up to `k`. -/
def inv (c : Dev nD) (M5 M6 M7 M8 : Memref sig .tc .smem S5000 .f32) (M9 : Memref sig .tc .smem S5000 .i32) (M10 : Memref sig .tc .smem S5000 .f32) (B : Blocks F) (d9 : Vec F S5000 .i32) (d10 : Vec F S5000 .f32) (k : ℕ) (s : FVec F S40x128 .f32) : sProp 𝕄 :=
  iprop(⌜s = B.iter k⌝ ∗ owns (c : Thread nD τ) M5 fullShare B.x5 ∗ owns (c : Thread nD τ) M6 fullShare B.x6 ∗ owns (c : Thread nD τ) M7 fullShare B.x7 ∗ owns (c : Thread nD τ) M8 fullShare B.x8 ∗ owns (c : Thread nD τ) M9 fullShare (filled k B.order d9) ∗ owns (c : Thread nD τ) M10 fullShare (filled k B.sel d10))

/-- On whole buffers that hold the blocks, where every word picked names a box, the body leaves the blocks and the two results. -/
theorem body_run (c : Dev nD) (M0 : Memref sig .tc .vmem S40x128 .f32) (h0 : M0.IsWhole) (M1 : Memref sig .tc .vmem S40x128 .f32) (h1 : M1.IsWhole) (M2 : Memref sig .tc .vmem S40x128 .f32) (h2 : M2.IsWhole) (M3 : Memref sig .tc .vmem S40x128 .f32) (h3 : M3.IsWhole) (M4 : Memref sig .tc .vmem S40x128 .f32) (h4 : M4.IsWhole) (M5 : Memref sig .tc .smem S5000 .f32) (h5 : M5.IsWhole) (M6 : Memref sig .tc .smem S5000 .f32) (h6 : M6.IsWhole) (M7 : Memref sig .tc .smem S5000 .f32) (h7 : M7.IsWhole) (M8 : Memref sig .tc .smem S5000 .f32) (h8 : M8.IsWhole) (M9 : Memref sig .tc .smem S5000 .i32) (h9 : M9.IsWhole) (M10 : Memref sig .tc .smem S5000 .f32) (h10 : M10.IsWhole)
    (B : Blocks F) (hchk : ∀ k, k < 5000 → k0_chk1 (pick (B.iter k))) (E : Set ℕ) (K : PUnit → sProp 𝕄) :
    iprop(owns (c : Thread nD τ) M0 fullShare B.x0 ∗ owns (c : Thread nD τ) M1 fullShare B.x1 ∗ owns (c : Thread nD τ) M2 fullShare B.x2 ∗ owns (c : Thread nD τ) M3 fullShare B.x3 ∗ owns (c : Thread nD τ) M4 fullShare B.x4 ∗ owns (c : Thread nD τ) M5 fullShare B.x5 ∗ owns (c : Thread nD τ) M6 fullShare B.x6 ∗ owns (c : Thread nD τ) M7 fullShare B.x7 ∗ owns (c : Thread nD τ) M8 fullShare B.x8 ∗ (∃ d, owns (c : Thread nD τ) M9 fullShare d) ∗ (∃ d, owns (c : Thread nD τ) M10 fullShare d)
        ∗ (iprop(owns (c : Thread nD τ) M0 fullShare B.x0 ∗ owns (c : Thread nD τ) M1 fullShare B.x1 ∗ owns (c : Thread nD τ) M2 fullShare B.x2 ∗ owns (c : Thread nD τ) M3 fullShare B.x3 ∗ owns (c : Thread nD τ) M4 fullShare B.x4 ∗ owns (c : Thread nD τ) M5 fullShare B.x5 ∗ owns (c : Thread nD τ) M6 fullShare B.x6 ∗ owns (c : Thread nD τ) M7 fullShare B.x7 ∗ owns (c : Thread nD τ) M8 fullShare B.x8 ∗ owns (c : Thread nD τ) M9 fullShare B.order ∗ owns (c : Thread nD τ) M10 fullShare B.sel) -∗ K ⟨⟩))
      ⊢ wp frame (wpE (defs₀ (F := F)) 𝒱₀ c none) E (cc0__global_kernel M0 h0 M1 h1 M2 h2 M3 h3 M4 h4 M5 h5 M6 h6 M7 h7 M8 h8 M9 h9 M10 h10) K := by
  iintro ⟨H0, H1, H2, H3, H4, H5, H6, H7, H8, ⟨%d9, H9⟩, ⟨%d10, H10⟩, Hk⟩
  unfold owns
  icases H0 with ⟨%f0, %hf0, H0⟩; icases H1 with ⟨%f1, %hf1, H1⟩; icases H2 with ⟨%f2, %hf2, H2⟩; icases H3 with ⟨%f3, %hf3, H3⟩; icases H4 with ⟨%f4, %hf4, H4⟩
  rw [cc0__global_kernel_eq_skeleton]
  unfold cc0__global_kernel_skel
  sl_exec
  sl_for (inv c M5 M6 M7 M8 M9 M10 B d9 d10) $$ [H5 H6 H7 H8 H9 H10]
  case region =>
    intro k s
    unfold inv owns
    iintro ⟨%hs, ⟨%f5, %hf5, H5⟩, ⟨%f6, %hf6, H6⟩, ⟨%f7, %hf7, H7⟩, ⟨%f8, %hf8, H8⟩, ⟨%f9, %hf9, H9⟩, ⟨%f10, %hf10, H10⟩⟩
    subst hs
    have hck : k0_chk1 (Scalar.fptosi 32 (k0_pay11 k0_pay7 (Scalar.ofBits .f32 0x7F61B1E6#32) (B.iter k.val)) : BitVec 32) := hchk k.val (lt_of_lt_of_eq k.isLt (by decide))
    sl_exec
    sl_step
    isplitr
    · ipureintro
      show _ = B.step (B.iter k.val)
      unfold Blocks.step body_run.sl.r_5 body_run.sl.r_6
      rw [View.readAt_full, View.readAt_full, View.readAt_full, View.readAt_full, hf0, hf1, hf2, hf3,
        show body_run.sl.r c M5 B k f5 hck = cell B.x5 (pick (B.iter k.val)) from read_cell M5 B.x5 f5 hf5 _ _ _,
        show body_run.sl.r_1 c M6 B k f6 hck = cell B.x6 (pick (B.iter k.val)) from read_cell M6 B.x6 f6 hf6 _ _ _,
        show body_run.sl.r_2 c M7 B k f7 hck = cell B.x7 (pick (B.iter k.val)) from read_cell M7 B.x7 f7 hf7 _ _ _,
        show body_run.sl.r_3 c M8 B k f8 hck = cell B.x8 (pick (B.iter k.val)) from read_cell M8 B.x8 f8 hf8 _ _ _]
      rfl
    isplitl [H5]; · iexists _; isplitr; · ipureintro; exact hf5
                    iexact H5
    isplitl [H6]; · iexists _; isplitr; · ipureintro; exact hf6
                    iexact H6
    isplitl [H7]; · iexists _; isplitr; · ipureintro; exact hf7
                    iexact H7
    isplitl [H8]; · iexists _; isplitr; · ipureintro; exact hf8
                    iexact H8
    isplitl [H9]
    · iexists _; isplitr; swap; · iexact H9
      ipureintro
      exact filled_succ M9 k _ _ _ hf9 _ _ (fun j hj => by unfold Blocks.order; rw [hj]; rfl)
    iexists _; isplitr; swap; · iexact H10
    ipureintro
    exact filled_succ M10 k _ _ _ hf10 _ _ (fun j hj => by unfold Blocks.sel; rw [hj]; rfl)
  · unfold inv owns
    isplitr; · ipureintro; rw [View.readAt_full, hf4]; rfl
    isplitl [H5]; · iexact H5
    isplitl [H6]; · iexact H6
    isplitl [H7]; · iexact H7
    isplitl [H8]; · iexact H8
    isplitl [H9]
    · rw [show filled 0 B.order d9 = d9 from rfl]; iexact H9
    · rw [show filled 0 B.sel d10 = d10 from rfl]; iexact H10
  iintro %acc HI
  unfold inv owns
  icases HI with ⟨-, H5, H6, H7, H8, H9, H10⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]; · iexact H5
  isplitl [H6]; · iexact H6
  isplitl [H7]; · iexact H7
  isplitl [H8]; · iexact H8
  rw [show (Scf.trips k0_t1_loop.lb k0_t1_loop.ub k0_t1_loop.st) = 5000 from by decide, show filled 5000 B.order d9 = B.order from filled_all _ _, show filled 5000 B.sel d10 = B.sel from filled_all _ _]
  isplitl [H9]; · iexact H9
  iexact H10

end Cert.Proof.KernelIdeal.Global

end
-- ==== Proof.KernelIdeal.Global.Run.lean ====
/-
  The run of the pipeline over all boxes: the later lines keep its arrays and the arguments, its proof data, and the run
  of the whole program at a branch word of zero.
-/
module

public import proofs.«01_k».proof.Proof.KernelIdeal.Global.Body
public import proofs.«01_k».proof.Proof.KernelIdeal.Kit

@[expose] public section

set_option maxRecDepth 16384

noncomputable section

namespace Cert.Proof.KernelIdeal.Global

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The later lines touch the pipeline's arrays and the buffers that bypass it only. -/
theorem sfx_sub : ∀ ops ∈ (tailLines : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp armTail_sub) op hop)
  · exact Pipeline.sub_ucRefs op ((List.forall_iff_forall_mem.mp hostOps0_3_sub) op hop)
/-- They allocate nothing. -/
theorem sfx_fresh : ∀ ops ∈ (tailLines : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp armTail_fresh) op hop
  · exact (List.forall_iff_forall_mem.mp hostOps0_3_fresh) op hop
/-- They write no array of the pipeline. -/
theorem sfx_keeps : ∀ ops ∈ (tailLines : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [armTail, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)
  · simp only [hostOps0_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No line before the pipeline writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [headLines, readOps, armLines, hostOps0, hostOps0_1, hostOps0_2, arm0, arm1, arm2, arm3, arm4, arm5, arm6, arm7, arm8, arm9, arm10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No line after the pipeline writes `main_arg0`. -/
theorem W_main_arg0 (dats : (p : Fin 2) → (c : Dev nD) → Dat τ (Elt F) Unit ℕ (UR sig nD τ) ℕ (cfgs p) c) (c : Dev nD) :
    Pipeline.afterTail₀ cfgs dats 0 (V0 m) tailLines c main_arg0 = m ((c : Thread nD τ).loc main_arg0) := by
  unfold Pipeline.afterTail₀
  rw [StableHlo.after_of_forall_not_mem (b := Proc.devRef .tc main_arg0) _ _ (List.forall_iff_forall_mem.mp (by
      simp only [tailLines, armTail, hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No line before the pipeline writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [headLines, readOps, armLines, hostOps0, hostOps0_1, hostOps0_2, arm0, arm1, arm2, arm3, arm4, arm5, arm6, arm7, arm8, arm9, arm10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No line after the pipeline writes `main_arg1`. -/
theorem W_main_arg1 (dats : (p : Fin 2) → (c : Dev nD) → Dat τ (Elt F) Unit ℕ (UR sig nD τ) ℕ (cfgs p) c) (c : Dev nD) :
    Pipeline.afterTail₀ cfgs dats 0 (V0 m) tailLines c main_arg1 = m ((c : Thread nD τ).loc main_arg1) := by
  unfold Pipeline.afterTail₀
  rw [StableHlo.after_of_forall_not_mem (b := Proc.devRef .tc main_arg1) _ _ (List.forall_iff_forall_mem.mp (by
      simp only [tailLines, armTail, hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No line before the pipeline writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [headLines, readOps, armLines, hostOps0, hostOps0_1, hostOps0_2, arm0, arm1, arm2, arm3, arm4, arm5, arm6, arm7, arm8, arm9, arm10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No line after the pipeline writes `main_arg2`. -/
theorem W_main_arg2 (dats : (p : Fin 2) → (c : Dev nD) → Dat τ (Elt F) Unit ℕ (UR sig nD τ) ℕ (cfgs p) c) (c : Dev nD) :
    Pipeline.afterTail₀ cfgs dats 0 (V0 m) tailLines c main_arg2 = m ((c : Thread nD τ).loc main_arg2) := by
  unfold Pipeline.afterTail₀
  rw [StableHlo.after_of_forall_not_mem (b := Proc.devRef .tc main_arg2) _ _ (List.forall_iff_forall_mem.mp (by
      simp only [tailLines, armTail, hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Window `w`'s block, read off its array as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks the body finds. -/
def blocks (c : Dev nD) (t : Fin cfg0.N) : Blocks F := ⟨iblk m c 0 t, iblk m c 1 t, iblk m c 2 t, iblk m c 3 t, iblk m c 4 t, iblk m c 5 t, iblk m c 6 t, iblk m c 7 t, iblk m c 8 t⟩

/-- The proof data of the pipeline: its arrays as found, each input left as it was, each result at its value. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (blocks m c t).order
    | ⟨10, _⟩ => (blocks m c t).sel
  Φ _ := Pipeline.ΦA spec0 c
  q _ := fullShare
  owed _ := 0

/-- The proof data of the pipeline that does not run: arbitrary. -/
def dat1 (c : Dev nD) : Dat τ (Elt F) Unit ℕ (UR sig nD τ) ℕ cfg1 c where
  A w := V m c (Pipeline.arrRef spec1 w)
  after w t := match w with
    | ⟨0, _⟩ => ((cfg1.win 0).blk t).view.read (Elt F) (V m c (Pipeline.arrRef spec1 0))
    | ⟨1, _⟩ => ((cfg1.win 1).blk t).view.read (Elt F) (V m c (Pipeline.arrRef spec1 1))
    | ⟨2, _⟩ => ((cfg1.win 2).blk t).view.read (Elt F) (V m c (Pipeline.arrRef spec1 2))
    | ⟨3, _⟩ => ((cfg1.win 3).blk t).view.read (Elt F) (V m c (Pipeline.arrRef spec1 3))
    | ⟨4, _⟩ => ((cfg1.win 4).blk t).view.read (Elt F) (V m c (Pipeline.arrRef spec1 4))
    | ⟨5, _⟩ => ((cfg1.win 5).blk t).view.read (Elt F) (V m c (Pipeline.arrRef spec1 5))
    | ⟨6, _⟩ => ((cfg1.win 6).blk t).view.read (Elt F) (V m c (Pipeline.arrRef spec1 6))
    | ⟨7, _⟩ => ((cfg1.win 7).blk t).view.read (Elt F) (V m c (Pipeline.arrRef spec1 7))
    | ⟨8, _⟩ => ((cfg1.win 8).blk t).view.read (Elt F) (V m c (Pipeline.arrRef spec1 8))
  Φ _ := Pipeline.ΦA spec1 c
  q _ := fullShare
  owed _ := 0

/-- The two together. -/
def dats : (p : Fin 2) → (c : Dev nD) → Dat τ (Elt F) Unit ℕ (UR sig nD τ) ℕ (cfgs p) c
  | ⟨0, _⟩ => dat0 m
  | ⟨1, _⟩ => dat1 m

/-- The arrays as found. -/
theorem A0_eq (c : Dev nD) (w : Fin cfg0.W) : (dat0 m c).A w = V m c (Pipeline.arrRef spec0 w) := rfl
theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = iblk m c 3 t := by dsimp only [dat0]
theorem after0_4 (c : Dev nD) (t : Fin cfg0.N) : (dat0 m c).after 4 t = iblk m c 4 t := by dsimp only [dat0]
theorem after0_5 (c : Dev nD) (t : Fin cfg0.N) : (dat0 m c).after 5 t = iblk m c 5 t := by dsimp only [dat0]
theorem after0_6 (c : Dev nD) (t : Fin cfg0.N) : (dat0 m c).after 6 t = iblk m c 6 t := by dsimp only [dat0]
theorem after0_7 (c : Dev nD) (t : Fin cfg0.N) : (dat0 m c).after 7 t = iblk m c 7 t := by dsimp only [dat0]
theorem after0_8 (c : Dev nD) (t : Fin cfg0.N) : (dat0 m c).after 8 t = iblk m c 8 t := by dsimp only [dat0]
theorem after0_9 (c : Dev nD) (t : Fin cfg0.N) : (dat0 m c).after 9 t = (blocks m c t).order := by dsimp only [dat0]
theorem after0_10 (c : Dev nD) (t : Fin cfg0.N) : (dat0 m c).after 10 t = (blocks m c t).sel := by dsimp only [dat0]
/-- Window 0's buffer holds its block when the body runs. -/
theorem before0_0 (c : Dev nD) (t : Fin cfg0.N) (d) : (dat0 m c).before 0 t d = iblk m c 0 t :=
  ((dat0 m c).before_in_eq_fetched 0 rfl (fun _ => rfl) (fun _ _ _ => rfl) (fun t => by rw [after0_0]; unfold Dat.blockOf iblk; rw [A0_eq]; try rfl) t d).trans
    (by unfold Dat.fetched Dat.blockOf iblk; rw [A0_eq]; try rfl)
/-- Window 1's buffer holds its block when the body runs. -/
theorem before0_1 (c : Dev nD) (t : Fin cfg0.N) (d) : (dat0 m c).before 1 t d = iblk m c 1 t :=
  ((dat0 m c).before_in_eq_fetched 1 rfl (fun _ => rfl) (fun _ _ _ => rfl) (fun t => by rw [after0_1]; unfold Dat.blockOf iblk; rw [A0_eq]; try rfl) t d).trans
    (by unfold Dat.fetched Dat.blockOf iblk; rw [A0_eq]; try rfl)
/-- Window 2's buffer holds its block when the body runs. -/
theorem before0_2 (c : Dev nD) (t : Fin cfg0.N) (d) : (dat0 m c).before 2 t d = iblk m c 2 t :=
  ((dat0 m c).before_in_eq_fetched 2 rfl (fun _ => rfl) (fun _ _ _ => rfl) (fun t => by rw [after0_2]; unfold Dat.blockOf iblk; rw [A0_eq]; try rfl) t d).trans
    (by unfold Dat.fetched Dat.blockOf iblk; rw [A0_eq]; try rfl)
/-- Window 3's buffer holds its block when the body runs. -/
theorem before0_3 (c : Dev nD) (t : Fin cfg0.N) (d) : (dat0 m c).before 3 t d = iblk m c 3 t :=
  ((dat0 m c).before_in_eq_fetched 3 rfl (fun _ => rfl) (fun _ _ _ => rfl) (fun t => by rw [after0_3]; unfold Dat.blockOf iblk; rw [A0_eq]; try rfl) t d).trans
    (by unfold Dat.fetched Dat.blockOf iblk; rw [A0_eq]; try rfl)
/-- Window 4's buffer holds its block when the body runs. -/
theorem before0_4 (c : Dev nD) (t : Fin cfg0.N) (d) : (dat0 m c).before 4 t d = iblk m c 4 t :=
  ((dat0 m c).before_in_eq_fetched 4 rfl (fun _ => rfl) (fun _ _ _ => rfl) (fun t => by rw [after0_4]; unfold Dat.blockOf iblk; rw [A0_eq]; try rfl) t d).trans
    (by unfold Dat.fetched Dat.blockOf iblk; rw [A0_eq]; try rfl)
/-- Window 5's buffer holds its block when the body runs. -/
theorem before0_5 (c : Dev nD) (t : Fin cfg0.N) (d) : (dat0 m c).before 5 t d = iblk m c 5 t :=
  ((dat0 m c).before_in_eq_fetched 5 rfl (fun _ => rfl) (fun _ _ _ => rfl) (fun t => by rw [after0_5]; unfold Dat.blockOf iblk; rw [A0_eq]; try rfl) t d).trans
    (by unfold Dat.fetched Dat.blockOf iblk; rw [A0_eq]; try rfl)
/-- Window 6's buffer holds its block when the body runs. -/
theorem before0_6 (c : Dev nD) (t : Fin cfg0.N) (d) : (dat0 m c).before 6 t d = iblk m c 6 t :=
  ((dat0 m c).before_in_eq_fetched 6 rfl (fun _ => rfl) (fun _ _ _ => rfl) (fun t => by rw [after0_6]; unfold Dat.blockOf iblk; rw [A0_eq]; try rfl) t d).trans
    (by unfold Dat.fetched Dat.blockOf iblk; rw [A0_eq]; try rfl)
/-- Window 7's buffer holds its block when the body runs. -/
theorem before0_7 (c : Dev nD) (t : Fin cfg0.N) (d) : (dat0 m c).before 7 t d = iblk m c 7 t :=
  ((dat0 m c).before_in_eq_fetched 7 rfl (fun _ => rfl) (fun _ _ _ => rfl) (fun t => by rw [after0_7]; unfold Dat.blockOf iblk; rw [A0_eq]; try rfl) t d).trans
    (by unfold Dat.fetched Dat.blockOf iblk; rw [A0_eq]; try rfl)
/-- Window 8's buffer holds its block when the body runs. -/
theorem before0_8 (c : Dev nD) (t : Fin cfg0.N) (d) : (dat0 m c).before 8 t d = iblk m c 8 t :=
  ((dat0 m c).before_in_eq_fetched 8 rfl (fun _ => rfl) (fun _ _ _ => rfl) (fun t => by rw [after0_8]; unfold Dat.blockOf iblk; rw [A0_eq]; try rfl) t d).trans
    (by unfold Dat.fetched Dat.blockOf iblk; rw [A0_eq]; try rfl)

set_option maxHeartbeats 2000000 in
/-- The body meets its obligation, where every word picked names a box. -/
theorem body_obligation (c : Dev nD) (hchk : ∀ t k, k < 5000 → k0_chk1 (pick ((blocks m c t).iter k))) :
    BodyObligation (dat0 (F := F) m c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8]
  rw [show (dat0 m c).Φ t.succ = (dat0 m c).Φ t.castSucc from rfl,
    show (dat0 m c).owesAt () t.succ = (dat0 m c).owesAt () t.castSucc from rfl, after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c _ _ _ _ _ _ _ _ _ _ _ _ _ _ _ _ _ _ _ _ _ _ (blocks m c t) (hchk t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option backward.isDefEq.respectTransparency.types false in
/-- Every weakly fair execution of the program ends with the pipeline's arrays and the other buffers at the computed
    contents and every counter at zero, when the branch word is zero and every word picked names a box. -/
theorem run_main (hw : ∀ c, word m c = 0#32) (hchk : ∀ c t k, k < 5000 → k0_chk1 (pick ((blocks m c t).iter k))) :
    θ_run defs (onTc (τ := τ) (main (F := F))) (s₀ m ρ)
      (fun r => Pipeline.FramePost cfgs (dats m) 0 (Pipeline.afterTail₀ cfgs (dats m) 0 (V0 m) tailLines) r ∧ r.2.sem = fun _ => 0) :=
  Pipeline.θ_run_frame_around (Q' := _) cfgs (dats m) 0 launch0 defs₀ 𝒱₀ m ρ main (fun c => (body_obligation m c (hchk c)).loose)
    (fun c => (dat0 m c).share_full fun _ => rfl) (fun _ _ => rfl) (V0 m) tailLines sfx_sub sfx_fresh sfx_keeps (hmain m hw) (fun c w => A0_eq m c w) (fun _ _ => rfl)
    (hQ' := fun _ h => h)

end Cert.Proof.KernelIdeal.Global

end
-- ==== Proof.KernelIdeal.Global.Pick.lean ====
/-
  What one round of the pipeline over all boxes takes: the largest score of the grid and the first place that holds it.
-/
module

public import proofs.«01_k».proof.Proof.KernelIdeal.Global.Body
public import proofs.«01_k».proof.Proof.KernelIdeal.Value
public import Idealize.ShloMosaic.Lib.Pointwise

@[expose] public section

set_option maxRecDepth 16384

noncomputable section

namespace Cert.Proof.KernelIdeal.Global

open Cert.KernelIdeal Cert.KernelIdeal.Gen
open Idealize.ShloMosaic Idealize.ShloMosaic.TcCoe Idealize.ShloMosaic.Tactic
open Cert.Proof.Math

/-! ## The largest and the least, carried through reshapes and reductions -/

/-- Two families with the same largest entry, the second perhaps with least elements besides. -/
def SameTop {α β : Type} (x : α → EReal) (y : β → EReal) : Prop := (∀ a, ∃ b, x a ≤ y b) ∧ ∀ b, y b = ⊥ ∨ ∃ a, y b = x a

/-- Two families with the same least entry, the second perhaps with greatest elements besides. -/
def SameBot {α β : Type} (x : α → EReal) (y : β → EReal) : Prop := (∀ a, ∃ b, y b ≤ x a) ∧ ∀ b, y b = ⊤ ∨ ∃ a, y b = x a

variable {α β γ : Type}

theorem SameTop.trans {x : α → EReal} {y : β → EReal} {z : γ → EReal} (h : SameTop x y) (g : SameTop y z) : SameTop x z := by
  refine ⟨fun a => ?_, fun c => ?_⟩
  · obtain ⟨b, hb⟩ := h.1 a
    obtain ⟨c, hc⟩ := g.1 b
    exact ⟨c, hb.trans hc⟩
  · rcases g.2 c with e | ⟨b, e⟩
    · exact .inl e
    · rcases h.2 b with e' | ⟨a, e'⟩
      · exact .inl (e.trans e')
      · exact .inr ⟨a, e.trans e'⟩

theorem SameBot.trans {x : α → EReal} {y : β → EReal} {z : γ → EReal} (h : SameBot x y) (g : SameBot y z) : SameBot x z := by
  refine ⟨fun a => ?_, fun c => ?_⟩
  · obtain ⟨b, hb⟩ := h.1 a
    obtain ⟨c, hc⟩ := g.1 b
    exact ⟨c, hc.trans hb⟩
  · rcases g.2 c with e | ⟨b, e⟩
    · exact .inl e
    · rcases h.2 b with e' | ⟨a, e'⟩
      · exact .inl (e.trans e')
      · exact .inr ⟨a, e.trans e'⟩

theorem fold_max_mem (x : α → EReal) (s : Finset α) : s.fold max ⊥ x = ⊥ ∨ ∃ a, s.fold max ⊥ x = x a := by
  classical
  induction s using Finset.induction_on with
  | empty => exact .inl Finset.fold_empty
  | insert a s ha ih =>
    rw [Finset.fold_insert ha]
    rcases max_choice (x a) (s.fold max ⊥ x) with e | e
    · exact .inr ⟨a, e⟩
    · rw [e]; exact ih

theorem fold_min_mem (x : α → EReal) (s : Finset α) : s.fold min ⊤ x = ⊤ ∨ ∃ a, s.fold min ⊤ x = x a := by
  classical
  induction s using Finset.induction_on with
  | empty => exact .inl Finset.fold_empty
  | insert a s ha ih =>
    rw [Finset.fold_insert ha]
    rcases min_choice (x a) (s.fold min ⊤ x) with e | e
    · exact .inr ⟨a, e⟩
    · rw [e]; exact ih

theorem top_fold {s t : Shape} {axes : List (Fin s.rank)} (x : FVec Ideal s .f32) (h : s.Reduces axes t) (hφ : FKind.Formats .f32) (hacc : 0xFF800000#32 = FKind.maximumf.neutral .f32 hφ) :
    SameTop (fun i => (x i : EReal)) (fun j => (multiReduction .maximumf axes t x 0xFF800000#32 h hφ hacc j : EReal)) := by
  have e : ∀ j, (multiReduction .maximumf axes t x 0xFF800000#32 h hφ hacc j : EReal) = (Finset.univ.filter fun i => h.drop i = j).fold max ⊥ (fun i => (x i : EReal)) := fun j => by
    rw [← ofBits_ninf]
    exact multiReduction_maximumf_eq_fold x _ h hφ hacc j
  refine ⟨fun a => ⟨h.drop a, ?_⟩, fun b => ?_⟩
  · dsimp only
    rw [e]
    exact (Finset.le_fold_max _).2 (.inr ⟨a, Finset.mem_filter.2 ⟨Finset.mem_univ _, rfl⟩, le_refl _⟩)
  · dsimp only
    rw [e]
    exact fold_max_mem _ _

theorem bot_fold {s t : Shape} {axes : List (Fin s.rank)} (x : FVec Ideal s .f32) (h : s.Reduces axes t) (hφ : FKind.Formats .f32) (hacc : 0x7F800000#32 = FKind.minimumf.neutral .f32 hφ) :
    SameBot (fun i => (x i : EReal)) (fun j => (multiReduction .minimumf axes t x 0x7F800000#32 h hφ hacc j : EReal)) := by
  have e : ∀ j, (multiReduction .minimumf axes t x 0x7F800000#32 h hφ hacc j : EReal) = (Finset.univ.filter fun i => h.drop i = j).fold min ⊤ (fun i => (x i : EReal)) := fun j => by
    rw [← ofBits_pinf]
    exact multiReduction_minimumf_eq_fold x _ h hφ hacc j
  refine ⟨fun a => ⟨h.drop a, ?_⟩, fun b => ?_⟩
  · dsimp only
    rw [e]
    exact (Finset.fold_min_le _).2 (.inr ⟨a, Finset.mem_filter.2 ⟨Finset.mem_univ _, rfl⟩, le_refl _⟩)
  · dsimp only
    rw [e]
    exact fold_min_mem _ _

theorem cast_covers {s t : Shape} (x : s.Idx → EReal) (h : s.ShapeCasts t) : (∀ a, ∃ b, shapeCast t x h b = x a) ∧ ∀ b, ∃ a, shapeCast t x h b = x a := by
  refine ⟨fun a => ⟨t.rowMajor.symm ⟨(s.rowMajor a).val, ?_⟩, ?_⟩, fun b => ⟨_, rfl⟩⟩
  · have := (s.rowMajor a).isLt
    exact lt_of_lt_of_eq this h.symm
  · refine shapeCast_apply x h _ a ?_
    rw [Equiv.apply_symm_apply]

theorem top_cast {s t : Shape} (x : FVec Ideal s .f32) (h : s.ShapeCasts t) : SameTop (fun i => (x i : EReal)) (fun j => (shapeCast t x h j : EReal)) :=
  ⟨fun a => ((cast_covers x h).1 a).imp fun _ e => e.ge, fun b => .inr ((cast_covers x h).2 b)⟩

theorem bot_cast {s t : Shape} (x : FVec Ideal s .f32) (h : s.ShapeCasts t) : SameBot (fun i => (x i : EReal)) (fun j => (shapeCast t x h j : EReal)) :=
  ⟨fun a => ((cast_covers x h).1 a).imp fun _ e => e.le, fun b => .inr ((cast_covers x h).2 b)⟩

theorem SameTop.spec [Subsingleton β] {x : α → EReal} {y : β → EReal} (h : SameTop x y) (a0 : α) (b : β) : (∀ a, x a ≤ y b) ∧ ∃ a, y b = x a := by
  have hall : ∀ a, x a ≤ y b := fun a => by
    obtain ⟨b', hb⟩ := h.1 a
    rwa [Subsingleton.elim b' b] at hb
  refine ⟨hall, ?_⟩
  rcases h.2 b with e | e
  · exact ⟨a0, by rw [e]; exact (le_bot_iff.1 (e ▸ hall a0)).symm⟩
  · exact e

theorem SameBot.spec [Subsingleton β] {x : α → EReal} {y : β → EReal} (h : SameBot x y) (a0 : α) (b : β) : (∀ a, y b ≤ x a) ∧ ∃ a, y b = x a := by
  have hall : ∀ a, y b ≤ x a := fun a => by
    obtain ⟨b', hb⟩ := h.1 a
    rwa [Subsingleton.elim b' b] at hb
  refine ⟨hall, ?_⟩
  rcases h.2 b with e | e
  · exact ⟨a0, by rw [e]; exact (top_le_iff.1 (e ▸ hall a0)).symm⟩
  · exact e

instance : Subsingleton S1x1x1.Idx := ⟨fun a b => funext fun k => by
  fin_cases k <;> exact Subsingleton.elim (α := Fin 1) _ _⟩

/-! ## The two reductions of a round -/

/-- The largest score. -/
theorem pay10_spec (s : FVec Ideal S40x128 .f32) : (∀ i, (s i : EReal) ≤ k0_pay10 s) ∧ ∃ i, (k0_pay10 s : EReal) = s i := by
  have h1 := (top_cast s shapeCasts_S40x128_S5x8x128).trans (top_fold _ reduces_S5x8x128_S8x128 (.inl rfl) rfl)
  have h2 := (h1.trans (top_fold _ reduces_S8x128_S128 (.inl rfl) rfl)).trans (top_cast _ shapeCasts_S128_S1x128)
  have h3 := (h2.trans (top_cast _ shapeCasts_S1x128_S1x1x128)).trans (top_fold _ reduces_S1x1x128_S1 (.inl rfl) rfl)
  have h4 := h3.trans (top_cast _ shapeCasts_S1_S1x1x1)
  exact h4.spec (ix2 0 0) _

/-- What the place of the largest score is the least of. -/
def places (v : FVec Ideal S40x128 .f32) (c : EReal) (s : FVec Ideal S40x128 .f32) (i : S40x128.Idx) : EReal := if (s i : EReal) = k0_pay10 s then v i else c

theorem pay11_spec (v : FVec Ideal S40x128 .f32) (c : Ideal .f32) (s : FVec Ideal S40x128 .f32) :
    (∀ i, (k0_pay11 v c s : EReal) ≤ places v c s i) ∧ ∃ i, (k0_pay11 v c s : EReal) = places v c s i := by
  obtain ⟨x, hx⟩ : ∃ x : FVec Ideal S40x128 .f32, x = select (cmpf .oeq s (broadcast S40x128 (k0_pay10 s))) v (broadcast S40x128 c) := ⟨_, rfl⟩
  have hp : (fun i => (x i : EReal)) = places v c s := by
    funext i
    rw [hx]
    unfold places
    generalize (k0_pay10 s : Ideal .f32) = M
    show Scalar.select (BitVec.ofBool (decide ((s i : EReal) = M))) (v i) c = _
    by_cases h : (s i : EReal) = M <;> simp [h, Scalar.select]
  have h1 := (bot_cast x shapeCasts_S40x128_S5x8x128).trans (bot_fold _ reduces_S5x8x128_S8x128 (.inl rfl) rfl)
  have h2 := (h1.trans (bot_fold _ reduces_S8x128_S128 (.inl rfl) rfl)).trans (bot_cast _ shapeCasts_S128_S1x128)
  have h3 := (h2.trans (bot_cast _ shapeCasts_S1x128_S1x1x128)).trans (bot_fold _ reduces_S1x1x128_S1 (.inl rfl) rfl)
  have h4 := h3.trans (bot_cast _ shapeCasts_S1_S1x1x1)
  rw [hp, hx] at h4
  exact h4.spec (ix2 0 0) _

/-! ## The place taken -/

/-- The number of a place of the grid. -/
def placeOf (i : S40x128.Idx) : ℕ := (i 0).val * 128 + (i 1).val

theorem placeOf_lt (i : S40x128.Idx) : placeOf i < 5120 := by
  have h0 : (i 0).val < 40 := (i 0).isLt
  have h1 : (i 1).val < 128 := (i 1).isLt
  unfold placeOf
  omega

theorem placeOf_inj (i j : S40x128.Idx) (h : placeOf i = placeOf j) : i = j := by
  have h1 : (i 1).val < 128 := (i 1).isLt
  have h2 : (j 1).val < 128 := (j 1).isLt
  unfold placeOf at h
  funext a
  fin_cases a
  · exact Fin.ext (by show (i 0).val = (j 0).val; omega)
  · exact Fin.ext (by show (i 1).val = (j 1).val; omega)

theorem pay6_at (i : S40x128.Idx) : k0_pay6 i = BitVec.ofNat 32 (placeOf i) := by
  obtain ⟨r, l, rfl⟩ : ∃ (r : Fin 40) (l : Fin 128), i = ix2 r l := ⟨i 0, i 1, ValueIdx.eq_ix2 i⟩
  have e : k0_pay6 (ix2 r l) = BitVec.ofNat 32 r.val * 128#32 + BitVec.ofNat 32 l.val := by
    pointwise [k0_pay6]
    rfl
  rw [e]
  apply BitVec.eq_of_toNat_eq
  have h0 := r.isLt
  have h1 := l.isLt
  have : placeOf (ix2 r l) = r.val * 128 + l.val := rfl
  rw [this]
  simp

theorem pay7_at (i : S40x128.Idx) : ((k0_pay7 : FVec Ideal S40x128 .f32) i : EReal) = ((placeOf i : ℝ) : EReal) := by
  have e : ((k0_pay7 : FVec Ideal S40x128 .f32) i : EReal) = (((k0_pay6 i).toInt : ℝ) : EReal) := rfl
  have hlt := placeOf_lt i
  rw [e, pay6_at, intOf _ (by omega)]
  rfl

theorem ofBits_far : ∃ x : ℝ, (Scalar.ofBits .f32 0x7F61B1E6#32 : Ideal .f32) = (x : EReal) ∧ (5120 : ℝ) ≤ x := by
  refine ⟨(14791142 : ℝ) * (2 : ℝ) ^ (104 : ℤ), ?_, by norm_num⟩
  show Ideal.ofBits FTy.f32 0x7F61B1E6#32 = _
  simp [Ideal.ofBits, Ideal.ieee, -EReal.coe_mul]

/-- The first place of the largest score is the one taken. -/
theorem pick_eq (s : FVec Ideal S40x128 .f32) (i0 : S40x128.Idx) (hmax : ∀ i, (s i : EReal) ≤ s i0) (hmin : ∀ i, (s i : EReal) = s i0 → placeOf i0 ≤ placeOf i) :
    (k0_pay10 s : EReal) = s i0 ∧ pick s = BitVec.ofNat 32 (placeOf i0) := by
  obtain ⟨t1, i1, t2⟩ := pay10_spec s
  have h10 : (k0_pay10 s : EReal) = s i0 := le_antisymm (t2 ▸ hmax i1) (t1 i0)
  refine ⟨h10, ?_⟩
  obtain ⟨b1, i2, b2⟩ := pay11_spec k0_pay7 (Scalar.ofBits .f32 0x7F61B1E6#32) s
  obtain ⟨x, hx, hlt⟩ := ofBits_far
  have e : (k0_pay11 k0_pay7 (Scalar.ofBits .f32 0x7F61B1E6#32) s : EReal) = ((placeOf i0 : ℝ) : EReal) := by
    refine le_antisymm ((b1 i0).trans ?_) ?_
    · unfold places
      rw [if_pos h10.symm, pay7_at]
    · rw [b2]
      unfold places
      split
      · rename_i h
        rw [pay7_at]
        have := hmin i2 (h.trans h10)
        exact_mod_cast this
      · rw [hx]
        have h1 := placeOf_lt i0
        have h2 : (placeOf i0 : ℝ) ≤ 5120 := by exact_mod_cast h1.le
        exact_mod_cast h2.trans hlt
  have hlt' := placeOf_lt i0
  show Ideal.fptosi 32 (k0_pay11 k0_pay7 (Scalar.ofBits .f32 0x7F61B1E6#32) s : EReal) = _
  rw [e, fptosi_nat _ (by omega)]

end Cert.Proof.KernelIdeal.Global

end
-- ==== Proof.KernelIdeal.Global.Round.lean ====
/-
  The rounds of the pipeline over all boxes are the rounds of a greedy run: the grid holds the scores of the boxes left
  and the least element elsewhere, and each round takes the run's box.
-/
module

public import proofs.«01_k».proof.Proof.KernelIdeal.Global.Pick

@[expose] public section

set_option maxRecDepth 16384

noncomputable section

namespace Cert.Proof.KernelIdeal.Global

open Cert.KernelIdeal Cert.KernelIdeal.Gen
open Idealize.ShloMosaic Idealize.ShloMosaic.TcCoe Idealize.ShloMosaic.Tactic
open Cert.Proof.Math

/-! ## One round at a place -/

theorem pay1_eq (x : Vec Ideal S40x128 .f32) : k0_pay1 x = x := by funext j; pointwise [k0_pay1]
theorem pay2_eq (x : Vec Ideal S40x128 .f32) : k0_pay2 x = x := by funext j; pointwise [k0_pay2]
theorem pay3_eq (x : Vec Ideal S40x128 .f32) : k0_pay3 x = x := by funext j; pointwise [k0_pay3]
theorem pay4_eq (x : Vec Ideal S40x128 .f32) : k0_pay4 x = x := by funext j; pointwise [k0_pay4]
theorem pay8_eq (x : Vec Ideal S40x128 .f32) : k0_pay8 x = x := by funext j; pointwise [k0_pay8]

/-- The box at a place of the grids. -/
def gridBox (B : Blocks Ideal) (i : S40x128.Idx) : Box := ⟨B.x0 i, B.x1 i, B.x2 i, B.x3 i⟩
/-- The box a word names in the lists. -/
def listBox (B : Blocks Ideal) (w : BitVec 32) : Box := ⟨cell B.x5 w, cell B.x6 w, cell B.x7 w, cell B.x8 w⟩

theorem pay12_at (x0 x1 x2 x3 : FVec Ideal S40x128 .f32) (a b c d : EReal) (i : S40x128.Idx) :
    (k0_pay12 (F := Ideal) x0 x1 x2 x3 a b c d i : EReal) = shared ⟨a, b, c, d⟩ ⟨x0 i, x1 i, x2 i, x3 i⟩ := by
  have z : (Scalar.ofBits .f32 0x00000000#32 : Ideal .f32) = (0 : EReal) := ofBits_zero
  unfold shared k0_pay12
  rw [z]
  rfl

theorem pay13_at (x0 x1 x2 x3 v10 : FVec Ideal S40x128 .f32) (a b c d : EReal) (i : S40x128.Idx) :
    (k0_pay13 (F := Ideal) x0 x1 x2 x3 v10 a b c d i : EReal) = area ⟨a, b, c, d⟩ + v10 i - k0_pay12 (F := Ideal) x0 x1 x2 x3 a b c d i := rfl

theorem pay5_at (x0 x1 x2 x3 : FVec Ideal S40x128 .f32) (i : S40x128.Idx) :
    (k0_pay5 (F := Ideal) x0 x1 x2 x3 i : EReal) = area ⟨x0 i, x1 i, x2 i, x3 i⟩ := by
  unfold k0_pay5
  rw [pay1_eq, pay2_eq, pay3_eq, pay4_eq]
  rfl

theorem one_bits : (Ideal.ofBits FTy.f32 0x3F800000#32 : EReal) = 1 := by
  simp [Ideal.ofBits, Ideal.ieee, -EReal.coe_mul]
  norm_num

theorem pay9_at (s : FVec Ideal S40x128 .f32) (w : BitVec 32) (a b : FVec Ideal S40x128 .f32) (i : S40x128.Idx) :
    (k0_pay9 s w a b i : EReal) = if BitVec.ofNat 32 (placeOf i) = w then ⊥ else if (s i : EReal) ≠ ⊥ then
      (s i : EReal) * (if half < Ideal.div (a i) (b i + eps) then 1 - Ideal.div (a i) (b i + eps) else 1) else s i := by
  have e : (k0_pay9 s w a b i : EReal) = Scalar.select (IntOp.cmpi CmpIPredicate.eq (k0_pay6 i) w) (Ideal.ofBits FTy.f32 4286578688#32)
      (Scalar.select (IntOp.andi (BitVec.ofBool (decide ((s i : EReal) ≠ Ideal.ofBits FTy.f32 4286578688#32))) (IntOp.cmpi CmpIPredicate.ne (k0_pay6 i) w))
        ((s i : EReal) * if half < Ideal.div (a i) (b i + eps) then 1 - Ideal.div (a i) (b i + eps) else 1) (s i : EReal)) := by
    unfold half eps
    pointwise [k0_pay9]
  rw [e, pay6_at, ofBits_ninf]
  by_cases h1 : BitVec.ofNat 32 (placeOf i) = w
  · simp [h1, Scalar.select, IntOp.cmpi]
  · by_cases h2 : (s i : EReal) = ⊥
    · simp [h1, h2, Scalar.select, IntOp.andi, IntOp.cmpi]
    · have q1 : (BitVec.ofNat 32 (placeOf i) == w) = false := by simp [h1]
      have q2 : (BitVec.ofNat 32 (placeOf i) != w) = true := by simp [bne, h1]
      simp [h1, h2, q1, q2, Scalar.select, IntOp.andi, IntOp.cmpi]

theorem step_at (B : Blocks Ideal) (s : FVec Ideal S40x128 .f32) (i : S40x128.Idx) :
    (B.step s i : EReal) = if BitVec.ofNat 32 (placeOf i) = pick s then ⊥ else if (s i : EReal) ≠ ⊥ then
      (s i : EReal) * decay half eps 1 (listBox B (pick s)) (gridBox B i) else s i := by
  unfold Blocks.step decay iou
  rw [pay9_at, pay13_at, pay12_at, pay5_at, pay1_eq, pay2_eq, pay3_eq, pay4_eq]
  rfl

/-! ## All rounds -/

/-- The grid of a greedy run: the scores of the boxes left, the least element elsewhere. -/
def want (S : ℕ → Fin 5000 → EReal) (A : ℕ → Finset (Fin 5000)) (k : ℕ) (i : S40x128.Idx) : EReal :=
  if h : placeOf i < 5000 then (if (⟨placeOf i, h⟩ : Fin 5000) ∈ A k then S k ⟨placeOf i, h⟩ else ⊥) else ⊥

theorem placeOf_ix (j : Fin 5000) : placeOf (ix2 (⟨j.val / 128, by omega⟩ : Fin 40) (⟨j.val % 128, by omega⟩ : Fin 128)) = j.val := by
  show j.val / 128 * 128 + j.val % 128 = j.val
  omega

variable {D : Fin 5000 → Fin 5000 → EReal} {S : ℕ → Fin 5000 → EReal} {A : ℕ → Finset (Fin 5000)} {p : ℕ → Fin 5000}

/-- On such a grid the round takes the run's box, at its score. -/
theorem takes (h : GreedyRun D S A p) (hD : ∀ i j, 0 ≤ D i j) (h0 : ∀ i, 0 ≤ S 0 i) (k : ℕ) (hk : k < 5000) (s : FVec Ideal S40x128 .f32) (hs : ∀ i, (s i : EReal) = want S A k i) :
    (k0_pay10 s : EReal) = S k (p k) ∧ pick s = BitVec.ofNat 32 (p k).val := by
  obtain ⟨hm, hb⟩ := h.isBest hD h0 k hk
  obtain ⟨i0, hi⟩ : ∃ i0 : S40x128.Idx, placeOf i0 = (p k).val := ⟨_, placeOf_ix (p k)⟩
  have e0 : (s i0 : EReal) = S k (p k) := by
    rw [hs]
    unfold want
    have hlt : placeOf i0 < 5000 := by rw [hi]; exact (p k).isLt
    have hp : (⟨placeOf i0, hlt⟩ : Fin 5000) = p k := Fin.ext hi
    rw [dif_pos hlt, hp, if_pos hm]
  have hpos := h.nonneg hD h0 k (p k)
  have hne : (⊥ : EReal) ≠ S k (p k) := fun e => by
    rw [← e] at hpos
    exact absurd hpos (by simp)
  have hmax : ∀ i, (s i : EReal) ≤ s i0 := fun i => by
    rw [e0, hs]
    unfold want
    split
    · split
      · rename_i hin
        rcases hb _ hin with q | ⟨q, _⟩
        · exact q.le
        · exact q.le
      · exact bot_le
    · exact bot_le
  have hmin : ∀ i, (s i : EReal) = s i0 → placeOf i0 ≤ placeOf i := fun i hh => by
    rw [e0, hs] at hh
    unfold want at hh
    split at hh
    · split at hh
      · rename_i hlt hin
        rcases hb _ hin with q | ⟨_, q⟩
        · exact absurd hh q.ne
        · rw [hi]; exact q
      · exact absurd hh hne
    · exact absurd hh hne
  obtain ⟨a, b⟩ := pick_eq s i0 hmax hmin
  exact ⟨a.trans e0, by rw [b, hi]⟩

/-- The grid before each round is the run's. -/
theorem iter_at (B : Blocks Ideal) (h : GreedyRun D S A p) (hD : ∀ i j, 0 ≤ D i j) (h0 : ∀ i, 0 ≤ S 0 i)
    (hscore : ∀ i (hi : placeOf i < 5000), (B.x4 i : EReal) = S 0 ⟨placeOf i, hi⟩) (hpad : ∀ i, ¬ placeOf i < 5000 → (B.x4 i : EReal) = ⊥)
    (hdec : ∀ (j : Fin 5000) i (hi : placeOf i < 5000), decay half eps 1 (listBox B (BitVec.ofNat 32 j.val)) (gridBox B i) = D j ⟨placeOf i, hi⟩) :
    ∀ k, k ≤ 5000 → ∀ i, (B.iter k i : EReal) = want S A k i
  | 0, _, i => by
    show (k0_pay8 B.x4 i : EReal) = _
    rw [pay8_eq]
    unfold want
    split
    · rename_i hi
      rw [h.init, if_pos (Finset.mem_univ _)]
      exact hscore i hi
    · rename_i hi
      exact hpad i hi
  | k + 1, hk, i => by
    have ih := iter_at B h hD h0 hscore hpad hdec k (by omega)
    obtain ⟨_, hp⟩ := takes h hD h0 k (by omega) (B.iter k) ih
    show (B.step (B.iter k) i : EReal) = _
    rw [step_at, hp, ih i]
    have hpl := placeOf_lt i
    have hpk := (p k).isLt
    have hw : BitVec.ofNat 32 (placeOf i) = BitVec.ofNat 32 (p k).val ↔ placeOf i = (p k).val := by
      constructor
      · intro e
        have := congrArg BitVec.toNat e
        simp at this
        omega
      · intro e; rw [e]
    unfold want
    rw [h.stepA]
    by_cases hlt : placeOf i < 5000
    · rw [dif_pos hlt, dif_pos hlt]
      by_cases he : placeOf i = (p k).val
      · have e2 : (⟨placeOf i, hlt⟩ : Fin 5000) = p k := Fin.ext he
        rw [if_pos (hw.2 he), e2, if_neg (Finset.notMem_erase _ _)]
      · have e2 : (⟨placeOf i, hlt⟩ : Fin 5000) ≠ p k := fun e => he (congrArg Fin.val e)
        rw [if_neg (fun e => he (hw.1 e))]
        by_cases hin : (⟨placeOf i, hlt⟩ : Fin 5000) ∈ A k
        · have hpos := h.nonneg hD h0 k ⟨placeOf i, hlt⟩
          have hne : S k ⟨placeOf i, hlt⟩ ≠ ⊥ := fun e => by
            rw [e] at hpos
            exact absurd hpos (by simp)
          rw [if_pos hin, if_pos hne, if_pos (Finset.mem_erase.2 ⟨e2, hin⟩), h.stepS, if_pos ⟨hin, e2⟩, hdec (p k) i hlt]
        · rw [if_neg hin, if_neg (fun hh => hh rfl), if_neg (fun hh => hin (Finset.mem_of_mem_erase hh))]
    · rw [dif_neg hlt, dif_neg hlt, if_neg (fun e => hlt (by rw [hw.1 e]; exact hpk)), if_neg (fun hh => hh rfl)]

end Cert.Proof.KernelIdeal.Global

end
-- ==== Proof.KernelIdeal.Global.Value.lean ====
/-
  What the program leaves in its three results where the pipeline over all boxes runs.
-/
module

public import proofs.«01_k».proof.Proof.KernelIdeal.Global.Run
public import proofs.«01_k».proof.Proof.KernelIdeal.Global.Round
public import proofs.«01_k».proof.Proof.KernelIdeal.Final
public import proofs.«01_k».proof.Proof.KernelIdeal.Moved
public import Idealize.ShloMosaic.Lib.KernelVsHost

@[expose] public section
set_option maxRecDepth 16384
noncomputable section
namespace Cert.Proof.KernelIdeal.Global

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)
open Cert.Proof.Math

section Reads

variable {F : FTy → Type} [FloatOps F] (m : (ℓ : Loc nD τ sig) → Buf (Elt F) ℓ) (ρ : Dev nD → PrngReg)

/-- The one point of the pipeline. -/
abbrev only : Fin cfg0.N := ⟨0, by decide⟩

/-- There is no other. -/
theorem eq_only (t : Fin cfg0.N) : t = only := by
  have h := t.isLt
  have e : cfg0.N = 1 := by decide
  refine Fin.ext ?_
  show t.val = 0
  omega

/-- Every window's block is its array. -/
theorem at_zero : win0_0.index only = ![0, 0] ∧ win0_1.index only = ![0, 0] ∧ win0_2.index only = ![0, 0] ∧ win0_3.index only = ![0, 0] ∧ win0_4.index only = ![0, 0] ∧ win0_5.index only = ![0] ∧ win0_6.index only = ![0] ∧ win0_7.index only = ![0] ∧ win0_8.index only = ![0] := by decide +kernel

theorem block0 (c : Dev nD) : iblk m c 0 only = V m c main_case0b0_v27 := by
  funext x
  blk_simp [iblk]
  refine congrArg (V m c main_case0b0_v27) ?_
  blk_ext! [at_zero.1]

theorem block1 (c : Dev nD) : iblk m c 1 only = V m c main_case0b0_v31 := by
  funext x
  blk_simp [iblk]
  refine congrArg (V m c main_case0b0_v31) ?_
  blk_ext! [at_zero.2.1]

theorem block2 (c : Dev nD) : iblk m c 2 only = V m c main_case0b0_v35 := by
  funext x
  blk_simp [iblk]
  refine congrArg (V m c main_case0b0_v35) ?_
  blk_ext! [at_zero.2.2.1]

theorem block3 (c : Dev nD) : iblk m c 3 only = V m c main_case0b0_v39 := by
  funext x
  blk_simp [iblk]
  refine congrArg (V m c main_case0b0_v39) ?_
  blk_ext! [at_zero.2.2.2.1]

theorem block4 (c : Dev nD) : iblk m c 4 only = V m c main_case0b0_v41 := by
  funext x
  blk_simp [iblk]
  refine congrArg (V m c main_case0b0_v41) ?_
  blk_ext! [at_zero.2.2.2.2.1]

theorem block5 (c : Dev nD) : iblk m c 5 only = V m c main_case0b0_v43 := by
  funext x
  blk_simp [iblk]
  refine congrArg (V m c main_case0b0_v43) ?_
  blk_ext! [at_zero.2.2.2.2.2.1]

theorem block6 (c : Dev nD) : iblk m c 6 only = V m c main_case0b0_v45 := by
  funext x
  blk_simp [iblk]
  refine congrArg (V m c main_case0b0_v45) ?_
  blk_ext! [at_zero.2.2.2.2.2.2.1]

theorem block7 (c : Dev nD) : iblk m c 7 only = V m c main_case0b0_v47 := by
  funext x
  blk_simp [iblk]
  refine congrArg (V m c main_case0b0_v47) ?_
  blk_ext! [at_zero.2.2.2.2.2.2.2.1]

theorem block8 (c : Dev nD) : iblk m c 8 only = V m c main_case0b0_v49 := by
  funext x
  blk_simp [iblk]
  refine congrArg (V m c main_case0b0_v49) ?_
  blk_ext! [at_zero.2.2.2.2.2.2.2.2]

/-- A column of the moved boxes as a list. -/
def listOf (k : ℕ) (h : S5000x4.Slices ![0, k] S5000x1) (o : FVec F S5000x4 .f32) : FVec F S5000 .f32 := shapeCast S5000 (extractStridedSlice S5000x1 ![0, k] o h) shapeCasts_S5000x1_S5000

/-- A list padded to 40 rows of 128. -/
def gridOf (x : FVec F S5000 .f32) (v : FVec F S_ .f32) : FVec F S40x128 .f32 := shapeCast S40x128 (pad S5120 ![0] ![120] ![0] x v pads_S5000_S5120_01200 h_S_) shapeCasts_S5120_S40x128

variable (W : Valuation τ sig (Elt F))

theorem arm_v27 : StableHlo.after (armLines : List (List (HloOp τ sig (Elt F)))).flatten W (Proc.devRef .tc main_case0b0_v27) = gridOf (listOf 0 slices_S5000x4_S5000x1_0_0 (W (Proc.devRef .tc main_v7))) (sitofp .f32 (constantI S_ 32 0#32)) := by
  simp only [List.flatten_cons, List.flatten_nil, List.append_nil, List.cons_append, List.nil_append]
  after_reads_simp; rfl
theorem arm_v31 : StableHlo.after (armLines : List (List (HloOp τ sig (Elt F)))).flatten W (Proc.devRef .tc main_case0b0_v31) = gridOf (listOf 1 slices_S5000x4_S5000x1_0_1 (W (Proc.devRef .tc main_v7))) (sitofp .f32 (constantI S_ 32 0#32)) := by
  simp only [List.flatten_cons, List.flatten_nil, List.append_nil, List.cons_append, List.nil_append]
  after_reads_simp; rfl
theorem arm_v35 : StableHlo.after (armLines : List (List (HloOp τ sig (Elt F)))).flatten W (Proc.devRef .tc main_case0b0_v35) = gridOf (listOf 2 slices_S5000x4_S5000x1_0_2 (W (Proc.devRef .tc main_v7))) (sitofp .f32 (constantI S_ 32 0#32)) := by
  simp only [List.flatten_cons, List.flatten_nil, List.append_nil, List.cons_append, List.nil_append]
  after_reads_simp; rfl
theorem arm_v39 : StableHlo.after (armLines : List (List (HloOp τ sig (Elt F)))).flatten W (Proc.devRef .tc main_case0b0_v39) = gridOf (listOf 3 slices_S5000x4_S5000x1_0_3 (W (Proc.devRef .tc main_v7))) (sitofp .f32 (constantI S_ 32 0#32)) := by
  simp only [List.flatten_cons, List.flatten_nil, List.append_nil, List.cons_append, List.nil_append]
  after_reads_simp; rfl
theorem arm_v41 : StableHlo.after (armLines : List (List (HloOp τ sig (Elt F)))).flatten W (Proc.devRef .tc main_case0b0_v41) = gridOf (W (Proc.devRef .tc main_arg1)) (constant S_ .f32 0xFF800000#32) := by
  simp only [List.flatten_cons, List.flatten_nil, List.append_nil, List.cons_append, List.nil_append]
  after_reads_simp; rfl
theorem arm_v43 : StableHlo.after (armLines : List (List (HloOp τ sig (Elt F)))).flatten W (Proc.devRef .tc main_case0b0_v43) = listOf 0 slices_S5000x4_S5000x1_0_0 (W (Proc.devRef .tc main_v7)) := by
  simp only [List.flatten_cons, List.flatten_nil, List.append_nil, List.cons_append, List.nil_append]
  after_reads_simp; rfl
theorem arm_v45 : StableHlo.after (armLines : List (List (HloOp τ sig (Elt F)))).flatten W (Proc.devRef .tc main_case0b0_v45) = listOf 1 slices_S5000x4_S5000x1_0_1 (W (Proc.devRef .tc main_v7)) := by
  simp only [List.flatten_cons, List.flatten_nil, List.append_nil, List.cons_append, List.nil_append]
  after_reads_simp; rfl
theorem arm_v47 : StableHlo.after (armLines : List (List (HloOp τ sig (Elt F)))).flatten W (Proc.devRef .tc main_case0b0_v47) = listOf 2 slices_S5000x4_S5000x1_0_2 (W (Proc.devRef .tc main_v7)) := by
  simp only [List.flatten_cons, List.flatten_nil, List.append_nil, List.cons_append, List.nil_append]
  after_reads_simp; rfl
theorem arm_v49 : StableHlo.after (armLines : List (List (HloOp τ sig (Elt F)))).flatten W (Proc.devRef .tc main_case0b0_v49) = listOf 3 slices_S5000x4_S5000x1_0_3 (W (Proc.devRef .tc main_v7)) := by
  simp only [List.flatten_cons, List.flatten_nil, List.append_nil, List.cons_append, List.nil_append]
  after_reads_simp; rfl

theorem after_five (a b c d : List (HloOp τ sig (Elt F))) (l : List (List (HloOp τ sig (Elt F)))) (W : Valuation τ sig (Elt F)) :
    StableHlo.after ([a, b, c] ++ [d] ++ l).flatten W = StableHlo.after l.flatten (StableHlo.after (a ++ (b ++ (c ++ d))) W) := by
  simp only [List.flatten_append, List.cons_append, List.nil_append, List.flatten_cons, List.flatten_nil, StableHlo.after_append, List.append_nil]

theorem V0_split (c : Dev nD) : V0 m c = StableHlo.after armLines.flatten (atBranch fun b => m (c, b)) :=
  after_five hostOps0 hostOps0_1 hostOps0_2 readOps armLines _

/-- The boxes each moved by its class, as the branch finds them. -/
def movedAll (c : Dev nD) : FVec F S5000x4 .f32 := shifted (m (c, Proc.devRef .tc main_arg0)) (m (c, Proc.devRef .tc main_arg2))

/-- The blocks the body finds. -/
def found (c : Dev nD) : Blocks F :=
  ⟨gridOf (listOf 0 slices_S5000x4_S5000x1_0_0 (movedAll m c)) (sitofp .f32 (constantI S_ 32 0#32)), gridOf (listOf 1 slices_S5000x4_S5000x1_0_1 (movedAll m c)) (sitofp .f32 (constantI S_ 32 0#32)),
    gridOf (listOf 2 slices_S5000x4_S5000x1_0_2 (movedAll m c)) (sitofp .f32 (constantI S_ 32 0#32)), gridOf (listOf 3 slices_S5000x4_S5000x1_0_3 (movedAll m c)) (sitofp .f32 (constantI S_ 32 0#32)),
    gridOf (m (c, Proc.devRef .tc main_arg1)) (constant S_ .f32 0xFF800000#32),
    listOf 0 slices_S5000x4_S5000x1_0_0 (movedAll m c), listOf 1 slices_S5000x4_S5000x1_0_1 (movedAll m c), listOf 2 slices_S5000x4_S5000x1_0_2 (movedAll m c), listOf 3 slices_S5000x4_S5000x1_0_3 (movedAll m c)⟩

theorem blocks_eq (c : Dev nD) (t : Fin cfg0.N) : blocks m c t = found m c := by
  rw [eq_only t]
  have h := V0_split m c
  obtain ⟨k1, k2, _, k7⟩ := branchKeep fun b => m (c, b)
  unfold blocks found movedAll
  rw [block0, block1, block2, block3, block4, block5, block6, block7, block8]
  unfold V
  rw [h, arm_v27, arm_v31, arm_v35, arm_v39, arm_v41, arm_v43, arm_v45, arm_v47, arm_v49, k1, k7]

theorem final9 (c : Dev nD) : (dats m 0 c).arrAt 9 cfg0.N = (found m c).order := by
  refine (dat0 m c).arrAt_eq_of_after_last 9 only (by decide +kernel) _ fun j => ?_
  blk_simp
  rw [after0_9, blocks_eq]

theorem final10 (c : Dev nD) : (dats m 0 c).arrAt 10 cfg0.N = (found m c).sel := by
  refine (dat0 m c).arrAt_eq_of_after_last 10 only (by decide +kernel) _ fun j => ?_
  blk_simp
  rw [after0_10, blocks_eq]

theorem tail_reads : StableHlo.after (tailLines : List (List (HloOp τ sig (Elt F)))).flatten W (Proc.devRef .tc main_v21_0) = W (Proc.devRef .tc main_case0b0_v50_0)
    ∧ StableHlo.after (tailLines : List (List (HloOp τ sig (Elt F)))).flatten W (Proc.devRef .tc main_v21_1) = W (Proc.devRef .tc main_case0b0_v50_1)
    ∧ StableHlo.after (tailLines : List (List (HloOp τ sig (Elt F)))).flatten W (Proc.devRef .tc main_v23) = aboveOf (W (Proc.devRef .tc main_case0b0_v50_1)) := by
  unfold tailLines armTail hostOps0_3 aboveOf
  simp only [List.flatten_cons, List.flatten_nil, List.append_nil, List.cons_append, List.nil_append]
  refine ⟨?_, ?_, ?_⟩
  · after_reads_simp; rfl
  · after_reads_simp; rfl
  · after_reads_simp; rfl

theorem arr9 (c : Dev nD) (U : Valuation τ sig (Elt F)) : Pipeline.withArrays (cfgs 0).spec c U (fun w => (dats m 0 c).arrAt w (cfgs 0).N) (Proc.devRef .tc main_case0b0_v50_0) = (found m c).order :=
  (Pipeline.withArrays_arr spec0 launch0.win.arr_inj c U (fun w => (dats m 0 c).arrAt w (cfgs 0).N) 9).trans (final9 m c)
theorem arr10 (c : Dev nD) (U : Valuation τ sig (Elt F)) : Pipeline.withArrays (cfgs 0).spec c U (fun w => (dats m 0 c).arrAt w (cfgs 0).N) (Proc.devRef .tc main_case0b0_v50_1) = (found m c).sel :=
  (Pipeline.withArrays_arr spec0 launch0.win.arr_inj c U (fun w => (dats m 0 c).arrAt w (cfgs 0).N) 10).trans (final10 m c)

/-- The run, with its three results read off and its counters at zero. -/
theorem run_all (hw : ∀ c, word m c = 0#32) (hchk : ∀ c k, k < 5000 → k0_chk1 (pick ((found m c).iter k))) :
    θ_run defs (onTc (τ := τ) (main (F := F))) ⟨m, fun _ => 0, ρ⟩ (fun r => (∀ c : Dev nD,
      r.2.mem ((c.tc : Thread nD τ).loc main_v21_0) = (found m c).order
      ∧ r.2.mem ((c.tc : Thread nD τ).loc main_v21_1) = (found m c).sel
      ∧ r.2.mem ((c.tc : Thread nD τ).loc main_v23) = aboveOf (found m c).sel
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  have hr := run_main m ρ hw (fun c t k hk => by rw [blocks_eq]; exact hchk c k hk)
  refine (θ_run defs _ _).mono (fun r hp => ⟨fun c => ?_, hp.2⟩) hr
  have hq := hp.1 c
  obtain ⟨t0, t1, t2⟩ := tail_reads (Pipeline.withArrays (cfgs 0).spec c (V0 m c) fun w => (dats m 0 c).arrAt w (cfgs 0).N)
  refine ⟨(hq.2 main_v21_0 (Pipeline.mem_restRefs_of _ (by decide) (by decide))).trans ?_, (hq.2 main_v21_1 (Pipeline.mem_restRefs_of _ (by decide) (by decide))).trans ?_,
    (hq.2 main_v23 (Pipeline.mem_restRefs_of _ (by decide) (by decide))).trans ?_, (hq.2 main_arg0 (Pipeline.mem_restRefs_of _ (by decide) (by decide))).trans (W_main_arg0 m (dats m) c),
    (hq.2 main_arg1 (Pipeline.mem_restRefs_of _ (by decide) (by decide))).trans (W_main_arg1 m (dats m) c), (hq.2 main_arg2 (Pipeline.mem_restRefs_of _ (by decide) (by decide))).trans (W_main_arg2 m (dats m) c)⟩
  · exact t0.trans (by rw [arr9])
  · exact t1.trans (by rw [arr10])
  · exact t2.trans (by rw [arr10])

end Reads

/-! ## The values -/

theorem listOf_at (k : Fin 4) (h : S5000x4.Slices ![0, k.val] S5000x1) (o : FVec Ideal S5000x4 .f32) (j : Fin 5000) : (listOf k.val h o (ix1 j) : EReal) = o (ix2 j k) := by
  unfold listOf
  refine (shapeCast_apply (extractStridedSlice S5000x1 ![0, k.val] o h) shapeCasts_S5000x1_S5000 (ix1 j) (ix2 j 0) ?_).trans ?_
  · rw [Shape.rowMajor_val_one, Shape.rowMajor_val_two]
    simp [ix1, ix2]
  · refine extractStridedSlice_apply ![0, k.val] o h (ix2 j 0) (ix2 j k) fun a => ?_
    fin_cases a <;> simp [ix2]

theorem gridOf_cast (x : FVec Ideal S5120 .f32) (i : S40x128.Idx) : (shapeCast S40x128 x shapeCasts_S5120_S40x128 i : EReal) = x (ix1 ⟨placeOf i, placeOf_lt i⟩) := by
  refine shapeCast_apply x shapeCasts_S5120_S40x128 i (ix1 ⟨placeOf i, placeOf_lt i⟩) ?_
  obtain ⟨a, b, rfl⟩ : ∃ (a : Fin 40) (b : Fin 128), i = ix2 a b := ⟨i 0, i 1, Idealize.ShloMosaic.ValueIdx.eq_ix2 i⟩
  rw [Shape.rowMajor_val_one, Shape.rowMajor_val_two]
  rfl

theorem gridOf_in (x : FVec Ideal S5000 .f32) (v : FVec Ideal S_ .f32) (i : S40x128.Idx) (h : placeOf i < 5000) : (gridOf x v i : EReal) = x (ix1 ⟨placeOf i, h⟩) := by
  unfold gridOf
  rw [gridOf_cast]
  refine pad_apply_of_inside ![0] ![120] ![0] x v pads_S5000_S5120_01200 h_S_ _ (ix1 ⟨placeOf i, h⟩) fun a => ?_
  fin_cases a
  simp [ix1]

theorem gridOf_out (x : FVec Ideal S5000 .f32) (v : FVec Ideal S_ .f32) (z : EReal) (hv : ∀ j, (v j : EReal) = z) (i : S40x128.Idx) (h : ¬ placeOf i < 5000) : (gridOf x v i : EReal) = z := by
  unfold gridOf
  rw [gridOf_cast]
  refine (pad_apply_of_not_inside ![0] ![120] ![0] x v pads_S5000_S5120_01200 h_S_ _ 0 fun hh => h ?_).trans (hv _)
  have := hh.2.2
  simpa [ix1] using this

theorem word_toNat (j : Fin 5000) : k0_off1 (BitVec.ofNat 32 j.val) 0 = j.val := by
  have hj := j.isLt
  unfold k0_off1 Scalar.indexCast
  show (BitVec.ofNat 32 j.val).toNat = j.val
  rw [BitVec.toNat_ofNat]
  omega

theorem cell_at (x : Vec Ideal S5000 .f32) (j : Fin 5000) : (cell x (BitVec.ofNat 32 j.val) : EReal) = x (ix1 j) := by
  unfold cell
  have e := word_toNat j
  rw [dif_pos (by rw [e]; exact j.isLt)]
  refine congrArg x (congrArg ix1 (Fin.ext e))

theorem chk_at (j : Fin 5000) : k0_chk1 (BitVec.ofNat 32 j.val) := by
  unfold k0_chk1
  intro a
  fin_cases a
  have e := word_toNat j
  have hj := j.isLt
  show k0_off1 (BitVec.ofNat 32 j.val) 0 + 1 ≤ 5000
  omega

variable (m : (ℓ : Loc nD τ sig) → Buf (Elt Ideal) ℓ) (c : Dev nD)

theorem box_ext {a b : Box} (h1 : a.x1 = b.x1) (h2 : a.y1 = b.y1) (h3 : a.x2 = b.x2) (h4 : a.y2 = b.y2) : a = b := by
  obtain ⟨x1, y1, x2, y2⟩ := a
  subst h1 h2 h3 h4
  rfl

theorem list_box (j : Fin 5000) : listBox (found m c) (BitVec.ofNat 32 j.val) = movedBox (m (c, Proc.devRef .tc main_arg0)) (m (c, Proc.devRef .tc main_arg2)) j := by
  unfold listBox movedBox found
  dsimp only
  rw [cell_at, cell_at, cell_at, cell_at]
  exact box_ext (listOf_at 0 slices_S5000x4_S5000x1_0_0 (movedAll m c) j) (listOf_at 1 slices_S5000x4_S5000x1_0_1 (movedAll m c) j) (listOf_at 2 slices_S5000x4_S5000x1_0_2 (movedAll m c) j) (listOf_at 3 slices_S5000x4_S5000x1_0_3 (movedAll m c) j)

theorem grid_box (i : S40x128.Idx) (h : placeOf i < 5000) : gridBox (found m c) i = movedBox (m (c, Proc.devRef .tc main_arg0)) (m (c, Proc.devRef .tc main_arg2)) ⟨placeOf i, h⟩ := by
  unfold gridBox movedBox found
  dsimp only
  rw [gridOf_in _ _ i h, gridOf_in _ _ i h, gridOf_in _ _ i h, gridOf_in _ _ i h]
  exact box_ext (listOf_at 0 slices_S5000x4_S5000x1_0_0 (movedAll m c) ⟨placeOf i, h⟩) (listOf_at 1 slices_S5000x4_S5000x1_0_1 (movedAll m c) ⟨placeOf i, h⟩) (listOf_at 2 slices_S5000x4_S5000x1_0_2 (movedAll m c) ⟨placeOf i, h⟩) (listOf_at 3 slices_S5000x4_S5000x1_0_3 (movedAll m c) ⟨placeOf i, h⟩)

/-- Each round takes the greedy run's box, at its score. -/
theorem round_at {S : ℕ → Fin 5000 → EReal} {A : ℕ → Finset (Fin 5000)} {p : ℕ → Fin 5000} (h : GreedyRun (pairDecay (m (c, Proc.devRef .tc main_arg0)) (m (c, Proc.devRef .tc main_arg2))) S A p)
    (hD : ∀ i j, 0 ≤ pairDecay (m (c, Proc.devRef .tc main_arg0)) (m (c, Proc.devRef .tc main_arg2)) i j) (h0 : ∀ i, 0 ≤ S 0 i) (hS : ∀ i, S 0 i = (m (c, Proc.devRef .tc main_arg1) : FVec Ideal S5000 .f32) (ix1 i)) (k : ℕ) (hk : k < 5000) :
    (k0_pay10 ((found m c).iter k) : EReal) = S k (p k) ∧ pick ((found m c).iter k) = BitVec.ofNat 32 (p k).val := by
  refine takes h hD h0 k hk _ (iter_at (found m c) h hD h0 ?_ ?_ ?_ k hk.le)
  · intro i hi
    rw [hS]
    exact gridOf_in _ _ i hi
  · intro i hi
    exact gridOf_out _ _ _ (fun _ => ofBits_ninf) i hi
  · intro j i hi
    rw [list_box, grid_box m c i hi]
    rfl

end Cert.Proof.KernelIdeal.Global

end
-- ==== Proof.Math.Exists.lean ====
/-
  Every start has a greedy run.
-/
module

public import proofs.«01_k».proof.Proof.Math.Greedy
public import Mathlib.Data.Finset.Max

@[expose] public section
noncomputable section
namespace Cert.Proof.Math

/-- Of some boxes one is the best. -/
theorem has_best {n : ℕ} (s : Fin n → EReal) (A : Finset (Fin n)) (h : A.Nonempty) : ∃ m, IsBest s A m := by
  obtain ⟨x, hx, hmax⟩ := A.exists_max_image s h
  have hne : (A.filter fun i => s i = s x).Nonempty := ⟨x, Finset.mem_filter.2 ⟨hx, rfl⟩⟩
  obtain ⟨y, hy, hmin⟩ := (A.filter fun i => s i = s x).exists_min_image id hne
  obtain ⟨hyA, hyx⟩ := Finset.mem_filter.1 hy
  refine ⟨y, hyA, fun i hi => ?_⟩
  rw [hyx]
  rcases lt_or_eq_of_le (hmax i hi) with q | q
  · exact Or.inl q
  · exact Or.inr ⟨q, hmin i (Finset.mem_filter.2 ⟨hi, q⟩)⟩

open Classical in
/-- The best of the boxes left, any box where none is left. -/
def choice {n : ℕ} (d : Fin n) (s : Fin n → EReal) (A : Finset (Fin n)) : Fin n := if h : ∃ m, IsBest s A m then h.choose else d

/-- The scores and the boxes left before each round. -/
def states {n : ℕ} (d : Fin n) (D : Fin n → Fin n → EReal) (s : Fin n → EReal) : ℕ → (Fin n → EReal) × Finset (Fin n)
  | 0 => (s, Finset.univ)
  | k + 1 =>
    let x := states d D s k
    (fun i => if i ∈ x.2 ∧ i ≠ choice d x.1 x.2 then x.1 i * D (choice d x.1 x.2) i else x.1 i, x.2.erase (choice d x.1 x.2))

theorem exists_run {n : ℕ} (d : Fin n) (D : Fin n → Fin n → EReal) (s : Fin n → EReal) : ∃ S A m, GreedyRun D S A m ∧ ∀ i, S 0 i = s i := by
  refine ⟨fun k => (states d D s k).1, fun k => (states d D s k).2, fun k => choice d (states d D s k).1 (states d D s k).2, ⟨rfl, fun _ => rfl, fun _ _ => rfl, fun k _ hne => ?_⟩, fun _ => rfl⟩
  have h := has_best (states d D s k).1 (states d D s k).2 hne
  show IsBest _ _ (choice d _ _)
  unfold choice
  rw [dif_pos h]
  exact h.choose_spec

end Cert.Proof.Math
-- ==== Proof.KernelIdeal.Global.Both.lean ====
/-
  Which of the two branches runs, and that the branch over all boxes runs to its end on the arguments the condition admits.
-/
module

public import proofs.«01_k».proof.Proof.KernelIdeal.Global.Value
public import proofs.«01_k».proof.Proof.Math.Exists

@[expose] public section
set_option maxRecDepth 16384
noncomputable section
namespace Cert.Proof.KernelIdeal.Global

open Cert.KernelIdeal Cert.KernelIdeal.Gen
open Idealize.ShloMosaic Idealize.ShloMosaic.TcCoe Idealize.ShloMosaic.Tactic
open Cert.Proof.Math

variable (m : (ℓ : Loc nD τ sig) → Buf (Elt Ideal) ℓ)

/-- Either no class has more than 128 boxes or the branch word is zero. -/
theorem branches : (∀ c : Dev nD, Cert.Pre_fits.fn (F := Ideal) (m (c, Proc.devRef .tc main_arg0)) (m (c, Proc.devRef .tc main_arg1)) (m (c, Proc.devRef .tc main_arg2)) = fun _ => 1#1)
    ∨ ∀ c : Dev nD, word m c = 0#32 := by
  obtain ⟨c0⟩ : Nonempty (Dev nD) := ⟨⟨0, by decide⟩⟩
  have hc : ∀ c : Dev nD, c = c0 := fun c => by
    have h1 : c.val < 1 := c.isLt
    have h2 : c0.val < 1 := c0.isLt
    exact Fin.ext (by omega)
  by_cases h : cmpi .sle (largest (m (c0, Proc.devRef .tc main_arg2))) (constantI S_ 32 128#32) HostLoop.idx0 = 1#1
  · refine Or.inl fun c => ?_
    rw [hc c]
    exact fits_iff _ _ _ h
  · refine Or.inr fun c => ?_
    rw [hc c, word_eq]
    have h0 : cmpi .sle (largest (m (c0, Proc.devRef .tc main_arg2))) (constantI S_ 32 128#32) HostLoop.idx0 = 0#1 := by
      generalize cmpi .sle (largest (m (c0, Proc.devRef .tc main_arg2))) (constantI S_ 32 128#32) HostLoop.idx0 = x at h ⊢
      have hx : x.toNat < 2 := x.isLt
      refine BitVec.eq_of_toNat_eq ?_
      by_contra hne
      have e0 : (0#1 : BitVec 1).toNat = 0 := rfl
      rw [e0] at hne
      exact h (BitVec.eq_of_toNat_eq (by show x.toNat = 1; omega))
    show (cmpi .sle (largest (m (c0, Proc.devRef .tc main_arg2))) (constantI S_ 32 128#32) HostLoop.idx0).setWidth 32 = 0#32
    rw [h0]
    rfl

variable (c : Dev nD)

/-- Every box picked is one of the boxes. -/
theorem picks_ok (hv : Valid (m (c, Proc.devRef .tc main_arg0)) (m (c, Proc.devRef .tc main_arg1)) (m (c, Proc.devRef .tc main_arg2))) (k : ℕ) (hk : k < 5000) : k0_chk1 (pick ((found m c).iter k)) := by
  obtain ⟨S, A, p, h, hS⟩ := exists_run (0 : Fin 5000) (pairDecay (m (c, Proc.devRef .tc main_arg0)) (m (c, Proc.devRef .tc main_arg2))) fun i => ((m (c, Proc.devRef .tc main_arg1) : FVec Ideal S5000 .f32) (ix1 i) : EReal)
  choose cls hc using hv.cls
  rw [(round_at m c h (pairDecay_facts hv hc 0).1 (fun i => by rw [hS]; exact hv.score i) hS k hk).2]
  exact chk_at _

end Cert.Proof.KernelIdeal.Global

end
-- ==== Proof.ReferenceIdeal.Step.lean ====
/-
  One round of the loop of the reference: the item it picks, and the scores, marks and results after it, entry by entry.
-/
module

public import proofs.«01_k».proof.Proof.ReferenceIdeal.Run
public import proofs.«01_k».proof.Proof.Math.Boxes
public import proofs.«01_k».proof.Proof.Math.Greedy
public import Idealize.ShloMosaic.Lib.Pointwise
public import Idealize.ShloMosaic.Lib.Routing.OpsOne
public import Idealize.ShloMosaic.Lib.WordCmp
@[expose] public section
set_option maxRecDepth 16384
noncomputable section
namespace Cert.Proof.ReferenceIdeal
open Cert.ReferenceIdeal Cert.ReferenceIdeal.Gen
open Idealize.ShloMosaic Idealize.ShloMosaic.TcCoe Idealize.ShloMosaic.Tactic Cert.Proof.Math

def boxOf (o : FVec Ideal S5000x4 .f32) (i : Fin 5000) : Box := ⟨o (ix2 i 0), o (ix2 i 1), o (ix2 i 2), o (ix2 i 3)⟩

def wrapped (m : IVec S_ 32) : IVec S_ 32 := select (cmpi .slt m (constantI S_ 32 0#32)) (addi m (constantI S_ 32 5000#32)) m

theorem wordInt (m : Fin 5000) : (BitVec.ofNat 32 m.val).toInt = (m.val : Int) := by
  have := m.isLt
  rw [BitVec.toInt_eq_toNat_cond, BitVec.toNat_ofNat]
  split <;> omega

theorem wrapped_eq (m : Fin 5000) : wrapped (fun _ => BitVec.ofNat 32 m.val) = fun _ => BitVec.ofNat 32 m.val := by
  funext j
  have h : IntOp.cmpi .slt (BitVec.ofNat 32 m.val) 0#32 = 0#1 := by
    show BitVec.ofBool ((BitVec.ofNat 32 m.val).slt 0#32) = _
    rw [BitVec.slt, wordInt]
    have : ¬ ((m.val : Int) < (0#32 : BitVec 32).toInt) := by simp
    rw [decide_eq_false this]; rfl
  show Scalar.select (IntOp.cmpi .slt (BitVec.ofNat 32 m.val) 0#32) _ _ = _
  rw [h]; rfl

def rowAt (o : FVec Ideal S5000x4 .f32) (k : Fin 2 → IVec S_ 32) : FVec Ideal S4 .f32 :=
  shapeCast S4 (Host.dynamicSlice S1x4 o (fun a => (k a (Shape.Idx.first h_S_)).toInt) sliceFits_S5000x4_S1x4) shapeCasts_S1x4_S4

def zeroIdx : IVec S_ 32 := (select (cmpi .slt (constantI S_ 32 0#32) (constantI S_ 32 0#32)) (addi (constantI S_ 32 0#32) (constantI S_ 32 4#32)) (constantI S_ 32 0#32))

variable (W : Valuation τ sig (Elt Ideal))

theorem read24 : StableHlo.upto bodyInter W 13 (Proc.devRef .tc main_while0b_v24) = wrapped (W (Proc.devRef .tc main_while0b_v16)) := by
  after_reads_simp; rfl

theorem read27 : StableHlo.upto bodyInter W 13 (Proc.devRef .tc main_while0b_v27) = zeroIdx := by
  after_reads_simp; rfl

theorem read29 : StableHlo.after bodyInter W (Proc.devRef .tc main_while0b_v29) = rowAt (W (Proc.devRef .tc main_v12_0)) ![wrapped (W (Proc.devRef .tc main_while0b_v16)), zeroIdx] := by
  after_reads_simp
  refine congrArg (fun st => shapeCast S4 (Host.dynamicSlice S1x4 (W (Proc.devRef .tc main_v12_0) : FVec Ideal S5000x4 .f32) st sliceFits_S5000x4_S1x4) shapeCasts_S1x4_S4) (funext fun k => ?_)
  match k with
  | ⟨0, _⟩ => exact congrArg (fun v : IVec S_ 32 => (v (Shape.Idx.first h_S_)).toInt) (read24 W)
  | ⟨1, _⟩ => exact congrArg (fun v : IVec S_ 32 => (v (Shape.Idx.first h_S_)).toInt) (read27 W)

theorem rowAt_at (o : FVec Ideal S5000x4 .f32) (m : Fin 5000) (q : Fin 4) : rowAt o ![fun _ => BitVec.ofNat 32 m.val, zeroIdx] (ix1 q) = o (ix2 m q) := by
  unfold rowAt
  have h0 : Host.clampedStart S5000x4 S1x4 sliceFits_S5000x4_S1x4.1 (fun a => ((![fun _ => BitVec.ofNat 32 m.val, zeroIdx] : Fin 2 → IVec S_ 32) a (Shape.Idx.first h_S_)).toInt) 0 = m.val :=
    Host.clampedStart_of_le _ _ _ _ (wordInt m) (by have := m.isLt; show m.val + 1 ≤ 5000; omega)
  have h1 : Host.clampedStart S5000x4 S1x4 sliceFits_S5000x4_S1x4.1 (fun a => ((![fun _ => BitVec.ofNat 32 m.val, zeroIdx] : Fin 2 → IVec S_ 32) a (Shape.Idx.first h_S_)).toInt) 1 = 0 :=
    Host.clampedStart_of_le _ _ _ _ (show (zeroIdx (Shape.Idx.first h_S_)).toInt = ((0 : ℕ) : Int) from by decide) (by decide)
  pointwise []
  congr 2
  · exact Fin.ext h0
  · exact Fin.ext (by dsimp only; rw [h1, Nat.zero_add])

def interOf (row : FVec Ideal S4 .f32) (o : FVec Ideal S5000x4 .f32) : FVec Ideal S5000 .f32 :=
  let w := (maximumf (subf (minimumf (broadcastInDim S5000x2 ![0, 1] bcast_S1x2_S5000x2_0_1 (broadcastInDim S1x2 ![1] bcast_S2_S1x2_1 (extractStridedSlice S2 ![2] row slices_S4_S2_2))) (extractStridedSlice S5000x2 ![0, 2] o slices_S5000x4_S5000x2_0_2)) (maximumf (broadcastInDim S5000x2 ![0, 1] bcast_S1x2_S5000x2_0_1 (broadcastInDim S1x2 ![1] bcast_S2_S1x2_1 (extractStridedSlice S2 ![0] row slices_S4_S2_0))) (extractStridedSlice S5000x2 ![0, 0] o slices_S5000x4_S5000x2_0_0))) (broadcastInDim S5000x2 ![] bcast_S_S5000x2 (constant S_ .f32 0x00000000#32)))
  mulf (shapeCast S5000 (extractStridedSlice S5000x1 ![0, 0] w slices_S5000x2_S5000x1_0_0) shapeCasts_S5000x1_S5000) (shapeCast S5000 (extractStridedSlice S5000x1 ![0, 1] w slices_S5000x2_S5000x1_0_1) shapeCasts_S5000x1_S5000)

theorem read47 : StableHlo.after bodyInter W (Proc.devRef .tc main_while0b_v47) = interOf (StableHlo.after bodyInter W (Proc.devRef .tc main_while0b_v29)) (W (Proc.devRef .tc main_v12_0)) := by
  after_reads_simp; rfl

theorem interOf_at (row : FVec Ideal S4 .f32) (o : FVec Ideal S5000x4 .f32) (i : Fin 5000) : interOf row o (ix1 i) = shared ⟨row (ix1 0), row (ix1 1), row (ix1 2), row (ix1 3)⟩ (boxOf o i) := by
  unfold shared boxOf
  pointwise [interOf]

def area1Of (row : FVec Ideal S4 .f32) : FVec Ideal S_ .f32 :=
  mulf (subf (shapeCast S_ (extractStridedSlice S1 ![2] row slices_S4_S1_2) shapeCasts_S1_S_) (shapeCast S_ (extractStridedSlice S1 ![0] row slices_S4_S1_0) shapeCasts_S1_S_)) (subf (shapeCast S_ (extractStridedSlice S1 ![3] row slices_S4_S1_3) shapeCasts_S1_S_) (shapeCast S_ (extractStridedSlice S1 ![1] row slices_S4_S1_1) shapeCasts_S1_S_))

theorem read58 : StableHlo.after bodyInter W (Proc.devRef .tc main_while0b_v58) = area1Of (StableHlo.after bodyInter W (Proc.devRef .tc main_while0b_v29)) := by
  after_reads_simp; rfl

theorem area1Of_at (row : FVec Ideal S4 .f32) (j : S_.Idx) : area1Of row j = area ⟨row (ix1 0), row (ix1 1), row (ix1 2), row (ix1 3)⟩ := by
  unfold area
  pointwise [area1Of]

def widthOf (o : FVec Ideal S5000x4 .f32) : FVec Ideal S5000 .f32 :=
  subf (shapeCast S5000 (extractStridedSlice S5000x1 ![0, 2] o slices_S5000x4_S5000x1_0_2) shapeCasts_S5000x1_S5000) (shapeCast S5000 (extractStridedSlice S5000x1 ![0, 0] o slices_S5000x4_S5000x1_0_0) shapeCasts_S5000x1_S5000)

theorem read63 : StableHlo.after bodyInter W (Proc.devRef .tc main_while0b_v63) = widthOf (W (Proc.devRef .tc main_v12_0)) := by
  after_reads_simp; rfl

def decayOf (inter : FVec Ideal S5000 .f32) (a1 : FVec Ideal S_ .f32) (w : FVec Ideal S5000 .f32) (o : FVec Ideal S5000x4 .f32) : FVec Ideal S5000 .f32 :=
  let height := subf (shapeCast S5000 (extractStridedSlice S5000x1 ![0, 3] o slices_S5000x4_S5000x1_0_3) shapeCasts_S5000x1_S5000) (shapeCast S5000 (extractStridedSlice S5000x1 ![0, 1] o slices_S5000x4_S5000x1_0_1) shapeCasts_S5000x1_S5000)
  let q := Host.divf inter (addf (subf (addf (broadcastInDim S5000 ![] bcast_S_S5000 a1) (mulf w height)) inter) (broadcastInDim S5000 ![] bcast_S_S5000 (constant S_ .f32 0x2B8CBCCC#32)))
  select (cmpf .ogt q (broadcastInDim S5000 ![] bcast_S_S5000 (constant S_ .f32 0x3F000000#32))) (subf (broadcastInDim S5000 ![] bcast_S_S5000 (constant S_ .f32 0x3F800000#32)) q) (broadcastInDim S5000 ![] bcast_S_S5000 (constant S_ .f32 0x3F800000#32))

def newScores (act : IVec S5000 1) (s : FVec Ideal S5000 .f32) (m : IVec S_ 32) (iota : IVec S5000 32) (d : FVec Ideal S5000 .f32) : FVec Ideal S5000 .f32 :=
  select (andi act (cmpi .ne iota (broadcastInDim S5000 ![] bcast_S_S5000 m))) (mulf s d) s

theorem read_scores : StableHlo.after bodyRest W (Proc.devRef .tc main_v12_3) = newScores (W (Proc.devRef .tc main_v12_4)) (W (Proc.devRef .tc main_v12_3)) (W (Proc.devRef .tc main_while0b_v16)) (W (Proc.devRef .tc main_v12_1))
    (decayOf (W (Proc.devRef .tc main_while0b_v47)) (W (Proc.devRef .tc main_while0b_v58)) (W (Proc.devRef .tc main_while0b_v63)) (W (Proc.devRef .tc main_v12_0))) := by
  after_reads_simp; rfl

def newActive (act : IVec S5000 1) (m : IVec S_ 32) : IVec S5000 1 :=
  Host.scatter scatter_S5000_S1_S__n_0_0_0 (fun _ b => b) act (broadcastInDim S1 ![] bcast_S_S1 (wrapped m)) (constantI S_ 1 0#1)

theorem read_active : StableHlo.after bodyRest W (Proc.devRef .tc main_v12_4) = newActive (W (Proc.devRef .tc main_v12_4)) (W (Proc.devRef .tc main_while0b_v16)) := by
  after_reads_simp; rfl

def putAt {α : Type} (x : S5000.Idx → α) (v : S_.Idx → α) (k : IVec S_ 32) : S5000.Idx → α :=
  Host.dynamicUpdateSlice x (broadcastInDim S1 ![] bcast_S_S1 v) (fun _ => (k (Shape.Idx.first h_S_)).toInt) updateFits_S5000_S1

theorem readcnt5 : StableHlo.upto bodyRest W 37 (Proc.devRef .tc main_v12_2) = W (Proc.devRef .tc main_v12_2) := by
  after_reads_simp

theorem readcnt6 : StableHlo.upto bodyRest W 39 (Proc.devRef .tc main_v12_2) = W (Proc.devRef .tc main_v12_2) := by
  after_reads_simp

theorem read_order : StableHlo.after bodyRest W (Proc.devRef .tc main_v12_5) = putAt (W (Proc.devRef .tc main_v12_5)) (W (Proc.devRef .tc main_while0b_v16)) (W (Proc.devRef .tc main_v12_2)) := by
  after_reads_simp
  refine congrArg (fun st => Host.dynamicUpdateSlice (W (Proc.devRef .tc main_v12_5)) (broadcastInDim S1 ![] bcast_S_S1 (W (Proc.devRef .tc main_while0b_v16))) st updateFits_S5000_S1) (funext fun k => ?_)
  match k with
  | ⟨0, _⟩ => exact congrArg (fun v : IVec S_ 32 => (v (Shape.Idx.first h_S_)).toInt) (readcnt5 W)

theorem read_sel : StableHlo.after bodyRest W (Proc.devRef .tc main_v12_6) = putAt (W (Proc.devRef .tc main_v12_6)) (W (Proc.devRef .tc main_while0b_v21)) (W (Proc.devRef .tc main_v12_2)) := by
  after_reads_simp
  refine congrArg (fun st => Host.dynamicUpdateSlice (W (Proc.devRef .tc main_v12_6)) (broadcastInDim S1 ![] bcast_S_S1 (W (Proc.devRef .tc main_while0b_v21))) st updateFits_S5000_S1) (funext fun k => ?_)
  match k with
  | ⟨0, _⟩ => exact congrArg (fun v : IVec S_ 32 => (v (Shape.Idx.first h_S_)).toInt) (readcnt6 W)

def masked (act : IVec S5000 1) (s : FVec Ideal S5000 .f32) : FVec Ideal S5000 .f32 := select act s (broadcastInDim S5000 ![] bcast_S_S5000 (constant S_ .f32 0xFF800000#32))

def pickAt (act : IVec S5000 1) (s : FVec Ideal S5000 .f32) : IVec S_ 32 :=
  fun j => (Host.argReduce reducer_argmax_f32_i32 (masked act s) (iotaInDim S5000 32 0) (constant S_ .f32 0xFF800000#32) (constantI S_ 32 0#32) reducesTo_S5000_S_d0 h_S_ j).2

theorem read16 : StableHlo.after bodyPick W (Proc.devRef .tc main_while0b_v16) = pickAt (W (Proc.devRef .tc main_v12_4)) (W (Proc.devRef .tc main_v12_3)) := by
  after_reads_simp; rfl

def scoreAt (x : FVec Ideal S5000 .f32) (m : IVec S_ 32) : FVec Ideal S_ .f32 :=
  shapeCast S_ (Host.dynamicSlice S1 x (fun _ => (m (Shape.Idx.first h_S_)).toInt) sliceFits_S5000_S1) shapeCasts_S1_S_

theorem read19 : StableHlo.upto bodyPick W 14 (Proc.devRef .tc main_while0b_v19) = wrapped (pickAt (W (Proc.devRef .tc main_v12_4)) (W (Proc.devRef .tc main_v12_3))) := by
  after_reads_simp; rfl

theorem read21 : StableHlo.after bodyPick W (Proc.devRef .tc main_while0b_v21) = scoreAt (masked (W (Proc.devRef .tc main_v12_4)) (W (Proc.devRef .tc main_v12_3))) (wrapped (pickAt (W (Proc.devRef .tc main_v12_4)) (W (Proc.devRef .tc main_v12_3)))) := by
  after_reads_simp
  refine congrArg (fun st => shapeCast S_ (Host.dynamicSlice S1 (masked (W (Proc.devRef .tc main_v12_4)) (W (Proc.devRef .tc main_v12_3))) st sliceFits_S5000_S1) shapeCasts_S1_S_) (funext fun k => ?_)
  match k with
  | ⟨0, _⟩ => exact congrArg (fun v : IVec S_ 32 => (v (Shape.Idx.first h_S_)).toInt) (read19 W)

/-! ## The reads at an entry -/

theorem scoreAt_at (x : FVec Ideal S5000 .f32) (m : Fin 5000) (j : S_.Idx) : scoreAt x (fun _ => BitVec.ofNat 32 m.val) j = x (ix1 m) := by
  unfold scoreAt
  have h0 : Host.clampedStart S5000 S1 sliceFits_S5000_S1.1 (fun _ => (BitVec.ofNat 32 m.val).toInt) 0 = m.val :=
    Host.clampedStart_of_le _ _ _ _ (wordInt m) (by have := m.isLt; show m.val + 1 ≤ 5000; omega)
  obtain rfl : j = ix0 := funext fun a => a.elim0
  pointwise []
  congr 2
  exact Fin.ext h0

theorem putAt_at {α : Type} (x : S5000.Idx → α) (v : S_.Idx → α) (k i : Fin 5000) :
    putAt x v (fun _ => BitVec.ofNat 32 k.val) (ix1 i) = if i = k then v ix0 else x (ix1 i) := by
  have hk : S5000.Slices (fun _ => k.val) S1 := ⟨rfl, fun a => by match a with | ⟨0, _⟩ => show k.val + 1 ≤ 5000; omega⟩
  unfold putAt
  rw [WordCmp.dynamicUpdateSlice_eq_update x _ _ updateFits_S5000_S1 (fun _ => k.val) hk (fun _ => wordInt k)]
  unfold updateSlice
  by_cases h : i = k
  · subst h
    rw [if_pos rfl, dif_pos (fun a => by match a with | ⟨0, _⟩ => exact ⟨Nat.le_refl _, Nat.lt_succ_self _⟩)]
    exact congrArg v (funext fun a => a.elim0)
  · rw [if_neg h, dif_neg]
    intro hh
    have := hh 0
    exact h (Fin.ext (by have h1 : k.val ≤ i.val := this.1; have h2 : i.val < k.val + 1 := this.2; omega))

theorem newActive_at (act : IVec S5000 1) (m i : Fin 5000) :
    newActive act (fun _ => BitVec.ofNat 32 m.val) (ix1 i) = if i = m then 0#1 else act (ix1 i) := by
  unfold newActive
  rw [wrapped_eq]
  by_cases h : i = m
  · rw [if_pos h]
    exact Routing.scatter_set_hit _ _ _ _ _ _ (fun _ _ => rfl) ix0 ((Routing.lands_one scatter_S5000_S1_S__n_0_0_0 rfl rfl _ m (wordInt m) i).2 h)
  · rw [if_neg h]
    exact Routing.scatter_set_miss _ _ _ _ _ fun k hk => h ((Routing.lands_one scatter_S5000_S1_S__n_0_0_0 rfl rfl _ m (wordInt m) i).1 (by
      obtain rfl : k = ix0 := funext fun a => a.elim0
      exact hk))

theorem ofBits_ninf : Ideal.ofBits .f32 0xFF800000#32 = (⊥ : EReal) := by simp [Ideal.ofBits, Ideal.ieee]

def half : EReal := Ideal.ofBits .f32 0x3F000000#32
def eps : EReal := Ideal.ofBits .f32 0x2B8CBCCC#32

theorem decayOf_at (inter : FVec Ideal S5000 .f32) (a1 : FVec Ideal S_ .f32) (o : FVec Ideal S5000x4 .f32) (a : Box) (i : Fin 5000)
    (hi : inter (ix1 i) = shared a (boxOf o i)) (ha : a1 ix0 = area a) :
    decayOf inter a1 (widthOf o) o (ix1 i) = decay half eps 1 a (boxOf o i) := by
  unfold decay iou
  rw [← hi, ← ha]
  unfold area boxOf half eps
  pointwise [decayOf, widthOf]

theorem newScores_at (act : IVec S5000 1) (s : FVec Ideal S5000 .f32) (m i : Fin 5000) (d : FVec Ideal S5000 .f32) :
    newScores act s (fun _ => BitVec.ofNat 32 m.val) (iotaInDim S5000 32 0) d (ix1 i) = if act (ix1 i) = 1#1 ∧ i ≠ m then (s (ix1 i) * d (ix1 i) : EReal) else s (ix1 i) := by
  have hw : IntOp.cmpi CmpIPredicate.ne (BitVec.ofNat 32 i.val) (BitVec.ofNat 32 m.val) = BitVec.ofBool (decide (i ≠ m)) := by
    show BitVec.ofBool (BitVec.ofNat 32 i.val != BitVec.ofNat 32 m.val) = _
    congr 1
    by_cases h : i = m
    · simp [h]
    · have : BitVec.ofNat 32 i.val ≠ BitVec.ofNat 32 m.val := fun e => h (Fin.ext (by
        have := congrArg BitVec.toInt e; rw [wordInt, wordInt] at this; omega))
      rw [decide_eq_true h]; simpa using this
  pointwise [newScores]
  rw [hw]
  rcases BitVec.eq_zero_or_eq_one (act (ix1 i)) with h1 | h1 <;> by_cases h2 : i = m <;> simp [h1, h2, Scalar.select, IntOp.andi]

theorem masked_at (act : IVec S5000 1) (s : FVec Ideal S5000 .f32) (i : Fin 5000) :
    masked act s (ix1 i) = if act (ix1 i) = 1#1 then (s (ix1 i) : EReal) else ⊥ := by
  pointwise [masked]
  rw [ofBits_ninf]
  rcases BitVec.eq_zero_or_eq_one (act (ix1 i)) with h1 | h1 <;> simp [h1, Scalar.select]

theorem reducer_eq (a b : Ideal .f32 × BitVec 32) : reducer_argmax_f32_i32 a b =
    (if (b.1 : EReal) < a.1 then a.1 else b.1, if (b.1 : EReal) < a.1 ∨ ((a.1 : EReal) = b.1 ∧ a.2.toInt < b.2.toInt) then a.2 else b.2) := by
  have h1 : FloatOps.cmpf (F := Ideal) (φ := .f32) .ogt a.1 b.1 = BitVec.ofBool (decide ((b.1 : EReal) < a.1)) := rfl
  have h2 : FloatOps.cmpf (F := Ideal) (φ := .f32) .une a.1 a.1 = 0#1 := by
    show BitVec.ofBool (decide ((a.1 : EReal) ≠ a.1)) = _
    simp
  have h3 : FloatOps.cmpf (F := Ideal) (φ := .f32) .oeq a.1 b.1 = BitVec.ofBool (decide ((a.1 : EReal) = b.1)) := rfl
  have h4 : IntOp.cmpi .slt a.2 b.2 = BitVec.ofBool (decide (a.2.toInt < b.2.toInt)) := rfl
  unfold reducer_argmax_f32_i32
  simp only [h1, h2, h3, h4]
  by_cases c1 : (b.1 : EReal) < a.1 <;> by_cases c2 : (a.1 : EReal) = b.1 <;> by_cases c3 : a.2.toInt < b.2.toInt <;>
    simp [c1, c2, c3, Scalar.select, IntOp.ori, IntOp.andi]

/-- One pair of a value and a word stands before another: more, or as much and the word no greater. -/
def Before (r p : EReal × BitVec 32) : Prop := p.1 < r.1 ∨ (p.1 = r.1 ∧ r.2.toInt ≤ p.2.toInt)

theorem Before.refl (p) : Before p p := Or.inr ⟨rfl, le_refl _⟩

theorem Before.trans {a b c} (h : Before a b) (h' : Before b c) : Before a c := by
  rcases h with h | ⟨h, k⟩ <;> rcases h' with h' | ⟨h', k'⟩
  · exact Or.inl (h'.trans h)
  · exact Or.inl (by rw [h']; exact h)
  · exact Or.inl (by rw [← h]; exact h')
  · exact Or.inr ⟨h'.trans h, k.trans k'⟩

theorem reducer_before (a b : EReal × BitVec 32) : ((reducer_argmax_f32_i32 (F := Ideal) a b : EReal × BitVec 32) = a ∨ (reducer_argmax_f32_i32 (F := Ideal) a b : EReal × BitVec 32) = b)
    ∧ Before (reducer_argmax_f32_i32 (F := Ideal) a b) a ∧ Before (reducer_argmax_f32_i32 (F := Ideal) a b) b := by
  obtain ⟨a1, a2⟩ := a
  obtain ⟨b1, b2⟩ := b
  have h := reducer_eq (a1, a2) (b1, b2)
  generalize reducer_argmax_f32_i32 (F := Ideal) (a1, a2) (b1, b2) = r at h ⊢
  subst h
  dsimp only
  rcases lt_trichotomy b1 a1 with c | c | c
  · rw [if_pos c, if_pos (Or.inl c)]
    exact ⟨Or.inl rfl, Before.refl _, Or.inl c⟩
  · subst c
    rw [if_neg (lt_irrefl _)]
    by_cases d : a2.toInt < b2.toInt
    · rw [if_pos (Or.inr ⟨rfl, d⟩)]
      exact ⟨Or.inl rfl, Before.refl _, Or.inr ⟨rfl, d.le⟩⟩
    · rw [if_neg (by rintro (h | h); exact lt_irrefl _ h; exact d h.2)]
      exact ⟨Or.inr rfl, Or.inr ⟨rfl, not_lt.1 d⟩, Before.refl _⟩
  · rw [if_neg c.not_gt, if_neg (by rintro (h | h); exact c.not_gt h; exact c.ne h.1)]
    exact ⟨Or.inr rfl, Or.inl c, Before.refl _⟩

theorem fold_before {ι : Type} (f : ι → EReal × BitVec 32) (l : List ι) (a : EReal × BitVec 32) :
    ((l.foldl (fun r n => reducer_argmax_f32_i32 (F := Ideal) r (f n)) a : EReal × BitVec 32) = a ∨ ∃ n ∈ l, (l.foldl (fun r n => reducer_argmax_f32_i32 (F := Ideal) r (f n)) a : EReal × BitVec 32) = f n)
    ∧ Before (l.foldl (fun r n => reducer_argmax_f32_i32 (F := Ideal) r (f n)) a) a
    ∧ ∀ n ∈ l, Before (l.foldl (fun r n => reducer_argmax_f32_i32 (F := Ideal) r (f n)) a) (f n) := by
  induction l generalizing a with
  | nil => exact ⟨Or.inl rfl, Before.refl _, fun n h => nomatch h⟩
  | cons x l ih =>
    obtain ⟨i1, i2, i3⟩ := ih (reducer_argmax_f32_i32 (F := Ideal) a (f x))
    obtain ⟨r1, r2, r3⟩ := reducer_before a (f x)
    rw [List.foldl_cons]
    refine ⟨?_, i2.trans r2, fun n hn => ?_⟩
    · rcases i1 with h | ⟨n, hn, h⟩
      · rcases r1 with r | r
        · exact Or.inl (h.trans r)
        · exact Or.inr ⟨x, List.mem_cons_self, h.trans r⟩
      · exact Or.inr ⟨n, List.mem_cons_of_mem _ hn, h⟩
    · rcases List.mem_cons.1 hn with rfl | hn
      · exact i2.trans r3
      · exact i3 n hn

theorem foldl_cast {α : Type} {K N : ℕ} (h : K = N) (g : α → Fin N → α) (f : α → Fin K → α) (_ : True) (hf : ∀ r n, f r n = g r (n.cast h)) (a b : α) (hab : a = b) :
    (List.finRange K).foldl f a = (List.finRange N).foldl g b := by
  subst h; subst hab
  exact congrArg (fun f => List.foldl f a (List.finRange K)) (funext fun r => funext fun n => hf r n)

theorem pickAt_spec (act : IVec S5000 1) (s : FVec Ideal S5000 .f32) : ∃ m : Fin 5000, pickAt act s = (fun _ => BitVec.ofNat 32 m.val)
    ∧ IsBest (fun i : Fin 5000 => (masked act s (ix1 i) : EReal)) Finset.univ m := by
  obtain ⟨h1, h2, h3⟩ := fold_before (fun i : Fin 5000 => ((masked act s (ix1 i) : EReal), BitVec.ofNat 32 i.val)) (List.finRange 5000) (⊥, 0#32)
  generalize hr : (List.foldl _ _ _ : EReal × BitVec 32) = r at h1 h2 h3
  have key : pickAt act s = fun _ => r.2 := by
    funext j
    unfold pickAt
    rw [Ideal.argReduce_eq_reduce2]
    unfold Host.reduce2
    rw [List.filter_eq_self.2 fun n _ => decide_eq_true (funext fun a => a.elim0)]
    refine congrArg Prod.snd ?_
    rw [← hr]
    exact foldl_cast (Routing.numel1 5000) (fun (r : EReal × BitVec 32) n => reducer_argmax_f32_i32 (F := Ideal) r ((masked act s (ix1 n) : EReal), BitVec.ofNat 32 n.val)) _ trivial (fun r n => by rw [show S5000.rowMajor.symm n = ix1 (n.cast (Routing.numel1 5000)) from Routing.symm1 n]; rfl) _ _ (by rw [← ofBits_ninf]; rfl)
  have hm : ∃ m : Fin 5000, r.2 = BitVec.ofNat 32 m.val ∧ (masked act s (ix1 m) : EReal) = r.1 := by
    rcases h1 with h | ⟨n, _, h⟩
    · refine ⟨0, by rw [h]; rfl, ?_⟩
      rcases h3 0 (List.mem_finRange _) with h' | h'
      · rw [h] at h'; exact absurd h' not_lt_bot
      · exact h'.1
    · exact ⟨n, by rw [h], by rw [h]⟩
  obtain ⟨m, e1, e2⟩ := hm
  refine ⟨m, by rw [key, e1], Finset.mem_univ _, fun i _ => ?_⟩
  rcases h3 i (List.mem_finRange _) with h' | ⟨h', h''⟩
  · exact Or.inl (h'.trans_eq e2.symm)
  · refine Or.inr ⟨h'.trans e2.symm, ?_⟩
    rw [e1, wordInt, wordInt] at h''
    exact Fin.le_def.2 (by omega)

/-! ## One round -/

/-- The valuation after one round of the loop. -/
def roundW : Valuation τ sig (Elt Ideal) := StableHlo.afterL bodyI (StableHlo.after condOps W)

theorem keepCond : StableHlo.after condOps W (Proc.devRef .tc main_v12_0) = W (Proc.devRef .tc main_v12_0) ∧ StableHlo.after condOps W (Proc.devRef .tc main_v12_1) = W (Proc.devRef .tc main_v12_1)
    ∧ StableHlo.after condOps W (Proc.devRef .tc main_v12_2) = W (Proc.devRef .tc main_v12_2) ∧ StableHlo.after condOps W (Proc.devRef .tc main_v12_3) = W (Proc.devRef .tc main_v12_3)
    ∧ StableHlo.after condOps W (Proc.devRef .tc main_v12_4) = W (Proc.devRef .tc main_v12_4) ∧ StableHlo.after condOps W (Proc.devRef .tc main_v12_5) = W (Proc.devRef .tc main_v12_5)
    ∧ StableHlo.after condOps W (Proc.devRef .tc main_v12_6) = W (Proc.devRef .tc main_v12_6) := by
  refine ⟨?_, ?_, ?_, ?_, ?_, ?_, ?_⟩ <;> after_reads_simp

theorem keepPick : StableHlo.after bodyPick W (Proc.devRef .tc main_v12_0) = W (Proc.devRef .tc main_v12_0) ∧ StableHlo.after bodyPick W (Proc.devRef .tc main_v12_1) = W (Proc.devRef .tc main_v12_1)
    ∧ StableHlo.after bodyPick W (Proc.devRef .tc main_v12_2) = W (Proc.devRef .tc main_v12_2) ∧ StableHlo.after bodyPick W (Proc.devRef .tc main_v12_3) = W (Proc.devRef .tc main_v12_3)
    ∧ StableHlo.after bodyPick W (Proc.devRef .tc main_v12_4) = W (Proc.devRef .tc main_v12_4) ∧ StableHlo.after bodyPick W (Proc.devRef .tc main_v12_5) = W (Proc.devRef .tc main_v12_5)
    ∧ StableHlo.after bodyPick W (Proc.devRef .tc main_v12_6) = W (Proc.devRef .tc main_v12_6) := by
  refine ⟨?_, ?_, ?_, ?_, ?_, ?_, ?_⟩ <;> after_reads_simp

theorem keepInter : StableHlo.after bodyInter W (Proc.devRef .tc main_v12_0) = W (Proc.devRef .tc main_v12_0) ∧ StableHlo.after bodyInter W (Proc.devRef .tc main_v12_1) = W (Proc.devRef .tc main_v12_1)
    ∧ StableHlo.after bodyInter W (Proc.devRef .tc main_v12_2) = W (Proc.devRef .tc main_v12_2) ∧ StableHlo.after bodyInter W (Proc.devRef .tc main_v12_3) = W (Proc.devRef .tc main_v12_3)
    ∧ StableHlo.after bodyInter W (Proc.devRef .tc main_v12_4) = W (Proc.devRef .tc main_v12_4) ∧ StableHlo.after bodyInter W (Proc.devRef .tc main_v12_5) = W (Proc.devRef .tc main_v12_5)
    ∧ StableHlo.after bodyInter W (Proc.devRef .tc main_v12_6) = W (Proc.devRef .tc main_v12_6)
    ∧ StableHlo.after bodyInter W (Proc.devRef .tc main_while0b_v16) = W (Proc.devRef .tc main_while0b_v16)
    ∧ StableHlo.after bodyInter W (Proc.devRef .tc main_while0b_v21) = W (Proc.devRef .tc main_while0b_v21) := by
  refine ⟨?_, ?_, ?_, ?_, ?_, ?_, ?_, ?_, ?_⟩ <;> after_reads_simp

def scoresOf : FVec Ideal S5000 .f32 := W (Proc.devRef .tc main_v12_3)
def activeOf : IVec S5000 1 := W (Proc.devRef .tc main_v12_4)
def orderOf : IVec S5000 32 := W (Proc.devRef .tc main_v12_5)
def selOf : FVec Ideal S5000 .f32 := W (Proc.devRef .tc main_v12_6)

theorem round_spec (o : FVec Ideal S5000x4 .f32) (h0 : W (Proc.devRef .tc main_v12_0) = o) (h1 : W (Proc.devRef .tc main_v12_1) = iotaInDim S5000 32 0)
    (m : Fin 5000) (hm : pickAt (activeOf W) (scoresOf W) = fun _ => BitVec.ofNat 32 m.val) (i : Fin 5000) :
    scoresOf (roundW W) (ix1 i) = (if activeOf W (ix1 i) = 1#1 ∧ i ≠ m then (scoresOf W (ix1 i) * decay half eps 1 (boxOf o m) (boxOf o i) : EReal) else scoresOf W (ix1 i))
    ∧ activeOf (roundW W) (ix1 i) = (if i = m then 0#1 else activeOf W (ix1 i))
    ∧ ∀ k : Fin 5000, W (Proc.devRef .tc main_v12_2) = (fun _ => BitVec.ofNat 32 k.val) → orderOf (roundW W) (ix1 i) = (if i = k then BitVec.ofNat 32 m.val else orderOf W (ix1 i))
    ∧ selOf (roundW W) (ix1 i) = (if i = k then masked (activeOf W) (scoresOf W) (ix1 m) else selOf W (ix1 i)) := by
  obtain ⟨c0, c1, c2, c3, c4, c5, c6⟩ := keepCond W
  have p16 := read16 (StableHlo.after condOps W)
  have p21 := read21 (StableHlo.after condOps W)
  obtain ⟨p0, p1, p2, p3, p4, p5, p6⟩ := keepPick (StableHlo.after condOps W)
  have hround : roundW W = StableHlo.after bodyRest (StableHlo.after bodyInter (StableHlo.after bodyPick (StableHlo.after condOps W))) := by
    unfold roundW
    simp only [StableHlo.afterL_cons, StableHlo.afterL_nil]
  rw [hround]
  generalize StableHlo.after condOps W = Wc at *
  generalize StableHlo.after bodyPick Wc = Wp at *
  rw [c4, c3] at p16 p21
  unfold activeOf scoresOf at hm
  rw [hm] at p16 p21
  rw [wrapped_eq] at p21
  obtain ⟨q0, q1, q2, q3, q4, q5, q6, q16, q21⟩ := keepInter Wp
  have r29 := read29 Wp
  have r47 := read47 Wp
  have r58 := read58 Wp
  have r63 := read63 Wp
  generalize StableHlo.after bodyInter Wp = Wi at *
  rw [p16, wrapped_eq, p0, c0, h0] at r29
  rw [p0, c0, h0] at r47 r63
  rw [r29] at r47 r58
  have w0 := q0.trans (p0.trans (c0.trans h0))
  have w1 := q1.trans (p1.trans (c1.trans h1))
  have w3 : Wi (Proc.devRef .tc main_v12_3) = scoresOf W := q3.trans (p3.trans c3)
  have w4 : Wi (Proc.devRef .tc main_v12_4) = activeOf W := q4.trans (p4.trans c4)
  have w5 : Wi (Proc.devRef .tc main_v12_5) = orderOf W := q5.trans (p5.trans c5)
  have w6 : Wi (Proc.devRef .tc main_v12_6) = selOf W := q6.trans (p6.trans c6)
  have w16 := q16.trans p16
  have w21 : Wi (Proc.devRef .tc main_while0b_v21) = scoreAt (masked (activeOf W) (scoresOf W)) (fun _ => BitVec.ofNat 32 m.val) := q21.trans p21
  have s3 := read_scores Wi
  have s4 := read_active Wi
  have s5 := read_order Wi
  have s6 := read_sel Wi
  rw [w4, w3, w16, w1, r47, r58, r63, w0] at s3
  rw [w4, w16] at s4
  refine ⟨?_, ?_, fun k h2 => ?_⟩
  · refine (congrFun s3 (ix1 i)).trans ?_
    rw [newScores_at, decayOf_at _ _ o (boxOf o m) i]
    · rw [interOf_at]
      simp only [rowAt_at]; rfl
    · rw [area1Of_at]
      simp only [rowAt_at]; rfl
  · exact (congrFun s4 (ix1 i)).trans (newActive_at _ m i)
  have w2 := q2.trans (p2.trans (c2.trans h2))
  rw [w5, w16, w2] at s5
  rw [w6, w21, w2] at s6
  constructor
  · exact (congrFun s5 (ix1 i)).trans (putAt_at _ _ k i)
  · refine (congrFun s6 (ix1 i)).trans ((putAt_at _ _ k i).trans ?_)
    rw [scoreAt_at]

end Cert.Proof.ReferenceIdeal
-- ==== Proof.ReferenceIdeal.Order.lean ====
/-
  The loop of the reference as one run of the greedy rule over all items, and what its three results hold at the end.
-/
module

public import proofs.«01_k».proof.Proof.ReferenceIdeal.Step
@[expose] public section
set_option maxRecDepth 16384
noncomputable section
namespace Cert.Proof.ReferenceIdeal
open Cert.ReferenceIdeal Cert.ReferenceIdeal.Gen
open Idealize.ShloMosaic Idealize.ShloMosaic.TcCoe Idealize.ShloMosaic.Tactic Cert.Proof.Math

/-- The boxes shifted apart by class, as the host computes them. -/
def shifted (boxes : FVec Ideal S5000x4 .f32) (idxs : IVec S5000 32) : FVec Ideal S5000x4 .f32 :=
  addf boxes (broadcastInDim S5000x4 ![0, 1] bcast_S5000x1_S5000x4_0_1 (broadcastInDim S5000x1 ![0] bcast_S5000_S5000x1_0
    (mulf (sitofp .f32 idxs) (broadcastInDim S5000 ![] bcast_S_S5000 (addf (Host.reduce FloatOps.maximumf boxes (constant S_ .f32 0xFF800000#32) reducesTo_S5000x4_S_d0_1 h_S_) (constant S_ .f32 0x3F800000#32))))))

variable (m : (l : Loc nD τ sig) → Buf (Elt Ideal) l) (c : Dev nD)

def scoreSeq (k : ℕ) (i : Fin 5000) : EReal := scoresOf (Wk m k c) (ix1 i)
def activeSeq (k : ℕ) : Finset (Fin 5000) := Finset.univ.filter fun i => activeOf (Wk m k c) (ix1 i) = 1#1
def pickSeq (k : ℕ) : Fin 5000 := (pickAt_spec (activeOf (Wk m k c)) (scoresOf (Wk m k c))).choose

theorem pickSeq_eq (k : ℕ) : pickAt (activeOf (Wk m k c)) (scoresOf (Wk m k c)) = fun _ => BitVec.ofNat 32 (pickSeq m c k).val :=
  (pickAt_spec (activeOf (Wk m k c)) (scoresOf (Wk m k c))).choose_spec.1

theorem pickSeq_best (k : ℕ) : IsBest (fun i : Fin 5000 => (masked (activeOf (Wk m k c)) (scoresOf (Wk m k c)) (ix1 i) : EReal)) Finset.univ (pickSeq m c k) :=
  (pickAt_spec (activeOf (Wk m k c)) (scoresOf (Wk m k c))).choose_spec.2

def boxesOf : FVec Ideal S5000x4 .f32 := shifted (m (c, Proc.devRef .tc main_arg0)) (m (c, Proc.devRef .tc main_arg2))

theorem start_reads : Wk m 0 c (Proc.devRef .tc main_v12_0) = boxesOf m c ∧ Wk m 0 c (Proc.devRef .tc main_v12_1) = (iotaInDim S5000 32 0 : IVec S5000 32)
    ∧ scoresOf (Wk m 0 c) = m (c, Proc.devRef .tc main_arg1) ∧ activeOf (Wk m 0 c) = fun _ => 1#1 := by
  unfold Wk StableHlo.entryContents scoresOf activeOf
  simp only [StableHlo.atTrip_zero, StableHlo.afterL_cons, StableHlo.afterL_nil]
  refine ⟨?_, ?_, ?_, ?_⟩
  · after_reads_simp; rfl
  · after_reads_simp; rfl
  · after_reads_simp; rfl
  · after_reads_simp; rfl

theorem carried (k : ℕ) : Wk m k c (Proc.devRef .tc main_v12_0) = boxesOf m c ∧ Wk m k c (Proc.devRef .tc main_v12_1) = (iotaInDim S5000 32 0 : IVec S5000 32) := by
  refine ⟨(Wk_keep m main_v12_0 (fun W => ?_) c k).trans (start_reads m c).1, (Wk_keep m main_v12_1 (fun W => ?_) c k).trans (start_reads m c).2.1⟩ <;>
  · simp only [StableHlo.afterL_cons, StableHlo.afterL_nil]
    after_reads_simp

theorem counter_word (k : ℕ) (hk : k < 5000) : Wk m k c (Proc.devRef .tc main_v12_2) = fun _ => BitVec.ofNat 32 k := by
  rw [counter_eq m c k]
  funext j
  show 0#32 + BitVec.ofNat 32 k * 1#32 = _
  rw [BitVec.mul_one, BitVec.zero_add]

theorem Wk_succ (k : ℕ) : Wk m (k + 1) c = roundW (Wk m k c) := rfl

theorem round_at (k : ℕ) (i : Fin 5000) :
    scoresOf (roundW (Wk m k c)) (ix1 i) = (if activeOf (Wk m k c) (ix1 i) = 1#1 ∧ i ≠ pickSeq m c k then (scoresOf (Wk m k c) (ix1 i) * decay half eps 1 (boxOf (boxesOf m c) (pickSeq m c k)) (boxOf (boxesOf m c) i) : EReal) else scoresOf (Wk m k c) (ix1 i))
    ∧ activeOf (roundW (Wk m k c)) (ix1 i) = (if i = pickSeq m c k then 0#1 else activeOf (Wk m k c) (ix1 i))
    ∧ ∀ n : Fin 5000, Wk m k c (Proc.devRef .tc main_v12_2) = (fun _ => BitVec.ofNat 32 n.val) → orderOf (roundW (Wk m k c)) (ix1 i) = (if i = n then BitVec.ofNat 32 (pickSeq m c k).val else orderOf (Wk m k c) (ix1 i))
    ∧ selOf (roundW (Wk m k c)) (ix1 i) = (if i = n then masked (activeOf (Wk m k c)) (scoresOf (Wk m k c)) (ix1 (pickSeq m c k)) else selOf (Wk m k c) (ix1 i)) :=
  round_spec (Wk m k c) (boxesOf m c) (carried m c k).1 (carried m c k).2 (pickSeq m c k) (pickSeq_eq m c k) i

/-- How much of the score of one item is left when another is taken. -/
def factor (i j : Fin 5000) : EReal := decay half eps 1 (boxOf (boxesOf m c) i) (boxOf (boxesOf m c) j)

theorem greedy_run : GreedyRun (factor m c) (scoreSeq m c) (activeSeq m c) (pickSeq m c) where
  init := by
    unfold activeSeq
    rw [(start_reads m c).2.2.2]
    exact Finset.filter_true_of_mem fun _ _ => rfl
  stepA k := by
    ext i
    have h := (round_at m c k i).2.1
    rw [← Wk_succ] at h
    unfold activeSeq
    simp only [Finset.mem_filter, Finset.mem_univ, true_and, Finset.mem_erase, h]
    by_cases e : i = pickSeq m c k <;> simp [e]
  stepS k i := by
    have h := (round_at m c k i).1
    rw [← Wk_succ] at h
    unfold activeSeq
    simp only [Finset.mem_filter, Finset.mem_univ, true_and]
    exact h
  best k hpos hne := by
    obtain ⟨_, hb⟩ := pickSeq_best m c k
    simp only [masked_at] at hb
    have hmem : pickSeq m c k ∈ activeSeq m c k := by
      by_contra hn
      obtain ⟨i, hi⟩ := hne
      have hn' : ¬ activeOf (Wk m k c) (ix1 (pickSeq m c k)) = 1#1 := fun h => hn (Finset.mem_filter.2 ⟨Finset.mem_univ _, h⟩)
      have hi' : activeOf (Wk m k c) (ix1 i) = 1#1 := (Finset.mem_filter.1 hi).2
      have hs : 0 ≤ (scoresOf (Wk m k c) (ix1 i) : EReal) := hpos i
      rcases hb i (Finset.mem_univ _) with h | ⟨h, _⟩
      · rw [if_neg hn'] at h
        exact not_lt_bot h
      · rw [if_neg hn', if_pos hi'] at h
        rw [h] at hs
        exact absurd hs (by simp)
    refine ⟨hmem, fun i hi => ?_⟩
    have h := hb i (Finset.mem_univ _)
    rw [if_pos (Finset.mem_filter.1 hmem).2, if_pos (Finset.mem_filter.1 hi).2] at h
    exact h

theorem score_start (i : Fin 5000) : scoreSeq m c 0 i = (m (c, Proc.devRef .tc main_arg1) : FVec Ideal S5000 .f32) (ix1 i) := by
  unfold scoreSeq
  rw [(start_reads m c).2.2.1]

theorem results_at (hpos : ∀ i, 0 ≤ scoreSeq m c 0 i) (hD : ∀ i j, 0 ≤ factor m c i j) : ∀ (n : ℕ) (hn : n ≤ 5000) (k : Fin 5000), k.val < n →
    orderOf (Wk m n c) (ix1 k) = BitVec.ofNat 32 (pickSeq m c k.val).val ∧ (selOf (Wk m n c) (ix1 k) : EReal) = scoreSeq m c k.val (pickSeq m c k.val)
  | 0, _, k, hk => absurd hk (Nat.not_lt_zero _)
  | n + 1, hn, k, hk => by
    obtain ⟨h5, h6⟩ := (round_at m c n k).2.2 ⟨n, hn⟩ (counter_word m c n hn)
    rw [← Wk_succ] at h5 h6
    by_cases e : k = ⟨n, hn⟩
    · subst e
      rw [if_pos rfl] at h5 h6
      refine ⟨h5, h6.trans ?_⟩
      rw [masked_at, if_pos (Finset.mem_filter.1 ((greedy_run m c).isBest hD hpos n hn).1).2]
      rfl
    · rw [if_neg e] at h5 h6
      have hlt : k.val < n := by
        have : k.val ≠ n := fun h => e (Fin.ext h)
        omega
      obtain ⟨i5, i6⟩ := results_at hpos hD n (Nat.le_of_succ_le hn) k hlt
      exact ⟨h5.trans i5, h6 ▸ i6⟩

theorem final_reads : Wend m c (Proc.devRef .tc main_v12_5) = orderOf (Wk m 5000 c) ∧ Wend m c (Proc.devRef .tc main_v12_6) = selOf (Wk m 5000 c)
    ∧ Wend m c (Proc.devRef .tc main_v14) = (cmpf .ogt (selOf (Wk m 5000 c)) (broadcastInDim S5000 ![] bcast_S_S5000 (constant S_ .f32 0x3D4CCCCD#32)) : IVec S5000 1) := by
  unfold Wend StableHlo.finalContents orderOf selOf Wk
  simp only [StableHlo.afterL_cons, StableHlo.afterL_nil]
  refine ⟨?_, ?_, ?_⟩
  · after_reads_simp
  · after_reads_simp
  · after_reads_simp

end Cert.Proof.ReferenceIdeal
-- ==== Proof.Agree.lean ====
/-
  Kernel and reference end with equal results: both follow the same greedy run.
-/
module

public import proofs.«01_k».proof.Proof.KernelIdeal.Value
public import proofs.«01_k».proof.Proof.KernelIdeal.Global.Both
public import proofs.«01_k».proof.Proof.ReferenceIdeal.Order

@[expose] public section
set_option maxRecDepth 16384
noncomputable section
namespace Cert.Proof

open Idealize.ShloMosaic Idealize.ShloMosaic.TcCoe Idealize.ShloMosaic.Tactic Idealize.SL.Sem
open Cert.Proof.Math

theorem factor_eq (m' : (ℓ : Loc Cert.ReferenceIdeal.nD Cert.ReferenceIdeal.τ Cert.ReferenceIdeal.sig) → Buf (Elt Ideal) ℓ) (c : Dev Cert.ReferenceIdeal.nD)
    (b : FVec Ideal Cert.KernelIdeal.S5000x4 .f32) (n : IVec Cert.KernelIdeal.S5000 32) (hb : m' (c, Proc.devRef .tc Cert.ReferenceIdeal.main_arg0) = b) (hn : m' (c, Proc.devRef .tc Cert.ReferenceIdeal.main_arg2) = n) :
    ReferenceIdeal.factor m' c = KernelIdeal.pairDecay b n := by
  funext i j
  unfold ReferenceIdeal.factor KernelIdeal.pairDecay ReferenceIdeal.boxesOf
  rw [hb, hn]
  rfl

/-- The reference's results are those of a greedy run with the kernel's factors. -/
theorem reference_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hv : KernelIdeal.Valid (m (c, Proc.devRef .tc Cert.KernelIdeal.main_arg0)) (m (c, Proc.devRef .tc Cert.KernelIdeal.main_arg1)) (m (c, Proc.devRef .tc Cert.KernelIdeal.main_arg2)))
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2)) :
    ∃ S A p, GreedyRun (KernelIdeal.pairDecay (m (c, Proc.devRef .tc Cert.KernelIdeal.main_arg0)) (m (c, Proc.devRef .tc Cert.KernelIdeal.main_arg2))) S A p
      ∧ (∀ i, S 0 i = (m (c, Proc.devRef .tc Cert.KernelIdeal.main_arg1) : FVec Ideal Cert.KernelIdeal.S5000 .f32) (ix1 i))
      ∧ (∀ i, 0 ≤ S 0 i) ∧ (∀ i j, 0 ≤ KernelIdeal.pairDecay (m (c, Proc.devRef .tc Cert.KernelIdeal.main_arg0)) (m (c, Proc.devRef .tc Cert.KernelIdeal.main_arg2)) i j)
      ∧ ∀ k : Fin 5000, ReferenceIdeal.orderOf (ReferenceIdeal.Wk m' 5000 c) (ix1 k) = BitVec.ofNat 32 (p k.val).val ∧ (ReferenceIdeal.selOf (ReferenceIdeal.Wk m' 5000 c) (ix1 k) : EReal) = S k.val (p k.val) := by
  have hf := factor_eq m' c _ _ h0 h2
  have hg := ReferenceIdeal.greedy_run m' c
  have hst : ∀ i, ReferenceIdeal.scoreSeq m' c 0 i = (m (c, Proc.devRef .tc Cert.KernelIdeal.main_arg1) : FVec Ideal Cert.KernelIdeal.S5000 .f32) (ix1 i) := fun i => by
    rw [ReferenceIdeal.score_start, h1]
  have hp : ∀ i, 0 ≤ ReferenceIdeal.scoreSeq m' c 0 i := fun i => by rw [hst]; exact hv.score i
  have hD : ∀ i j, 0 ≤ ReferenceIdeal.factor m' c i j := by
    choose cls hc using hv.cls
    intro i j
    rw [hf]
    exact (KernelIdeal.pairDecay_facts hv hc i).1 i j
  have hr := fun k : Fin 5000 => ReferenceIdeal.results_at m' c hp hD 5000 (le_refl _) k k.isLt
  rw [hf] at hg
  rw [hf] at hD
  exact ⟨_, _, _, hg, hst, hp, hD, hr⟩

/-- The kernel's results on an argument the precondition admits are the reference's, where no class has more than 128 boxes. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hv : KernelIdeal.Valid (m (c, Proc.devRef .tc Cert.KernelIdeal.main_arg0)) (m (c, Proc.devRef .tc Cert.KernelIdeal.main_arg1)) (m (c, Proc.devRef .tc Cert.KernelIdeal.main_arg2)))
    (hfew : (KernelIdeal.largest (m (c, Proc.devRef .tc Cert.KernelIdeal.main_arg2)) HostLoop.idx0).toInt ≤ 128)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2)) :
    ReferenceIdeal.orderOf (ReferenceIdeal.Wk m' 5000 c) = (fptosi 32 (KernelIdeal.firstOf (KernelIdeal.sortedPair m c).2) : IVec Cert.KernelIdeal.S5000 32)
    ∧ ReferenceIdeal.selOf (ReferenceIdeal.Wk m' 5000 c) = KernelIdeal.firstOf (KernelIdeal.sortedPair m c).1 := by
  obtain ⟨S, A, p, hg, hst, hp, hD, hr⟩ := reference_run m m' c hv h0 h1 h2
  have hk := fun k : Fin 5000 => KernelIdeal.values_at m c hv hfew hg hst k
  constructor
  · funext j
    obtain ⟨k, rfl⟩ : ∃ k : Fin 5000, j = ix1 k := ⟨j 0, Idealize.ShloMosaic.ValueIdx.eq_ix1 j⟩
    exact (hr k).1.trans (hk k).2.symm
  · funext j
    obtain ⟨k, rfl⟩ : ∃ k : Fin 5000, j = ix1 k := ⟨j 0, Idealize.ShloMosaic.ValueIdx.eq_ix1 j⟩
    refine (hr k).2.trans (Eq.trans ?_ (hk k).1.symm)
    exact (hg.taken k.isLt).symm

/-- The same where the branch over all boxes runs. -/
theorem agree_global (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hv : KernelIdeal.Valid (m (c, Proc.devRef .tc Cert.KernelIdeal.main_arg0)) (m (c, Proc.devRef .tc Cert.KernelIdeal.main_arg1)) (m (c, Proc.devRef .tc Cert.KernelIdeal.main_arg2)))
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2)) :
    ReferenceIdeal.orderOf (ReferenceIdeal.Wk m' 5000 c) = ((KernelIdeal.Global.found m c).order : IVec Cert.KernelIdeal.S5000 32)
    ∧ ReferenceIdeal.selOf (ReferenceIdeal.Wk m' 5000 c) = (KernelIdeal.Global.found m c).sel := by
  obtain ⟨S, A, p, hg, hst, hp, hD, hr⟩ := reference_run m m' c hv h0 h1 h2
  have hk := fun k : Fin 5000 => KernelIdeal.Global.round_at m c hg hD hp hst k.val k.isLt
  constructor
  · funext j
    obtain ⟨k, rfl⟩ : ∃ k : Fin 5000, j = ix1 k := ⟨j 0, Idealize.ShloMosaic.ValueIdx.eq_ix1 j⟩
    exact (hr k).1.trans (hk k).2.symm
  · funext j
    obtain ⟨k, rfl⟩ : ∃ k : Fin 5000, j = ix1 k := ⟨j 0, Idealize.ShloMosaic.ValueIdx.eq_ix1 j⟩
    exact (hr k).2.trans (hk k).1.symm

end Cert.Proof
-- ==== Proof.lean ====
module

public import proofs.«01_k».proof.Defs
public import proofs.«01_k».proof.Proof.Gen.ReferenceIdeal
public import proofs.«01_k».proof.Proof.Kernel.Frame
public import proofs.«01_k».proof.Proof.KernelIdeal.Frame
public import proofs.«01_k».proof.Proof.Gen.Pre_valid
public import proofs.«01_k».proof.Proof.ReferenceIdeal.Run
public import proofs.«01_k».proof.Proof.Agree

@[expose] public section

set_option maxRecDepth 16384

noncomputable section

namespace Cert.Proof

open Idealize.ShloMosaic Idealize.SL.Sem Cert.Kernel

/-- The ideal kernel runs to its end on the arguments the value claim admits, whichever branch it takes. -/
theorem ends : Cert.quiescent_KernelIdeal_pre_valid := by
  intro m g h
  rcases Cert.Proof.KernelIdeal.Global.branches m with hf | hw
  · exact Cert.Proof.KernelIdeal.frame m g hf
  · refine (θ_run (Cert.KernelIdeal.defs (F := Ideal)) _ _).mono (fun r hr => ⟨fun c => (hr.1 c).2.2.2, hr.2⟩)
      (Cert.Proof.KernelIdeal.Global.run_all m g hw fun c k hk => Cert.Proof.KernelIdeal.Global.picks_ok m c (Cert.Proof.KernelIdeal.valid_of _ _ _ (h c)) k hk)

/-- Both programs end with the reference's results. -/
theorem same : Cert.algebraic_KernelIdeal_ReferenceIdeal_pre_valid := by
  intro m g m' g' h ha
  have hv := fun c => Cert.Proof.KernelIdeal.valid_of _ _ _ (h c)
  have key : ∀ (o : Dev Cert.KernelIdeal.nD → IVec Cert.KernelIdeal.S5000 32) (s : Dev Cert.KernelIdeal.nD → FVec Ideal Cert.KernelIdeal.S5000 .f32),
      (∀ c, Cert.Proof.ReferenceIdeal.orderOf (Cert.Proof.ReferenceIdeal.Wk m' 5000 c) = o c ∧ Cert.Proof.ReferenceIdeal.selOf (Cert.Proof.ReferenceIdeal.Wk m' 5000 c) = s c) →
      θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        r.2.mem ((c.tc : Thread Cert.ReferenceIdeal.nD Cert.ReferenceIdeal.τ).loc Cert.ReferenceIdeal.main_v12_5) = o c
        ∧ r.2.mem ((c.tc : Thread Cert.ReferenceIdeal.nD Cert.ReferenceIdeal.τ).loc Cert.ReferenceIdeal.main_v12_6) = s c
        ∧ r.2.mem ((c.tc : Thread Cert.ReferenceIdeal.nD Cert.ReferenceIdeal.τ).loc Cert.ReferenceIdeal.main_v14) = Cert.Proof.KernelIdeal.aboveOf (s c)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
    intro o s hag
    refine (θ_run (Cert.ReferenceIdeal.defs (F := Ideal)) _ _).mono (fun r hr c => ?_) (Cert.Proof.ReferenceIdeal.run_main m' g')
    obtain ⟨f5, f6, f14⟩ := Cert.Proof.ReferenceIdeal.final_reads m' c
    refine ⟨(hr c _ rfl).trans (f5.trans (hag c).1), (hr c _ rfl).trans (f6.trans (hag c).2), (hr c _ rfl).trans (f14.trans ?_),
      (hr c _ rfl).trans (Cert.Proof.ReferenceIdeal.Wend_arg0 m' c), (hr c _ rfl).trans (Cert.Proof.ReferenceIdeal.Wend_arg1 m' c), (hr c _ rfl).trans (Cert.Proof.ReferenceIdeal.Wend_arg2 m' c)⟩
    rw [(hag c).2]
    rfl
  rcases Cert.Proof.KernelIdeal.Global.branches m with hf | hw
  · exact ⟨fun c => fptosi 32 (Cert.Proof.KernelIdeal.firstOf (Cert.Proof.KernelIdeal.sortedPair m c).2), fun c => Cert.Proof.KernelIdeal.firstOf (Cert.Proof.KernelIdeal.sortedPair m c).1,
      fun c => Cert.Proof.KernelIdeal.aboveOf (Cert.Proof.KernelIdeal.firstOf (Cert.Proof.KernelIdeal.sortedPair m c).1), Cert.Proof.KernelIdeal.run_values m g hf,
      key _ _ fun c => Cert.Proof.agree m m' c (hv c) (Cert.Proof.KernelIdeal.few_of _ _ _ (hf c)) (ha c).1 (ha c).2.1 (ha c).2.2⟩
  · exact ⟨fun c => (Cert.Proof.KernelIdeal.Global.found m c).order, fun c => (Cert.Proof.KernelIdeal.Global.found m c).sel, fun c => Cert.Proof.KernelIdeal.aboveOf (F := Ideal) (Cert.Proof.KernelIdeal.Global.Blocks.sel (Cert.Proof.KernelIdeal.Global.found m c)),
      (θ_run (Cert.KernelIdeal.defs (F := Ideal)) _ _).mono (fun r hr => hr.1) (Cert.Proof.KernelIdeal.Global.run_all m g hw fun c k hk => Cert.Proof.KernelIdeal.Global.picks_ok m c (hv c) k hk),
      key _ _ fun c => Cert.Proof.agree_global m m' c (hv c) (ha c).1 (ha c).2.1 (ha c).2.2⟩

theorem claim : Cert.Claim := ⟨Cert.Kernel.Gen.facts, Cert.KernelIdeal.Gen.facts, Cert.ReferenceIdeal.Gen.facts, Cert.Pre_fits.Gen.facts, Cert.Pre_valid.Gen.facts,
  fun m g h => Cert.Proof.Kernel.frame m g h,
  fun m g h => Cert.Proof.KernelIdeal.frame m g h,
  ends,
  fun m g _ => Cert.Proof.ReferenceIdeal.frame m g,
  fun m g _ => Cert.Proof.ReferenceIdeal.frame m g,
  trivial,
  same⟩

end Cert.Proof

end
